-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_gate [hPre_real_gate : Cert.Pre_real_gate.Facts] (m : (ℓ : Loc Cert.KernelIdeal.nD Cert.KernelIdeal.τ Cert.KernelIdeal.sig) → Buf (Elt Ideal) ℓ) : Prop :=
  ∀ c : Dev Cert.KernelIdeal.nD,
    (Cert.Pre_real_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_real_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_real_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_gate [hPre_real_gate : Cert.Pre_real_gate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_real_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_real_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_real_norm [hPre_real_norm : Cert.Pre_real_norm.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_real_norm.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_real_norm.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_real_norm.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_real_norm.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.1 = (fun _ => 1#1)
    ∧ (Cert.Pre_real_norm.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_real_norm [hPre_real_norm : Cert.Pre_real_norm.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_real_norm.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_real_norm.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_real_norm.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_real_norm.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.1 = (fun _ => 1#1)
    ∧ (Cert.Pre_real_norm.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_real_fox [hPre_real_fox : Cert.Pre_real_fox.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_real_fox.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).1 = (fun _ => 1#1)
    ∧ (Cert.Pre_real_fox.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.1 = (fun _ => 1#1)
    ∧ (Cert.Pre_real_fox.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.2.1 = (fun _ => 1#1)
    ∧ (Cert.Pre_real_fox.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_real_fox [hPre_real_fox : Cert.Pre_real_fox.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_real_fox.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).1 = (fun _ => 1#1)
    ∧ (Cert.Pre_real_fox.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.1 = (fun _ => 1#1)
    ∧ (Cert.Pre_real_fox.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.2.1 = (fun _ => 1#1)
    ∧ (Cert.Pre_real_fox.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_real_delta [hPre_real_delta : Cert.Pre_real_delta.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_real_delta.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))).1 = (fun _ => 1#1)
    ∧ (Cert.Pre_real_delta.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))).2.1 = (fun _ => 1#1)
    ∧ (Cert.Pre_real_delta.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))).2.2.1 = (fun _ => 1#1)
    ∧ (Cert.Pre_real_delta.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))).2.2.2.1 = (fun _ => 1#1)
    ∧ (Cert.Pre_real_delta.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))).2.2.2.2 = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_real_delta [hPre_real_delta : Cert.Pre_real_delta.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_real_delta.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))).1 = (fun _ => 1#1)
    ∧ (Cert.Pre_real_delta.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))).2.1 = (fun _ => 1#1)
    ∧ (Cert.Pre_real_delta.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))).2.2.1 = (fun _ => 1#1)
    ∧ (Cert.Pre_real_delta.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))).2.2.2.1 = (fun _ => 1#1)
    ∧ (Cert.Pre_real_delta.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))).2.2.2.2 = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_real_queries [hPre_real_queries : Cert.Pre_real_queries.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_real_queries.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4))).1 = (fun _ => 1#1)
    ∧ (Cert.Pre_real_queries.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4))).2.1 = (fun _ => 1#1)
    ∧ (Cert.Pre_real_queries.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4))).2.2.1 = (fun _ => 1#1)
    ∧ (Cert.Pre_real_queries.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4))).2.2.2.1 = (fun _ => 1#1)
    ∧ (Cert.Pre_real_queries.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4))).2.2.2.2 = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_real_queries [hPre_real_queries : Cert.Pre_real_queries.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_real_queries.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4))).1 = (fun _ => 1#1)
    ∧ (Cert.Pre_real_queries.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4))).2.1 = (fun _ => 1#1)
    ∧ (Cert.Pre_real_queries.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4))).2.2.1 = (fun _ => 1#1)
    ∧ (Cert.Pre_real_queries.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4))).2.2.2.1 = (fun _ => 1#1)
    ∧ (Cert.Pre_real_queries.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4))).2.2.2.2 = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_real_shared [hPre_real_shared : Cert.Pre_real_shared.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_real_shared.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4))).1 = (fun _ => 1#1)
    ∧ (Cert.Pre_real_shared.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4))).2.1 = (fun _ => 1#1)
    ∧ (Cert.Pre_real_shared.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4))).2.2.1 = (fun _ => 1#1)
    ∧ (Cert.Pre_real_shared.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4))).2.2.2.1 = (fun _ => 1#1)
    ∧ (Cert.Pre_real_shared.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4))).2.2.2.2 = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_real_shared [hPre_real_shared : Cert.Pre_real_shared.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_real_shared.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4))).1 = (fun _ => 1#1)
    ∧ (Cert.Pre_real_shared.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4))).2.1 = (fun _ => 1#1)
    ∧ (Cert.Pre_real_shared.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4))).2.2.1 = (fun _ => 1#1)
    ∧ (Cert.Pre_real_shared.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4))).2.2.2.1 = (fun _ => 1#1)
    ∧ (Cert.Pre_real_shared.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_real_gate [hKernelIdeal : Cert.KernelIdeal.Facts] [hPre_real_gate : Cert.Pre_real_gate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_gate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_real_gate [hReferenceIdeal : Cert.ReferenceIdeal.Facts] [hPre_real_gate : Cert.Pre_real_gate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_gate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_real_norm [hKernel4Ideal : Cert.Kernel4Ideal.Facts] [hPre_real_norm : Cert.Pre_real_norm.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_real_norm m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_real_norm [hReference4Ideal : Cert.Reference4Ideal.Facts] [hPre_real_norm : Cert.Pre_real_norm.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_real_norm m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_real_fox [hKernel7Ideal : Cert.Kernel7Ideal.Facts] [hPre_real_fox : Cert.Pre_real_fox.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_real_fox m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_real_fox [hReference7Ideal : Cert.Reference7Ideal.Facts] [hPre_real_fox : Cert.Pre_real_fox.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_real_fox m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Kernel17Ideal_pre_real_delta [hKernel17Ideal : Cert.Kernel17Ideal.Facts] [hPre_real_delta : Cert.Pre_real_delta.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_real_delta m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Reference17Ideal_pre_real_delta [hReference17Ideal : Cert.Reference17Ideal.Facts] [hPre_real_delta : Cert.Pre_real_delta.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_real_delta m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Kernel18Ideal_pre_real_queries [hKernel18Ideal : Cert.Kernel18Ideal.Facts] [hPre_real_queries : Cert.Pre_real_queries.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_real_queries m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Reference18Ideal_pre_real_queries [hReference18Ideal : Cert.Reference18Ideal.Facts] [hPre_real_queries : Cert.Pre_real_queries.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_real_queries m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Kernel19Ideal_pre_real_shared [hKernel19Ideal : Cert.Kernel19Ideal.Facts] [hPre_real_shared : Cert.Pre_real_shared.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_real_shared m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Reference19Ideal_pre_real_shared [hReference19Ideal : Cert.Reference19Ideal.Facts] [hPre_real_shared : Cert.Pre_real_shared.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_real_shared m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def preserves_Kernel_KernelIdeal : Prop :=
  True

def algebraic_KernelIdeal_ReferenceIdeal_pre_real_gate [hKernelIdeal : Cert.KernelIdeal.Facts] [hReferenceIdeal : Cert.ReferenceIdeal.Facts] [hPre_real_gate : Cert.Pre_real_gate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_gate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_real_norm [hKernel4Ideal : Cert.Kernel4Ideal.Facts] [hReference4Ideal : Cert.Reference4Ideal.Facts] [hPre_real_norm : Cert.Pre_real_norm.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_real_norm m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v46) = v0 c
          ∧ r.2.mem ((c.tc : Thread Cert.Reference4Ideal.nD Cert.Reference4Ideal.τ).loc Cert.Reference4Ideal.main_v29) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_v11) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  IdealRules.named_const.Statement Cert.Kernel7Ideal.κ "mask" .f32 0xF149F2CA#32 ⊥

def algebraic_Kernel7Ideal_Reference7Ideal_pre_real_fox [hKernel7Ideal : Cert.Kernel7Ideal.Facts] [hReference7Ideal : Cert.Reference7Ideal.Facts] [hPre_real_fox : Cert.Pre_real_fox.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_real_fox m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v96_0)) (v1 : (c : Dev Cert.Kernel7Ideal.nD) → Buf (Elt Ideal) ((c.tc : Thread Cert.Kernel7Ideal.nD Cert.Kernel7Ideal.τ).loc Cert.Kernel7Ideal.main_v96_1)) (v2 : (c : Dev Cert.Kernel7Ideal.nD) → Buf (Elt Ideal) ((c.tc : Thread Cert.Kernel7Ideal.nD Cert.Kernel7Ideal.τ).loc Cert.Kernel7Ideal.main_v96_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v96_0) = v0 c
          ∧ r.2.mem ((c.tc : Thread Cert.Kernel7Ideal.nD Cert.Kernel7Ideal.τ).loc Cert.Kernel7Ideal.main_v96_1) = v1 c
          ∧ r.2.mem ((c.tc : Thread Cert.Kernel7Ideal.nD Cert.Kernel7Ideal.τ).loc Cert.Kernel7Ideal.main_v96_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v89) = v0 c
          ∧ r.2.mem ((c.tc : Thread Cert.Reference7Ideal.nD Cert.Reference7Ideal.τ).loc Cert.Reference7Ideal.main_v90) = v1 c
          ∧ r.2.mem ((c.tc : Thread Cert.Reference7Ideal.nD Cert.Reference7Ideal.τ).loc Cert.Reference7Ideal.main_v91) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal_pre_real_delta [hKernel17Ideal : Cert.Kernel17Ideal.Facts] [hReference17Ideal : Cert.Reference17Ideal.Facts] [hPre_real_delta : Cert.Pre_real_delta.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_real_delta m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v38) = v0 c
          ∧ r.2.mem ((c.tc : Thread Cert.Reference17Ideal.nD Cert.Reference17Ideal.τ).loc Cert.Reference17Ideal.main_v21) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal_pre_real_queries [hKernel18Ideal : Cert.Kernel18Ideal.Facts] [hReference18Ideal : Cert.Reference18Ideal.Facts] [hPre_real_queries : Cert.Pre_real_queries.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_real_queries m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v38) = v0 c
          ∧ r.2.mem ((c.tc : Thread Cert.Reference18Ideal.nD Cert.Reference18Ideal.τ).loc Cert.Reference18Ideal.main_v21) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal_pre_real_shared [hKernel19Ideal : Cert.Kernel19Ideal.Facts] [hReference19Ideal : Cert.Reference19Ideal.Facts] [hPre_real_shared : Cert.Pre_real_shared.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_real_shared m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v38) = v0 c
          ∧ r.2.mem ((c.tc : Thread Cert.Reference19Ideal.nD Cert.Reference19Ideal.τ).loc Cert.Reference19Ideal.main_v21) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_real_gate : Cert.Pre_real_gate.Facts) (hPre_real_norm : Cert.Pre_real_norm.Facts) (hPre_real_fox : Cert.Pre_real_fox.Facts) (hPre_real_delta : Cert.Pre_real_delta.Facts) (hPre_real_queries : Cert.Pre_real_queries.Facts) (hPre_real_shared : Cert.Pre_real_shared.Facts),
    quiescent_Kernel (hKernel := hKernel)
    ∧ quiescent_KernelIdeal (hKernelIdeal := hKernelIdeal)
    ∧ quiescent_KernelIdeal_pre_real_gate (hKernelIdeal := hKernelIdeal) (hPre_real_gate := hPre_real_gate)
    ∧ quiescent_ReferenceIdeal (hReferenceIdeal := hReferenceIdeal)
    ∧ quiescent_ReferenceIdeal_pre_real_gate (hReferenceIdeal := hReferenceIdeal) (hPre_real_gate := hPre_real_gate)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_real_norm (hKernel4Ideal := hKernel4Ideal) (hPre_real_norm := hPre_real_norm)
    ∧ quiescent_Reference4Ideal (hReference4Ideal := hReference4Ideal)
    ∧ quiescent_Reference4Ideal_pre_real_norm (hReference4Ideal := hReference4Ideal) (hPre_real_norm := hPre_real_norm)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_real_fox (hKernel7Ideal := hKernel7Ideal) (hPre_real_fox := hPre_real_fox)
    ∧ quiescent_Reference7Ideal (hReference7Ideal := hReference7Ideal)
    ∧ quiescent_Reference7Ideal_pre_real_fox (hReference7Ideal := hReference7Ideal) (hPre_real_fox := hPre_real_fox)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel17Ideal_pre_real_delta (hKernel17Ideal := hKernel17Ideal) (hPre_real_delta := hPre_real_delta)
    ∧ quiescent_Reference17Ideal (hReference17Ideal := hReference17Ideal)
    ∧ quiescent_Reference17Ideal_pre_real_delta (hReference17Ideal := hReference17Ideal) (hPre_real_delta := hPre_real_delta)
    ∧ quiescent_Kernel18 (hKernel18 := hKernel18)
    ∧ quiescent_Kernel18Ideal (hKernel18Ideal := hKernel18Ideal)
    ∧ quiescent_Kernel18Ideal_pre_real_queries (hKernel18Ideal := hKernel18Ideal) (hPre_real_queries := hPre_real_queries)
    ∧ quiescent_Reference18Ideal (hReference18Ideal := hReference18Ideal)
    ∧ quiescent_Reference18Ideal_pre_real_queries (hReference18Ideal := hReference18Ideal) (hPre_real_queries := hPre_real_queries)
    ∧ quiescent_Kernel19 (hKernel19 := hKernel19)
    ∧ quiescent_Kernel19Ideal (hKernel19Ideal := hKernel19Ideal)
    ∧ quiescent_Kernel19Ideal_pre_real_shared (hKernel19Ideal := hKernel19Ideal) (hPre_real_shared := hPre_real_shared)
    ∧ quiescent_Reference19Ideal (hReference19Ideal := hReference19Ideal)
    ∧ quiescent_Reference19Ideal_pre_real_shared (hReference19Ideal := hReference19Ideal) (hPre_real_shared := hPre_real_shared)
    ∧ preserves_Kernel_KernelIdeal
    ∧ algebraic_KernelIdeal_ReferenceIdeal_pre_real_gate (hKernelIdeal := hKernelIdeal) (hReferenceIdeal := hReferenceIdeal) (hPre_real_gate := hPre_real_gate)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_real_norm (hKernel4Ideal := hKernel4Ideal) (hReference4Ideal := hReference4Ideal) (hPre_real_norm := hPre_real_norm)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_real_fox (hKernel7Ideal := hKernel7Ideal) (hReference7Ideal := hReference7Ideal) (hPre_real_fox := hPre_real_fox)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_pre_real_delta (hKernel17Ideal := hKernel17Ideal) (hReference17Ideal := hReference17Ideal) (hPre_real_delta := hPre_real_delta)
    ∧ preserves_Kernel18_Kernel18Ideal
    ∧ algebraic_Kernel18Ideal_Reference18Ideal_pre_real_queries (hKernel18Ideal := hKernel18Ideal) (hReference18Ideal := hReference18Ideal) (hPre_real_queries := hPre_real_queries)
    ∧ preserves_Kernel19_Kernel19Ideal
    ∧ algebraic_Kernel19Ideal_Reference19Ideal_pre_real_shared (hKernel19Ideal := hKernel19Ideal) (hReference19Ideal := hReference19Ideal) (hPre_real_shared := hPre_real_shared)
-- ==== Pre_real_delta.lean ====
abbrev S8192x3456 : Shape := ⟨2, ![8192, 3456]⟩
abbrev S1024x3456 : Shape := ⟨2, ![1024, 3456]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x3456 : S_.BroadcastsInDim S8192x3456 (![] : Fin 0 → Fin S8192x3456.rank)
  bcast_S_S1024x3456 : S_.BroadcastsInDim S1024x3456 (![] : Fin 0 → Fin S1024x3456.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x3456 .bf16) (main_arg1 : FVec F S1024x3456 .bf16) (main_arg2 : FVec F S8192x1024 .f32) (main_arg3 : FVec F S1x1024 .f32) (main_arg4 : FVec F S8192x1024 .f32) : IVec S8192x3456 1 × IVec S1024x3456 1 × IVec S8192x1024 1 × IVec S1x1024 1 × IVec S8192x1024 1 :=
  let main_v0 : FVec F S8192x3456 .f32 := (extf .f32 · bitsLt_bf16_f32) main_arg0
  let main_v1 : FVec F S8192x3456 .f32 := Host.absf main_v0
  let main_cst : FVec F S_ .f32 := constant S_ .f32 0x7F800000#32
  let main_v2 : FVec F S8192x3456 .f32 := broadcastInDim S8192x3456 ![] bcast_S_S8192x3456 main_cst
  let main_v3 : IVec S8192x3456 1 := cmpf .olt main_v1 main_v2
  let main_v4 : FVec F S1024x3456 .f32 := (extf .f32 · bitsLt_bf16_f32) main_arg1
  let main_v5 : FVec F S1024x3456 .f32 := Host.absf main_v4
  let main_cst_0 : FVec F S_ .f32 := constant S_ .f32 0x7F800000#32
  let main_v6 : FVec F S1024x3456 .f32 := broadcastInDim S1024x3456 ![] bcast_S_S1024x3456 main_cst_0
  let main_v7 : IVec S1024x3456 1 := cmpf .olt main_v5 main_v6
  let main_v8 : FVec F S8192x1024 .f32 := Host.absf main_arg2
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S8192x1024 .f32 := Host.absf main_arg4
  let main_cst_3 : FVec F S_ .f32 := constant S_ .f32 0x7F800000#32
  let main_v15 : FVec F S8192x1024 .f32 := broadcastInDim S8192x1024 ![] bcast_S_S8192x1024 main_cst_3
  let main_v16 : IVec S8192x1024 1 := cmpf .olt main_v14 main_v15
  (main_v3, main_v7, main_v10, main_v13, main_v16)
-- ==== Pre_real_fox.lean ====
abbrev S8192x1024 : Shape := ⟨2, ![8192, 1024]⟩
abbrev S8192x1536 : Shape := ⟨2, ![8192, 1536]⟩
abbrev S6x8192 : Shape := ⟨2, ![6, 8192]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S8192x1536 : S_.BroadcastsInDim S8192x1536 (![] : Fin 0 → Fin S8192x1536.rank)
  bcast_S_S6x8192 : S_.BroadcastsInDim S6x8192 (![] : Fin 0 → Fin S6x8192.rank)

variable [Facts]

def fn {F : FTy → Type} [FloatOps F] (main_arg0 : FVec F S8192x1024 .bf16) (main_arg1 : FVec F S8192x1536 .bf16) (main_arg2 : FVec F S6x8192 .f32) (main_arg3 : FVec F S8192x1024 .bf16) : IVec S8192x1024 1 × IVec S8192x1536 1 × IVec S6x8192 1 × IVec S8192x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1536 .f32 := (extf .f32 · bitsLt_bf16_f32) main_arg1
  let main_v5 : FVec F S8192x1536 .f32 := Host.absf main_v4
  let main_cst_0 : FVec F S_ .f32 := constant S_ .f32 0x7F800000#32
  let main_v6 : FVec F S8192x1536 .f32 := broadcastInDim S8192x1536 ![] bcast_S_S8192x1536 main_cst_0
  let main_v7 : IVec S8192x1536 1 := cmpf .olt main_v5 main_v6
  let main_v8 : FVec F S6x8192 .f32 := Host.absf main_arg2
  let main_cst_1 : FVec F S_ .f32 := constant S_ .f32 0x7F800000#32
  let main_v9 : FVec F S6x8192 .f32 := broadcastInDim S6x8192 ![] bcast_S_S6x8192 main_cst_1
  let main_v10 : IVec S6x8192 1 := cmpf .olt main_v8 main_v9
  let main_v11 : FVec F S8192x1024 .f32 := (extf .f32 · bitsLt_bf16_f32) main_arg3
  let main_v12 : FVec F S8192x1024 .f32 := Host.absf main_v11
  let main_cst_2 : FVec F S_ .f32 := constant S_ .f32 0x7F800000#32
  let main_v13 : FVec F S8192x1024 .f32 := broadcastInDim S8192x1024 ![] bcast_S_S8192x1024 main_cst_2
  let main_v14 : IVec S8192x1024 1 := cmpf .olt main_v12 main_v13
  (main_v3, main_v7, main_v10, main_v14)
-- ==== Pre_real_gate.lean ====
abbrev S8192x1024 : Shape := ⟨2, ![8192, 1024]⟩
abbrev S2816x1024 : Shape := ⟨2, ![2816, 1024]⟩
abbrev S2x8192x2816 : Shape := ⟨3, ![2, 8192, 2816]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S2816x1024 : S_.BroadcastsInDim S2816x1024 (![] : Fin 0 → Fin S2816x1024.rank)
  bcast_S_S2x8192x2816 : S_.BroadcastsInDim S2x8192x2816 (![] : Fin 0 → Fin S2x8192x2816.rank)

variable [Facts]

def fn {F : FTy → Type} [FloatOps F] (main_arg0 : FVec F S8192x1024 .f32) (main_arg1 : FVec F S2816x1024 .bf16) (main_arg2 : FVec F S2x8192x2816 .bf16) : IVec S8192x1024 1 × IVec S2816x1024 1 × IVec S2x8192x2816 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S2816x1024 .f32 := (extf .f32 · bitsLt_bf16_f32) main_arg1
  let main_v4 : FVec F S2816x1024 .f32 := Host.absf main_v3
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_v7 : FVec F S2x8192x2816 .f32 := (extf .f32 · bitsLt_bf16_f32) main_arg2
  let main_v8 : FVec F S2x8192x2816 .f32 := Host.absf main_v7
  let main_cst_1 : FVec F S_ .f32 := constant S_ .f32 0x7F800000#32
  let main_v9 : FVec F S2x8192x2816 .f32 := broadcastInDim S2x8192x2816 ![] bcast_S_S2x8192x2816 main_cst_1
  let main_v10 : IVec S2x8192x2816 1 := cmpf .olt main_v8 main_v9
  (main_v2, main_v6, main_v10)
-- ==== Pre_real_norm.lean ====
abbrev S2x8192x2816 : Shape := ⟨3, ![2, 8192, 2816]⟩
abbrev S1024x5632 : Shape := ⟨2, ![1024, 5632]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S2x8192x2816 : S_.BroadcastsInDim S2x8192x2816 (![] : Fin 0 → Fin S2x8192x2816.rank)
  bcast_S_S1024x5632 : S_.BroadcastsInDim S1024x5632 (![] : Fin 0 → Fin S1024x5632.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S2x8192x2816 .bf16) (main_arg1 : FVec F S1024x5632 .bf16) (main_arg2 : FVec F S8192x1024 .f32) (main_arg3 : FVec F S1x1024 .f32) (main_arg4 : FVec F S8192x1024 .f32) : IVec S2x8192x2816 1 × IVec S1024x5632 1 × IVec S8192x1024 1 × IVec S1x1024 1 × IVec S8192x1024 1 :=
  let main_v0 : FVec F S2x8192x2816 .f32 := (extf .f32 · bitsLt_bf16_f32) main_arg0
  let main_v1 : FVec F S2x8192x2816 .f32 := Host.absf main_v0
  let main_cst : FVec F S_ .f32 := constant S_ .f32 0x7F800000#32
  let main_v2 : FVec F S2x8192x2816 .f32 := broadcastInDim S2x8192x2816 ![] bcast_S_S2x8192x2816 main_cst
  let main_v3 : IVec S2x8192x2816 1 := cmpf .olt main_v1 main_v2
  let main_v4 : FVec F S1024x5632 .f32 := (extf .f32 · bitsLt_bf16_f32) main_arg1
  let main_v5 : FVec F S1024x5632 .f32 := Host.absf main_v4
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  let main_v8 : FVec F S8192x1024 .f32 := Host.absf main_arg2
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S8192x1024 .f32 := Host.absf main_arg4
  let main_cst_3 : FVec F S_ .f32 := constant S_ .f32 0x7F800000#32
  let main_v15 : FVec F S8192x1024 .f32 := broadcastInDim S8192x1024 ![] bcast_S_S8192x1024 main_cst_3
  let main_v16 : IVec S8192x1024 1 := cmpf .olt main_v14 main_v15
  (main_v3, main_v7, main_v10, main_v13, main_v16)
-- ==== Pre_real_queries.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn {F : FTy → Type} [FloatOps F] (main_arg0 : FVec F S8192x1024 .bf16) (main_arg1 : FVec F S1024x1024 .bf16) (main_arg2 : FVec F S8192x1024 .f32) (main_arg3 : FVec F S1x1024 .f32) (main_arg4 : FVec F S8192x1024 .f32) : IVec S8192x1024 1 × IVec S1024x1024 1 × IVec S8192x1024 1 × IVec S1x1024 1 × IVec S8192x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S8192x1024 .f32 := Host.absf main_arg2
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S8192x1024 .f32 := Host.absf main_arg4
  let main_cst_3 : FVec F S_ .f32 := constant S_ .f32 0x7F800000#32
  let main_v15 : FVec F S8192x1024 .f32 := broadcastInDim S8192x1024 ![] bcast_S_S8192x1024 main_cst_3
  let main_v16 : IVec S8192x1024 1 := cmpf .olt main_v14 main_v15
  (main_v3, main_v7, main_v10, main_v13, main_v16)
-- ==== Pre_real_shared.lean ====
abbrev S8192x1664 : Shape := ⟨2, ![8192, 1664]⟩
abbrev S1024x1664 : Shape := ⟨2, ![1024, 1664]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x1664 : S_.BroadcastsInDim S8192x1664 (![] : Fin 0 → Fin S8192x1664.rank)
  bcast_S_S1024x1664 : S_.BroadcastsInDim S1024x1664 (![] : Fin 0 → Fin S1024x1664.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x1664 .bf16) (main_arg1 : FVec F S1024x1664 .bf16) (main_arg2 : FVec F S8192x1024 .f32) (main_arg3 : FVec F S1x1024 .f32) (main_arg4 : FVec F S8192x1024 .f32) : IVec S8192x1664 1 × IVec S1024x1664 1 × IVec S8192x1024 1 × IVec S1x1024 1 × IVec S8192x1024 1 :=
  let main_v0 : FVec F S8192x1664 .f32 := (extf .f32 · bitsLt_bf16_f32) main_arg0
  let main_v1 : FVec F S8192x1664 .f32 := Host.absf main_v0
  let main_cst : FVec F S_ .f32 := constant S_ .f32 0x7F800000#32
  let main_v2 : FVec F S8192x1664 .f32 := broadcastInDim S8192x1664 ![] bcast_S_S8192x1664 main_cst
  let main_v3 : IVec S8192x1664 1 := cmpf .olt main_v1 main_v2
  let main_v4 : FVec F S1024x1664 .f32 := (extf .f32 · bitsLt_bf16_f32) main_arg1
  let main_v5 : FVec F S1024x1664 .f32 := Host.absf main_v4
  let main_cst_0 : FVec F S_ .f32 := constant S_ .f32 0x7F800000#32
  let main_v6 : FVec F S1024x1664 .f32 := broadcastInDim S1024x1664 ![] bcast_S_S1024x1664 main_cst_0
  let main_v7 : IVec S1024x1664 1 := cmpf .olt main_v5 main_v6
  let main_v8 : FVec F S8192x1024 .f32 := Host.absf main_arg2
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S8192x1024 .f32 := Host.absf main_arg4
  let main_cst_3 : FVec F S_ .f32 := constant S_ .f32 0x7F800000#32
  let main_v15 : FVec F S8192x1024 .f32 := broadcastInDim S8192x1024 ![] bcast_S_S8192x1024 main_cst_3
  let main_v16 : IVec S8192x1024 1 := cmpf .olt main_v14 main_v15
  (main_v3, main_v7, main_v10, main_v13, main_v16)
-- ==== Kernel.lean ====
abbrev S8192x1024 : Shape := ⟨2, ![8192, 1024]⟩
abbrev S2816x1024 : Shape := ⟨2, ![2816, 1024]⟩
abbrev S2x8192x2816 : Shape := ⟨3, ![2, 8192, 2816]⟩
abbrev S512x1024 : Shape := ⟨2, ![512, 1024]⟩
abbrev S1408x1024 : Shape := ⟨2, ![1408, 1024]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S2x8192x2816, .bf16⟩
  | .hbm, ⟨3, _⟩ => ⟨S2x8192x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8192x1024 : Shape := ⟨2, ![8192, 1024]⟩
abbrev S2816x1024 : Shape := ⟨2, ![2816, 1024]⟩
abbrev S2x8192x2816 : Shape := ⟨3, ![2, 8192, 2816]⟩
abbrev S1x8192x2816 : Shape := ⟨3, ![1, 8192, 2816]⟩
abbrev S8192x2816 : Shape := ⟨2, ![8192, 2816]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S2x8192x2816, .bf16⟩
  | .hbm, ⟨3, _⟩ => ⟨S2x8192x2816, .f32⟩
  | .hbm, ⟨4, _⟩ => ⟨S1x8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S1x8192x2816, .f32⟩
  | .hbm, ⟨20, _⟩ => ⟨S8192x2816, .f32⟩
  | .hbm, ⟨21, _⟩ => ⟨S8192x2816, .f32⟩
  | .hbm, ⟨22, _⟩ => ⟨S2816x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S1x8192x2816, .f32⟩
  | .hbm, ⟨34, _⟩ => ⟨S_, .f32⟩
  | .hbm, ⟨35, _⟩ => ⟨S2x8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S1x8192x2816, .f32⟩
  | .hbm, ⟨41, _⟩ => ⟨S_, .f32⟩
  | .hbm, ⟨42, _⟩ => ⟨S2x8192x2816, .f32⟩
  | .hbm, ⟨43, _⟩ => ⟨S2x8192x2816, .f32⟩
  | .hbm, ⟨44, _⟩ => ⟨S2x8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v18 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩

abbrev nD : Nat := 1
abbrev τ : Topo := Topo.v7x

variable {F : FTy → Type} [FloatOps F]
-- ==== Kernel2.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1024x2816, .f32⟩
  | .hbm, ⟨13, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel3.lean ====
abbrev S8192x1024 : Shape := ⟨2, ![8192, 1024]⟩
abbrev S2x8192x2816 : Shape := ⟨3, ![2, 8192, 2816]⟩
abbrev S1024x5632 : Shape := ⟨2, ![1024, 5632]⟩
abbrev S2048x1024 : Shape := ⟨2, ![2048, 1024]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S2x8192x2816 : Shape := ⟨3, ![2, 8192, 2816]⟩
abbrev S1x8192x2816 : Shape := ⟨3, ![1, 8192, 2816]⟩
abbrev S8192x2816 : Shape := ⟨2, ![8192, 2816]⟩
abbrev S_ : Shape := ⟨0, ![]⟩
abbrev S1024x5632 : Shape := ⟨2, ![1024, 5632]⟩
abbrev S8192x5632 : Shape := ⟨2, ![8192, 5632]⟩
abbrev S5632x1024 : Shape := ⟨2, ![5632, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1x8192x2816, .bf16⟩
  | .hbm, ⟨3, _⟩ => ⟨S8192x2816, .bf16⟩
  | .hbm, ⟨4, _⟩ => ⟨S8192x2816, .f32⟩
  | .hbm, ⟨5, _⟩ => ⟨S1x8192x2816, .bf16⟩
  | .hbm, ⟨6, _⟩ => ⟨S8192x2816, .bf16⟩
  | .hbm, ⟨7, _⟩ => ⟨S8192x2816, .f32⟩
  | .hbm, ⟨8, _⟩ => ⟨S_, .f32⟩
  | .hbm, ⟨9, _⟩ => ⟨S1024x5632, .f32⟩
  | .hbm, ⟨10, _⟩ => ⟨S8192x1024, .f32⟩
  | .hbm, ⟨11, _⟩ => ⟨S8192x5632, .f32⟩
  | .hbm, ⟨12, _⟩ => ⟨S8192x2816, .f32⟩
  | .hbm, ⟨13, _⟩ => ⟨S8192x2816, .f32⟩
  | .hbm, ⟨14, _⟩ => ⟨S8192x5632, .f32⟩
  | .hbm, ⟨15, _⟩ => ⟨S5632x1024, .f32⟩
  | .hbm, ⟨16, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel4.lean ====
abbrev S2x8192x2816 : Shape := ⟨3, ![2, 8192, 2816]⟩
abbrev S1024x5632 : Shape := ⟨2, ![1024, 5632]⟩
abbrev S8192x1024 : Shape := ⟨2, ![8192, 1024]⟩
abbrev S1x1024 : Shape := ⟨2, ![1, 1024]⟩
abbrev S1x1024x1408 : Shape := ⟨3, ![1, 1024, 1408]⟩
abbrev S1024x1408 : Shape := ⟨2, ![1024, 1408]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def k0_cond3 (i : grid0.Coords) : BitVec 1 :=
  let arg0 : BitVec 32 := BitVec.ofNat 32 (i 0).val
  let c0_i32_72 : BitVec 32 := 0#32
  let v144 : BitVec 1 := Scalar.cmpi .eq arg0 c0_i32_72
  let v145 : BitVec 32 := Scalar.extui v144
  let c0_i32_73 : BitVec 32 := 0#32
  let v146 : BitVec 1 := Scalar.cmpi .ne v145 c0_i32_73
  v146

def k0_cond4 (i : grid0.Coords) : BitVec 1 :=
  let arg0 : BitVec 32 := BitVec.ofNat 32 (i 0).val
  let c0_i32_74 : BitVec 32 := 0#32
  let v147 : BitVec 1 := Scalar.cmpi .sgt arg0 c0_i32_74
  let v148 : BitVec 32 := Scalar.extui v147
  let c0_i32_75 : BitVec 32 := 0#32
  let v149 : BitVec 1 := Scalar.cmpi .ne v148 c0_i32_75
  v149

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference4Ideal.lean ====
abbrev S2x8192x2816 : Shape := ⟨3, ![2, 8192, 2816]⟩
abbrev S1024x5632 : Shape := ⟨2, ![1024, 5632]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1x8192x2816 : Shape := ⟨3, ![1, 8192, 2816]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x5632, .f32⟩
  | .hbm, ⟨25, _⟩ => ⟨S8192x5632, .f32⟩
  | .hbm, ⟨26, _⟩ => ⟨S8192x2816, .f32⟩
  | .hbm, ⟨27, _⟩ => ⟨S8192x2816, .f32⟩
  | .hbm, ⟨28, _⟩ => ⟨S1x8192x2816, .bf16⟩
  | .hbm, ⟨29, _⟩ => ⟨S8192x2816, .bf16⟩
  | .hbm, ⟨30, _⟩ => ⟨S8192x2816, .f32⟩
  | .hbm, ⟨31, _⟩ => ⟨S1x8192x2816, .bf16⟩
  | .hbm, ⟨32, _⟩ => ⟨S8192x2816, .bf16⟩
  | .hbm, ⟨33, _⟩ => ⟨S8192x2816, .f32⟩
  | .hbm, ⟨34, _⟩ => ⟨S8192x5632, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== Kernel5.lean ====
abbrev S8192x1024 : Shape := ⟨2, ![8192, 1024]⟩
abbrev S1024x5632 : Shape := ⟨2, ![1024, 5632]⟩
abbrev S2x8192x2816 : Shape := ⟨3, ![2, 8192, 2816]⟩
abbrev S8192x2816 : Shape := ⟨2, ![8192, 2816]⟩
abbrev S512x1024 : Shape := ⟨2, ![512, 1024]⟩
abbrev S1024x1408 : Shape := ⟨2, ![1024, 1408]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 4
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S2x8192x2816, .bf16⟩
  | .hbm, ⟨3, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S1x8192x2816, .f32⟩
  | .hbm, ⟨8, _⟩ => ⟨S1x8192x2816, .f32⟩
  | .hbm, ⟨9, _⟩ => ⟨S2x8192x2816, .f32⟩
  | .hbm, ⟨10, _⟩ => ⟨S2x8192x2816, .bf16⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Kernel6.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel7.lean ====
abbrev S8192x1024 : Shape := ⟨2, ![8192, 1024]⟩
abbrev S8192x1536 : Shape := ⟨2, ![8192, 1536]⟩
abbrev S6x8192 : Shape := ⟨2, ![6, 8192]⟩
abbrev S36 : Shape := ⟨1, ![36]⟩
abbrev S8192x6 : Shape := ⟨2, ![8192, 6]⟩
abbrev S8192x6x1 : Shape := ⟨3, ![8192, 6, 1]⟩
abbrev S8192x6x128 : Shape := ⟨3, ![8192, 6, 128]⟩
abbrev S_ : Shape := ⟨0, ![]⟩
abbrev S8192x768 : Shape := ⟨2, ![8192, 768]⟩
abbrev S8192x6x256 : Shape := ⟨3, ![8192, 6, 256]⟩
abbrev S6x8192x8192 : Shape := ⟨3, ![6, 8192, 8192]⟩
abbrev S6x8192x1 : Shape := ⟨3, ![6, 8192, 1]⟩
abbrev S6x1x8192 : Shape := ⟨3, ![6, 1, 8192]⟩
abbrev S8192x8192 : Shape := ⟨2, ![8192, 8192]⟩
abbrev S6x128x8192 : Shape := ⟨3, ![6, 128, 8192]⟩
abbrev S1024x256 : Shape := ⟨2, ![1024, 256]⟩
abbrev S1 : Shape := ⟨1, ![1]⟩
abbrev S1024x128 : Shape := ⟨2, ![1024, 128]⟩
abbrev S1x1x1024 : Shape := ⟨3, ![1, 1, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 120
  | .vmem => 21
  | .smem => 2
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S6x8192, .f32⟩
  | .hbm, ⟨3, _⟩ => ⟨S8192x1024, .bf16⟩
  | .hbm, ⟨4, _⟩ => ⟨S8192x6, .f32⟩
  | .hbm, ⟨5, _⟩ => ⟨S8192x6x1, .f32⟩
  | .hbm, ⟨6, _⟩ => ⟨S8192x6x128, .f32⟩
  | .hbm, ⟨7, _⟩ => ⟨S8192x6x128, .i32⟩
  | .hbm, ⟨8, _⟩ => ⟨S8192x6x128, .bf16⟩
  | .hbm, ⟨9, _⟩ => ⟨S8192x6x128, .f32⟩
  | .hbm, ⟨10, _⟩ => ⟨S8192x6x128, .f32⟩
  | .hbm, ⟨11, _⟩ => ⟨S8192x6x128, .bf16⟩
  | .hbm, ⟨12, _⟩ => ⟨S8192x6x128, .f32⟩
  | .hbm, ⟨13, _⟩ => ⟨S8192x6x128, .f32⟩
  | .hbm, ⟨14, _⟩ => ⟨S8192x6x128, .f32⟩
  | .hbm, ⟨15, _⟩ => ⟨S8192x6x128, .bf16⟩
  | .hbm, ⟨16, _⟩ => ⟨S8192x6x128, .f32⟩
  | .hbm, ⟨17, _⟩ => ⟨S_, .i32⟩
  | .hbm, ⟨18, _⟩ => ⟨S8192x6x128, .i32⟩
  | .hbm, ⟨19, _⟩ => ⟨S8192x6x128, .i32⟩
  | .hbm, ⟨20, _⟩ => ⟨S_, .i32⟩
  | .hbm, ⟨21, _⟩ => ⟨S8192x6x128, .i32⟩
  | .hbm, ⟨22, _⟩ => ⟨S8192x6x128, .i1⟩
  | .hbm, ⟨23, _⟩ => ⟨S_, .i32⟩
  | .hbm, ⟨24, _⟩ => ⟨S8192x6x128, .i32⟩
  | .hbm, ⟨25, _⟩ => ⟨S8192x6x128, .i32⟩
  | .hbm, ⟨26, _⟩ => ⟨S_, .i32⟩
  | .hbm, ⟨27, _⟩ => ⟨S8192x6x128, .i32⟩
  | .hbm, ⟨28, _⟩ => ⟨S8192x6x128, .i1⟩
  | .hbm, ⟨29, _⟩ => ⟨S8192x6x128, .f32⟩
  | .hbm, ⟨30, _⟩ => ⟨S8192x6x128, .f32⟩
  | .hbm, ⟨31, _⟩ => ⟨S8192x768, .bf16⟩
  | .hbm, ⟨32, _⟩ => ⟨S8192x768, .f32⟩
  | .hbm, ⟨33, _⟩ => ⟨S8192x6x128, .f32⟩
  | .hbm, ⟨34, _⟩ => ⟨S_, .f32⟩
  | .hbm, ⟨35, _⟩ => ⟨S8192x6x128, .f32⟩
  | .hbm, ⟨36, _⟩ => ⟨S8192x6x128, .f32⟩
  | .hbm, ⟨37, _⟩ => ⟨S_, .i32⟩
  | .hbm, ⟨38, _⟩ => ⟨S8192x6x128, .i32⟩
  | .hbm, ⟨39, _⟩ => ⟨S8192x6x128, .i1⟩
  | .hbm, ⟨40, _⟩ => ⟨S_, .i32⟩
  | .hbm, ⟨41, _⟩ => ⟨S8192x6x128, .i32⟩
  | .hbm, ⟨42, _⟩ => ⟨S8192x6x128, .i1⟩
  | .hbm, ⟨43, _⟩ => ⟨S_, .f32⟩
  | .hbm, ⟨44, _⟩ => ⟨S8192x6x128, .f32⟩
  | .hbm, ⟨45, _⟩ => ⟨S_, .f32⟩
  | .hbm, ⟨46, _⟩ => ⟨S8192x6x128, .f32⟩
  | .hbm, ⟨47, _⟩ => ⟨S8192x6x128, .f32⟩
  | .hbm, ⟨48, _⟩ => ⟨S8192x6x128, .f32⟩
  | .hbm, ⟨49, _⟩ => ⟨S8192x6x256, .f32⟩
  | .hbm, ⟨50, _⟩ => ⟨S8192x1536, .f32⟩
  | .hbm, ⟨51, _⟩ => ⟨S8192x1536, .bf16⟩
  | .hbm, ⟨52, _⟩ => ⟨S8192x768, .bf16⟩
  | .hbm, ⟨53, _⟩ => ⟨S8192x768, .f32⟩
  | .hbm, ⟨54, _⟩ => ⟨S8192x6x128, .f32⟩
  | .hbm, ⟨55, _⟩ => ⟨S_, .i32⟩
  | .hbm, ⟨56, _⟩ => ⟨S8192x6x128, .i32⟩
  | .hbm, ⟨57, _⟩ => ⟨S8192x6x128, .i1⟩
  | .hbm, ⟨58, _⟩ => ⟨S_, .i32⟩
  | .hbm, ⟨59, _⟩ => ⟨S8192x6x128, .i32⟩
  | .hbm, ⟨60, _⟩ => ⟨S8192x6x128, .i1⟩
  | .hbm, ⟨61, _⟩ => ⟨S8192x6x128, .f32⟩
  | .hbm, ⟨62, _⟩ => ⟨S_, .f32⟩
  | .hbm, ⟨63, _⟩ => ⟨S8192x6x128, .f32⟩
  | .hbm, ⟨64, _⟩ => ⟨S8192x6x128, .f32⟩
  | .hbm, ⟨65, _⟩ => ⟨S_, .f32⟩
  | .hbm, ⟨66, _⟩ => ⟨S8192x6x128, .f32⟩
  | .hbm, ⟨67, _⟩ => ⟨S8192x6x128, .f32⟩
  | .hbm, ⟨68, _⟩ => ⟨S8192x6x256, .f32⟩
  | .hbm, ⟨69, _⟩ => ⟨S8192x1536, .f32⟩
  | .hbm, ⟨70, _⟩ => ⟨S8192x1536, .bf16⟩
  | .hbm, ⟨71, _⟩ => ⟨S8192x768, .bf16⟩
  | .hbm, ⟨72, _⟩ => ⟨S8192x768, .f32⟩
  | .hbm, ⟨73, _⟩ => ⟨S8192x6x128, .f32⟩
  | .hbm, ⟨74, _⟩ => ⟨S8192x768, .bf16⟩
  | .hbm, ⟨75, _⟩ => ⟨S8192x768, .f32⟩
  | .hbm, ⟨76, _⟩ => ⟨S8192x6x128, .f32⟩
  | .hbm, ⟨77, _⟩ => ⟨S6x8192x8192, .f32⟩
  | .hbm, ⟨78, _⟩ => ⟨S_, .f32⟩
  | .hbm, ⟨79, _⟩ => ⟨S6x8192x8192, .f32⟩
  | .hbm, ⟨80, _⟩ => ⟨S6x8192x8192, .f32⟩
  | .hbm, ⟨81, _⟩ => ⟨S6x8192x1, .f32⟩
  | .hbm, ⟨82, _⟩ => ⟨S6x8192x8192, .f32⟩
  | .hbm, ⟨83, _⟩ => ⟨S6x8192x8192, .f32⟩
  | .hbm, ⟨84, _⟩ => ⟨S6x1x8192, .f32⟩
  | .hbm, ⟨85, _⟩ => ⟨S6x8192x8192, .f32⟩
  | .hbm, ⟨86, _⟩ => ⟨S6x8192x8192, .f32⟩
  | .hbm, ⟨87, _⟩ => ⟨S8192x8192, .i32⟩
  | .hbm, ⟨88, _⟩ => ⟨S8192x8192, .i32⟩
  | .hbm, ⟨89, _⟩ => ⟨S8192x8192, .i1⟩
  | .hbm, ⟨90, _⟩ => ⟨S6x8192x8192, .i1⟩
  | .hbm, ⟨91, _⟩ => ⟨S_, .f32⟩
  | .hbm, ⟨92, _⟩ => ⟨S6x8192x8192, .f32⟩
  | .hbm, ⟨93, _⟩ => ⟨S6x8192x8192, .f32⟩
  | .hbm, ⟨94, _⟩ => ⟨S_, .f32⟩
  | .hbm, ⟨95, _⟩ => ⟨S6x8192, .f32⟩
  | .hbm, ⟨96, _⟩ => ⟨S6x8192x1, .f32⟩
  | .hbm, ⟨97, _⟩ => ⟨S6x8192x8192, .f32⟩
  | .hbm, ⟨98, _⟩ => ⟨S6x8192x8192, .f32⟩
  | .hbm, ⟨99, _⟩ => ⟨S6x8192x8192, .f32⟩
  | .hbm, ⟨100, _⟩ => ⟨S_, .f32⟩
  | .hbm, ⟨101, _⟩ => ⟨S6x8192, .f32⟩
  | .hbm, ⟨102, _⟩ => ⟨S6x8192x1, .f32⟩
  | .hbm, ⟨103, _⟩ => ⟨S6x8192x8192, .f32⟩
  | .hbm, ⟨104, _⟩ => ⟨S6x8192x8192, .f32⟩
  | .hbm, ⟨105, _⟩ => ⟨S8192x768, .bf16⟩
  | .hbm, ⟨106, _⟩ => ⟨S8192x768, .f32⟩
  | .hbm, ⟨107, _⟩ => ⟨S8192x6x128, .f32⟩
  | .hbm, ⟨108, _⟩ => ⟨S6x128x8192, .f32⟩
  | .hbm, ⟨109, _⟩ => ⟨S8192x6x128, .f32⟩
  | .hbm, ⟨110, _⟩ => ⟨S6x8192, .f32⟩
  | .hbm, ⟨111, _⟩ => ⟨S6x8192, .f32⟩
  | .hbm, ⟨112, _⟩ => ⟨S8192x6, .f32⟩
  | .hbm, ⟨113, _⟩ => ⟨S8192x6x128, .f32⟩
  | .hbm, ⟨114, _⟩ => ⟨S8192x768, .f32⟩
  | .hbm, ⟨115, _⟩ => ⟨S8192x768, .f32⟩
  | .hbm, ⟨116, _⟩ => ⟨S8192x768, .bf16⟩
  | .hbm, ⟨117, _⟩ => ⟨S8192x768, .f32⟩
  | .hbm, ⟨118, _⟩ => ⟨S8192x768, .f32⟩
  | .hbm, ⟨119, _⟩ => ⟨S6x1x8192, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .bf16⟩
  | .local _ .vmem, ⟨11, _⟩ => ⟨S1024x128, .bf16⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1x1x1024, .f32⟩
  | .local _ .vmem, ⟨17, _⟩ => ⟨S1x1x1024, .f32⟩
  | .local _ .vmem, ⟨18, _⟩ => ⟨S1024x128, .f32⟩
  | .local _ .vmem, ⟨19, _⟩ => ⟨S1024x128, .f32⟩
  | .local _ .vmem, ⟨20, _⟩ => ⟨S1x1024, .f32⟩
  | .local _ .smem, ⟨0, _⟩ => ⟨S36, .i32⟩
  | .local _ .smem, ⟨1, _⟩ => ⟨S36, .i32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_1 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_c_3 : Ref sig .tc := ⟨.hbm, 23, rfl⟩
abbrev main_v17 : Ref sig .tc := ⟨.hbm, 24, rfl⟩
abbrev main_v18 : Ref sig .tc := ⟨.hbm, 25, rfl⟩
abbrev main_c_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_c_5 : Ref sig .tc := ⟨.hbm, 37, rfl⟩
abbrev main_v28 : Ref sig .tc := ⟨.hbm, 38, rfl⟩
abbrev main_v29 : Ref sig .tc := ⟨.hbm, 39, rfl⟩
abbrev main_c_6 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_9 : Ref sig .tc := ⟨.hbm, 55, rfl⟩
abbrev main_v42 : Ref sig .tc := ⟨.hbm, 56, rfl⟩
abbrev main_v43 : Ref sig .tc := ⟨.hbm, 57, rfl⟩
abbrev main_c_10 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_11 : Ref sig .tc := ⟨.hbm, 62, rfl⟩
abbrev main_v47 : Ref sig .tc := ⟨.hbm, 63, rfl⟩
abbrev main_v48 : Ref sig .tc := ⟨.hbm, 64, rfl⟩
abbrev main_cst_12 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_13 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_14 : Ref sig .tc := ⟨.hbm, 91, rfl⟩
abbrev main_v73 : Ref sig .tc := ⟨.hbm, 92, rfl⟩
abbrev main_v74 : Ref sig .tc := ⟨.hbm, 93, rfl⟩
abbrev main_cst_15 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_16 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96_0 : Ref sig .tc := ⟨.hbm, 117, rfl⟩
abbrev main_v96_1 : Ref sig .tc := ⟨.hbm, 118, rfl⟩
abbrev main_v96_2 : Ref sig .tc := ⟨.hbm, 119, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![6, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond4 (v1 : BitVec 32) : BitVec 1 :=
  let c7_i32 : BitVec 32 := 7#32
  let v17 : BitVec 1 := Scalar.cmpi .eq v1 c7_i32
  let v18 : BitVec 32 := Scalar.extui v17
  let c0_i32_5 : BitVec 32 := 0#32
  let v19 : BitVec 1 := Scalar.cmpi .ne v18 c0_i32_5
  v19

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c6_i32 : BitVec 32 := 6#32
  let v2 : BitVec 32 := Scalar.addi c6_i32 arg0
  let c0_i32 : BitVec 32 := 0#32
  ![v1.toNat, v2.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let v2 : BitVec 32 := Scalar.addi c0_i32 arg0
  let c0_i32_0 : BitVec 32 := 0#32
  ![v1.toNat, v2.toNat]

def cc0_transform_6 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_7 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_8 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, c0_i32.toNat, v1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel7Ideal.lean ====
variable {F : FTy → Type} [FloatOps F] [Named F]
def κ : String → Option EReal := fun
  | "mask" => some ⊥
  | _ => none
-- ==== Reference7Ideal.lean ====
abbrev S8192x1024 : Shape := ⟨2, ![8192, 1024]⟩
abbrev S8192x1536 : Shape := ⟨2, ![8192, 1536]⟩
abbrev S6x8192 : Shape := ⟨2, ![6, 8192]⟩
abbrev S8192x768 : Shape := ⟨2, ![8192, 768]⟩
abbrev S8192x6x128 : Shape := ⟨3, ![8192, 6, 128]⟩
abbrev S6x8192x8192 : Shape := ⟨3, ![6, 8192, 8192]⟩
abbrev S_ : Shape := ⟨0, ![]⟩
abbrev S6x8192x1 : Shape := ⟨3, ![6, 8192, 1]⟩
abbrev S6x1x8192 : Shape := ⟨3, ![6, 1, 8192]⟩
abbrev S8192x8192 : Shape := ⟨2, ![8192, 8192]⟩
abbrev S6x128x8192 : Shape := ⟨3, ![6, 128, 8192]⟩
abbrev S6x8192x128 : Shape := ⟨3, ![6, 8192, 128]⟩

abbrev nBuf : Space → Nat
  | .hbm => 117
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S6x8192, .f32⟩
  | .hbm, ⟨3, _⟩ => ⟨S8192x1024, .bf16⟩
  | .hbm, ⟨4, _⟩ => ⟨S8192x768, .bf16⟩
  | .hbm, ⟨5, _⟩ => ⟨S8192x768, .f32⟩
  | .hbm, ⟨6, _⟩ => ⟨S8192x6x128, .f32⟩
  | .hbm, ⟨7, _⟩ => ⟨S8192x768, .bf16⟩
  | .hbm, ⟨8, _⟩ => ⟨S8192x768, .f32⟩
  | .hbm, ⟨9, _⟩ => ⟨S8192x6x128, .f32⟩
  | .hbm, ⟨10, _⟩ => ⟨S8192x768, .bf16⟩
  | .hbm, ⟨11, _⟩ => ⟨S8192x768, .f32⟩
  | .hbm, ⟨12, _⟩ => ⟨S8192x6x128, .f32⟩
  | .hbm, ⟨13, _⟩ => ⟨S8192x768, .bf16⟩
  | .hbm, ⟨14, _⟩ => ⟨S8192x768, .f32⟩
  | .hbm, ⟨15, _⟩ => ⟨S8192x6x128, .f32⟩
  | .hbm, ⟨16, _⟩ => ⟨S6x8192x8192, .f32⟩
  | .hbm, ⟨17, _⟩ => ⟨S_, .f32⟩
  | .hbm, ⟨18, _⟩ => ⟨S6x8192x8192, .f32⟩
  | .hbm, ⟨19, _⟩ => ⟨S6x8192x8192, .f32⟩
  | .hbm, ⟨20, _⟩ => ⟨S6x8192x1, .f32⟩
  | .hbm, ⟨21, _⟩ => ⟨S6x8192x8192, .f32⟩
  | .hbm, ⟨22, _⟩ => ⟨S6x8192x8192, .f32⟩
  | .hbm, ⟨23, _⟩ => ⟨S6x1x8192, .f32⟩
  | .hbm, ⟨24, _⟩ => ⟨S6x8192x8192, .f32⟩
  | .hbm, ⟨25, _⟩ => ⟨S6x8192x8192, .f32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S6x8192x8192, .i1⟩
  | .hbm, ⟨30, _⟩ => ⟨S_, .f32⟩
  | .hbm, ⟨31, _⟩ => ⟨S6x8192x8192, .f32⟩
  | .hbm, ⟨32, _⟩ => ⟨S6x8192x8192, .f32⟩
  | .hbm, ⟨33, _⟩ => ⟨S_, .f32⟩
  | .hbm, ⟨34, _⟩ => ⟨S6x8192x8192, .f32⟩
  | .hbm, ⟨35, _⟩ => ⟨S_, .f32⟩
  | .hbm, ⟨36, _⟩ => ⟨S6x8192, .f32⟩
  | .hbm, ⟨37, _⟩ => ⟨S6x8192x1, .f32⟩
  | .hbm, ⟨38, _⟩ => ⟨S6x8192x8192, .f32⟩
  | .hbm, ⟨39, _⟩ => ⟨S6x8192x8192, .i1⟩
  | .hbm, ⟨40, _⟩ => ⟨S6x8192x8192, .f32⟩
  | .hbm, ⟨41, _⟩ => ⟨S_, .f32⟩
  | .hbm, ⟨42, _⟩ => ⟨S6x8192, .f32⟩
  | .hbm, ⟨43, _⟩ => ⟨S_, .f32⟩
  | .hbm, ⟨44, _⟩ => ⟨S6x8192, .f32⟩
  | .hbm, ⟨45, _⟩ => ⟨S6x8192, .f32⟩
  | .hbm, ⟨46, _⟩ => ⟨S_, .f32⟩
  | .hbm, ⟨47, _⟩ => ⟨S6x8192, .f32⟩
  | .hbm, ⟨48, _⟩ => ⟨S6x8192, .i1⟩
  | .hbm, ⟨49, _⟩ => ⟨S_, .f32⟩
  | .hbm, ⟨50, _⟩ => ⟨S6x8192, .f32⟩
  | .hbm, ⟨51, _⟩ => ⟨S6x8192, .i1⟩
  | .hbm, ⟨52, _⟩ => ⟨S_, .f32⟩
  | .hbm, ⟨53, _⟩ => ⟨S6x8192, .f32⟩
  | .hbm, ⟨54, _⟩ => ⟨S_, .f32⟩
  | .hbm, ⟨55, _⟩ => ⟨S6x8192, .f32⟩
  | .hbm, ⟨56, _⟩ => ⟨S_, .f32⟩
  | .hbm, ⟨57, _⟩ => ⟨S6x8192, .f32⟩
  | .hbm, ⟨58, _⟩ => ⟨S6x8192, .f32⟩
  | .hbm, ⟨59, _⟩ => ⟨S6x8192, .f32⟩
  | .hbm, ⟨60, _⟩ => ⟨S6x8192x1, .f32⟩
  | .hbm, ⟨61, _⟩ => ⟨S6x8192x8192, .f32⟩
  | .hbm, ⟨62, _⟩ => ⟨S6x8192x8192, .f32⟩
  | .hbm, ⟨63, _⟩ => ⟨S6x8192x8192, .f32⟩
  | .hbm, ⟨64, _⟩ => ⟨S_, .f32⟩
  | .hbm, ⟨65, _⟩ => ⟨S6x8192, .f32⟩
  | .hbm, ⟨66, _⟩ => ⟨S6x8192x1, .f32⟩
  | .hbm, ⟨67, _⟩ => ⟨S6x8192x8192, .f32⟩
  | .hbm, ⟨68, _⟩ => ⟨S6x8192x8192, .f32⟩
  | .hbm, ⟨69, _⟩ => ⟨S6x8192x1, .f32⟩
  | .hbm, ⟨70, _⟩ => ⟨S_, .f32⟩
  | .hbm, ⟨71, _⟩ => ⟨S6x8192x1, .f32⟩
  | .hbm, ⟨72, _⟩ => ⟨S6x8192x1, .f32⟩
  | .hbm, ⟨73, _⟩ => ⟨S6x128x8192, .f32⟩
  | .hbm, ⟨74, _⟩ => ⟨S8192x6x128, .f32⟩
  | .hbm, ⟨75, _⟩ => ⟨S6x128x8192, .f32⟩
  | .hbm, ⟨76, _⟩ => ⟨S6x8192x8192, .f32⟩
  | .hbm, ⟨77, _⟩ => ⟨S6x128x8192, .f32⟩
  | .hbm, ⟨78, _⟩ => ⟨S8192x6x128, .f32⟩
  | .hbm, ⟨79, _⟩ => ⟨S6x8192x8192, .f32⟩
  | .hbm, ⟨80, _⟩ => ⟨S6x8192x8192, .f32⟩
  | .hbm, ⟨81, _⟩ => ⟨S6x8192x8192, .f32⟩
  | .hbm, ⟨82, _⟩ => ⟨S_, .f32⟩
  | .hbm, ⟨83, _⟩ => ⟨S6x8192, .f32⟩
  | .hbm, ⟨84, _⟩ => ⟨S6x8192x1, .f32⟩
  | .hbm, ⟨85, _⟩ => ⟨S6x8192x1, .f32⟩
  | .hbm, ⟨86, _⟩ => ⟨S6x8192x8192, .f32⟩
  | .hbm, ⟨87, _⟩ => ⟨S6x8192x8192, .f32⟩
  | .hbm, ⟨88, _⟩ => ⟨S_, .f32⟩
  | .hbm, ⟨89, _⟩ => ⟨S6x8192, .f32⟩
  | .hbm, ⟨90, _⟩ => ⟨S6x8192x8192, .f32⟩
  | .hbm, ⟨91, _⟩ => ⟨S6x8192x8192, .f32⟩
  | .hbm, ⟨92, _⟩ => ⟨S6x8192x8192, .f32⟩
  | .hbm, ⟨93, _⟩ => ⟨S_, .f32⟩
  | .hbm, ⟨94, _⟩ => ⟨S6x8192x8192, .f32⟩
  | .hbm, ⟨95, _⟩ => ⟨S6x8192x8192, .f32⟩
  | .hbm, ⟨96, _⟩ => ⟨S6x8192x8192, .f32⟩
  | .hbm, ⟨97, _⟩ => ⟨S_, .f32⟩
  | .hbm, ⟨98, _⟩ => ⟨S6x8192, .f32⟩
  | .hbm, ⟨99, _⟩ => ⟨S6x1x8192, .f32⟩
  | .hbm, ⟨100, _⟩ => ⟨S_, .f32⟩
  | .hbm, ⟨101, _⟩ => ⟨S6x8192, .f32⟩
  | .hbm, ⟨102, _⟩ => ⟨S_, .f32⟩
  | .hbm, ⟨103, _⟩ => ⟨S6x8192, .f32⟩
  | .hbm, ⟨104, _⟩ => ⟨S6x8192x1, .f32⟩
  | .hbm, ⟨105, _⟩ => ⟨S_, .f32⟩
  | .hbm, ⟨106, _⟩ => ⟨S6x8192, .f32⟩
  | .hbm, ⟨107, _⟩ => ⟨S_, .f32⟩
  | .hbm, ⟨108, _⟩ => ⟨S6x8192x8192, .f32⟩
  | .hbm, ⟨109, _⟩ => ⟨S6x8192x8192, .f32⟩
  | .hbm, ⟨110, _⟩ => ⟨S6x8192x128, .f32⟩
  | .hbm, ⟨111, _⟩ => ⟨S8192x6x128, .f32⟩
  | .hbm, ⟨112, _⟩ => ⟨S6x8192x128, .f32⟩
  | .hbm, ⟨113, _⟩ => ⟨S8192x6x128, .f32⟩
  | .hbm, ⟨114, _⟩ => ⟨S8192x768, .f32⟩
  | .hbm, ⟨115, _⟩ => ⟨S8192x768, .f32⟩
  | .hbm, ⟨116, _⟩ => ⟨S6x1x8192, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_12 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_13 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_14 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_15 : Ref sig .tc := ⟨.hbm, 97, rfl⟩
abbrev main_v77 : Ref sig .tc := ⟨.hbm, 98, rfl⟩
abbrev main_v78 : Ref sig .tc := ⟨.hbm, 99, rfl⟩
abbrev main_cst_16 : Ref sig .tc := ⟨.hbm, 100, rfl⟩
abbrev main_v79 : Ref sig .tc := ⟨.hbm, 101, rfl⟩
abbrev main_cst_17 : Ref sig .tc := ⟨.hbm, 102, rfl⟩
abbrev main_v80 : Ref sig .tc := ⟨.hbm, 103, rfl⟩
abbrev main_v81 : Ref sig .tc := ⟨.hbm, 104, rfl⟩
abbrev main_cst_18 : Ref sig .tc := ⟨.hbm, 105, rfl⟩
abbrev main_v82 : Ref sig .tc := ⟨.hbm, 106, rfl⟩
abbrev main_cst_19 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩

abbrev nD : Nat := 1
abbrev τ : Topo := Topo.v7x

variable {F : FTy → Type} [FloatOps F]

def κ : String → Option EReal := fun
  | "mask" => some ⊥
  | _ => none
-- ==== Kernel8.lean ====
abbrev S8192x1024 : Shape := ⟨2, ![8192, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8192x1024 : Shape := ⟨2, ![8192, 1024]⟩
abbrev S1024x3456 : Shape := ⟨2, ![1024, 3456]⟩
abbrev S8192x3456 : Shape := ⟨2, ![8192, 3456]⟩
abbrev S1024x1024 : Shape := ⟨2, ![1024, 1024]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3456, .bf16⟩
  | .hbm, ⟨2, _⟩ => ⟨S8192x3456, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1024x3456 : Shape := ⟨2, ![1024, 3456]⟩
abbrev S8192x3456 : Shape := ⟨2, ![8192, 3456]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3456, .bf16⟩
  | .hbm, ⟨2, _⟩ => ⟨S8192x1024, .f32⟩
  | .hbm, ⟨3, _⟩ => ⟨S1024x3456, .f32⟩
  | .hbm, ⟨4, _⟩ => ⟨S8192x3456, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S8192x1024 : Shape := ⟨2, ![8192, 1024]⟩
abbrev S8192x3456 : Shape := ⟨2, ![8192, 3456]⟩
abbrev S1024x3456 : Shape := ⟨2, ![1024, 3456]⟩
abbrev S2048x1024 : Shape := ⟨2, ![2048, 1024]⟩
abbrev S2048x1152 : Shape := ⟨2, ![2048, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3456, .bf16⟩
  | .hbm, ⟨2, _⟩ => ⟨S1024x3456, .f32⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S8192x3456 : Shape := ⟨2, ![8192, 3456]⟩
abbrev S_ : Shape := ⟨0, ![]⟩
abbrev S1024x3456 : Shape := ⟨2, ![1024, 3456]⟩
abbrev S3456x1024 : Shape := ⟨2, ![3456, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3456, .bf16⟩
  | .hbm, ⟨2, _⟩ => ⟨S_, .f32⟩
  | .hbm, ⟨3, _⟩ => ⟨S1024x3456, .f32⟩
  | .hbm, ⟨4, _⟩ => ⟨S8192x1024, .f32⟩
  | .hbm, ⟨5, _⟩ => ⟨S8192x3456, .f32⟩
  | .hbm, ⟨6, _⟩ => ⟨S8192x3456, .f32⟩
  | .hbm, ⟨7, _⟩ => ⟨S3456x1024, .f32⟩
  | .hbm, ⟨8, _⟩ => ⟨S1024x3456, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S8192x1024 : Shape := ⟨2, ![8192, 1024]⟩
abbrev S1024x1536 : Shape := ⟨2, ![1024, 1536]⟩
abbrev S8192x1536 : Shape := ⟨2, ![8192, 1536]⟩
abbrev S1024x1024 : Shape := ⟨2, ![1024, 1024]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S1024x1536 : Shape := ⟨2, ![1024, 1536]⟩
abbrev S8192x1536 : Shape := ⟨2, ![8192, 1536]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1024, .f32⟩
  | .hbm, ⟨3, _⟩ => ⟨S1024x1536, .f32⟩
  | .hbm, ⟨4, _⟩ => ⟨S8192x1536, .f32⟩
  | .hbm, ⟨5, _⟩ => ⟨S8192x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S8192x1024 : Shape := ⟨2, ![8192, 1024]⟩
abbrev S8192x1664 : Shape := ⟨2, ![8192, 1664]⟩
abbrev S1024x1664 : Shape := ⟨2, ![1024, 1664]⟩
abbrev S2048x1024 : Shape := ⟨2, ![2048, 1024]⟩
abbrev S2048x1664 : Shape := ⟨2, ![2048, 1664]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1664, .bf16⟩
  | .hbm, ⟨2, _⟩ => ⟨S1024x1664, .f32⟩
  | .local _ .vmem, ⟨0, _⟩ => ⟨S2048x1024, .bf16⟩
  | .local _ .vmem, ⟨1, _⟩ => ⟨S2048x1024, .bf16⟩
  | .local _ .vmem, ⟨2, _⟩ => ⟨S2048x1664, .bf16⟩
  | .local _ .vmem, ⟨3, _⟩ => ⟨S2048x1664, .bf16⟩
  | .local _ .vmem, ⟨4, _⟩ => ⟨S1024x1664, .f32⟩
  | .local _ .vmem, ⟨5, _⟩ => ⟨S1024x1664, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1664 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S8192x1664 : Shape := ⟨2, ![8192, 1664]⟩
abbrev S_ : Shape := ⟨0, ![]⟩
abbrev S1024x1664 : Shape := ⟨2, ![1024, 1664]⟩
abbrev S1664x1024 : Shape := ⟨2, ![1664, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1664, .bf16⟩
  | .hbm, ⟨2, _⟩ => ⟨S_, .f32⟩
  | .hbm, ⟨3, _⟩ => ⟨S1024x1664, .f32⟩
  | .hbm, ⟨4, _⟩ => ⟨S8192x1024, .f32⟩
  | .hbm, ⟨5, _⟩ => ⟨S8192x1664, .f32⟩
  | .hbm, ⟨6, _⟩ => ⟨S8192x1664, .f32⟩
  | .hbm, ⟨7, _⟩ => ⟨S1664x1024, .f32⟩
  | .hbm, ⟨8, _⟩ => ⟨S1024x1664, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S8192x3456 : Shape := ⟨2, ![8192, 3456]⟩
abbrev S1024x3456 : Shape := ⟨2, ![1024, 3456]⟩
abbrev S8192x1024 : Shape := ⟨2, ![8192, 1024]⟩
abbrev S1x1024 : Shape := ⟨2, ![1, 1024]⟩
abbrev S1024x1152 : Shape := ⟨2, ![1024, 1152]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x3456, .bf16⟩
  | .hbm, ⟨1, _⟩ => ⟨S1024x3456, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S1024x1152, .bf16⟩
  | .local _ .vmem, ⟨1, _⟩ => ⟨S1024x1152, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S8192x3456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 3], ![false, false]⟩

def k0_cond2 (i : grid0.Coords) : BitVec 1 :=
  let arg1 : BitVec 32 := BitVec.ofNat 32 (i 1).val
  let c2_i32 : BitVec 32 := 2#32
  let v11 : BitVec 1 := Scalar.cmpi .eq arg1 c2_i32
  let v12 : BitVec 32 := Scalar.extui v11
  let c0_i32_8 : BitVec 32 := 0#32
  let v13 : BitVec 1 := Scalar.cmpi .ne v12 c0_i32_8
  v13

def k0_cond3 (i : grid0.Coords) : BitVec 1 :=
  let arg0 : BitVec 32 := BitVec.ofNat 32 (i 0).val
  let c0_i32_71 : BitVec 32 := 0#32
  let v143 : BitVec 1 := Scalar.cmpi .eq arg0 c0_i32_71
  let v144 : BitVec 32 := Scalar.extui v143
  let c0_i32_72 : BitVec 32 := 0#32
  let v145 : BitVec 1 := Scalar.cmpi .ne v144 c0_i32_72
  v145

def k0_cond4 (i : grid0.Coords) : BitVec 1 :=
  let arg0 : BitVec 32 := BitVec.ofNat 32 (i 0).val
  let c0_i32_73 : BitVec 32 := 0#32
  let v146 : BitVec 1 := Scalar.cmpi .sgt arg0 c0_i32_73
  let v147 : BitVec 32 := Scalar.extui v146
  let c0_i32_74 : BitVec 32 := 0#32
  let v148 : BitVec 1 := Scalar.cmpi .ne v147 c0_i32_74
  v148

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference17Ideal.lean ====
abbrev S8192x3456 : Shape := ⟨2, ![8192, 3456]⟩
abbrev S1024x3456 : Shape := ⟨2, ![1024, 3456]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x3456, .bf16⟩
  | .hbm, ⟨1, _⟩ => ⟨S1024x3456, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x3456, .f32⟩
  | .hbm, ⟨25, _⟩ => ⟨S8192x3456, .f32⟩
  | .hbm, ⟨26, _⟩ => ⟨S8192x3456, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x3456, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel18.lean ====
abbrev S8192x1024 : Shape := ⟨2, ![8192, 1024]⟩
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def k0_cond3 (i : grid0.Coords) : BitVec 1 :=
  let arg0 : BitVec 32 := BitVec.ofNat 32 (i 0).val
  let c0_i32_72 : BitVec 32 := 0#32
  let v143 : BitVec 1 := Scalar.cmpi .eq arg0 c0_i32_72
  let v144 : BitVec 32 := Scalar.extui v143
  let c0_i32_73 : BitVec 32 := 0#32
  let v145 : BitVec 1 := Scalar.cmpi .ne v144 c0_i32_73
  v145

def k0_cond4 (i : grid0.Coords) : BitVec 1 :=
  let arg0 : BitVec 32 := BitVec.ofNat 32 (i 0).val
  let c0_i32_74 : BitVec 32 := 0#32
  let v146 : BitVec 1 := Scalar.cmpi .sgt arg0 c0_i32_74
  let v147 : BitVec 32 := Scalar.extui v146
  let c0_i32_75 : BitVec 32 := 0#32
  let v148 : BitVec 1 := Scalar.cmpi .ne v147 c0_i32_75
  v148

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference18Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel19.lean ====
abbrev S8192x1664 : Shape := ⟨2, ![8192, 1664]⟩
abbrev S1024x1664 : Shape := ⟨2, ![1024, 1664]⟩
abbrev S8192x1024 : Shape := ⟨2, ![8192, 1024]⟩
abbrev S1x1024 : Shape := ⟨2, ![1, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1664, .bf16⟩
  | .hbm, ⟨1, _⟩ => ⟨S1024x1664, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S1024x1664, .bf16⟩
  | .local _ .vmem, ⟨1, _⟩ => ⟨S1024x1664, .bf16⟩
  | .local _ .vmem, ⟨2, _⟩ => ⟨S1024x1664, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | _, _ => ⟨S8192x1664, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def k0_cond3 (i : grid0.Coords) : BitVec 1 :=
  let arg0 : BitVec 32 := BitVec.ofNat 32 (i 0).val
  let c0_i32_72 : BitVec 32 := 0#32
  let v143 : BitVec 1 := Scalar.cmpi .eq arg0 c0_i32_72
  let v144 : BitVec 32 := Scalar.extui v143
  let c0_i32_73 : BitVec 32 := 0#32
  let v145 : BitVec 1 := Scalar.cmpi .ne v144 c0_i32_73
  v145

def k0_cond4 (i : grid0.Coords) : BitVec 1 :=
  let arg0 : BitVec 32 := BitVec.ofNat 32 (i 0).val
  let c0_i32_74 : BitVec 32 := 0#32
  let v146 : BitVec 1 := Scalar.cmpi .sgt arg0 c0_i32_74
  let v147 : BitVec 32 := Scalar.extui v146
  let c0_i32_75 : BitVec 32 := 0#32
  let v148 : BitVec 1 := Scalar.cmpi .ne v147 c0_i32_75
  v148

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference19Ideal.lean ====
abbrev S8192x1664 : Shape := ⟨2, ![8192, 1664]⟩
abbrev S1024x1664 : Shape := ⟨2, ![1024, 1664]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1664, .bf16⟩
  | .hbm, ⟨1, _⟩ => ⟨S1024x1664, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x1664, .f32⟩
  | .hbm, ⟨25, _⟩ => ⟨S8192x1664, .f32⟩
  | .hbm, ⟨26, _⟩ => ⟨S8192x1664, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1664, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proof.Extended.lean ====
/-
  Facts about the extended reals that the value modules share: literals as reals, a real that goes into a sum, and sums
  of reals read in the extended reals.
-/
module

public import Idealize.ShloMosaic.Lib.Pipeline.ValueKit

@[expose] public section

noncomputable section

open Idealize.ShloMosaic

namespace Cert.Extended

/-- The f32 pattern of one half. -/
theorem half : Ideal.ofBits .f32 0x3F000000#32 = (((1 : ℝ) / 2 : ℝ) : EReal) := by
  simp [Ideal.ofBits, Ideal.ieee, -EReal.coe_mul]; norm_num

/-- A real that is not negative goes into a sum. -/
theorem sum_mul_coe {n : ℕ} (f : Fin n → EReal) (r : ℝ) (hr : 0 ≤ r) : (∑ k, f k) * (r : EReal) = ∑ k, f k * (r : EReal) := by
  classical
  have h : ∀ s : Finset (Fin n), (∑ k ∈ s, f k) * (r : EReal) = ∑ k ∈ s, f k * (r : EReal) := fun s => by
    induction s using Finset.induction_on with
    | empty => simp
    | insert a s ha ih =>
      rw [Finset.sum_insert ha, Finset.sum_insert ha, ← ih,
        EReal.right_distrib_of_nonneg_of_ne_top (EReal.coe_nonneg.mpr hr) (EReal.coe_ne_top r)]
  exact h Finset.univ

/-- A product of three, reversed. -/
theorem mul_rev (a b c : EReal) : a * b * c = c * b * a := by rw [mul_comm (a * b), mul_comm a, mul_assoc]

/-- A sum of reals, read in the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- An extended real that is a real. -/
def IsReal (x : EReal) : Prop := ∃ r : ℝ, x = (r : EReal)

theorem IsReal.mul {x y : EReal} : IsReal x → IsReal y → IsReal (x * y)
  | ⟨a, ha⟩, ⟨b, hb⟩ => ⟨a * b, by rw [ha, hb, EReal.coe_mul]⟩

theorem IsReal.add {x y : EReal} : IsReal x → IsReal y → IsReal (x + y)
  | ⟨a, ha⟩, ⟨b, hb⟩ => ⟨a + b, by rw [ha, hb, EReal.coe_add]⟩

theorem IsReal.sum {ι : Type*} (s : Finset ι) (f : ι → EReal) (h : ∀ k, IsReal (f k)) : IsReal (∑ k ∈ s, f k) := by
  choose g hg using h
  exact ⟨∑ k ∈ s, g k, by rw [coe_sum]; exact Finset.sum_congr rfl fun k _ => hg k⟩

/-- The quotient of two reals. -/
theorem div_real (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

/-- The reciprocal root of a positive real. -/
theorem rsqrt_real (a : ℝ) (ha : 0 < a) : Ideal.rsqrt (a : EReal) = (((Real.sqrt a)⁻¹ : ℝ) : EReal) := by
  rw [Ideal.rsqrt_coe, if_neg ha.not_gt, if_neg ha.ne']

/-- The f32 pattern of minus one half. -/
theorem neg_half : Ideal.ofBits .f32 0xBF000000#32 = ((-(1 / 2) : ℝ) : EReal) := by
  simp [Ideal.ofBits, Ideal.ieee, -EReal.coe_mul, -EReal.coe_neg]; norm_num

/-- The f32 pattern of 1024. -/
theorem k1024 : Ideal.ofBits .f32 0x44800000#32 = ((1024 : ℝ) : EReal) := by
  simp [Ideal.ofBits, Ideal.ieee, -EReal.coe_mul]; norm_num

/-- The norm's constant is a positive real. -/
theorem eps_pos : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num

/-- The norm's backward as a kernel writes it (the row's gradient less its part along the normalised row) and as the
    derivative of the mean square gives it, on reals. -/
theorem norm_bwd {n : ℕ} (s x g : Fin n → ℝ) (r : ℝ) (b : Fin n) :
    ((s b : EReal) * (g b : EReal) - (x b : EReal) * Ideal.rsqrt (Ideal.div (∑ d, (x d : EReal) * (x d : EReal)) (Ideal.ofBits .f32 0x44800000#32) + Ideal.ofBits .f32 0x358637BD#32)
      * Ideal.div (∑ d, (s d : EReal) * (g d : EReal) * ((x d : EReal) * Ideal.rsqrt (Ideal.div (∑ d, (x d : EReal) * (x d : EReal)) (Ideal.ofBits .f32 0x44800000#32) + Ideal.ofBits .f32 0x358637BD#32))) (Ideal.ofBits .f32 0x44800000#32))
      * Ideal.rsqrt (Ideal.div (∑ d, (x d : EReal) * (x d : EReal)) (Ideal.ofBits .f32 0x44800000#32) + Ideal.ofBits .f32 0x358637BD#32) + (r : EReal)
    = (r : EReal) + (s b : EReal) * (g b : EReal) * Ideal.rsqrt (Ideal.div (∑ d, (x d : EReal) * (x d : EReal)) (Ideal.ofBits .f32 0x44800000#32) + Ideal.ofBits .f32 0x358637BD#32)
      + (x b : EReal) * Ideal.div ((∑ d, (x d : EReal) * ((s d : EReal) * (g d : EReal))) * (Ideal.ofBits .f32 0xBF000000#32
        * Ideal.div (Ideal.rsqrt (Ideal.div (∑ d, (x d : EReal) * (x d : EReal)) (Ideal.ofBits .f32 0x44800000#32) + Ideal.ofBits .f32 0x358637BD#32)) (Ideal.div (∑ d, (x d : EReal) * (x d : EReal)) (Ideal.ofBits .f32 0x44800000#32) + Ideal.ofBits .f32 0x358637BD#32))) (Ideal.ofBits .f32 0x44800000#32)
      + Ideal.div ((∑ d, (x d : EReal) * ((s d : EReal) * (g d : EReal))) * (Ideal.ofBits .f32 0xBF000000#32
        * Ideal.div (Ideal.rsqrt (Ideal.div (∑ d, (x d : EReal) * (x d : EReal)) (Ideal.ofBits .f32 0x44800000#32) + Ideal.ofBits .f32 0x358637BD#32)) (Ideal.div (∑ d, (x d : EReal) * (x d : EReal)) (Ideal.ofBits .f32 0x44800000#32) + Ideal.ofBits .f32 0x358637BD#32))) (Ideal.ofBits .f32 0x44800000#32) * (x b : EReal) := by
  obtain ⟨e, he, hE⟩ := eps_pos
  have h0 : (0 : ℝ) ≤ ∑ d, x d * x d := Finset.sum_nonneg fun d _ => mul_self_nonneg _
  have hm : 0 < (∑ d, x d * x d) / 1024 + e := by positivity
  have hms : Ideal.div (∑ d, (x d : EReal) * (x d : EReal)) (Ideal.ofBits .f32 0x44800000#32) + Ideal.ofBits .f32 0x358637BD#32
      = (((∑ d, x d * x d) / 1024 + e : ℝ) : EReal) := by
    simp only [← EReal.coe_mul]
    rw [hE, k1024, ← coe_sum, div_real _ _ (by norm_num), ← EReal.coe_add]
  rw [hms, rsqrt_real _ hm, neg_half, k1024]
  have hq : (Real.sqrt ((∑ d, x d * x d) / 1024 + e)) ^ 2 = (∑ d, x d * x d) / 1024 + e := Real.sq_sqrt hm.le
  have hp : 0 < Real.sqrt ((∑ d, x d * x d) / 1024 + e) := Real.sqrt_pos.mpr hm
  generalize Real.sqrt ((∑ d, x d * x d) / 1024 + e) = q at hq hp
  generalize (∑ d, x d * x d) / 1024 + e = M at hq hm
  rw [div_real _ _ hm.ne']
  simp only [← EReal.coe_mul, ← coe_sum]
  rw [div_real _ _ (by norm_num), div_real _ _ (by norm_num)]
  norm_cast
  have hs : ∑ d, s d * g d * (x d * q⁻¹) = (∑ d, x d * (s d * g d)) * q⁻¹ := by
    rw [Finset.sum_mul]; exact Finset.sum_congr rfl fun d _ => by ring
  rw [hs, ← hq]
  have hp' := hp.ne'
  field_simp
  ring

/-- An absolute value below infinity, as the preconditions state it, is a real's. -/
theorem isReal_of_abs_lt {s t : Shape} {x : FVec Ideal s .f32} (dims : Fin t.rank → Fin s.rank) (hb : t.BroadcastsInDim s dims)
    (h : cmpf .olt (Host.absf x) (broadcastInDim s dims hb (constant t .f32 0x7F800000#32)) = (fun _ => 1#1)) (i : s.Idx) :
    IsReal (x i) := by
  have e := congrFun h i
  pointwise at e
  have ht : Ideal.ofBits .f32 0x7F800000#32 = ⊤ := by simp [Ideal.ofBits, Ideal.ieee]
  rw [ht, Ideal.absf_def] at e
  have e' : max (x i) (-x i) < ⊤ := by
    by_contra hn
    rw [decide_eq_false hn] at e
    exact absurd e (by decide)
  revert e'
  generalize x i = v
  intro e'
  induction v using EReal.rec with
  | bot => simp at e'
  | top => simp at e'
  | coe r => exact ⟨r, rfl⟩

/-- The sigmoid by a hyperbolic tangent of half the argument. -/
theorem sigmoid (g : EReal) : Ideal.ofBits .f32 0x3F000000#32 * Ideal.tanh (Ideal.ofBits .f32 0x3F000000#32 * g) + Ideal.ofBits .f32 0x3F000000#32
    = Ideal.logistic g := by
  have h1 : ((1 / 2 : ℝ) : EReal) + ((1 / 2 : ℝ) : EReal) = 1 := by rw [← EReal.coe_add]; norm_num
  rw [half]
  induction g using EReal.rec with
  | bot =>
    rw [EReal.coe_mul_bot_of_pos (by norm_num), Ideal.tanh_bot, Ideal.logistic_bot, mul_neg, mul_one, ← EReal.coe_neg, ← EReal.coe_add]
    norm_num
  | top =>
    rw [EReal.coe_mul_top_of_pos (by norm_num), Ideal.tanh_top, Ideal.logistic_top, mul_one, h1]
  | coe r =>
    rw [← EReal.coe_mul, Ideal.tanh_coe, Ideal.logistic_coe, ← EReal.coe_mul, ← EReal.coe_add]
    congr 1
    have e1 : Real.exp (-r) = Real.exp (-(1 / 2 * r)) * Real.exp (-(1 / 2 * r)) := by rw [← Real.exp_add]; congr 1; ring
    have e2 : Real.exp (1 / 2 * r) * Real.exp (-(1 / 2 * r)) = 1 := by rw [← Real.exp_add]; simp
    rw [Real.tanh_eq_sinh_div_cosh, Real.sinh_eq, Real.cosh_eq, e1]
    set a := Real.exp (1 / 2 * r) with ha
    set b := Real.exp (-(1 / 2 * r)) with hb
    have ha0 : 0 < a := Real.exp_pos _
    have hb0 : 0 < b := Real.exp_pos _
    have h2 : (a + b) / 2 ≠ 0 := by positivity
    have h3 : 1 + b * b ≠ 0 := by positivity
    field_simp
    nlinarith [e2]

end Cert.Extended

end
-- ==== Proof.DownWeight.lean ====
/-
  The gradient in `w_down`: `Kernel2Ideal`'s accumulated product `act^T dh`, scaled by one half, is the gradient
  that `Reference2Ideal` computes. The reference scales `dh` before it multiplies; over the extended reals a
  product by a positive real goes into a sum, so the two agree on every input.
-/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack
public import proofs.«01_k».proof.Proof.Extended

@[expose] public section

set_option maxRecDepth 16384

noncomputable section

open Idealize.ShloMosaic Idealize.ShloMosaic.TcCoe Idealize.SL.Sem
open Idealize.ShloMosaic.Pipeline (Dat)

namespace Cert.Kernel2Ideal.Down

open Cert.Kernel2Ideal Cert.Kernel2Ideal.Gen

variable (m : (ℓ : Loc nD τ sig) → Buf (Elt Ideal) ℓ)

/-- The reference's term. -/
abbrev REF (X : FVec Ideal S8192x2816 .bf16) (D : FVec Ideal S8192x1024 .f32) : FVec Ideal S2816x1024 .f32 :=
  transpose Cert.Reference2Ideal.S2816x1024 [1, 0] (Host.dotGeneral Cert.Reference2Ideal.dot_S8192x1024_S8192x2816_S1024x2816_0_0_1_1_n_n none
    (mulf (broadcastInDim Cert.Reference2Ideal.S8192x1024 ![] Cert.Reference2Ideal.Gen.bcast_S_S8192x1024 (constant Cert.Reference2Ideal.S_ .f32 0x3F000000#32)) D)
    (extf .f32 X Cert.Reference2Ideal.Gen.bitsLt_bf16_f32)) Cert.Reference2Ideal.Gen.transposes_S1024x2816_S2816x1024_1_0

theorem hzero (j) : k0_pay1 (F := Ideal) j = 0 := by pointwise [k0_pay1]

theorem hpay (acc x1 x0 j) : k0_pay2 (F := Ideal) acc x1 x0 j = acc j + ∑ k : Fin 1024, x1 (ix2 k (j 0)) * x0 (ix2 k (j 1)) := by
  pointwise [k0_pay2]

theorem hscale (acc j) : k0_pay3 (F := Ideal) acc j = acc j * Ideal.ofBits .f32 0x3F000000#32 := by
  pointwise [k0_pay3]

theorem href (X D j) : REF X D j = ∑ k : Fin 8192, (Ideal.ofBits .f32 0x3F000000#32 * D (ix2 k (j 1))) * X (ix2 k (j 0)) := by
  pointwise [REF]

theorem idx : ∀ t : Fin cfg0.N, win0_0.index t = ![t.val % 8, t.val / 8] ∧ win0_1.index t = ![t.val % 8, 0]
    ∧ win0_2.index t = ![t.val / 8, 0] :=
  (by decide +kernel : ∀ t : Fin grid0.N, _)

/-- One product of the contraction: row `k`, the output index `j`. -/
abbrev T (X : FVec Ideal S8192x2816 .bf16) (D : FVec Ideal S8192x1024 .f32) (j : S2816x1024.Idx) (k : Fin 8192) : EReal :=
  X (ix2 k (j 0)) * D (ix2 k (j 1))

/-- The scratch at a point that writes back: the sum over the run's eight points. -/
theorem scratch (c : Dev nD) (t : Fin cfg0.N) (hf : t.val % 8 = 8 - 1) (j : S1408x1024.Idx) :
    (outsAt0 m c t.val t.isLt).2 j = ∑ k : Fin 8192,
      T (m ((c : Thread nD τ).loc main_arg0)) (m ((c : Thread nD τ).loc main_arg1)) (((cfg0.win 2).blk t).view.emb j) k := by
  rw [Pipeline.eq_sum_fin_of_reset_step_apply_of_flush (fun n h => (outsAt0 m c n h).2) 8 (fun _ => 0) _
    (fun t h j => by rw [outsAt0_A m c t h (by omega)]; frame_out; rw [hpay, hzero])
    (fun t h j => by
      by_cases h1 : t.val % 8 = 7
      · rw [outsAt0_C m c t h h1]; frame_out; rw [hpay, read_unread_whole]
      · rw [outsAt0_B m c t h h1]; frame_out; rw [hpay, read_unread_whole])
    t hf j, zero_add]
  refine Fin.sum_mul_add_congr fun s k hl => ?_
  dsimp only [T]
  blk_point [iblk, V, idx t, idx ⟨_, Pipeline.run_point_lt_of_flush t hf s⟩]

/-- At a point that writes back, the output block is the scaled scratch. -/
theorem scaled (c : Dev nD) (t : Fin cfg0.N) (h7 : t.val % 8 = 7) (j : S1408x1024.Idx) :
    (outsAt0 m c t.val t.isLt).1 j = (outsAt0 m c t.val t.isLt).2 j * Ideal.ofBits .f32 0x3F000000#32 := by
  rw [outsAt0_C m c t (by omega) h7]; frame_out; rw [hscale]

theorem algebra (X D j) : (∑ k : Fin 8192, T X D j k) * Ideal.ofBits .f32 0x3F000000#32 = REF X D j := by
  rw [href, Extended.half, Extended.sum_mul_coe _ _ (by norm_num)]
  exact Finset.sum_congr rfl fun k _ => Extended.mul_rev _ _ _

/-- The output array after the run is the reference's gradient. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h7 : t.val % 8 = 7 := (flush0_2 t).mp hf
  have e := (scaled m c t h7 y).trans (congrArg (· * _) (scratch m c t h7 y))
  blk_simp
  rw [after0_2]
  exact e.trans (algebra _ _ _)

end Cert.Kernel2Ideal.Down

end
-- ==== Proof.UpWeight.lean ====
/-
  The gradient in `w_gate_up`: `Kernel3Ideal`'s accumulated product `n^T dgu`, whose right operand is the stacked pair
  of gate and up gradients, is the gradient that `Reference3Ideal` computes from the pair laid side by side.
-/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import proofs.«01_k».proof.Proof.Extended

@[expose] public section

set_option maxRecDepth 16384

noncomputable section

open Idealize.ShloMosaic Idealize.ShloMosaic.TcCoe Idealize.SL.Sem
open Idealize.ShloMosaic.Pipeline (Dat)

namespace Cert.Kernel3Ideal.Up

open Cert.Kernel3Ideal Cert.Kernel3Ideal.Gen

variable (m : (ℓ : Loc nD τ sig) → Buf (Elt Ideal) ℓ)

/-- The reference's term. -/
abbrev REF (X : FVec Ideal S8192x1024 .bf16) (G : FVec Ideal S2x8192x2816 .bf16) : FVec Ideal S1024x5632 .f32 :=
  transpose Cert.Reference3Ideal.S1024x5632 [1, 0] (Host.dotGeneral Cert.Reference3Ideal.dot_S8192x5632_S8192x1024_S5632x1024_0_0_1_1_n_n none
    (concatenate Cert.Reference3Ideal.S8192x5632 1
      [⟨Cert.Reference3Ideal.S8192x2816, (extf .f32 (shapeCast _ (extractStridedSlice Cert.Reference3Ideal.S1x8192x2816 ![0, 0, 0] G
          Cert.Reference3Ideal.Gen.slices_S2x8192x2816_S1x8192x2816_0_0_0) Cert.Reference3Ideal.Gen.shapeCasts_S1x8192x2816_S8192x2816)
          Cert.Reference3Ideal.Gen.bitsLt_bf16_f32)⟩,
       ⟨Cert.Reference3Ideal.S8192x2816, (extf .f32 (shapeCast _ (extractStridedSlice Cert.Reference3Ideal.S1x8192x2816 ![1, 0, 0] G
          Cert.Reference3Ideal.Gen.slices_S2x8192x2816_S1x8192x2816_1_0_0) Cert.Reference3Ideal.Gen.shapeCasts_S1x8192x2816_S8192x2816)
          Cert.Reference3Ideal.Gen.bitsLt_bf16_f32)⟩]
      Cert.Reference3Ideal.Gen.concatenates_S8192x2816_S8192x2816_S8192x5632_d1)
    (extf .f32 X Cert.Reference3Ideal.Gen.bitsLt_bf16_f32)) Cert.Reference3Ideal.Gen.transposes_S5632x1024_S1024x5632_1_0

theorem hzero (j) : k0_pay1 (F := Ideal) j = 0 := by pointwise [k0_pay1]

theorem hpay (acc x1 x0 j) : k0_pay2 (F := Ideal) acc x1 x0 j
    = acc j + ∑ k : Fin 2048, x1 (ix2 k (j 0)) * x0 (ix3 (0 : Fin 1) k (j 1)) := by
  pointwise [k0_pay2]

theorem hscale (acc j) : k0_pay3 (F := Ideal) acc j = acc j := by
  pointwise [k0_pay3]

/-- One product of the contraction: row `k`, the output index `j`; column `j 1` is column `j 1 % 2816` of half `j 1 / 2816`. -/
abbrev T (X : FVec Ideal S8192x1024 .bf16) (G : FVec Ideal S2x8192x2816 .bf16) (j : S1024x5632.Idx) (k : Fin 8192) : EReal :=
  X (ix2 k (j 0)) * G (ix3 ⟨(j 1 : ℕ) / 2816, by have := (j 1).isLt; simp at this; omega⟩ k ⟨(j 1 : ℕ) % 2816, Nat.mod_lt _ (by decide)⟩)

theorem href (X G j) : REF X G j = ∑ k : Fin 8192, T X G j k := by
  pointwise [REF]
  refine Finset.sum_congr rfl fun k _ => ?_
  rw [mul_comm]
  dsimp only [T]
  blk_point []

theorem idx : ∀ t : Fin cfg0.N, win0_0.index t = ![t.val % 4, 0] ∧ win0_1.index t = ![t.val / 8, t.val % 4, t.val / 4 % 2]
    ∧ win0_2.index t = ![0, t.val / 4] :=
  (by decide +kernel : ∀ t : Fin grid0.N, _)

/-- The scratch at a point that writes back: the sum over the run's four points. -/
theorem scratch (c : Dev nD) (t : Fin cfg0.N) (hf : t.val % 4 = 4 - 1) (j : S1024x1408.Idx) :
    (outsAt0 m c t.val t.isLt).2 j = ∑ k : Fin 8192,
      T (m ((c : Thread nD τ).loc main_arg0)) (m ((c : Thread nD τ).loc main_arg1)) (((cfg0.win 2).blk t).view.emb j) k := by
  rw [Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h1 : t.val % 4 = 3
      · rw [outsAt0_C m c t h h1]; frame_out; rw [hpay, read_unread_whole]
      · rw [outsAt0_B m c t h h1]; frame_out; rw [hpay, read_unread_whole])
    t hf j, zero_add]
  refine Fin.sum_mul_add_congr fun s k hl => ?_
  dsimp only [T]
  blk_point [iblk, V, idx t, idx ⟨_, Pipeline.run_point_lt_of_flush t hf s⟩]

/-- At a point that writes back, the output block is the scratch. -/
theorem scaled (c : Dev nD) (t : Fin cfg0.N) (h7 : t.val % 4 = 3) (j : S1024x1408.Idx) :
    (outsAt0 m c t.val t.isLt).1 j = (outsAt0 m c t.val t.isLt).2 j := by
  rw [outsAt0_C m c t (by omega) h7]; frame_out; rw [hscale]

/-- The output array after the run is the reference's gradient. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h7 : t.val % 4 = 3 := (flush0_2 t).mp hf
  have e := (scaled m c t h7 y).trans (scratch m c t h7 y)
  blk_simp
  rw [after0_2]
  exact e.trans (href _ _ _).symm

end Cert.Kernel3Ideal.Up

end
-- ==== Proof.Gate.lean ====
/-
  The gradient through the gate: `KernelIdeal` multiplies `dh` by `w_down^T` and applies the gate's derivative as it
  writes its two stacked results, and `ReferenceIdeal` computes the same gradient in the stacked gate and up arrays.
  The kernel writes the sigmoid by a hyperbolic tangent and factors the derivative of the SiLU; both are used on reals.
-/
module

public import proofs.«01_k».proof.Proof.Gen.KernelIdeal.Value
public import proofs.«01_k».proof.Proof.Gen.ReferenceIdeal.Run
public import Idealize.ShloMosaic.Lib.Pipeline.ValueKit
public import proofs.«01_k».proof.Proof.Extended

@[expose] public section

set_option maxRecDepth 16384

noncomputable section

open Idealize.ShloMosaic Idealize.ShloMosaic.TcCoe Idealize.SL.Sem
open Idealize.ShloMosaic.Pipeline (Dat)

namespace Cert.KernelIdeal.Gate

open Cert.KernelIdeal Cert.KernelIdeal.Gen

variable (m : (ℓ : Loc nD τ sig) → Buf (Elt Ideal) ℓ)

/-! ## The reference's term, in its parts -/

abbrev ones : FVec Ideal Cert.ReferenceIdeal.S8192x2816 .f32 := (broadcastInDim Cert.ReferenceIdeal.S8192x2816 ![] Cert.ReferenceIdeal.Gen.bcast_S_S8192x2816 (constant Cert.ReferenceIdeal.S_ .f32 0x3F800000#32))
/-- The gate half. -/
abbrev gate (G : FVec Ideal S2x8192x2816 .bf16) : FVec Ideal Cert.ReferenceIdeal.S8192x2816 .f32 := (shapeCast _ (extractStridedSlice Cert.ReferenceIdeal.S1x8192x2816 ![0, 0, 0] (extf .f32 G Cert.ReferenceIdeal.Gen.bitsLt_bf16_f32) Cert.ReferenceIdeal.Gen.slices_S2x8192x2816_S1x8192x2816_0_0_0) Cert.ReferenceIdeal.Gen.shapeCasts_S1x8192x2816_S8192x2816)
/-- The up half. -/
abbrev up (G : FVec Ideal S2x8192x2816 .bf16) : FVec Ideal Cert.ReferenceIdeal.S8192x2816 .f32 := (shapeCast _ (extractStridedSlice Cert.ReferenceIdeal.S1x8192x2816 ![1, 0, 0] (extf .f32 G Cert.ReferenceIdeal.Gen.bitsLt_bf16_f32) Cert.ReferenceIdeal.Gen.slices_S2x8192x2816_S1x8192x2816_1_0_0) Cert.ReferenceIdeal.Gen.shapeCasts_S1x8192x2816_S8192x2816)
/-- The gate's sigmoid. -/
abbrev sig' (G : FVec Ideal S2x8192x2816 .bf16) : FVec Ideal Cert.ReferenceIdeal.S8192x2816 .f32 := (Host.divf ones (addf ones (Host.exp (Host.negf (gate G)))))
/-- The gradient in the gated product. -/
abbrev dprod (D : FVec Ideal S8192x1024 .f32) (W : FVec Ideal S2816x1024 .bf16) : FVec Ideal Cert.ReferenceIdeal.S8192x2816 .f32 := (Host.dotGeneral Cert.ReferenceIdeal.dot_S8192x1024_S2816x1024_S8192x2816_1_1_0_0_n_n none (mulf (broadcastInDim Cert.ReferenceIdeal.S8192x1024 ![] Cert.ReferenceIdeal.Gen.bcast_S_S8192x1024 (constant Cert.ReferenceIdeal.S_ .f32 0x3F000000#32)) D) (extf .f32 W Cert.ReferenceIdeal.Gen.bitsLt_bf16_f32))
/-- The whole term. -/
abbrev REF (D : FVec Ideal S8192x1024 .f32) (W : FVec Ideal S2816x1024 .bf16) (G : FVec Ideal S2x8192x2816 .bf16) : FVec Ideal S2x8192x2816 .bf16 :=
  truncf .bf16 (addf (pad Cert.ReferenceIdeal.S2x8192x2816 ![1, 0, 0] ![0, 0, 0] ![0, 0, 0] (broadcastInDim Cert.ReferenceIdeal.S1x8192x2816 ![1, 2] Cert.ReferenceIdeal.Gen.bcast_S8192x2816_S1x8192x2816_1_2 (mulf (mulf (gate G) (sig' G)) (dprod D W))) (constant Cert.ReferenceIdeal.S_ .f32 0x00000000#32) Cert.ReferenceIdeal.Gen.pads_S1x8192x2816_S2x8192x2816_100_000_000 Cert.ReferenceIdeal.Gen.h_S_) (pad Cert.ReferenceIdeal.S2x8192x2816 ![0, 0, 0] ![1, 0, 0] ![0, 0, 0] (broadcastInDim Cert.ReferenceIdeal.S1x8192x2816 ![1, 2] Cert.ReferenceIdeal.Gen.bcast_S8192x2816_S1x8192x2816_1_2 (addf (mulf (mulf (dprod D W) (up G)) (sig' G)) (mulf (mulf (gate G) (mulf (dprod D W) (up G))) (mulf (sig' G) (subf ones (sig' G)))))) (constant Cert.ReferenceIdeal.S_ .f32 0x00000000#32) Cert.ReferenceIdeal.Gen.pads_S1x8192x2816_S2x8192x2816_010_000_000 Cert.ReferenceIdeal.Gen.h_S_)) Cert.ReferenceIdeal.Gen.bitsLt_bf16_f32

theorem idx : ∀ t : Fin cfg0.N, win0_0.index t = ![t.val % 16, 0] ∧ win0_1.index t = ![t.val / 16, 0]
    ∧ win0_2.index t = ![0, t.val % 16, t.val / 16] ∧ win0_3.index t = ![0, t.val % 16, t.val / 16] :=
  (by decide +kernel : ∀ t : Fin grid0.N, _)

/-- The kernel's sum for row `a` and hidden column `b`. -/
abbrev S (D : FVec Ideal S8192x1024 .f32) (W : FVec Ideal S2816x1024 .bf16) (a : Fin 8192) (b : Fin 2816) : EReal :=
  ∑ x : Fin 1024, D (ix2 a x) * W (ix2 b x)

/-- The kernel's sigmoid. -/
abbrev sigK (g : EReal) : EReal := Ideal.ofBits .f32 0x3F000000#32 * Ideal.tanh (Ideal.ofBits .f32 0x3F000000#32 * g) + Ideal.ofBits .f32 0x3F000000#32

/-- The kernel's gradient in the gate, from the sum, the gate and the up value. -/
abbrev gateK (s g u : EReal) : EReal := (Ideal.ofBits .f32 0x3F000000#32 * s) * u * (sigK g * (1 + g * (1 - sigK g)))

/-- The kernel's gradient in the up value. -/
abbrev upK (s g : EReal) : EReal := (Ideal.ofBits .f32 0x3F000000#32 * s) * (g * sigK g)

theorem pay_gate (x0 x1 g u j) : k0_pay5 (F := Ideal) x0 x1 g u j = gateK (∑ x : Fin 1024, x0 (ix2 (j 1) x) * x1 (ix2 (j 2) x)) (g j) (u j) := by
  pointwise [k0_pay5, k0_pay4, k0_pay3, k0_pay2]

theorem pay_up (x0 x1 g j) : k0_pay1 (F := Ideal) (k0_pay6 (F := Ideal) x0 x1 g) j
    = upK (∑ x : Fin 1024, x0 (ix2 (j 1) x) * x1 (ix2 (j 2) x)) (g j) := by
  pointwise [k0_pay6, k0_pay1, k0_pay4, k0_pay3, k0_pay2]

/-- The scale taken out of the reference's sum. -/
theorem half_sum {n : ℕ} (d w : Fin n → EReal) :
    ∑ x, Ideal.ofBits .f32 0x3F000000#32 * d x * w x = Ideal.ofBits .f32 0x3F000000#32 * ∑ x, d x * w x := by
  rw [mul_comm, Extended.half, Extended.sum_mul_coe _ _ (by norm_num)]
  exact Finset.sum_congr rfl fun k _ => by rw [mul_comm _ (((1 / 2 : ℝ) : EReal)), mul_assoc]

/-- The two forms of the gate's derivative agree on reals. -/
theorem gate_eq (s g u : EReal) (hs : Extended.IsReal s) (hg : Extended.IsReal g) (hu : Extended.IsReal u) :
    Ideal.ofBits .f32 0x3F000000#32 * s * u * Ideal.logistic g
      + g * (Ideal.ofBits .f32 0x3F000000#32 * s * u) * (Ideal.logistic g * (1 - Ideal.logistic g)) = gateK s g u := by
  obtain ⟨s, rfl⟩ := hs
  obtain ⟨g, rfl⟩ := hg
  obtain ⟨u, rfl⟩ := hu
  dsimp only [gateK, sigK]
  rw [Extended.sigmoid, Extended.half, Ideal.logistic_coe]
  norm_cast
  ring

theorem ref_gate (D W G j) (h0 : (j 0 : ℕ) = 0) (hD : ∀ i, Extended.IsReal (D i)) (hW : ∀ i, Extended.IsReal (W i)) (hG : ∀ i, Extended.IsReal (G i)) :
    REF D W G j = gateK (S D W (j 1) (j 2)) (G (ix3 0 (j 1) (j 2))) (G (ix3 1 (j 1) (j 2))) := by
  pointwise [REF]
  rw [dif_neg (by omega), dif_pos (by omega), half_sum, zero_add]
  exact gate_eq _ _ _ (Extended.IsReal.sum _ _ fun k => (hD _).mul (hW _)) (hG _) (hG _)

theorem ref_up (D W G j) (h0 : (j 0 : ℕ) = 1) :
    REF D W G j = upK (S D W (j 1) (j 2)) (G (ix3 0 (j 1) (j 2))) := by
  pointwise [REF]
  rw [dif_pos (by omega), dif_neg (by omega), half_sum, add_zero]
  dsimp only [upK, sigK]
  rw [Extended.sigmoid]
  exact mul_comm _ _

theorem point (c : Dev nD) (t : Fin cfg0.N) (y : S2x512x1408.Idx)
    (hD : ∀ i : S8192x1024.Idx, Extended.IsReal (m ((c : Thread nD τ).loc main_arg0) i))
    (hW : ∀ i : S2816x1024.Idx, Extended.IsReal (m ((c : Thread nD τ).loc main_arg1) i))
    (hG : ∀ i : S2x8192x2816.Idx, Extended.IsReal (m ((c : Thread nD τ).loc main_arg2) i)) :
    out0_3 (iblk m c 0 t) (iblk m c 1 t) (iblk m c 2 t) y
      = REF (m ((c : Thread nD τ).loc main_arg0)) (m ((c : Thread nD τ).loc main_arg1)) (m ((c : Thread nD τ).loc main_arg2)) (((cfg0.win 3).blk t).view.emb y) := by
  canon_tiles x h
  · rw [pay_up, ref_up _ _ _ _ (by blk_simp [idx t] <;> try omega)]
    dsimp only [upK, sigK, S]
    blk_point [iblk, V, idx t]
  · rw [pay_gate, ref_gate _ _ _ _ (by blk_simp [idx t] <;> try omega) hD hW hG]
    dsimp only [gateK, sigK, S]
    blk_point [iblk, V, idx t]

/-- The output array after the run is the reference's gradient. -/
theorem final (c : Dev nD)
    (hD : ∀ i : S8192x1024.Idx, Extended.IsReal (m ((c : Thread nD τ).loc main_arg0) i))
    (hW : ∀ i : S2816x1024.Idx, Extended.IsReal (m ((c : Thread nD τ).loc main_arg1) i))
    (hG : ∀ i : S2x8192x2816.Idx, Extended.IsReal (m ((c : Thread nD τ).loc main_arg2) i)) :
    (dats m 0 c).arrAt 3 (cfgs 0).N
      = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y hD hW hG

end Cert.KernelIdeal.Gate

end
-- ==== Proof.Activation.lean ====
/-
  The forward product of the layer: `Kernel5Ideal` multiplies the normalised input by the gate's and the up weights,
  stacks the two products and writes `silu(gate) * up` beside them; `Reference5Ideal` computes the same two arrays.
  The kernel writes the sigmoid by a hyperbolic tangent. The equation holds on every input.
-/
module

public import proofs.«01_k».proof.Proof.Gen.Kernel5Ideal.Value
public import proofs.«01_k».proof.Proof.Gen.Reference5Ideal.Run
public import Idealize.ShloMosaic.Lib.Pipeline.ValueKit
public import proofs.«01_k».proof.Proof.Extended

@[expose] public section

set_option maxRecDepth 16384

noncomputable section

open Idealize.ShloMosaic Idealize.ShloMosaic.TcCoe Idealize.SL.Sem
open Idealize.ShloMosaic.Pipeline (Dat)

namespace Cert.Kernel5Ideal.Activation

open Cert.Kernel5Ideal Cert.Kernel5Ideal.Gen

variable (m : (ℓ : Loc nD τ sig) → Buf (Elt Ideal) ℓ)

/-! ## The reference's terms -/

/-- The two halves' product, side by side. -/
abbrev both (X : FVec Ideal S8192x1024 .bf16) (W : FVec Ideal S1024x5632 .bf16) : FVec Ideal Cert.Reference5Ideal.S8192x5632 .f32 :=
  Host.dotGeneral Cert.Reference5Ideal.dot_S8192x1024_S1024x5632_S8192x5632_1_0_0_1_n_n none (extf .f32 X Cert.Reference5Ideal.Gen.bitsLt_bf16_f32) (extf .f32 W Cert.Reference5Ideal.Gen.bitsLt_bf16_f32)
/-- The gate half. -/
abbrev gate (X : FVec Ideal S8192x1024 .bf16) (W : FVec Ideal S1024x5632 .bf16) : FVec Ideal S8192x2816 .f32 :=
  extractStridedSlice Cert.Reference5Ideal.S8192x2816 ![0, 0] (both X W) Cert.Reference5Ideal.Gen.slices_S8192x5632_S8192x2816_0_0
/-- The up half. -/
abbrev up (X : FVec Ideal S8192x1024 .bf16) (W : FVec Ideal S1024x5632 .bf16) : FVec Ideal S8192x2816 .f32 :=
  extractStridedSlice Cert.Reference5Ideal.S8192x2816 ![0, 2816] (both X W) Cert.Reference5Ideal.Gen.slices_S8192x5632_S8192x2816_0_2816
/-- The stacked halves. -/
abbrev REF (X : FVec Ideal S8192x1024 .bf16) (W : FVec Ideal S1024x5632 .bf16) : FVec Ideal S2x8192x2816 .bf16 :=
  truncf .bf16 (concatenate Cert.Reference5Ideal.S2x8192x2816 0 [⟨Cert.Reference5Ideal.S1x8192x2816, (broadcastInDim Cert.Reference5Ideal.S1x8192x2816 ![1, 2] Cert.Reference5Ideal.Gen.bcast_S8192x2816_S1x8192x2816_1_2 (gate X W))⟩, ⟨Cert.Reference5Ideal.S1x8192x2816, (broadcastInDim Cert.Reference5Ideal.S1x8192x2816 ![1, 2] Cert.Reference5Ideal.Gen.bcast_S8192x2816_S1x8192x2816_1_2 (up X W))⟩] Cert.Reference5Ideal.Gen.concatenates_S1x8192x2816_S1x8192x2816_S2x8192x2816_d0) Cert.Reference5Ideal.Gen.bitsLt_bf16_f32
/-- The gated product. -/
abbrev ACT (X : FVec Ideal S8192x1024 .bf16) (W : FVec Ideal S1024x5632 .bf16) : FVec Ideal S8192x2816 .bf16 :=
  truncf .bf16 (mulf (mulf (gate X W) (Host.divf (broadcastInDim Cert.Reference5Ideal.S8192x2816 ![] Cert.Reference5Ideal.Gen.bcast_S_S8192x2816 (constant Cert.Reference5Ideal.S_ .f32 0x3F800000#32)) (addf (broadcastInDim Cert.Reference5Ideal.S8192x2816 ![] Cert.Reference5Ideal.Gen.bcast_S_S8192x2816 (constant Cert.Reference5Ideal.S_ .f32 0x3F800000#32)) (Host.exp (Host.negf (gate X W)))))) (up X W)) Cert.Reference5Ideal.Gen.bitsLt_bf16_f32

theorem idx : ∀ t : Fin cfg0.N, win0_0.index t = ![t.val % 16, 0] ∧ win0_1.index t = ![0, t.val / 16]
    ∧ win0_2.index t = ![0, 2 + t.val / 16]
    ∧ win0_3.index t = ![0, t.val % 16, t.val / 16] ∧ win0_4.index t = ![t.val % 16, t.val / 16] :=
  (by decide +kernel : ∀ t : Fin grid0.N, _)

/-- The sum for row `a` and column `b` of the two halves. -/
abbrev S (X : FVec Ideal S8192x1024 .bf16) (W : FVec Ideal S1024x5632 .bf16) (a : Fin 8192) (b : Fin 5632) : EReal :=
  ∑ x : Fin 1024, X (ix2 a x) * W (ix2 x b)

theorem pay_gate (x0 x1 j) : k0_pay3 (F := Ideal) x0 x1 j = ∑ x : Fin 1024, x0 (ix2 (j 1) x) * x1 (ix2 x (j 2)) := by
  pointwise [k0_pay3, k0_pay1]

theorem pay_up (x0 x1 j) : k0_pay4 (F := Ideal) x0 x1 j = ∑ x : Fin 1024, x0 (ix2 (j 1) x) * x1 (ix2 x (j 2)) := by
  pointwise [k0_pay4, k0_pay2]

theorem pay_act (x0 x1 x2 j) : k0_pay5 (F := Ideal) x0 x1 x2 j
    = (∑ x : Fin 1024, x0 (ix2 (j 0) x) * x1 (ix2 x (j 1))) * Ideal.logistic (∑ x : Fin 1024, x0 (ix2 (j 0) x) * x1 (ix2 x (j 1)))
      * ∑ x : Fin 1024, x0 (ix2 (j 0) x) * x2 (ix2 x (j 1)) := by
  pointwise [k0_pay5, k0_pay1, k0_pay2]
  rw [Extended.sigmoid]

theorem ref_gate (X W j) (h0 : (j 0 : ℕ) = 0) : REF X W j = S X W (j 1) ⟨j 2, by have := (j 2).isLt; simp at this; omega⟩ := by
  pointwise [REF]
  rw [dif_pos (by omega)]

theorem ref_up (X W j) (h0 : (j 0 : ℕ) = 1) : REF X W j = S X W (j 1) ⟨2816 + j 2, by have := (j 2).isLt; simp at this; omega⟩ := by
  pointwise [REF]
  rw [dif_neg (by omega)]

theorem ref_act (X W j) : ACT X W j = S X W (j 0) ⟨j 1, by have := (j 1).isLt; simp at this; omega⟩
    * Ideal.logistic (S X W (j 0) ⟨j 1, by have := (j 1).isLt; simp at this; omega⟩)
    * S X W (j 0) ⟨2816 + j 1, by have := (j 1).isLt; simp at this; omega⟩ := by
  pointwise [ACT]
  rfl

theorem point3 (c : Dev nD) (t : Fin cfg0.N) (y : S2x512x1408.Idx) :
    out0_3 (iblk m c 0 t) (iblk m c 1 t) (iblk m c 2 t) y
      = REF (m ((c : Thread nD τ).loc main_arg0)) (m ((c : Thread nD τ).loc main_arg1)) (((cfg0.win 3).blk t).view.emb y) := by
  canon_tiles x h
  · rw [pay_up, ref_up _ _ _ (by blk_simp [idx t] <;> try omega)]
    dsimp only [S]
    blk_point [iblk, V, idx t]
  · rw [pay_gate, ref_gate _ _ _ (by blk_simp [idx t] <;> try omega)]
    dsimp only [S]
    blk_point [iblk, V, idx t]

theorem point4 (c : Dev nD) (t : Fin cfg0.N) (y : S512x1408.Idx) :
    out0_4 (iblk m c 0 t) (iblk m c 1 t) (iblk m c 2 t) y
      = ACT (m ((c : Thread nD τ).loc main_arg0)) (m ((c : Thread nD τ).loc main_arg1)) (((cfg0.win 4).blk t).view.emb y) := by
  canon_tiles x h
  rw [pay_act, ref_act]
  dsimp only [S]
  blk_point [iblk, V, idx t]

/-- The stacked array after the run. -/
theorem final3 (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t _ y => ?_
  blk_simp
  rw [after0_3]
  exact point3 m c t y

/-- The gated product after the run. -/
theorem final4 (c : Dev nD) : (dats m 0 c).arrAt 4 (cfgs 0).N
    = ACT (m ((c : Thread nD τ).loc main_arg0)) (m ((c : Thread nD τ).loc main_arg1)) := by
  refine (dats m 0 c).arrAt_eq_of_covers 4 _ (by decide +kernel) fun t _ y => ?_
  blk_simp
  rw [after0_4]
  exact point4 m c t y

end Cert.Kernel5Ideal.Activation

end
-- ==== Proof.Output.lean ====
/-
  The layer's output: `Kernel6Ideal` multiplies the activation by `w_down`, halves the product and adds the residual,
  and `Reference6Ideal` computes the same array. The equation holds on every input.
-/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import proofs.«01_k».proof.Proof.Extended

@[expose] public section

set_option maxRecDepth 16384

noncomputable section

open Idealize.ShloMosaic Idealize.ShloMosaic.TcCoe Idealize.SL.Sem
open Idealize.ShloMosaic.Pipeline (Dat)

namespace Cert.Kernel6Ideal.Output

open Cert.Kernel6Ideal Cert.Kernel6Ideal.Gen

variable (m : (ℓ : Loc nD τ sig) → Buf (Elt Ideal) ℓ)

/-- The reference's term. -/
abbrev REF (X : FVec Ideal S8192x2816 .bf16) (W : FVec Ideal S2816x1024 .bf16) (H : FVec Ideal S8192x1024 .f32) : FVec Ideal S8192x1024 .f32 :=
  addf H (mulf (broadcastInDim Cert.Reference6Ideal.S8192x1024 ![] Cert.Reference6Ideal.Gen.bcast_S_S8192x1024 (constant Cert.Reference6Ideal.S_ .f32 0x3F000000#32))
    (Host.dotGeneral Cert.Reference6Ideal.dot_S8192x2816_S2816x1024_S8192x1024_1_0_0_1_n_n none (extf .f32 X Cert.Reference6Ideal.Gen.bitsLt_bf16_f32) (extf .f32 W Cert.Reference6Ideal.Gen.bitsLt_bf16_f32)))

theorem hzero (j) : k0_pay1 (F := Ideal) j = 0 := by pointwise [k0_pay1]

theorem hpay (acc x1 x0 j) : k0_pay2 (F := Ideal) acc x1 x0 j = acc j + ∑ k : Fin 2816, x1 (ix2 (j 0) k) * x0 (ix2 k (j 1)) := by
  pointwise [k0_pay2]

theorem hscale (acc h j) : k0_pay3 (F := Ideal) acc h j = acc j * Ideal.ofBits .f32 0x3F000000#32 + h j := by
  pointwise [k0_pay3]

theorem href (X W H j) : REF X W H j = H j + Ideal.ofBits .f32 0x3F000000#32 * ∑ k : Fin 2816, X (ix2 (j 0) k) * W (ix2 k (j 1)) := by
  pointwise [REF]

theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

theorem point (c : Dev nD) (t : Fin cfg0.N) (y : S1024x1024.Idx) :
    outsAt0 m c t y = REF (m ((c : Thread nD τ).loc main_arg0)) (m ((c : Thread nD τ).loc main_arg1))
      (m ((c : Thread nD τ).loc main_arg2)) (((cfg0.win 3).blk t).view.emb y) := by
  rw [outsAt0]; frame_out
  rw [hscale, hpay, hzero, zero_add, href, add_comm, mul_comm]
  blk_point [iblk, V, idx t]

/-- The output array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.Kernel6Ideal.Output

end
-- ==== Proof.FoxMachine.Pins.lean ====
/-
  The gradients of the forgetting attention, the run: the two tables of the grid: the pairs of a query block and a key block in the order in which they are taken.
-/
module

public import proofs.«01_k».proof.Defs
public import proofs.«01_k».proof.Proof.Gen.Kernel7
public import proofs.«01_k».proof.Proof.Gen.Kernel7.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel7.Fox

open Cert.Kernel7 Cert.Kernel7.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev tbM0_0 : Memref sig .tc .smem S36 .i32 := Memref.whole main_c
abbrev tbM0_1 : Memref sig .tc .smem S36 .i32 := Memref.whole main_c_0
abbrev scM0_0 : Memref sig .tc .vmem S1024x128 .f32 := Memref.whole cc0_scratch0
abbrev scM0_1 : Memref sig .tc .vmem S1024x128 .f32 := Memref.whole cc0_scratch1
abbrev scM0_2 : Memref sig .tc .vmem S1x1024 .f32 := Memref.whole cc0_scratch2

def pinT_0 : S36.Idx → BitVec 32 := fun x => (([0#32, 1#32, 2#32, 3#32, 4#32, 5#32, 6#32, 7#32, 1#32, 2#32, 3#32, 4#32, 5#32, 6#32, 7#32, 2#32, 3#32, 4#32, 5#32, 6#32, 7#32, 3#32, 4#32, 5#32, 6#32, 7#32, 4#32, 5#32, 6#32, 7#32, 5#32, 6#32, 7#32, 6#32, 7#32, 7#32] : List (BitVec 32)).getD ((x 0).val) 0#32)

def pinT_1 : S36.Idx → BitVec 32 := fun x => (([0#32, 0#32, 0#32, 0#32, 0#32, 0#32, 0#32, 0#32, 1#32, 1#32, 1#32, 1#32, 1#32, 1#32, 1#32, 2#32, 2#32, 2#32, 2#32, 2#32, 2#32, 3#32, 3#32, 3#32, 3#32, 3#32, 4#32, 4#32, 4#32, 4#32, 5#32, 5#32, 5#32, 6#32, 6#32, 7#32] : List (BitVec 32)).getD ((x 0).val) 0#32)

set_option backward.proofsInPublic true in
def pfN : pre0.Contents (Elt Bits) := fun | ⟨0, _⟩ => pinT_0 | ⟨1, _⟩ => pinT_1 | ⟨_ + 2, h⟩ => absurd h (by simp)
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

/-- The memory at the call: what the operations before it leave. -/
def V (m : (ℓ : Loc nD τ sig) → Buf (Elt Bits) ℓ) (c : Dev nD) : (b : Ref sig .tc) → Buf (Elt Bits) ((c.tc : Thread nD τ).loc b) :=
  fun b => StableHlo.after (hostOps0 (F := Bits)) (fun b => m (c, b)) b

end Cert.Kernel7.Fox

end
-- ==== Proof.FoxMachine.Runs.lean ====
/-
  The gradients of the forgetting attention, the run: the body on each of its four paths.
-/
module

public import proofs.«01_k».proof.Proof.Gen.Kernel7.Skeleton
public import proofs.«01_k».proof.Proof.FoxMachine.Pins

@[expose] public section

set_option maxRecDepth 16384
set_option Elab.async false

noncomputable section

namespace Cert.Kernel7.Fox

open Cert.Kernel7 Cert.Kernel7.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev VO0_6 : View sig .tc .vmem S1024x128 .f32 := (Memref.whole cc0_stg6_0 : Memref sig .tc .vmem S1024x128 .f32).view
abbrev VO0_7 : View sig .tc .vmem S1024x128 .f32 := (Memref.whole cc0_stg7_0 : Memref sig .tc .vmem S1024x128 .f32).view
abbrev VO0_8 : View sig .tc .vmem S1x1x1024 .f32 := (Memref.whole cc0_stg8_0 : Memref sig .tc .vmem S1x1x1024 .f32).view

set_option backward.proofsInPublic true in
set_option maxHeartbeats 8000000 in
noncomputable def kernelRun0_A (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Bits .i32)) (T1 : (S36.Idx → Elt Bits .i32))
     (x0 : (S1024x256.Idx → Elt Bits .bf16)) (x1 : (S1024x256.Idx → Elt Bits .bf16)) (x2 : (S1024x128.Idx → Elt Bits .bf16)) (x3 : (S1024x128.Idx → Elt Bits .bf16)) (x4 : (S1024x128.Idx → Elt Bits .f32)) (x5 : (S1024x128.Idx → Elt Bits .bf16)) (hc0 : (Scalar.cmpi .ne (Scalar.extui (Scalar.cmpi .sge (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1) (hc1 : ¬((Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1)) (hc2 : (Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) (Scalar.addi (Scalar.muli 1#32 (View.readAt (Elt Bits) (tbM0_0).view (Rect.unit (s := S36) (k0_off1 i) S1.size (k0_off1_inb i)).toLoadRect T0 (Shape.Idx.first (numel1_S1.symm ▸ Nat.one_pos)))) 0#32))) 0#32) = 1#1) (k0_h4 : ¬(k0_cond4 (View.readAt (Elt Bits) (tbM0_0).view (Rect.unit (s := S36) (k0_off1 i) S1.size (k0_off1_inb i)).toLoadRect T0 (Shape.Idx.first (numel1_S1.symm ▸ Nat.one_pos))) = 1#1)) :
    Σ' (out0 : Buf (Elt Bits) ((c : Thread nD τ).loc cc0_scratch0)) (out1 : Buf (Elt Bits) ((c : Thread nD τ).loc cc0_scratch1)), { out2 : Buf (Elt Bits) ((c : Thread nD τ).loc cc0_scratch2) //
      ∀ (y6 : (S1024x128.Idx → Elt Bits .f32)) (y7 : (S1024x128.Idx → Elt Bits .f32)) (y8 : (S1x1x1024.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
          ∗ owns (c : Thread nD τ) arg10 fullShare y6
          ∗ owns (c : Thread nD τ) arg11 fullShare y7
          ∗ owns (c : Thread nD τ) arg12 fullShare y8
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tbM0_0.view.loc (c : Thread nD τ) ↦{fullShare.right} T0)
              ∗ (tbM0_1.view.loc (c : Thread nD τ) ↦{fullShare.right} T1)
              ∗ owns (c : Thread nD τ) arg10 fullShare y6
              ∗ owns (c : Thread nD τ) arg11 fullShare y7
              ∗ owns (c : Thread nD τ) arg12 fullShare y8
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Bits)) Variants.none c none) Set.univ (cc0_fox_bwd_dkv i tbM0_0 (Memref.isWhole_whole _) tbM0_1 (Memref.isWhole_whole _) arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _)) K } :=
  ⟨_, _, _, fun (y6 : (S1024x128.Idx → Elt Bits .f32)) (y7 : (S1024x128.Idx → Elt Bits .f32)) (y8 : (S1x1x1024.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) K => by
    unfold owns
    rw [cc0_fox_bwd_dkv_eq_skeleton]; unfold cc0_fox_bwd_dkv_skel
    iintro ⟨H0, H1, H2, H3, H4, H5, HT0, HT1, ⟨%f6, %hf6, HO6⟩, ⟨%f7, %hf7, HO7⟩, ⟨%f8, %hf8, HO8⟩, HS0, HS1, HS2, Hk⟩
    obtain rfl := harg10.eq_unread hf6; obtain rfl := harg11.eq_unread hf7; obtain rfl := harg12.eq_unread hf8
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = Scalar.cmpi = _; exact hc2) | (guard_target = ¬(k0_cond4 _ = _); exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]
    · iexists _; isplitr; · ipureintro; exact harg10.read_unread _
      iexact HO6
    isplitl [HO7]
    · iexists _; isplitr; · ipureintro; exact harg11.read_unread _
      iexact HO7
    isplitl [HO8]
    · iexists _; isplitr; · ipureintro; exact harg12.read_unread _
      iexact HO8
    isplitl [HS0]; · iexact HS0
    isplitl [HS1]; · iexact HS1
    iexact HS2⟩

set_option backward.proofsInPublic true in
set_option maxHeartbeats 8000000 in
noncomputable def kernelRun0_B (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Bits .i32)) (T1 : (S36.Idx → Elt Bits .i32))
     (x0 : (S1024x256.Idx → Elt Bits .bf16)) (x1 : (S1024x256.Idx → Elt Bits .bf16)) (x2 : (S1024x128.Idx → Elt Bits .bf16)) (x3 : (S1024x128.Idx → Elt Bits .bf16)) (x4 : (S1024x128.Idx → Elt Bits .f32)) (x5 : (S1024x128.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .sge (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1)) (hc1 : (Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1) (hc2 : ¬((Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) (Scalar.addi (Scalar.muli 1#32 (View.readAt (Elt Bits) (tbM0_0).view (Rect.unit (s := S36) (k0_off1 i) S1.size (k0_off1_inb i)).toLoadRect T0 (Shape.Idx.first (numel1_S1.symm ▸ Nat.one_pos)))) 0#32))) 0#32) = 1#1)) (k0_h4 : ¬(k0_cond4 (View.readAt (Elt Bits) (tbM0_0).view (Rect.unit (s := S36) (k0_off1 i) S1.size (k0_off1_inb i)).toLoadRect T0 (Shape.Idx.first (numel1_S1.symm ▸ Nat.one_pos))) = 1#1)) :
    Σ' (out0 : Buf (Elt Bits) ((c : Thread nD τ).loc cc0_scratch0)) (out1 : Buf (Elt Bits) ((c : Thread nD τ).loc cc0_scratch1)), { out2 : Buf (Elt Bits) ((c : Thread nD τ).loc cc0_scratch2) //
      ∀ (y6 : (S1024x128.Idx → Elt Bits .f32)) (y7 : (S1024x128.Idx → Elt Bits .f32)) (y8 : (S1x1x1024.Idx → Elt Bits .f32)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
          ∗ owns (c : Thread nD τ) arg10 fullShare y6
          ∗ owns (c : Thread nD τ) arg11 fullShare y7
          ∗ owns (c : Thread nD τ) arg12 fullShare y8
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tbM0_0.view.loc (c : Thread nD τ) ↦{fullShare.right} T0)
              ∗ (tbM0_1.view.loc (c : Thread nD τ) ↦{fullShare.right} T1)
              ∗ owns (c : Thread nD τ) arg10 fullShare y6
              ∗ owns (c : Thread nD τ) arg11 fullShare y7
              ∗ owns (c : Thread nD τ) arg12 fullShare y8
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Bits)) Variants.none c none) Set.univ (cc0_fox_bwd_dkv i tbM0_0 (Memref.isWhole_whole _) tbM0_1 (Memref.isWhole_whole _) arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _)) K } :=
  ⟨_, _, _, fun (y6 : (S1024x128.Idx → Elt Bits .f32)) (y7 : (S1024x128.Idx → Elt Bits .f32)) (y8 : (S1x1x1024.Idx → Elt Bits .f32)) K => by
    unfold owns
    rw [cc0_fox_bwd_dkv_eq_skeleton]; unfold cc0_fox_bwd_dkv_skel
    iintro ⟨H0, H1, H2, H3, H4, H5, HT0, HT1, ⟨%f6, %hf6, HO6⟩, ⟨%f7, %hf7, HO7⟩, ⟨%f8, %hf8, HO8⟩, HS0, HS1, HS2, Hk⟩
    obtain rfl := harg10.eq_unread hf6; obtain rfl := harg11.eq_unread hf7; obtain rfl := harg12.eq_unread hf8
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = ¬(Scalar.cmpi = _); exact hc2) | (guard_target = ¬(k0_cond4 _ = _); exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]
    · iexists _; isplitr; · ipureintro; exact harg10.read_unread _
      iexact HO6
    isplitl [HO7]
    · iexists _; isplitr; · ipureintro; exact harg11.read_unread _
      iexact HO7
    isplitl [HO8]
    · iexists _; isplitr; · ipureintro; exact harg12.read_unread _
      iexact HO8
    isplitl [HS0]; · iexact HS0
    isplitl [HS1]; · iexact HS1
    iexact HS2⟩

set_option backward.proofsInPublic true in
set_option maxHeartbeats 8000000 in
noncomputable def kernelRun0_C (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Bits .i32)) (T1 : (S36.Idx → Elt Bits .i32))
     (x0 : (S1024x256.Idx → Elt Bits .bf16)) (x1 : (S1024x256.Idx → Elt Bits .bf16)) (x2 : (S1024x128.Idx → Elt Bits .bf16)) (x3 : (S1024x128.Idx → Elt Bits .bf16)) (x4 : (S1024x128.Idx → Elt Bits .f32)) (x5 : (S1024x128.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .sge (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1)) (hc1 : (Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1) (hc2 : ¬((Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) (Scalar.addi (Scalar.muli 1#32 (View.readAt (Elt Bits) (tbM0_0).view (Rect.unit (s := S36) (k0_off1 i) S1.size (k0_off1_inb i)).toLoadRect T0 (Shape.Idx.first (numel1_S1.symm ▸ Nat.one_pos)))) 0#32))) 0#32) = 1#1)) (k0_h4 : k0_cond4 (View.readAt (Elt Bits) (tbM0_0).view (Rect.unit (s := S36) (k0_off1 i) S1.size (k0_off1_inb i)).toLoadRect T0 (Shape.Idx.first (numel1_S1.symm ▸ Nat.one_pos))) = 1#1) :
    Σ' (out0 : List (View.Piece (Elt Bits) S1024x128 .f32)) (out1 : List (View.Piece (Elt Bits) S1024x128 .f32)) (out2 : List (View.Piece (Elt Bits) S1x1x1024 .f32)) (out3 : Buf (Elt Bits) ((c : Thread nD τ).loc cc0_scratch0)) (out4 : Buf (Elt Bits) ((c : Thread nD τ).loc cc0_scratch1)), { out5 : Buf (Elt Bits) ((c : Thread nD τ).loc cc0_scratch2) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
          ∗ (∃ d, owns (c : Thread nD τ) arg10 fullShare d)
          ∗ (∃ d, owns (c : Thread nD τ) arg11 fullShare d)
          ∗ (∃ d, owns (c : Thread nD τ) arg12 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tbM0_0.view.loc (c : Thread nD τ) ↦{fullShare.right} T0)
              ∗ (tbM0_1.view.loc (c : Thread nD τ) ↦{fullShare.right} T1)
              ∗ (∃ f, arg10.view.loc (c : Thread nD τ) ↦[arg10.view.set]{fullShare} arg10.view.writes (Elt Bits) f out0)
              ∗ (∃ f, arg11.view.loc (c : Thread nD τ) ↦[arg11.view.set]{fullShare} arg11.view.writes (Elt Bits) f out1)
              ∗ (∃ f, arg12.view.loc (c : Thread nD τ) ↦[arg12.view.set]{fullShare} arg12.view.writes (Elt Bits) f out2)
              ∗ (scM0_0.view.loc (c : Thread nD τ) ↦{fullShare} out3)
              ∗ (scM0_1.view.loc (c : Thread nD τ) ↦{fullShare} out4)
              ∗ (scM0_2.view.loc (c : Thread nD τ) ↦{fullShare} out5)) -∗ K ⟨⟩))
          ⊢ wp frame (wpE (defs₀ (F := Bits)) Variants.none c none) Set.univ (cc0_fox_bwd_dkv i tbM0_0 (Memref.isWhole_whole _) tbM0_1 (Memref.isWhole_whole _) arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _)) K } :=
  ⟨_, _, _, _, _, _, fun K => by
    unfold owns
    rw [cc0_fox_bwd_dkv_eq_skeleton]; unfold cc0_fox_bwd_dkv_skel
    iintro ⟨H0, H1, H2, H3, H4, H5, HT0, HT1, ⟨%d6, %f6, -, HO6⟩, ⟨%d7, %f7, -, HO7⟩, ⟨%d8, %f8, -, HO8⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = ¬(Scalar.cmpi = _); exact hc2) | (guard_target = k0_cond4 _ = _; exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexists _; iexact HO6
    isplitl [HO7]; · iexists _; iexact HO7
    isplitl [HO8]; · iexists _; iexact HO8
    isplitl [HS0]; · iexact HS0
    isplitl [HS1]; · iexact HS1
    iexact HS2⟩

theorem cover0_C_6 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Bits .i32)) (T1 : (S36.Idx → Elt Bits .i32))
     (x0 : (S1024x256.Idx → Elt Bits .bf16)) (x1 : (S1024x256.Idx → Elt Bits .bf16)) (x2 : (S1024x128.Idx → Elt Bits .bf16)) (x3 : (S1024x128.Idx → Elt Bits .bf16)) (x4 : (S1024x128.Idx → Elt Bits .f32)) (x5 : (S1024x128.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .sge (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1)) (hc1 : (Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1) (hc2 : ¬((Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) (Scalar.addi (Scalar.muli 1#32 (View.readAt (Elt Bits) (tbM0_0).view (Rect.unit (s := S36) (k0_off1 i) S1.size (k0_off1_inb i)).toLoadRect T0 (Shape.Idx.first (numel1_S1.symm ▸ Nat.one_pos)))) 0#32))) 0#32) = 1#1)) (k0_h4 : k0_cond4 (View.readAt (Elt Bits) (tbM0_0).view (Rect.unit (s := S36) (k0_off1 i) S1.size (k0_off1_inb i)).toLoadRect T0 (Shape.Idx.first (numel1_S1.symm ▸ Nat.one_pos))) = 1#1) (y : S1024x128.Idx) :
    ∃ pc ∈ (kernelRun0_C c i arg4 harg4 arg5 harg5 arg6 harg6 arg7 harg7 arg8 harg8 arg9 harg9 arg10 harg10 arg11 harg11 arg12 harg12 T0 T1 x0 x1 x2 x3 x4 x5 xa0 xa1 xa2 hc0 hc1 hc2 k0_h4).1, y ∈ pc.1.set :=
  View.cover_of_tiledL (kernelRun0_C c i arg4 harg4 arg5 harg5 arg6 harg6 arg7 harg7 arg8 harg8 arg9 harg9 arg10 harg10 arg11 harg11 arg12 harg12 T0 T1 x0 x1 x2 x3 x4 x5 xa0 xa1 xa2 hc0 hc1 hc2 k0_h4).1 S1024x128.size (by sl_kernel_rfl) y

def out0_C_6 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Bits .i32)) (T1 : (S36.Idx → Elt Bits .i32))
     (x0 : (S1024x256.Idx → Elt Bits .bf16)) (x1 : (S1024x256.Idx → Elt Bits .bf16)) (x2 : (S1024x128.Idx → Elt Bits .bf16)) (x3 : (S1024x128.Idx → Elt Bits .bf16)) (x4 : (S1024x128.Idx → Elt Bits .f32)) (x5 : (S1024x128.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .sge (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1)) (hc1 : (Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1) (hc2 : ¬((Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) (Scalar.addi (Scalar.muli 1#32 (View.readAt (Elt Bits) (tbM0_0).view (Rect.unit (s := S36) (k0_off1 i) S1.size (k0_off1_inb i)).toLoadRect T0 (Shape.Idx.first (numel1_S1.symm ▸ Nat.one_pos)))) 0#32))) 0#32) = 1#1)) (k0_h4 : k0_cond4 (View.readAt (Elt Bits) (tbM0_0).view (Rect.unit (s := S36) (k0_off1 i) S1.size (k0_off1_inb i)).toLoadRect T0 (Shape.Idx.first (numel1_S1.symm ▸ Nat.one_pos))) = 1#1) : (S1024x128.Idx → Elt Bits .f32) :=
  VO0_6.read (Elt Bits) (VO0_6.writes (Elt Bits) VO0_6.junk (kernelRun0_C c i arg4 harg4 arg5 harg5 arg6 harg6 arg7 harg7 arg8 harg8 arg9 harg9 arg10 harg10 arg11 harg11 arg12 harg12 T0 T1 x0 x1 x2 x3 x4 x5 xa0 xa1 xa2 hc0 hc1 hc2 k0_h4).1)

theorem cover0_C_7 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Bits .i32)) (T1 : (S36.Idx → Elt Bits .i32))
     (x0 : (S1024x256.Idx → Elt Bits .bf16)) (x1 : (S1024x256.Idx → Elt Bits .bf16)) (x2 : (S1024x128.Idx → Elt Bits .bf16)) (x3 : (S1024x128.Idx → Elt Bits .bf16)) (x4 : (S1024x128.Idx → Elt Bits .f32)) (x5 : (S1024x128.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .sge (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1)) (hc1 : (Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1) (hc2 : ¬((Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) (Scalar.addi (Scalar.muli 1#32 (View.readAt (Elt Bits) (tbM0_0).view (Rect.unit (s := S36) (k0_off1 i) S1.size (k0_off1_inb i)).toLoadRect T0 (Shape.Idx.first (numel1_S1.symm ▸ Nat.one_pos)))) 0#32))) 0#32) = 1#1)) (k0_h4 : k0_cond4 (View.readAt (Elt Bits) (tbM0_0).view (Rect.unit (s := S36) (k0_off1 i) S1.size (k0_off1_inb i)).toLoadRect T0 (Shape.Idx.first (numel1_S1.symm ▸ Nat.one_pos))) = 1#1) (y : S1024x128.Idx) :
    ∃ pc ∈ (kernelRun0_C c i arg4 harg4 arg5 harg5 arg6 harg6 arg7 harg7 arg8 harg8 arg9 harg9 arg10 harg10 arg11 harg11 arg12 harg12 T0 T1 x0 x1 x2 x3 x4 x5 xa0 xa1 xa2 hc0 hc1 hc2 k0_h4).2.1, y ∈ pc.1.set :=
  View.cover_of_tiledL (kernelRun0_C c i arg4 harg4 arg5 harg5 arg6 harg6 arg7 harg7 arg8 harg8 arg9 harg9 arg10 harg10 arg11 harg11 arg12 harg12 T0 T1 x0 x1 x2 x3 x4 x5 xa0 xa1 xa2 hc0 hc1 hc2 k0_h4).2.1 S1024x128.size (by sl_kernel_rfl) y

def out0_C_7 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Bits .i32)) (T1 : (S36.Idx → Elt Bits .i32))
     (x0 : (S1024x256.Idx → Elt Bits .bf16)) (x1 : (S1024x256.Idx → Elt Bits .bf16)) (x2 : (S1024x128.Idx → Elt Bits .bf16)) (x3 : (S1024x128.Idx → Elt Bits .bf16)) (x4 : (S1024x128.Idx → Elt Bits .f32)) (x5 : (S1024x128.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .sge (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1)) (hc1 : (Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1) (hc2 : ¬((Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) (Scalar.addi (Scalar.muli 1#32 (View.readAt (Elt Bits) (tbM0_0).view (Rect.unit (s := S36) (k0_off1 i) S1.size (k0_off1_inb i)).toLoadRect T0 (Shape.Idx.first (numel1_S1.symm ▸ Nat.one_pos)))) 0#32))) 0#32) = 1#1)) (k0_h4 : k0_cond4 (View.readAt (Elt Bits) (tbM0_0).view (Rect.unit (s := S36) (k0_off1 i) S1.size (k0_off1_inb i)).toLoadRect T0 (Shape.Idx.first (numel1_S1.symm ▸ Nat.one_pos))) = 1#1) : (S1024x128.Idx → Elt Bits .f32) :=
  VO0_7.read (Elt Bits) (VO0_7.writes (Elt Bits) VO0_7.junk (kernelRun0_C c i arg4 harg4 arg5 harg5 arg6 harg6 arg7 harg7 arg8 harg8 arg9 harg9 arg10 harg10 arg11 harg11 arg12 harg12 T0 T1 x0 x1 x2 x3 x4 x5 xa0 xa1 xa2 hc0 hc1 hc2 k0_h4).2.1)

theorem cover0_C_8 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Bits .i32)) (T1 : (S36.Idx → Elt Bits .i32))
     (x0 : (S1024x256.Idx → Elt Bits .bf16)) (x1 : (S1024x256.Idx → Elt Bits .bf16)) (x2 : (S1024x128.Idx → Elt Bits .bf16)) (x3 : (S1024x128.Idx → Elt Bits .bf16)) (x4 : (S1024x128.Idx → Elt Bits .f32)) (x5 : (S1024x128.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .sge (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1)) (hc1 : (Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1) (hc2 : ¬((Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) (Scalar.addi (Scalar.muli 1#32 (View.readAt (Elt Bits) (tbM0_0).view (Rect.unit (s := S36) (k0_off1 i) S1.size (k0_off1_inb i)).toLoadRect T0 (Shape.Idx.first (numel1_S1.symm ▸ Nat.one_pos)))) 0#32))) 0#32) = 1#1)) (k0_h4 : k0_cond4 (View.readAt (Elt Bits) (tbM0_0).view (Rect.unit (s := S36) (k0_off1 i) S1.size (k0_off1_inb i)).toLoadRect T0 (Shape.Idx.first (numel1_S1.symm ▸ Nat.one_pos))) = 1#1) (y : S1x1x1024.Idx) :
    ∃ pc ∈ (kernelRun0_C c i arg4 harg4 arg5 harg5 arg6 harg6 arg7 harg7 arg8 harg8 arg9 harg9 arg10 harg10 arg11 harg11 arg12 harg12 T0 T1 x0 x1 x2 x3 x4 x5 xa0 xa1 xa2 hc0 hc1 hc2 k0_h4).2.2.1, y ∈ pc.1.set :=
  View.cover_of_tiledL (kernelRun0_C c i arg4 harg4 arg5 harg5 arg6 harg6 arg7 harg7 arg8 harg8 arg9 harg9 arg10 harg10 arg11 harg11 arg12 harg12 T0 T1 x0 x1 x2 x3 x4 x5 xa0 xa1 xa2 hc0 hc1 hc2 k0_h4).2.2.1 S1x1x1024.size (by sl_kernel_rfl) y

def out0_C_8 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Bits .i32)) (T1 : (S36.Idx → Elt Bits .i32))
     (x0 : (S1024x256.Idx → Elt Bits .bf16)) (x1 : (S1024x256.Idx → Elt Bits .bf16)) (x2 : (S1024x128.Idx → Elt Bits .bf16)) (x3 : (S1024x128.Idx → Elt Bits .bf16)) (x4 : (S1024x128.Idx → Elt Bits .f32)) (x5 : (S1024x128.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .sge (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1)) (hc1 : (Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1) (hc2 : ¬((Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) (Scalar.addi (Scalar.muli 1#32 (View.readAt (Elt Bits) (tbM0_0).view (Rect.unit (s := S36) (k0_off1 i) S1.size (k0_off1_inb i)).toLoadRect T0 (Shape.Idx.first (numel1_S1.symm ▸ Nat.one_pos)))) 0#32))) 0#32) = 1#1)) (k0_h4 : k0_cond4 (View.readAt (Elt Bits) (tbM0_0).view (Rect.unit (s := S36) (k0_off1 i) S1.size (k0_off1_inb i)).toLoadRect T0 (Shape.Idx.first (numel1_S1.symm ▸ Nat.one_pos))) = 1#1) : (S1x1x1024.Idx → Elt Bits .f32) :=
  VO0_8.read (Elt Bits) (VO0_8.writes (Elt Bits) VO0_8.junk (kernelRun0_C c i arg4 harg4 arg5 harg5 arg6 harg6 arg7 harg7 arg8 harg8 arg9 harg9 arg10 harg10 arg11 harg11 arg12 harg12 T0 T1 x0 x1 x2 x3 x4 x5 xa0 xa1 xa2 hc0 hc1 hc2 k0_h4).2.2.1)

set_option backward.proofsInPublic true in
set_option maxHeartbeats 8000000 in
noncomputable def kernelRun0_D (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Bits .i32)) (T1 : (S36.Idx → Elt Bits .i32))
     (x0 : (S1024x256.Idx → Elt Bits .bf16)) (x1 : (S1024x256.Idx → Elt Bits .bf16)) (x2 : (S1024x128.Idx → Elt Bits .bf16)) (x3 : (S1024x128.Idx → Elt Bits .bf16)) (x4 : (S1024x128.Idx → Elt Bits .f32)) (x5 : (S1024x128.Idx → Elt Bits .bf16)) (hc0 : (Scalar.cmpi .ne (Scalar.extui (Scalar.cmpi .sge (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1) (hc1 : ¬((Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1)) (hc2 : (Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) (Scalar.addi (Scalar.muli 1#32 (View.readAt (Elt Bits) (tbM0_0).view (Rect.unit (s := S36) (k0_off1 i) S1.size (k0_off1_inb i)).toLoadRect T0 (Shape.Idx.first (numel1_S1.symm ▸ Nat.one_pos)))) 0#32))) 0#32) = 1#1) (k0_h4 : k0_cond4 (View.readAt (Elt Bits) (tbM0_0).view (Rect.unit (s := S36) (k0_off1 i) S1.size (k0_off1_inb i)).toLoadRect T0 (Shape.Idx.first (numel1_S1.symm ▸ Nat.one_pos))) = 1#1) :
    Σ' (out0 : List (View.Piece (Elt Bits) S1024x128 .f32)) (out1 : List (View.Piece (Elt Bits) S1024x128 .f32)) (out2 : List (View.Piece (Elt Bits) S1x1x1024 .f32)) (out3 : Buf (Elt Bits) ((c : Thread nD τ).loc cc0_scratch0)) (out4 : Buf (Elt Bits) ((c : Thread nD τ).loc cc0_scratch1)), { out5 : Buf (Elt Bits) ((c : Thread nD τ).loc cc0_scratch2) //
      ∀ (xa0 : Buf (Elt Bits) ((c : Thread nD τ).loc cc0_scratch0)) (xa1 : Buf (Elt Bits) ((c : Thread nD τ).loc cc0_scratch1)) (xa2 : Buf (Elt Bits) ((c : Thread nD τ).loc cc0_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
          ∗ (∃ d, owns (c : Thread nD τ) arg10 fullShare d)
          ∗ (∃ d, owns (c : Thread nD τ) arg11 fullShare d)
          ∗ (∃ d, owns (c : Thread nD τ) arg12 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tbM0_0.view.loc (c : Thread nD τ) ↦{fullShare.right} T0)
              ∗ (tbM0_1.view.loc (c : Thread nD τ) ↦{fullShare.right} T1)
              ∗ (∃ f, arg10.view.loc (c : Thread nD τ) ↦[arg10.view.set]{fullShare} arg10.view.writes (Elt Bits) f out0)
              ∗ (∃ f, arg11.view.loc (c : Thread nD τ) ↦[arg11.view.set]{fullShare} arg11.view.writes (Elt Bits) f out1)
              ∗ (∃ f, arg12.view.loc (c : Thread nD τ) ↦[arg12.view.set]{fullShare} arg12.view.writes (Elt Bits) f out2)
              ∗ (scM0_0.view.loc (c : Thread nD τ) ↦{fullShare} out3)
              ∗ (scM0_1.view.loc (c : Thread nD τ) ↦{fullShare} out4)
              ∗ (scM0_2.view.loc (c : Thread nD τ) ↦{fullShare} out5)) -∗ K ⟨⟩))
          ⊢ wp frame (wpE (defs₀ (F := Bits)) Variants.none c none) Set.univ (cc0_fox_bwd_dkv i tbM0_0 (Memref.isWhole_whole _) tbM0_1 (Memref.isWhole_whole _) arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _)) K } :=
  ⟨_, _, _, _, _, _, fun (xa0 : Buf (Elt Bits) ((c : Thread nD τ).loc cc0_scratch0)) (xa1 : Buf (Elt Bits) ((c : Thread nD τ).loc cc0_scratch1)) (xa2 : Buf (Elt Bits) ((c : Thread nD τ).loc cc0_scratch2)) K => by
    unfold owns
    rw [cc0_fox_bwd_dkv_eq_skeleton]; unfold cc0_fox_bwd_dkv_skel
    iintro ⟨H0, H1, H2, H3, H4, H5, HT0, HT1, ⟨%d6, %f6, -, HO6⟩, ⟨%d7, %f7, -, HO7⟩, ⟨%d8, %f8, -, HO8⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = Scalar.cmpi = _; exact hc2) | (guard_target = k0_cond4 _ = _; exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexists _; iexact HO6
    isplitl [HO7]; · iexists _; iexact HO7
    isplitl [HO8]; · iexists _; iexact HO8
    isplitl [HS0]; · iexact HS0
    isplitl [HS1]; · iexact HS1
    iexact HS2⟩

theorem cover0_D_6 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Bits .i32)) (T1 : (S36.Idx → Elt Bits .i32))
     (x0 : (S1024x256.Idx → Elt Bits .bf16)) (x1 : (S1024x256.Idx → Elt Bits .bf16)) (x2 : (S1024x128.Idx → Elt Bits .bf16)) (x3 : (S1024x128.Idx → Elt Bits .bf16)) (x4 : (S1024x128.Idx → Elt Bits .f32)) (x5 : (S1024x128.Idx → Elt Bits .bf16)) (hc0 : (Scalar.cmpi .ne (Scalar.extui (Scalar.cmpi .sge (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1) (hc1 : ¬((Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1)) (hc2 : (Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) (Scalar.addi (Scalar.muli 1#32 (View.readAt (Elt Bits) (tbM0_0).view (Rect.unit (s := S36) (k0_off1 i) S1.size (k0_off1_inb i)).toLoadRect T0 (Shape.Idx.first (numel1_S1.symm ▸ Nat.one_pos)))) 0#32))) 0#32) = 1#1) (k0_h4 : k0_cond4 (View.readAt (Elt Bits) (tbM0_0).view (Rect.unit (s := S36) (k0_off1 i) S1.size (k0_off1_inb i)).toLoadRect T0 (Shape.Idx.first (numel1_S1.symm ▸ Nat.one_pos))) = 1#1) (y : S1024x128.Idx) :
    ∃ pc ∈ (kernelRun0_D c i arg4 harg4 arg5 harg5 arg6 harg6 arg7 harg7 arg8 harg8 arg9 harg9 arg10 harg10 arg11 harg11 arg12 harg12 T0 T1 x0 x1 x2 x3 x4 x5 hc0 hc1 hc2 k0_h4).1, y ∈ pc.1.set :=
  View.cover_of_tiledL (kernelRun0_D c i arg4 harg4 arg5 harg5 arg6 harg6 arg7 harg7 arg8 harg8 arg9 harg9 arg10 harg10 arg11 harg11 arg12 harg12 T0 T1 x0 x1 x2 x3 x4 x5 hc0 hc1 hc2 k0_h4).1 S1024x128.size (by sl_kernel_rfl) y

def out0_D_6 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Bits .i32)) (T1 : (S36.Idx → Elt Bits .i32))
     (x0 : (S1024x256.Idx → Elt Bits .bf16)) (x1 : (S1024x256.Idx → Elt Bits .bf16)) (x2 : (S1024x128.Idx → Elt Bits .bf16)) (x3 : (S1024x128.Idx → Elt Bits .bf16)) (x4 : (S1024x128.Idx → Elt Bits .f32)) (x5 : (S1024x128.Idx → Elt Bits .bf16)) (hc0 : (Scalar.cmpi .ne (Scalar.extui (Scalar.cmpi .sge (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1) (hc1 : ¬((Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1)) (hc2 : (Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) (Scalar.addi (Scalar.muli 1#32 (View.readAt (Elt Bits) (tbM0_0).view (Rect.unit (s := S36) (k0_off1 i) S1.size (k0_off1_inb i)).toLoadRect T0 (Shape.Idx.first (numel1_S1.symm ▸ Nat.one_pos)))) 0#32))) 0#32) = 1#1) (k0_h4 : k0_cond4 (View.readAt (Elt Bits) (tbM0_0).view (Rect.unit (s := S36) (k0_off1 i) S1.size (k0_off1_inb i)).toLoadRect T0 (Shape.Idx.first (numel1_S1.symm ▸ Nat.one_pos))) = 1#1) : (S1024x128.Idx → Elt Bits .f32) :=
  VO0_6.read (Elt Bits) (VO0_6.writes (Elt Bits) VO0_6.junk (kernelRun0_D c i arg4 harg4 arg5 harg5 arg6 harg6 arg7 harg7 arg8 harg8 arg9 harg9 arg10 harg10 arg11 harg11 arg12 harg12 T0 T1 x0 x1 x2 x3 x4 x5 hc0 hc1 hc2 k0_h4).1)

theorem cover0_D_7 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Bits .i32)) (T1 : (S36.Idx → Elt Bits .i32))
     (x0 : (S1024x256.Idx → Elt Bits .bf16)) (x1 : (S1024x256.Idx → Elt Bits .bf16)) (x2 : (S1024x128.Idx → Elt Bits .bf16)) (x3 : (S1024x128.Idx → Elt Bits .bf16)) (x4 : (S1024x128.Idx → Elt Bits .f32)) (x5 : (S1024x128.Idx → Elt Bits .bf16)) (hc0 : (Scalar.cmpi .ne (Scalar.extui (Scalar.cmpi .sge (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1) (hc1 : ¬((Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1)) (hc2 : (Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) (Scalar.addi (Scalar.muli 1#32 (View.readAt (Elt Bits) (tbM0_0).view (Rect.unit (s := S36) (k0_off1 i) S1.size (k0_off1_inb i)).toLoadRect T0 (Shape.Idx.first (numel1_S1.symm ▸ Nat.one_pos)))) 0#32))) 0#32) = 1#1) (k0_h4 : k0_cond4 (View.readAt (Elt Bits) (tbM0_0).view (Rect.unit (s := S36) (k0_off1 i) S1.size (k0_off1_inb i)).toLoadRect T0 (Shape.Idx.first (numel1_S1.symm ▸ Nat.one_pos))) = 1#1) (y : S1024x128.Idx) :
    ∃ pc ∈ (kernelRun0_D c i arg4 harg4 arg5 harg5 arg6 harg6 arg7 harg7 arg8 harg8 arg9 harg9 arg10 harg10 arg11 harg11 arg12 harg12 T0 T1 x0 x1 x2 x3 x4 x5 hc0 hc1 hc2 k0_h4).2.1, y ∈ pc.1.set :=
  View.cover_of_tiledL (kernelRun0_D c i arg4 harg4 arg5 harg5 arg6 harg6 arg7 harg7 arg8 harg8 arg9 harg9 arg10 harg10 arg11 harg11 arg12 harg12 T0 T1 x0 x1 x2 x3 x4 x5 hc0 hc1 hc2 k0_h4).2.1 S1024x128.size (by sl_kernel_rfl) y

def out0_D_7 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Bits .i32)) (T1 : (S36.Idx → Elt Bits .i32))
     (x0 : (S1024x256.Idx → Elt Bits .bf16)) (x1 : (S1024x256.Idx → Elt Bits .bf16)) (x2 : (S1024x128.Idx → Elt Bits .bf16)) (x3 : (S1024x128.Idx → Elt Bits .bf16)) (x4 : (S1024x128.Idx → Elt Bits .f32)) (x5 : (S1024x128.Idx → Elt Bits .bf16)) (hc0 : (Scalar.cmpi .ne (Scalar.extui (Scalar.cmpi .sge (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1) (hc1 : ¬((Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1)) (hc2 : (Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) (Scalar.addi (Scalar.muli 1#32 (View.readAt (Elt Bits) (tbM0_0).view (Rect.unit (s := S36) (k0_off1 i) S1.size (k0_off1_inb i)).toLoadRect T0 (Shape.Idx.first (numel1_S1.symm ▸ Nat.one_pos)))) 0#32))) 0#32) = 1#1) (k0_h4 : k0_cond4 (View.readAt (Elt Bits) (tbM0_0).view (Rect.unit (s := S36) (k0_off1 i) S1.size (k0_off1_inb i)).toLoadRect T0 (Shape.Idx.first (numel1_S1.symm ▸ Nat.one_pos))) = 1#1) : (S1024x128.Idx → Elt Bits .f32) :=
  VO0_7.read (Elt Bits) (VO0_7.writes (Elt Bits) VO0_7.junk (kernelRun0_D c i arg4 harg4 arg5 harg5 arg6 harg6 arg7 harg7 arg8 harg8 arg9 harg9 arg10 harg10 arg11 harg11 arg12 harg12 T0 T1 x0 x1 x2 x3 x4 x5 hc0 hc1 hc2 k0_h4).2.1)

theorem cover0_D_8 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Bits .i32)) (T1 : (S36.Idx → Elt Bits .i32))
     (x0 : (S1024x256.Idx → Elt Bits .bf16)) (x1 : (S1024x256.Idx → Elt Bits .bf16)) (x2 : (S1024x128.Idx → Elt Bits .bf16)) (x3 : (S1024x128.Idx → Elt Bits .bf16)) (x4 : (S1024x128.Idx → Elt Bits .f32)) (x5 : (S1024x128.Idx → Elt Bits .bf16)) (hc0 : (Scalar.cmpi .ne (Scalar.extui (Scalar.cmpi .sge (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1) (hc1 : ¬((Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1)) (hc2 : (Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) (Scalar.addi (Scalar.muli 1#32 (View.readAt (Elt Bits) (tbM0_0).view (Rect.unit (s := S36) (k0_off1 i) S1.size (k0_off1_inb i)).toLoadRect T0 (Shape.Idx.first (numel1_S1.symm ▸ Nat.one_pos)))) 0#32))) 0#32) = 1#1) (k0_h4 : k0_cond4 (View.readAt (Elt Bits) (tbM0_0).view (Rect.unit (s := S36) (k0_off1 i) S1.size (k0_off1_inb i)).toLoadRect T0 (Shape.Idx.first (numel1_S1.symm ▸ Nat.one_pos))) = 1#1) (y : S1x1x1024.Idx) :
    ∃ pc ∈ (kernelRun0_D c i arg4 harg4 arg5 harg5 arg6 harg6 arg7 harg7 arg8 harg8 arg9 harg9 arg10 harg10 arg11 harg11 arg12 harg12 T0 T1 x0 x1 x2 x3 x4 x5 hc0 hc1 hc2 k0_h4).2.2.1, y ∈ pc.1.set :=
  View.cover_of_tiledL (kernelRun0_D c i arg4 harg4 arg5 harg5 arg6 harg6 arg7 harg7 arg8 harg8 arg9 harg9 arg10 harg10 arg11 harg11 arg12 harg12 T0 T1 x0 x1 x2 x3 x4 x5 hc0 hc1 hc2 k0_h4).2.2.1 S1x1x1024.size (by sl_kernel_rfl) y

def out0_D_8 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Bits .i32)) (T1 : (S36.Idx → Elt Bits .i32))
     (x0 : (S1024x256.Idx → Elt Bits .bf16)) (x1 : (S1024x256.Idx → Elt Bits .bf16)) (x2 : (S1024x128.Idx → Elt Bits .bf16)) (x3 : (S1024x128.Idx → Elt Bits .bf16)) (x4 : (S1024x128.Idx → Elt Bits .f32)) (x5 : (S1024x128.Idx → Elt Bits .bf16)) (hc0 : (Scalar.cmpi .ne (Scalar.extui (Scalar.cmpi .sge (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1) (hc1 : ¬((Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (Scalar.muli 1#32 (View.readAt (Elt Bits) (tbM0_0).view (Rect.unit (s := S36) (k0_off1 i) S1.size (k0_off1_inb i)).toLoadRect T0 (Shape.Idx.first (numel1_S1.symm ▸ Nat.one_pos)))))) 0#32) = 1#1)) (hc2 : (Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) (Scalar.addi (Scalar.muli 1#32 (View.readAt (Elt Bits) (tbM0_0).view (Rect.unit (s := S36) (k0_off1 i) S1.size (k0_off1_inb i)).toLoadRect T0 (Shape.Idx.first (numel1_S1.symm ▸ Nat.one_pos)))) 0#32))) 0#32) = 1#1) (k0_h4 : k0_cond4 (View.readAt (Elt Bits) (tbM0_0).view (Rect.unit (s := S36) (k0_off1 i) S1.size (k0_off1_inb i)).toLoadRect T0 (Shape.Idx.first (numel1_S1.symm ▸ Nat.one_pos))) = 1#1) : (S1x1x1024.Idx → Elt Bits .f32) :=
  VO0_8.read (Elt Bits) (VO0_8.writes (Elt Bits) VO0_8.junk (kernelRun0_D c i arg4 harg4 arg5 harg5 arg6 harg6 arg7 harg7 arg8 harg8 arg9 harg9 arg10 harg10 arg11 harg11 arg12 harg12 T0 T1 x0 x1 x2 x3 x4 x5 hc0 hc1 hc2 k0_h4).2.2.1)

end Cert.Kernel7.Fox

end
-- ==== Proof.FoxMachine.Cfg.lean ====
/-
  The gradients of the forgetting attention, the run: the pipeline at the tables, the point's buffers and blocks, and the decisions of the body at a point.
-/
module

public import proofs.«01_k».proof.Proof.FoxMachine.Ok

@[expose] public section

set_option maxRecDepth 16384
set_option Elab.async false

noncomputable section

namespace Cert.Kernel7.Fox

open Cert.Kernel7 Cert.Kernel7.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

theorem ok_pfN : ok0 (F := Bits) pfN := ok_pfN_0

def adm : (pcfg0 (F := Bits)).Adm := ⟨pfN, ok_pfN⟩
abbrev cfgA : Pipeline.Cfg sig Λ₀ := cfg0 (F := Bits) adm
abbrev pcs : Fin 1 → Pipeline.Cfg sig Λ₀ := Pipeline.pin (pcfgs (F := Bits)) fun _ => adm

variable (m : (ℓ : Loc nD τ sig) → Buf (Elt Bits) ℓ) (ρ : Dev nD → PrngReg)

abbrev crd (t : Fin cfgA.N) : cfgA.grid.Coords := cfgA.grid.coords t

abbrev ms0_0 (t : Fin cfgA.N) : Memref sig .tc .vmem S1024x256 .bf16 := spec0_0.stage (cfgA.slots t (0 : Fin 9))
abbrev hs0_0 (t : Fin cfgA.N) : (ms0_0 t).IsWhole := hstage0_0 ((cfgA.slots t (0 : Fin 9)).cast nbuf0_0)
abbrev ms0_1 (t : Fin cfgA.N) : Memref sig .tc .vmem S1024x256 .bf16 := spec0_1.stage (cfgA.slots t (1 : Fin 9))
abbrev hs0_1 (t : Fin cfgA.N) : (ms0_1 t).IsWhole := hstage0_1 ((cfgA.slots t (1 : Fin 9)).cast nbuf0_1)
abbrev ms0_2 (t : Fin cfgA.N) : Memref sig .tc .vmem S1024x128 .bf16 := spec0_2.stage (cfgA.slots t (2 : Fin 9))
abbrev hs0_2 (t : Fin cfgA.N) : (ms0_2 t).IsWhole := hstage0_2 ((cfgA.slots t (2 : Fin 9)).cast nbuf0_2)
abbrev ms0_3 (t : Fin cfgA.N) : Memref sig .tc .vmem S1024x128 .bf16 := spec0_3.stage (cfgA.slots t (3 : Fin 9))
abbrev hs0_3 (t : Fin cfgA.N) : (ms0_3 t).IsWhole := hstage0_3 ((cfgA.slots t (3 : Fin 9)).cast nbuf0_3)
abbrev ms0_4 (t : Fin cfgA.N) : Memref sig .tc .vmem S1024x128 .f32 := spec0_4.stage (cfgA.slots t (4 : Fin 9))
abbrev hs0_4 (t : Fin cfgA.N) : (ms0_4 t).IsWhole := hstage0_4 ((cfgA.slots t (4 : Fin 9)).cast nbuf0_4)
abbrev ms0_5 (t : Fin cfgA.N) : Memref sig .tc .vmem S1024x128 .bf16 := spec0_5.stage (cfgA.slots t (5 : Fin 9))
abbrev hs0_5 (t : Fin cfgA.N) : (ms0_5 t).IsWhole := hstage0_5 ((cfgA.slots t (5 : Fin 9)).cast nbuf0_5)
abbrev ms0_6 (t : Fin cfgA.N) : Memref sig .tc .vmem S1024x128 .f32 := spec0_6.stage (cfgA.slots t (6 : Fin 9))
abbrev hs0_6 (t : Fin cfgA.N) : (ms0_6 t).IsWhole := hstage0_6 ((cfgA.slots t (6 : Fin 9)).cast nbuf0_6)
abbrev ms0_7 (t : Fin cfgA.N) : Memref sig .tc .vmem S1024x128 .f32 := spec0_7.stage (cfgA.slots t (7 : Fin 9))
abbrev hs0_7 (t : Fin cfgA.N) : (ms0_7 t).IsWhole := hstage0_7 ((cfgA.slots t (7 : Fin 9)).cast nbuf0_7)
abbrev ms0_8 (t : Fin cfgA.N) : Memref sig .tc .vmem S1x1x1024 .f32 := spec0_8.stage (cfgA.slots t (8 : Fin 9))
abbrev hs0_8 (t : Fin cfgA.N) : (ms0_8 t).IsWhole := hstage0_8 ((cfgA.slots t (8 : Fin 9)).cast nbuf0_8)

def iblk (c : Dev nD) (w : Fin cfgA.W) (t : Fin cfgA.N) : ((cfgA.win w).xblock (crd t)).Idx → Elt Bits (cfgA.win w).elt :=
  ((cfgA.win w).blk t).view.read (Elt Bits) (V m c (cfgA.win w).arr.view.ref)

abbrev P0_0 (t : Fin cfgA.N) : Prop := (Scalar.cmpi .ne (Scalar.extui (Scalar.cmpi .sge (View.readAt (Elt Bits) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Bits) (tbM0_0).view (Rect.unit (s := S36) (k0_off1 (crd t)) S1.size (k0_off1_inb (crd t))).toLoadRect pinT_0 (Shape.Idx.first (numel1_S1.symm ▸ Nat.one_pos)))))) 0#32) = 1#1
abbrev P0_1 (t : Fin cfgA.N) : Prop := k0_cond4 (View.readAt (Elt Bits) (tbM0_0).view (Rect.unit (s := S36) (k0_off1 (crd t)) S1.size (k0_off1_inb (crd t))).toLoadRect pinT_0 (Shape.Idx.first (numel1_S1.symm ▸ Nat.one_pos))) = 1#1

def sfirst0_0 : ℕ := 0
def sfrTab0_0 : ℕ → Bool := fun n => decide (n ≤ sfirst0_0)
def sfresh0_0 : ℕ → Bool := sfrTab0_0

def sfirst0_1 : ℕ := 0
def sfrTab0_1 : ℕ → Bool := fun n => decide (n ≤ sfirst0_1)
def sfresh0_1 : ℕ → Bool := sfrTab0_1

def sfirst0_2 : ℕ := 0
def sfrTab0_2 : ℕ → Bool := fun n => decide (n ≤ sfirst0_2)
def sfresh0_2 : ℕ → Bool := sfrTab0_2

set_option backward.proofsInPublic true in
def frMask0_6 : ℕ := 0xffffffffffffffffffffffffffffffffffffffffffffffffffffff
def frTab0_6 : ℕ → Bool
  | 0 => true
  | n + 1 => frMask0_6.testBit n

set_option backward.proofsInPublic true in
def frMask0_7 : ℕ := 0xffffffffffffffffffffffffffffffffffffffffffffffffffffff
def frTab0_7 : ℕ → Bool
  | 0 => true
  | n + 1 => frMask0_7.testBit n

set_option backward.proofsInPublic true in
def frMask0_8 : ℕ := 0xffffffffffffffffffffffffffffffffffffffffffffffffffffff
def frTab0_8 : ℕ → Bool
  | 0 => true
  | n + 1 => frMask0_8.testBit n

end Cert.Kernel7.Fox

end
-- ==== Proof.FoxMachine.Facts.lean ====
/-
  The gradients of the forgetting attention, the run: what is decided at a point: the branches taken, the write-backs, and which buffers hold a determined value.
-/
module

public import proofs.«01_k».proof.Proof.FoxMachine.Cfg

@[expose] public section

set_option maxRecDepth 16384
set_option Elab.async false

noncomputable section

namespace Cert.Kernel7.Fox

open Cert.Kernel7 Cert.Kernel7.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ
variable (m : (ℓ : Loc nD τ sig) → Buf (Elt Bits) ℓ) (ρ : Dev nD → PrngReg)

abbrev FactsAt (t : Fin cfgA.N) : Prop :=
  (sfrTab0_0 (t.val + 1) = (if P0_0 t then (if P0_1 t then false else false) else (if P0_1 t then sfrTab0_0 t.val else sfrTab0_0 t.val)))
  ∧ (sfrTab0_1 (t.val + 1) = (if P0_0 t then (if P0_1 t then false else false) else (if P0_1 t then sfrTab0_1 t.val else sfrTab0_1 t.val)))
  ∧ (sfrTab0_2 (t.val + 1) = (if P0_0 t then (if P0_1 t then false else false) else (if P0_1 t then sfrTab0_2 t.val else sfrTab0_2 t.val)))
  ∧ (frTab0_6 (t.val + 1) = ((cfgA.win (6 : Fin 9)).flush t || (cfgA.idle (6 : Fin 9) (cfgA.grid.coords t) && frTab0_6 t.val)))
  ∧ (frTab0_7 (t.val + 1) = ((cfgA.win (7 : Fin 9)).flush t || (cfgA.idle (7 : Fin 9) (cfgA.grid.coords t) && frTab0_7 t.val)))
  ∧ (frTab0_8 (t.val + 1) = ((cfgA.win (8 : Fin 9)).flush t || (cfgA.idle (8 : Fin 9) (cfgA.grid.coords t) && frTab0_8 t.val)))
  ∧ (P0_0 t → ¬P0_1 t → ((Scalar.cmpi .ne (Scalar.extui (Scalar.cmpi .sge (View.readAt (Elt Bits) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Bits) (tbM0_0).view (Rect.unit (s := S36) (k0_off1 (crd t)) S1.size (k0_off1_inb (crd t))).toLoadRect pinT_0 (Shape.Idx.first (numel1_S1.symm ▸ Nat.one_pos)))))) 0#32) = 1#1) ∧ ((¬((Scalar.cmpi .ne (Scalar.extui (Scalar.cmpi .slt (View.readAt (Elt Bits) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Bits) (tbM0_0).view (Rect.unit (s := S36) (k0_off1 (crd t)) S1.size (k0_off1_inb (crd t))).toLoadRect pinT_0 (Shape.Idx.first (numel1_S1.symm ▸ Nat.one_pos)))))) 0#32) = 1#1)) ∧ (((Scalar.cmpi .ne (Scalar.extui (Scalar.cmpi .eq (View.readAt (Elt Bits) (tbM0_1).view (Rect.unit (s := S36) (k0_off1 (crd t)) S1.size (k0_off1_inb (crd t))).toLoadRect pinT_1 (Shape.Idx.first (numel1_S1.symm ▸ Nat.one_pos))) (Scalar.addi (Scalar.muli 1#32 (View.readAt (Elt Bits) (tbM0_0).view (Rect.unit (s := S36) (k0_off1 (crd t)) S1.size (k0_off1_inb (crd t))).toLoadRect pinT_0 (Shape.Idx.first (numel1_S1.symm ▸ Nat.one_pos)))) 0#32))) 0#32) = 1#1) ∧ ((¬(k0_cond4 (View.readAt (Elt Bits) (tbM0_0).view (Rect.unit (s := S36) (k0_off1 (crd t)) S1.size (k0_off1_inb (crd t))).toLoadRect pinT_0 (Shape.Idx.first (numel1_S1.symm ▸ Nat.one_pos))) = 1#1)) ∧ (True)))))
  ∧ (P0_0 t → ¬P0_1 t → cfgA.idle (6 : Fin 9) (cfgA.grid.coords t) = true ∧ (cfgA.win (6 : Fin 9)).flush t = false ∧ frTab0_6 t.val = true ∧ cfgA.idle (7 : Fin 9) (cfgA.grid.coords t) = true ∧ (cfgA.win (7 : Fin 9)).flush t = false ∧ frTab0_7 t.val = true ∧ cfgA.idle (8 : Fin 9) (cfgA.grid.coords t) = true ∧ (cfgA.win (8 : Fin 9)).flush t = false ∧ frTab0_8 t.val = true ∧ sfrTab0_0 (t.val + 1) = false ∧ sfrTab0_1 (t.val + 1) = false ∧ sfrTab0_2 (t.val + 1) = false)
  ∧ (¬P0_0 t → ¬P0_1 t → (¬((Scalar.cmpi .ne (Scalar.extui (Scalar.cmpi .sge (View.readAt (Elt Bits) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Bits) (tbM0_0).view (Rect.unit (s := S36) (k0_off1 (crd t)) S1.size (k0_off1_inb (crd t))).toLoadRect pinT_0 (Shape.Idx.first (numel1_S1.symm ▸ Nat.one_pos)))))) 0#32) = 1#1)) ∧ (((Scalar.cmpi .ne (Scalar.extui (Scalar.cmpi .slt (View.readAt (Elt Bits) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Bits) (tbM0_0).view (Rect.unit (s := S36) (k0_off1 (crd t)) S1.size (k0_off1_inb (crd t))).toLoadRect pinT_0 (Shape.Idx.first (numel1_S1.symm ▸ Nat.one_pos)))))) 0#32) = 1#1) ∧ ((¬((Scalar.cmpi .ne (Scalar.extui (Scalar.cmpi .eq (View.readAt (Elt Bits) (tbM0_1).view (Rect.unit (s := S36) (k0_off1 (crd t)) S1.size (k0_off1_inb (crd t))).toLoadRect pinT_1 (Shape.Idx.first (numel1_S1.symm ▸ Nat.one_pos))) (Scalar.addi (Scalar.muli 1#32 (View.readAt (Elt Bits) (tbM0_0).view (Rect.unit (s := S36) (k0_off1 (crd t)) S1.size (k0_off1_inb (crd t))).toLoadRect pinT_0 (Shape.Idx.first (numel1_S1.symm ▸ Nat.one_pos)))) 0#32))) 0#32) = 1#1)) ∧ ((¬(k0_cond4 (View.readAt (Elt Bits) (tbM0_0).view (Rect.unit (s := S36) (k0_off1 (crd t)) S1.size (k0_off1_inb (crd t))).toLoadRect pinT_0 (Shape.Idx.first (numel1_S1.symm ▸ Nat.one_pos))) = 1#1)) ∧ (True)))))
  ∧ (¬P0_0 t → ¬P0_1 t → cfgA.idle (6 : Fin 9) (cfgA.grid.coords t) = true ∧ (cfgA.win (6 : Fin 9)).flush t = false ∧ frTab0_6 t.val = true ∧ cfgA.idle (7 : Fin 9) (cfgA.grid.coords t) = true ∧ (cfgA.win (7 : Fin 9)).flush t = false ∧ frTab0_7 t.val = true ∧ cfgA.idle (8 : Fin 9) (cfgA.grid.coords t) = true ∧ (cfgA.win (8 : Fin 9)).flush t = false ∧ frTab0_8 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false)
  ∧ (¬P0_0 t → P0_1 t → (¬((Scalar.cmpi .ne (Scalar.extui (Scalar.cmpi .sge (View.readAt (Elt Bits) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Bits) (tbM0_0).view (Rect.unit (s := S36) (k0_off1 (crd t)) S1.size (k0_off1_inb (crd t))).toLoadRect pinT_0 (Shape.Idx.first (numel1_S1.symm ▸ Nat.one_pos)))))) 0#32) = 1#1)) ∧ (((Scalar.cmpi .ne (Scalar.extui (Scalar.cmpi .slt (View.readAt (Elt Bits) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Bits) (tbM0_0).view (Rect.unit (s := S36) (k0_off1 (crd t)) S1.size (k0_off1_inb (crd t))).toLoadRect pinT_0 (Shape.Idx.first (numel1_S1.symm ▸ Nat.one_pos)))))) 0#32) = 1#1) ∧ ((¬((Scalar.cmpi .ne (Scalar.extui (Scalar.cmpi .eq (View.readAt (Elt Bits) (tbM0_1).view (Rect.unit (s := S36) (k0_off1 (crd t)) S1.size (k0_off1_inb (crd t))).toLoadRect pinT_1 (Shape.Idx.first (numel1_S1.symm ▸ Nat.one_pos))) (Scalar.addi (Scalar.muli 1#32 (View.readAt (Elt Bits) (tbM0_0).view (Rect.unit (s := S36) (k0_off1 (crd t)) S1.size (k0_off1_inb (crd t))).toLoadRect pinT_0 (Shape.Idx.first (numel1_S1.symm ▸ Nat.one_pos)))) 0#32))) 0#32) = 1#1)) ∧ ((k0_cond4 (View.readAt (Elt Bits) (tbM0_0).view (Rect.unit (s := S36) (k0_off1 (crd t)) S1.size (k0_off1_inb (crd t))).toLoadRect pinT_0 (Shape.Idx.first (numel1_S1.symm ▸ Nat.one_pos))) = 1#1) ∧ (True)))))
  ∧ (¬P0_0 t → P0_1 t → cfgA.idle (6 : Fin 9) (cfgA.grid.coords t) = false ∧ (cfgA.win (6 : Fin 9)).flush t = true ∧ frTab0_6 t.val = true ∧ cfgA.idle (7 : Fin 9) (cfgA.grid.coords t) = false ∧ (cfgA.win (7 : Fin 9)).flush t = true ∧ frTab0_7 t.val = true ∧ cfgA.idle (8 : Fin 9) (cfgA.grid.coords t) = false ∧ (cfgA.win (8 : Fin 9)).flush t = true ∧ frTab0_8 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false)
  ∧ (P0_0 t → P0_1 t → ((Scalar.cmpi .ne (Scalar.extui (Scalar.cmpi .sge (View.readAt (Elt Bits) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Bits) (tbM0_0).view (Rect.unit (s := S36) (k0_off1 (crd t)) S1.size (k0_off1_inb (crd t))).toLoadRect pinT_0 (Shape.Idx.first (numel1_S1.symm ▸ Nat.one_pos)))))) 0#32) = 1#1) ∧ ((¬((Scalar.cmpi .ne (Scalar.extui (Scalar.cmpi .slt (View.readAt (Elt Bits) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Bits) (tbM0_0).view (Rect.unit (s := S36) (k0_off1 (crd t)) S1.size (k0_off1_inb (crd t))).toLoadRect pinT_0 (Shape.Idx.first (numel1_S1.symm ▸ Nat.one_pos)))))) 0#32) = 1#1)) ∧ (((Scalar.cmpi .ne (Scalar.extui (Scalar.cmpi .eq (View.readAt (Elt Bits) (tbM0_1).view (Rect.unit (s := S36) (k0_off1 (crd t)) S1.size (k0_off1_inb (crd t))).toLoadRect pinT_1 (Shape.Idx.first (numel1_S1.symm ▸ Nat.one_pos))) (Scalar.addi (Scalar.muli 1#32 (View.readAt (Elt Bits) (tbM0_0).view (Rect.unit (s := S36) (k0_off1 (crd t)) S1.size (k0_off1_inb (crd t))).toLoadRect pinT_0 (Shape.Idx.first (numel1_S1.symm ▸ Nat.one_pos)))) 0#32))) 0#32) = 1#1) ∧ ((k0_cond4 (View.readAt (Elt Bits) (tbM0_0).view (Rect.unit (s := S36) (k0_off1 (crd t)) S1.size (k0_off1_inb (crd t))).toLoadRect pinT_0 (Shape.Idx.first (numel1_S1.symm ▸ Nat.one_pos))) = 1#1) ∧ (True)))))
  ∧ (P0_0 t → P0_1 t → cfgA.idle (6 : Fin 9) (cfgA.grid.coords t) = false ∧ (cfgA.win (6 : Fin 9)).flush t = true ∧ frTab0_6 t.val = true ∧ cfgA.idle (7 : Fin 9) (cfgA.grid.coords t) = false ∧ (cfgA.win (7 : Fin 9)).flush t = true ∧ frTab0_7 t.val = true ∧ cfgA.idle (8 : Fin 9) (cfgA.grid.coords t) = false ∧ (cfgA.win (8 : Fin 9)).flush t = true ∧ frTab0_8 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false)

set_option synthInstance.maxSize 65536 in
instance FactsAt.dec (t : Fin cfgA.N) : Decidable (FactsAt t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance)))))))))))))

end Cert.Kernel7.Fox

end
-- ==== Proof.FoxMachine.Launch.lean ====
/-
  The gradients of the forgetting attention: the run of the program, the operations before the call included.
-/
module

public import proofs.«01_k».proof.Proof.FoxMachine.Run
public import Idealize.ShloMosaic.Lib.Pipeline.Frame
public import Idealize.ShloMosaic.Lib.StableHlo.ReadAt

@[expose] public section

set_option maxRecDepth 16384
set_option Elab.async false

noncomputable section

namespace Cert.Kernel7.Fox

open Cert.Kernel7 Cert.Kernel7.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (m : (ℓ : Loc nD τ sig) → Buf (Elt Bits) ℓ) (ρ : Dev nD → PrngReg)

set_option maxHeartbeats 40000000 in
theorem V_table0 (c : Dev nD) : V m c main_c = pinT_0 := by
  unfold V
  after_results_simp
  funext x
  have h : ∀ k : Fin 36, lit0 k = pinT_0 (ix1 k) := by decide +kernel
  refine (h (S36.rowMajor x)).trans (congrArg pinT_0 (funext fun a => ?_))
  fin_cases a
  exact Fin.ext (Shape.rowMajor_val_one x)

set_option maxHeartbeats 40000000 in
theorem V_table1 (c : Dev nD) : V m c main_c_0 = pinT_1 := by
  unfold V
  after_results_simp
  funext x
  have h : ∀ k : Fin 36, lit1 k = pinT_1 (ix1 k) := by decide +kernel
  refine (h (S36.rowMajor x)).trans (congrArg pinT_1 (funext fun a => ?_))
  fin_cases a
  exact Fin.ext (Shape.rowMajor_val_one x)

theorem V_pre (c : Dev nD) (j : Fin 2) : V m c (pre0.ref j) = adm.1 j := by
  fin_cases j
  · exact V_table0 m c
  · exact V_table1 m c

/-- What holds at the end: each array what the blocks written back make of it, every other buffer what it held at the call. -/
def Post : PUnit × MemSt nD τ sig (Elt Bits) → Prop := fun r =>
  ∀ c : Dev nD, (∀ w : Fin (cfgA).W, r.2.mem (((cfgA).win w).arr.view.loc (c : Thread nD τ)) = (dats m 0 c).arrAt w (cfgA).N)
    ∧ ∀ b ∈ Pipeline.restRefsP sig pre0 spec0, r.2.mem ((c.tc : Thread nD τ).loc b) = V m c b

set_option backward.isDefEq.respectTransparency.types false in
set_option maxHeartbeats 4000000 in
theorem run : θ_run (defs (F := Bits)) (onTc (τ := τ) (main (F := Bits))) (s₀ m ρ) (fun r => Post m r ∧ r.2.sem = fun _ => 0) :=
  Pipeline.θ_run_region_noSem_pf_quiescent pcfgs (fun _ => adm) (dats m) () ((launch0 (F := Bits)).cellOf_inj fun _ => adm) (0 : Fin 1)
    (launch0 (F := Bits)).win.to₀ (launch0 (F := Bits)).pre EP defs₀ Variants.none m ρ main
    (hbody := fun c => (body_obligation m c).loose) (hne := (launch0 (F := Bits)).block_pos)
    (harr := (launch0 (F := Bits)).arr_whole) (hstage := (launch0 (F := Bits)).stage_whole) (howed := fun _ _ => rfl)
    (u₀ := u₀) (hu₀ := .rfl)
    (V := V m)
    (hmain := Pipeline.hmainP_prefix pcfgs (0 : Fin 1) defs₀ Variants.none m main hostOps0 hostOps0_sub ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ main_chain)
    (hsplit := fun c => Pipeline.arrays_split pcs (dats m) 0 (launch0 (F := Bits)).win.arr_inj c (launch0 (F := Bits)).arr_whole
      (share_eq m c) _ _ fun _ => rfl)
    (hpf := V_pre m)
    (X := fun _ => iprop(emp)) (Y := fun _ => iprop(emp))
    (Z := fun c => Pipeline.unscopedRestP pre0 spec0 c (V m c))
    (hX := fun c => by iintro H; isplitr; · iempintro
                       iexact H)
    (hin := phi0_intro m)
    (hout := phiN_exit m)
    (QY := fun c s => ∀ b ∈ Pipeline.restRefsP sig pre0 spec0, s.mem ((c.tc : Thread nD τ).loc b) = V m c b)
    (hY := fun c s' => by
      iintro ⟨-, HU, HSI⟩
      unfold Pipeline.unscopedRestP
      imodintro
      iapply (pointsTo_read_all (Pipeline.restRefsP sig pre0 spec0) (fun b => (c.tc : Thread nD τ).loc b) (V m c) s')
      isplitl [HU] <;> iassumption)
    (hQ := fun _ h hz => ⟨fun c => ⟨(h c).1, (h c).2.2⟩, hz⟩)

set_option maxHeartbeats 40000000 in
theorem V_arg0 (c : Dev nD) : V m c main_arg0 = m ((c.tc : Thread nD τ).loc main_arg0) := by
  unfold V
  after_results_simp

set_option maxHeartbeats 40000000 in
theorem V_arg1 (c : Dev nD) : V m c main_arg1 = m ((c.tc : Thread nD τ).loc main_arg1) := by
  unfold V
  after_results_simp

set_option maxHeartbeats 40000000 in
theorem V_arg2 (c : Dev nD) : V m c main_arg2 = m ((c.tc : Thread nD τ).loc main_arg2) := by
  unfold V
  after_results_simp

set_option maxHeartbeats 40000000 in
theorem V_arg3 (c : Dev nD) : V m c main_arg3 = m ((c.tc : Thread nD τ).loc main_arg3) := by
  unfold V
  after_results_simp

attribute [local irreducible] V

set_option maxHeartbeats 4000000 in
theorem Post_args (r) (h : Post m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).2 main_arg0 (by decide +kernel)).trans (V_arg0 m c),
   ((h c).1 (2 : Fin 9)).trans (((dats m 0 c).arrAt_in (2 : Fin 9) rfl _).trans (V_arg1 m c)),
   ((h c).2 main_arg2 (by decide +kernel)).trans (V_arg2 m c),
   ((h c).1 (5 : Fin 9)).trans (((dats m 0 c).arrAt_in (5 : Fin 9) rfl _).trans (V_arg3 m c))⟩

theorem frame (ρ : Dev nD → PrngReg) : θ_run (defs (F := Bits)) (onTc (τ := τ) (main (F := Bits))) (s₀ m ρ) (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) ∧ r.2.sem = fun _ => 0) :=
  (θ_run (defs (F := Bits)) _ _).mono (fun r h => ⟨Post_args m r h.1, h.2⟩) (run m ρ)

end Cert.Kernel7.Fox

end
-- ==== Proof.FoxIdeal.Pins.lean ====
/-
  The gradients of the forgetting attention, the run: the two tables of the grid: the pairs of a query block and a key block in the order in which they are taken.
-/
module

public import proofs.«01_k».proof.Defs
public import proofs.«01_k».proof.Proof.Gen.Kernel7Ideal
public import proofs.«01_k».proof.Proof.Gen.Kernel7Ideal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel7Ideal.Fox

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev tbM0_0 : Memref sig .tc .smem S36 .i32 := Memref.whole main_c
abbrev tbM0_1 : Memref sig .tc .smem S36 .i32 := Memref.whole main_c_0
abbrev scM0_0 : Memref sig .tc .vmem S1024x128 .f32 := Memref.whole cc0_scratch0
abbrev scM0_1 : Memref sig .tc .vmem S1024x128 .f32 := Memref.whole cc0_scratch1
abbrev scM0_2 : Memref sig .tc .vmem S1x1024 .f32 := Memref.whole cc0_scratch2

def pinT_0 : S36.Idx → BitVec 32 := fun x => (([0#32, 1#32, 2#32, 3#32, 4#32, 5#32, 6#32, 7#32, 1#32, 2#32, 3#32, 4#32, 5#32, 6#32, 7#32, 2#32, 3#32, 4#32, 5#32, 6#32, 7#32, 3#32, 4#32, 5#32, 6#32, 7#32, 4#32, 5#32, 6#32, 7#32, 5#32, 6#32, 7#32, 6#32, 7#32, 7#32] : List (BitVec 32)).getD ((x 0).val) 0#32)

def pinT_1 : S36.Idx → BitVec 32 := fun x => (([0#32, 0#32, 0#32, 0#32, 0#32, 0#32, 0#32, 0#32, 1#32, 1#32, 1#32, 1#32, 1#32, 1#32, 1#32, 2#32, 2#32, 2#32, 2#32, 2#32, 2#32, 3#32, 3#32, 3#32, 3#32, 3#32, 4#32, 4#32, 4#32, 4#32, 5#32, 5#32, 5#32, 6#32, 6#32, 7#32] : List (BitVec 32)).getD ((x 0).val) 0#32)

set_option backward.proofsInPublic true in
def pfN : pre0.Contents (Elt Ideal) := fun | ⟨0, _⟩ => pinT_0 | ⟨1, _⟩ => pinT_1 | ⟨_ + 2, h⟩ => absurd h (by simp)
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

/-- The memory at the call: what the operations before it leave. -/
def V (m : (ℓ : Loc nD τ sig) → Buf (Elt Ideal) ℓ) (c : Dev nD) : (b : Ref sig .tc) → Buf (Elt Ideal) ((c.tc : Thread nD τ).loc b) :=
  fun b => StableHlo.after (hostOps0 (F := Ideal)) (fun b => m (c, b)) b

end Cert.Kernel7Ideal.Fox

end
-- ==== Proof.FoxIdeal.Runs.lean ====
/-
  The gradients of the forgetting attention, the run: the body on each of its four paths.
-/
module

public import proofs.«01_k».proof.Proof.Gen.Kernel7Ideal.Skeleton
public import proofs.«01_k».proof.Proof.FoxIdeal.Pins

@[expose] public section

set_option maxRecDepth 16384
set_option Elab.async false

noncomputable section

namespace Cert.Kernel7Ideal.Fox

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev VO0_6 : View sig .tc .vmem S1024x128 .f32 := (Memref.whole cc0_stg6_0 : Memref sig .tc .vmem S1024x128 .f32).view
abbrev VO0_7 : View sig .tc .vmem S1024x128 .f32 := (Memref.whole cc0_stg7_0 : Memref sig .tc .vmem S1024x128 .f32).view
abbrev VO0_8 : View sig .tc .vmem S1x1x1024 .f32 := (Memref.whole cc0_stg8_0 : Memref sig .tc .vmem S1x1x1024 .f32).view

set_option backward.proofsInPublic true in
set_option maxHeartbeats 8000000 in
noncomputable def kernelRun0_A (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Ideal .i32)) (T1 : (S36.Idx → Elt Ideal .i32))
     (x0 : (S1024x256.Idx → Elt Ideal .bf16)) (x1 : (S1024x256.Idx → Elt Ideal .bf16)) (x2 : (S1024x128.Idx → Elt Ideal .bf16)) (x3 : (S1024x128.Idx → Elt Ideal .bf16)) (x4 : (S1024x128.Idx → Elt Ideal .f32)) (x5 : (S1024x128.Idx → Elt Ideal .bf16)) (hc0 : (Scalar.cmpi .ne (Scalar.extui (Scalar.cmpi .sge (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1) (hc1 : ¬((Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1)) (hc2 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) (Scalar.addi (Scalar.muli 1#32 (View.readAt (Elt Ideal) (tbM0_0).view (Rect.unit (s := S36) (k0_off1 i) S1.size (k0_off1_inb i)).toLoadRect T0 (Shape.Idx.first (numel1_S1.symm ▸ Nat.one_pos)))) 0#32))) 0#32) = 1#1) (k0_h4 : ¬(k0_cond4 (View.readAt (Elt Ideal) (tbM0_0).view (Rect.unit (s := S36) (k0_off1 i) S1.size (k0_off1_inb i)).toLoadRect T0 (Shape.Idx.first (numel1_S1.symm ▸ Nat.one_pos))) = 1#1)) :
    Σ' (out0 : Buf (Elt Ideal) ((c : Thread nD τ).loc cc0_scratch0)) (out1 : Buf (Elt Ideal) ((c : Thread nD τ).loc cc0_scratch1)), { out2 : Buf (Elt Ideal) ((c : Thread nD τ).loc cc0_scratch2) //
      ∀ (y6 : (S1024x128.Idx → Elt Ideal .f32)) (y7 : (S1024x128.Idx → Elt Ideal .f32)) (y8 : (S1x1x1024.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
          ∗ owns (c : Thread nD τ) arg10 fullShare y6
          ∗ owns (c : Thread nD τ) arg11 fullShare y7
          ∗ owns (c : Thread nD τ) arg12 fullShare y8
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tbM0_0.view.loc (c : Thread nD τ) ↦{fullShare.right} T0)
              ∗ (tbM0_1.view.loc (c : Thread nD τ) ↦{fullShare.right} T1)
              ∗ owns (c : Thread nD τ) arg10 fullShare y6
              ∗ owns (c : Thread nD τ) arg11 fullShare y7
              ∗ owns (c : Thread nD τ) arg12 fullShare y8
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Ideal)) Variants.none c none) Set.univ (cc0_fox_bwd_dkv i tbM0_0 (Memref.isWhole_whole _) tbM0_1 (Memref.isWhole_whole _) arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _)) K } :=
  ⟨_, _, _, fun (y6 : (S1024x128.Idx → Elt Ideal .f32)) (y7 : (S1024x128.Idx → Elt Ideal .f32)) (y8 : (S1x1x1024.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) K => by
    unfold owns
    rw [cc0_fox_bwd_dkv_eq_skeleton]; unfold cc0_fox_bwd_dkv_skel
    iintro ⟨H0, H1, H2, H3, H4, H5, HT0, HT1, ⟨%f6, %hf6, HO6⟩, ⟨%f7, %hf7, HO7⟩, ⟨%f8, %hf8, HO8⟩, HS0, HS1, HS2, Hk⟩
    obtain rfl := harg10.eq_unread hf6; obtain rfl := harg11.eq_unread hf7; obtain rfl := harg12.eq_unread hf8
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = Scalar.cmpi = _; exact hc2) | (guard_target = ¬(k0_cond4 _ = _); exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]
    · iexists _; isplitr; · ipureintro; exact harg10.read_unread _
      iexact HO6
    isplitl [HO7]
    · iexists _; isplitr; · ipureintro; exact harg11.read_unread _
      iexact HO7
    isplitl [HO8]
    · iexists _; isplitr; · ipureintro; exact harg12.read_unread _
      iexact HO8
    isplitl [HS0]; · iexact HS0
    isplitl [HS1]; · iexact HS1
    iexact HS2⟩

set_option backward.proofsInPublic true in
set_option maxHeartbeats 8000000 in
noncomputable def kernelRun0_B (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Ideal .i32)) (T1 : (S36.Idx → Elt Ideal .i32))
     (x0 : (S1024x256.Idx → Elt Ideal .bf16)) (x1 : (S1024x256.Idx → Elt Ideal .bf16)) (x2 : (S1024x128.Idx → Elt Ideal .bf16)) (x3 : (S1024x128.Idx → Elt Ideal .bf16)) (x4 : (S1024x128.Idx → Elt Ideal .f32)) (x5 : (S1024x128.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .sge (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1)) (hc1 : (Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1) (hc2 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) (Scalar.addi (Scalar.muli 1#32 (View.readAt (Elt Ideal) (tbM0_0).view (Rect.unit (s := S36) (k0_off1 i) S1.size (k0_off1_inb i)).toLoadRect T0 (Shape.Idx.first (numel1_S1.symm ▸ Nat.one_pos)))) 0#32))) 0#32) = 1#1)) (k0_h4 : ¬(k0_cond4 (View.readAt (Elt Ideal) (tbM0_0).view (Rect.unit (s := S36) (k0_off1 i) S1.size (k0_off1_inb i)).toLoadRect T0 (Shape.Idx.first (numel1_S1.symm ▸ Nat.one_pos))) = 1#1)) :
    Σ' (out0 : Buf (Elt Ideal) ((c : Thread nD τ).loc cc0_scratch0)) (out1 : Buf (Elt Ideal) ((c : Thread nD τ).loc cc0_scratch1)), { out2 : Buf (Elt Ideal) ((c : Thread nD τ).loc cc0_scratch2) //
      ∀ (y6 : (S1024x128.Idx → Elt Ideal .f32)) (y7 : (S1024x128.Idx → Elt Ideal .f32)) (y8 : (S1x1x1024.Idx → Elt Ideal .f32)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
          ∗ owns (c : Thread nD τ) arg10 fullShare y6
          ∗ owns (c : Thread nD τ) arg11 fullShare y7
          ∗ owns (c : Thread nD τ) arg12 fullShare y8
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tbM0_0.view.loc (c : Thread nD τ) ↦{fullShare.right} T0)
              ∗ (tbM0_1.view.loc (c : Thread nD τ) ↦{fullShare.right} T1)
              ∗ owns (c : Thread nD τ) arg10 fullShare y6
              ∗ owns (c : Thread nD τ) arg11 fullShare y7
              ∗ owns (c : Thread nD τ) arg12 fullShare y8
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Ideal)) Variants.none c none) Set.univ (cc0_fox_bwd_dkv i tbM0_0 (Memref.isWhole_whole _) tbM0_1 (Memref.isWhole_whole _) arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _)) K } :=
  ⟨_, _, _, fun (y6 : (S1024x128.Idx → Elt Ideal .f32)) (y7 : (S1024x128.Idx → Elt Ideal .f32)) (y8 : (S1x1x1024.Idx → Elt Ideal .f32)) K => by
    unfold owns
    rw [cc0_fox_bwd_dkv_eq_skeleton]; unfold cc0_fox_bwd_dkv_skel
    iintro ⟨H0, H1, H2, H3, H4, H5, HT0, HT1, ⟨%f6, %hf6, HO6⟩, ⟨%f7, %hf7, HO7⟩, ⟨%f8, %hf8, HO8⟩, HS0, HS1, HS2, Hk⟩
    obtain rfl := harg10.eq_unread hf6; obtain rfl := harg11.eq_unread hf7; obtain rfl := harg12.eq_unread hf8
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = ¬(Scalar.cmpi = _); exact hc2) | (guard_target = ¬(k0_cond4 _ = _); exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]
    · iexists _; isplitr; · ipureintro; exact harg10.read_unread _
      iexact HO6
    isplitl [HO7]
    · iexists _; isplitr; · ipureintro; exact harg11.read_unread _
      iexact HO7
    isplitl [HO8]
    · iexists _; isplitr; · ipureintro; exact harg12.read_unread _
      iexact HO8
    isplitl [HS0]; · iexact HS0
    isplitl [HS1]; · iexact HS1
    iexact HS2⟩

set_option backward.proofsInPublic true in
set_option maxHeartbeats 8000000 in
noncomputable def kernelRun0_C (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Ideal .i32)) (T1 : (S36.Idx → Elt Ideal .i32))
     (x0 : (S1024x256.Idx → Elt Ideal .bf16)) (x1 : (S1024x256.Idx → Elt Ideal .bf16)) (x2 : (S1024x128.Idx → Elt Ideal .bf16)) (x3 : (S1024x128.Idx → Elt Ideal .bf16)) (x4 : (S1024x128.Idx → Elt Ideal .f32)) (x5 : (S1024x128.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .sge (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1)) (hc1 : (Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1) (hc2 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) (Scalar.addi (Scalar.muli 1#32 (View.readAt (Elt Ideal) (tbM0_0).view (Rect.unit (s := S36) (k0_off1 i) S1.size (k0_off1_inb i)).toLoadRect T0 (Shape.Idx.first (numel1_S1.symm ▸ Nat.one_pos)))) 0#32))) 0#32) = 1#1)) (k0_h4 : k0_cond4 (View.readAt (Elt Ideal) (tbM0_0).view (Rect.unit (s := S36) (k0_off1 i) S1.size (k0_off1_inb i)).toLoadRect T0 (Shape.Idx.first (numel1_S1.symm ▸ Nat.one_pos))) = 1#1) :
    Σ' (out0 : List (View.Piece (Elt Ideal) S1024x128 .f32)) (out1 : List (View.Piece (Elt Ideal) S1024x128 .f32)) (out2 : List (View.Piece (Elt Ideal) S1x1x1024 .f32)) (out3 : Buf (Elt Ideal) ((c : Thread nD τ).loc cc0_scratch0)) (out4 : Buf (Elt Ideal) ((c : Thread nD τ).loc cc0_scratch1)), { out5 : Buf (Elt Ideal) ((c : Thread nD τ).loc cc0_scratch2) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
          ∗ (∃ d, owns (c : Thread nD τ) arg10 fullShare d)
          ∗ (∃ d, owns (c : Thread nD τ) arg11 fullShare d)
          ∗ (∃ d, owns (c : Thread nD τ) arg12 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tbM0_0.view.loc (c : Thread nD τ) ↦{fullShare.right} T0)
              ∗ (tbM0_1.view.loc (c : Thread nD τ) ↦{fullShare.right} T1)
              ∗ (∃ f, arg10.view.loc (c : Thread nD τ) ↦[arg10.view.set]{fullShare} arg10.view.writes (Elt Ideal) f out0)
              ∗ (∃ f, arg11.view.loc (c : Thread nD τ) ↦[arg11.view.set]{fullShare} arg11.view.writes (Elt Ideal) f out1)
              ∗ (∃ f, arg12.view.loc (c : Thread nD τ) ↦[arg12.view.set]{fullShare} arg12.view.writes (Elt Ideal) f out2)
              ∗ (scM0_0.view.loc (c : Thread nD τ) ↦{fullShare} out3)
              ∗ (scM0_1.view.loc (c : Thread nD τ) ↦{fullShare} out4)
              ∗ (scM0_2.view.loc (c : Thread nD τ) ↦{fullShare} out5)) -∗ K ⟨⟩))
          ⊢ wp frame (wpE (defs₀ (F := Ideal)) Variants.none c none) Set.univ (cc0_fox_bwd_dkv i tbM0_0 (Memref.isWhole_whole _) tbM0_1 (Memref.isWhole_whole _) arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _)) K } :=
  ⟨_, _, _, _, _, _, fun K => by
    unfold owns
    rw [cc0_fox_bwd_dkv_eq_skeleton]; unfold cc0_fox_bwd_dkv_skel
    iintro ⟨H0, H1, H2, H3, H4, H5, HT0, HT1, ⟨%d6, %f6, -, HO6⟩, ⟨%d7, %f7, -, HO7⟩, ⟨%d8, %f8, -, HO8⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = ¬(Scalar.cmpi = _); exact hc2) | (guard_target = k0_cond4 _ = _; exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexists _; iexact HO6
    isplitl [HO7]; · iexists _; iexact HO7
    isplitl [HO8]; · iexists _; iexact HO8
    isplitl [HS0]; · iexact HS0
    isplitl [HS1]; · iexact HS1
    iexact HS2⟩

theorem cover0_C_6 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Ideal .i32)) (T1 : (S36.Idx → Elt Ideal .i32))
     (x0 : (S1024x256.Idx → Elt Ideal .bf16)) (x1 : (S1024x256.Idx → Elt Ideal .bf16)) (x2 : (S1024x128.Idx → Elt Ideal .bf16)) (x3 : (S1024x128.Idx → Elt Ideal .bf16)) (x4 : (S1024x128.Idx → Elt Ideal .f32)) (x5 : (S1024x128.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .sge (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1)) (hc1 : (Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1) (hc2 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) (Scalar.addi (Scalar.muli 1#32 (View.readAt (Elt Ideal) (tbM0_0).view (Rect.unit (s := S36) (k0_off1 i) S1.size (k0_off1_inb i)).toLoadRect T0 (Shape.Idx.first (numel1_S1.symm ▸ Nat.one_pos)))) 0#32))) 0#32) = 1#1)) (k0_h4 : k0_cond4 (View.readAt (Elt Ideal) (tbM0_0).view (Rect.unit (s := S36) (k0_off1 i) S1.size (k0_off1_inb i)).toLoadRect T0 (Shape.Idx.first (numel1_S1.symm ▸ Nat.one_pos))) = 1#1) (y : S1024x128.Idx) :
    ∃ pc ∈ (kernelRun0_C c i arg4 harg4 arg5 harg5 arg6 harg6 arg7 harg7 arg8 harg8 arg9 harg9 arg10 harg10 arg11 harg11 arg12 harg12 T0 T1 x0 x1 x2 x3 x4 x5 xa0 xa1 xa2 hc0 hc1 hc2 k0_h4).1, y ∈ pc.1.set :=
  View.cover_of_tiledL (kernelRun0_C c i arg4 harg4 arg5 harg5 arg6 harg6 arg7 harg7 arg8 harg8 arg9 harg9 arg10 harg10 arg11 harg11 arg12 harg12 T0 T1 x0 x1 x2 x3 x4 x5 xa0 xa1 xa2 hc0 hc1 hc2 k0_h4).1 S1024x128.size (by sl_kernel_rfl) y

def out0_C_6 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Ideal .i32)) (T1 : (S36.Idx → Elt Ideal .i32))
     (x0 : (S1024x256.Idx → Elt Ideal .bf16)) (x1 : (S1024x256.Idx → Elt Ideal .bf16)) (x2 : (S1024x128.Idx → Elt Ideal .bf16)) (x3 : (S1024x128.Idx → Elt Ideal .bf16)) (x4 : (S1024x128.Idx → Elt Ideal .f32)) (x5 : (S1024x128.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .sge (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1)) (hc1 : (Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1) (hc2 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) (Scalar.addi (Scalar.muli 1#32 (View.readAt (Elt Ideal) (tbM0_0).view (Rect.unit (s := S36) (k0_off1 i) S1.size (k0_off1_inb i)).toLoadRect T0 (Shape.Idx.first (numel1_S1.symm ▸ Nat.one_pos)))) 0#32))) 0#32) = 1#1)) (k0_h4 : k0_cond4 (View.readAt (Elt Ideal) (tbM0_0).view (Rect.unit (s := S36) (k0_off1 i) S1.size (k0_off1_inb i)).toLoadRect T0 (Shape.Idx.first (numel1_S1.symm ▸ Nat.one_pos))) = 1#1) : (S1024x128.Idx → Elt Ideal .f32) :=
  VO0_6.read (Elt Ideal) (VO0_6.writes (Elt Ideal) VO0_6.junk (kernelRun0_C c i arg4 harg4 arg5 harg5 arg6 harg6 arg7 harg7 arg8 harg8 arg9 harg9 arg10 harg10 arg11 harg11 arg12 harg12 T0 T1 x0 x1 x2 x3 x4 x5 xa0 xa1 xa2 hc0 hc1 hc2 k0_h4).1)

theorem cover0_C_7 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Ideal .i32)) (T1 : (S36.Idx → Elt Ideal .i32))
     (x0 : (S1024x256.Idx → Elt Ideal .bf16)) (x1 : (S1024x256.Idx → Elt Ideal .bf16)) (x2 : (S1024x128.Idx → Elt Ideal .bf16)) (x3 : (S1024x128.Idx → Elt Ideal .bf16)) (x4 : (S1024x128.Idx → Elt Ideal .f32)) (x5 : (S1024x128.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .sge (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1)) (hc1 : (Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1) (hc2 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) (Scalar.addi (Scalar.muli 1#32 (View.readAt (Elt Ideal) (tbM0_0).view (Rect.unit (s := S36) (k0_off1 i) S1.size (k0_off1_inb i)).toLoadRect T0 (Shape.Idx.first (numel1_S1.symm ▸ Nat.one_pos)))) 0#32))) 0#32) = 1#1)) (k0_h4 : k0_cond4 (View.readAt (Elt Ideal) (tbM0_0).view (Rect.unit (s := S36) (k0_off1 i) S1.size (k0_off1_inb i)).toLoadRect T0 (Shape.Idx.first (numel1_S1.symm ▸ Nat.one_pos))) = 1#1) (y : S1024x128.Idx) :
    ∃ pc ∈ (kernelRun0_C c i arg4 harg4 arg5 harg5 arg6 harg6 arg7 harg7 arg8 harg8 arg9 harg9 arg10 harg10 arg11 harg11 arg12 harg12 T0 T1 x0 x1 x2 x3 x4 x5 xa0 xa1 xa2 hc0 hc1 hc2 k0_h4).2.1, y ∈ pc.1.set :=
  View.cover_of_tiledL (kernelRun0_C c i arg4 harg4 arg5 harg5 arg6 harg6 arg7 harg7 arg8 harg8 arg9 harg9 arg10 harg10 arg11 harg11 arg12 harg12 T0 T1 x0 x1 x2 x3 x4 x5 xa0 xa1 xa2 hc0 hc1 hc2 k0_h4).2.1 S1024x128.size (by sl_kernel_rfl) y

def out0_C_7 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Ideal .i32)) (T1 : (S36.Idx → Elt Ideal .i32))
     (x0 : (S1024x256.Idx → Elt Ideal .bf16)) (x1 : (S1024x256.Idx → Elt Ideal .bf16)) (x2 : (S1024x128.Idx → Elt Ideal .bf16)) (x3 : (S1024x128.Idx → Elt Ideal .bf16)) (x4 : (S1024x128.Idx → Elt Ideal .f32)) (x5 : (S1024x128.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .sge (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1)) (hc1 : (Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1) (hc2 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) (Scalar.addi (Scalar.muli 1#32 (View.readAt (Elt Ideal) (tbM0_0).view (Rect.unit (s := S36) (k0_off1 i) S1.size (k0_off1_inb i)).toLoadRect T0 (Shape.Idx.first (numel1_S1.symm ▸ Nat.one_pos)))) 0#32))) 0#32) = 1#1)) (k0_h4 : k0_cond4 (View.readAt (Elt Ideal) (tbM0_0).view (Rect.unit (s := S36) (k0_off1 i) S1.size (k0_off1_inb i)).toLoadRect T0 (Shape.Idx.first (numel1_S1.symm ▸ Nat.one_pos))) = 1#1) : (S1024x128.Idx → Elt Ideal .f32) :=
  VO0_7.read (Elt Ideal) (VO0_7.writes (Elt Ideal) VO0_7.junk (kernelRun0_C c i arg4 harg4 arg5 harg5 arg6 harg6 arg7 harg7 arg8 harg8 arg9 harg9 arg10 harg10 arg11 harg11 arg12 harg12 T0 T1 x0 x1 x2 x3 x4 x5 xa0 xa1 xa2 hc0 hc1 hc2 k0_h4).2.1)

theorem cover0_C_8 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Ideal .i32)) (T1 : (S36.Idx → Elt Ideal .i32))
     (x0 : (S1024x256.Idx → Elt Ideal .bf16)) (x1 : (S1024x256.Idx → Elt Ideal .bf16)) (x2 : (S1024x128.Idx → Elt Ideal .bf16)) (x3 : (S1024x128.Idx → Elt Ideal .bf16)) (x4 : (S1024x128.Idx → Elt Ideal .f32)) (x5 : (S1024x128.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .sge (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1)) (hc1 : (Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1) (hc2 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) (Scalar.addi (Scalar.muli 1#32 (View.readAt (Elt Ideal) (tbM0_0).view (Rect.unit (s := S36) (k0_off1 i) S1.size (k0_off1_inb i)).toLoadRect T0 (Shape.Idx.first (numel1_S1.symm ▸ Nat.one_pos)))) 0#32))) 0#32) = 1#1)) (k0_h4 : k0_cond4 (View.readAt (Elt Ideal) (tbM0_0).view (Rect.unit (s := S36) (k0_off1 i) S1.size (k0_off1_inb i)).toLoadRect T0 (Shape.Idx.first (numel1_S1.symm ▸ Nat.one_pos))) = 1#1) (y : S1x1x1024.Idx) :
    ∃ pc ∈ (kernelRun0_C c i arg4 harg4 arg5 harg5 arg6 harg6 arg7 harg7 arg8 harg8 arg9 harg9 arg10 harg10 arg11 harg11 arg12 harg12 T0 T1 x0 x1 x2 x3 x4 x5 xa0 xa1 xa2 hc0 hc1 hc2 k0_h4).2.2.1, y ∈ pc.1.set :=
  View.cover_of_tiledL (kernelRun0_C c i arg4 harg4 arg5 harg5 arg6 harg6 arg7 harg7 arg8 harg8 arg9 harg9 arg10 harg10 arg11 harg11 arg12 harg12 T0 T1 x0 x1 x2 x3 x4 x5 xa0 xa1 xa2 hc0 hc1 hc2 k0_h4).2.2.1 S1x1x1024.size (by sl_kernel_rfl) y

def out0_C_8 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Ideal .i32)) (T1 : (S36.Idx → Elt Ideal .i32))
     (x0 : (S1024x256.Idx → Elt Ideal .bf16)) (x1 : (S1024x256.Idx → Elt Ideal .bf16)) (x2 : (S1024x128.Idx → Elt Ideal .bf16)) (x3 : (S1024x128.Idx → Elt Ideal .bf16)) (x4 : (S1024x128.Idx → Elt Ideal .f32)) (x5 : (S1024x128.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .sge (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1)) (hc1 : (Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1) (hc2 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) (Scalar.addi (Scalar.muli 1#32 (View.readAt (Elt Ideal) (tbM0_0).view (Rect.unit (s := S36) (k0_off1 i) S1.size (k0_off1_inb i)).toLoadRect T0 (Shape.Idx.first (numel1_S1.symm ▸ Nat.one_pos)))) 0#32))) 0#32) = 1#1)) (k0_h4 : k0_cond4 (View.readAt (Elt Ideal) (tbM0_0).view (Rect.unit (s := S36) (k0_off1 i) S1.size (k0_off1_inb i)).toLoadRect T0 (Shape.Idx.first (numel1_S1.symm ▸ Nat.one_pos))) = 1#1) : (S1x1x1024.Idx → Elt Ideal .f32) :=
  VO0_8.read (Elt Ideal) (VO0_8.writes (Elt Ideal) VO0_8.junk (kernelRun0_C c i arg4 harg4 arg5 harg5 arg6 harg6 arg7 harg7 arg8 harg8 arg9 harg9 arg10 harg10 arg11 harg11 arg12 harg12 T0 T1 x0 x1 x2 x3 x4 x5 xa0 xa1 xa2 hc0 hc1 hc2 k0_h4).2.2.1)

set_option backward.proofsInPublic true in
set_option maxHeartbeats 8000000 in
noncomputable def kernelRun0_D (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Ideal .i32)) (T1 : (S36.Idx → Elt Ideal .i32))
     (x0 : (S1024x256.Idx → Elt Ideal .bf16)) (x1 : (S1024x256.Idx → Elt Ideal .bf16)) (x2 : (S1024x128.Idx → Elt Ideal .bf16)) (x3 : (S1024x128.Idx → Elt Ideal .bf16)) (x4 : (S1024x128.Idx → Elt Ideal .f32)) (x5 : (S1024x128.Idx → Elt Ideal .bf16)) (hc0 : (Scalar.cmpi .ne (Scalar.extui (Scalar.cmpi .sge (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1) (hc1 : ¬((Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1)) (hc2 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) (Scalar.addi (Scalar.muli 1#32 (View.readAt (Elt Ideal) (tbM0_0).view (Rect.unit (s := S36) (k0_off1 i) S1.size (k0_off1_inb i)).toLoadRect T0 (Shape.Idx.first (numel1_S1.symm ▸ Nat.one_pos)))) 0#32))) 0#32) = 1#1) (k0_h4 : k0_cond4 (View.readAt (Elt Ideal) (tbM0_0).view (Rect.unit (s := S36) (k0_off1 i) S1.size (k0_off1_inb i)).toLoadRect T0 (Shape.Idx.first (numel1_S1.symm ▸ Nat.one_pos))) = 1#1) :
    Σ' (out0 : List (View.Piece (Elt Ideal) S1024x128 .f32)) (out1 : List (View.Piece (Elt Ideal) S1024x128 .f32)) (out2 : List (View.Piece (Elt Ideal) S1x1x1024 .f32)) (out3 : Buf (Elt Ideal) ((c : Thread nD τ).loc cc0_scratch0)) (out4 : Buf (Elt Ideal) ((c : Thread nD τ).loc cc0_scratch1)), { out5 : Buf (Elt Ideal) ((c : Thread nD τ).loc cc0_scratch2) //
      ∀ (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
          ∗ (∃ d, owns (c : Thread nD τ) arg10 fullShare d)
          ∗ (∃ d, owns (c : Thread nD τ) arg11 fullShare d)
          ∗ (∃ d, owns (c : Thread nD τ) arg12 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tbM0_0.view.loc (c : Thread nD τ) ↦{fullShare.right} T0)
              ∗ (tbM0_1.view.loc (c : Thread nD τ) ↦{fullShare.right} T1)
              ∗ (∃ f, arg10.view.loc (c : Thread nD τ) ↦[arg10.view.set]{fullShare} arg10.view.writes (Elt Ideal) f out0)
              ∗ (∃ f, arg11.view.loc (c : Thread nD τ) ↦[arg11.view.set]{fullShare} arg11.view.writes (Elt Ideal) f out1)
              ∗ (∃ f, arg12.view.loc (c : Thread nD τ) ↦[arg12.view.set]{fullShare} arg12.view.writes (Elt Ideal) f out2)
              ∗ (scM0_0.view.loc (c : Thread nD τ) ↦{fullShare} out3)
              ∗ (scM0_1.view.loc (c : Thread nD τ) ↦{fullShare} out4)
              ∗ (scM0_2.view.loc (c : Thread nD τ) ↦{fullShare} out5)) -∗ K ⟨⟩))
          ⊢ wp frame (wpE (defs₀ (F := Ideal)) Variants.none c none) Set.univ (cc0_fox_bwd_dkv i tbM0_0 (Memref.isWhole_whole _) tbM0_1 (Memref.isWhole_whole _) arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _)) K } :=
  ⟨_, _, _, _, _, _, fun (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) K => by
    unfold owns
    rw [cc0_fox_bwd_dkv_eq_skeleton]; unfold cc0_fox_bwd_dkv_skel
    iintro ⟨H0, H1, H2, H3, H4, H5, HT0, HT1, ⟨%d6, %f6, -, HO6⟩, ⟨%d7, %f7, -, HO7⟩, ⟨%d8, %f8, -, HO8⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = Scalar.cmpi = _; exact hc2) | (guard_target = k0_cond4 _ = _; exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexists _; iexact HO6
    isplitl [HO7]; · iexists _; iexact HO7
    isplitl [HO8]; · iexists _; iexact HO8
    isplitl [HS0]; · iexact HS0
    isplitl [HS1]; · iexact HS1
    iexact HS2⟩

theorem cover0_D_6 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Ideal .i32)) (T1 : (S36.Idx → Elt Ideal .i32))
     (x0 : (S1024x256.Idx → Elt Ideal .bf16)) (x1 : (S1024x256.Idx → Elt Ideal .bf16)) (x2 : (S1024x128.Idx → Elt Ideal .bf16)) (x3 : (S1024x128.Idx → Elt Ideal .bf16)) (x4 : (S1024x128.Idx → Elt Ideal .f32)) (x5 : (S1024x128.Idx → Elt Ideal .bf16)) (hc0 : (Scalar.cmpi .ne (Scalar.extui (Scalar.cmpi .sge (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1) (hc1 : ¬((Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1)) (hc2 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) (Scalar.addi (Scalar.muli 1#32 (View.readAt (Elt Ideal) (tbM0_0).view (Rect.unit (s := S36) (k0_off1 i) S1.size (k0_off1_inb i)).toLoadRect T0 (Shape.Idx.first (numel1_S1.symm ▸ Nat.one_pos)))) 0#32))) 0#32) = 1#1) (k0_h4 : k0_cond4 (View.readAt (Elt Ideal) (tbM0_0).view (Rect.unit (s := S36) (k0_off1 i) S1.size (k0_off1_inb i)).toLoadRect T0 (Shape.Idx.first (numel1_S1.symm ▸ Nat.one_pos))) = 1#1) (y : S1024x128.Idx) :
    ∃ pc ∈ (kernelRun0_D c i arg4 harg4 arg5 harg5 arg6 harg6 arg7 harg7 arg8 harg8 arg9 harg9 arg10 harg10 arg11 harg11 arg12 harg12 T0 T1 x0 x1 x2 x3 x4 x5 hc0 hc1 hc2 k0_h4).1, y ∈ pc.1.set :=
  View.cover_of_tiledL (kernelRun0_D c i arg4 harg4 arg5 harg5 arg6 harg6 arg7 harg7 arg8 harg8 arg9 harg9 arg10 harg10 arg11 harg11 arg12 harg12 T0 T1 x0 x1 x2 x3 x4 x5 hc0 hc1 hc2 k0_h4).1 S1024x128.size (by sl_kernel_rfl) y

def out0_D_6 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Ideal .i32)) (T1 : (S36.Idx → Elt Ideal .i32))
     (x0 : (S1024x256.Idx → Elt Ideal .bf16)) (x1 : (S1024x256.Idx → Elt Ideal .bf16)) (x2 : (S1024x128.Idx → Elt Ideal .bf16)) (x3 : (S1024x128.Idx → Elt Ideal .bf16)) (x4 : (S1024x128.Idx → Elt Ideal .f32)) (x5 : (S1024x128.Idx → Elt Ideal .bf16)) (hc0 : (Scalar.cmpi .ne (Scalar.extui (Scalar.cmpi .sge (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1) (hc1 : ¬((Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1)) (hc2 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) (Scalar.addi (Scalar.muli 1#32 (View.readAt (Elt Ideal) (tbM0_0).view (Rect.unit (s := S36) (k0_off1 i) S1.size (k0_off1_inb i)).toLoadRect T0 (Shape.Idx.first (numel1_S1.symm ▸ Nat.one_pos)))) 0#32))) 0#32) = 1#1) (k0_h4 : k0_cond4 (View.readAt (Elt Ideal) (tbM0_0).view (Rect.unit (s := S36) (k0_off1 i) S1.size (k0_off1_inb i)).toLoadRect T0 (Shape.Idx.first (numel1_S1.symm ▸ Nat.one_pos))) = 1#1) : (S1024x128.Idx → Elt Ideal .f32) :=
  VO0_6.read (Elt Ideal) (VO0_6.writes (Elt Ideal) VO0_6.junk (kernelRun0_D c i arg4 harg4 arg5 harg5 arg6 harg6 arg7 harg7 arg8 harg8 arg9 harg9 arg10 harg10 arg11 harg11 arg12 harg12 T0 T1 x0 x1 x2 x3 x4 x5 hc0 hc1 hc2 k0_h4).1)

theorem cover0_D_7 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Ideal .i32)) (T1 : (S36.Idx → Elt Ideal .i32))
     (x0 : (S1024x256.Idx → Elt Ideal .bf16)) (x1 : (S1024x256.Idx → Elt Ideal .bf16)) (x2 : (S1024x128.Idx → Elt Ideal .bf16)) (x3 : (S1024x128.Idx → Elt Ideal .bf16)) (x4 : (S1024x128.Idx → Elt Ideal .f32)) (x5 : (S1024x128.Idx → Elt Ideal .bf16)) (hc0 : (Scalar.cmpi .ne (Scalar.extui (Scalar.cmpi .sge (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1) (hc1 : ¬((Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1)) (hc2 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) (Scalar.addi (Scalar.muli 1#32 (View.readAt (Elt Ideal) (tbM0_0).view (Rect.unit (s := S36) (k0_off1 i) S1.size (k0_off1_inb i)).toLoadRect T0 (Shape.Idx.first (numel1_S1.symm ▸ Nat.one_pos)))) 0#32))) 0#32) = 1#1) (k0_h4 : k0_cond4 (View.readAt (Elt Ideal) (tbM0_0).view (Rect.unit (s := S36) (k0_off1 i) S1.size (k0_off1_inb i)).toLoadRect T0 (Shape.Idx.first (numel1_S1.symm ▸ Nat.one_pos))) = 1#1) (y : S1024x128.Idx) :
    ∃ pc ∈ (kernelRun0_D c i arg4 harg4 arg5 harg5 arg6 harg6 arg7 harg7 arg8 harg8 arg9 harg9 arg10 harg10 arg11 harg11 arg12 harg12 T0 T1 x0 x1 x2 x3 x4 x5 hc0 hc1 hc2 k0_h4).2.1, y ∈ pc.1.set :=
  View.cover_of_tiledL (kernelRun0_D c i arg4 harg4 arg5 harg5 arg6 harg6 arg7 harg7 arg8 harg8 arg9 harg9 arg10 harg10 arg11 harg11 arg12 harg12 T0 T1 x0 x1 x2 x3 x4 x5 hc0 hc1 hc2 k0_h4).2.1 S1024x128.size (by sl_kernel_rfl) y

def out0_D_7 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Ideal .i32)) (T1 : (S36.Idx → Elt Ideal .i32))
     (x0 : (S1024x256.Idx → Elt Ideal .bf16)) (x1 : (S1024x256.Idx → Elt Ideal .bf16)) (x2 : (S1024x128.Idx → Elt Ideal .bf16)) (x3 : (S1024x128.Idx → Elt Ideal .bf16)) (x4 : (S1024x128.Idx → Elt Ideal .f32)) (x5 : (S1024x128.Idx → Elt Ideal .bf16)) (hc0 : (Scalar.cmpi .ne (Scalar.extui (Scalar.cmpi .sge (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1) (hc1 : ¬((Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1)) (hc2 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) (Scalar.addi (Scalar.muli 1#32 (View.readAt (Elt Ideal) (tbM0_0).view (Rect.unit (s := S36) (k0_off1 i) S1.size (k0_off1_inb i)).toLoadRect T0 (Shape.Idx.first (numel1_S1.symm ▸ Nat.one_pos)))) 0#32))) 0#32) = 1#1) (k0_h4 : k0_cond4 (View.readAt (Elt Ideal) (tbM0_0).view (Rect.unit (s := S36) (k0_off1 i) S1.size (k0_off1_inb i)).toLoadRect T0 (Shape.Idx.first (numel1_S1.symm ▸ Nat.one_pos))) = 1#1) : (S1024x128.Idx → Elt Ideal .f32) :=
  VO0_7.read (Elt Ideal) (VO0_7.writes (Elt Ideal) VO0_7.junk (kernelRun0_D c i arg4 harg4 arg5 harg5 arg6 harg6 arg7 harg7 arg8 harg8 arg9 harg9 arg10 harg10 arg11 harg11 arg12 harg12 T0 T1 x0 x1 x2 x3 x4 x5 hc0 hc1 hc2 k0_h4).2.1)

theorem cover0_D_8 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Ideal .i32)) (T1 : (S36.Idx → Elt Ideal .i32))
     (x0 : (S1024x256.Idx → Elt Ideal .bf16)) (x1 : (S1024x256.Idx → Elt Ideal .bf16)) (x2 : (S1024x128.Idx → Elt Ideal .bf16)) (x3 : (S1024x128.Idx → Elt Ideal .bf16)) (x4 : (S1024x128.Idx → Elt Ideal .f32)) (x5 : (S1024x128.Idx → Elt Ideal .bf16)) (hc0 : (Scalar.cmpi .ne (Scalar.extui (Scalar.cmpi .sge (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1) (hc1 : ¬((Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1)) (hc2 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) (Scalar.addi (Scalar.muli 1#32 (View.readAt (Elt Ideal) (tbM0_0).view (Rect.unit (s := S36) (k0_off1 i) S1.size (k0_off1_inb i)).toLoadRect T0 (Shape.Idx.first (numel1_S1.symm ▸ Nat.one_pos)))) 0#32))) 0#32) = 1#1) (k0_h4 : k0_cond4 (View.readAt (Elt Ideal) (tbM0_0).view (Rect.unit (s := S36) (k0_off1 i) S1.size (k0_off1_inb i)).toLoadRect T0 (Shape.Idx.first (numel1_S1.symm ▸ Nat.one_pos))) = 1#1) (y : S1x1x1024.Idx) :
    ∃ pc ∈ (kernelRun0_D c i arg4 harg4 arg5 harg5 arg6 harg6 arg7 harg7 arg8 harg8 arg9 harg9 arg10 harg10 arg11 harg11 arg12 harg12 T0 T1 x0 x1 x2 x3 x4 x5 hc0 hc1 hc2 k0_h4).2.2.1, y ∈ pc.1.set :=
  View.cover_of_tiledL (kernelRun0_D c i arg4 harg4 arg5 harg5 arg6 harg6 arg7 harg7 arg8 harg8 arg9 harg9 arg10 harg10 arg11 harg11 arg12 harg12 T0 T1 x0 x1 x2 x3 x4 x5 hc0 hc1 hc2 k0_h4).2.2.1 S1x1x1024.size (by sl_kernel_rfl) y

def out0_D_8 (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x1x1024 .f32) (harg12 : arg12.IsWhole) (T0 : (S36.Idx → Elt Ideal .i32)) (T1 : (S36.Idx → Elt Ideal .i32))
     (x0 : (S1024x256.Idx → Elt Ideal .bf16)) (x1 : (S1024x256.Idx → Elt Ideal .bf16)) (x2 : (S1024x128.Idx → Elt Ideal .bf16)) (x3 : (S1024x128.Idx → Elt Ideal .bf16)) (x4 : (S1024x128.Idx → Elt Ideal .f32)) (x5 : (S1024x128.Idx → Elt Ideal .bf16)) (hc0 : (Scalar.cmpi .ne (Scalar.extui (Scalar.cmpi .sge (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1) (hc1 : ¬((Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (Scalar.muli 1#32 (View.readAt (Elt Ideal) (tbM0_0).view (Rect.unit (s := S36) (k0_off1 i) S1.size (k0_off1_inb i)).toLoadRect T0 (Shape.Idx.first (numel1_S1.symm ▸ Nat.one_pos)))))) 0#32) = 1#1)) (hc2 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) (Scalar.addi (Scalar.muli 1#32 (View.readAt (Elt Ideal) (tbM0_0).view (Rect.unit (s := S36) (k0_off1 i) S1.size (k0_off1_inb i)).toLoadRect T0 (Shape.Idx.first (numel1_S1.symm ▸ Nat.one_pos)))) 0#32))) 0#32) = 1#1) (k0_h4 : k0_cond4 (View.readAt (Elt Ideal) (tbM0_0).view (Rect.unit (s := S36) (k0_off1 i) S1.size (k0_off1_inb i)).toLoadRect T0 (Shape.Idx.first (numel1_S1.symm ▸ Nat.one_pos))) = 1#1) : (S1x1x1024.Idx → Elt Ideal .f32) :=
  VO0_8.read (Elt Ideal) (VO0_8.writes (Elt Ideal) VO0_8.junk (kernelRun0_D c i arg4 harg4 arg5 harg5 arg6 harg6 arg7 harg7 arg8 harg8 arg9 harg9 arg10 harg10 arg11 harg11 arg12 harg12 T0 T1 x0 x1 x2 x3 x4 x5 hc0 hc1 hc2 k0_h4).2.2.1)

end Cert.Kernel7Ideal.Fox

end
-- ==== Proof.FoxIdeal.Ok.lean ====
/-
  The gradients of the forgetting attention, the run: every block that the tables select lies inside its array.
-/
module

public import proofs.«01_k».proof.Proof.FoxIdeal.Pins

@[expose] public section

set_option maxRecDepth 16384
set_option Elab.async false

noncomputable section

namespace Cert.Kernel7Ideal.Fox

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

theorem ok_pfN_0_0_inb : ∀ i : grid0.Coords, ∀ a, (cc0_transform_0 k0_off1_inb numel1_S1 pfN i a + 1) * S1024x256.size a ≤ S8192x1536.size a := by decide +kernel
theorem ok_pfN_0_0 : (∀ i : grid0.Coords, ∃ h : (∀ a, (cc0_transform_0 k0_off1_inb numel1_S1 pfN i a + 1) * S1024x256.size a ≤ S8192x1536.size a), EltTy.bits .bf16 = 32 ∨ (Rect.block (s := S8192x1536) S1024x256.size (cc0_transform_0 k0_off1_inb numel1_S1 pfN i) h).WholeWords (EltTy.packing .bf16)) := fun i => ⟨ok_pfN_0_0_inb i, .inr (Affine.block_words_dvd (s := S8192x1536) (p := EltTy.packing .bf16) (by decide) (by decide))⟩
theorem ok_pfN_0_1_inb : ∀ i : grid0.Coords, ∀ a, (cc0_transform_1 k0_off1_inb numel1_S1 pfN i a + 1) * S1024x256.size a ≤ S8192x1536.size a := by decide +kernel
theorem ok_pfN_0_1 : (∀ i : grid0.Coords, ∃ h : (∀ a, (cc0_transform_1 k0_off1_inb numel1_S1 pfN i a + 1) * S1024x256.size a ≤ S8192x1536.size a), EltTy.bits .bf16 = 32 ∨ (Rect.block (s := S8192x1536) S1024x256.size (cc0_transform_1 k0_off1_inb numel1_S1 pfN i) h).WholeWords (EltTy.packing .bf16)) := fun i => ⟨ok_pfN_0_1_inb i, .inr (Affine.block_words_dvd (s := S8192x1536) (p := EltTy.packing .bf16) (by decide) (by decide))⟩
theorem ok_pfN_0_2_inb : ∀ i : grid0.Coords, ∀ a, (cc0_transform_2 k0_off1_inb numel1_S1 pfN i a + 1) * S1024x128.size a ≤ S8192x1536.size a := by decide +kernel
theorem ok_pfN_0_2 : (∀ i : grid0.Coords, ∃ h : (∀ a, (cc0_transform_2 k0_off1_inb numel1_S1 pfN i a + 1) * S1024x128.size a ≤ S8192x1536.size a), EltTy.bits .bf16 = 32 ∨ (Rect.block (s := S8192x1536) S1024x128.size (cc0_transform_2 k0_off1_inb numel1_S1 pfN i) h).WholeWords (EltTy.packing .bf16)) := fun i => ⟨ok_pfN_0_2_inb i, .inr (Affine.block_words_dvd (s := S8192x1536) (p := EltTy.packing .bf16) (by decide) (by decide))⟩
theorem ok_pfN_0_3_inb : ∀ i : grid0.Coords, ∀ a, (cc0_transform_3 k0_off1_inb numel1_S1 pfN i a + 1) * S1024x128.size a ≤ S8192x768.size a := by decide +kernel
theorem ok_pfN_0_3 : (∀ i : grid0.Coords, ∃ h : (∀ a, (cc0_transform_3 k0_off1_inb numel1_S1 pfN i a + 1) * S1024x128.size a ≤ S8192x768.size a), EltTy.bits .bf16 = 32 ∨ (Rect.block (s := S8192x768) S1024x128.size (cc0_transform_3 k0_off1_inb numel1_S1 pfN i) h).WholeWords (EltTy.packing .bf16)) := fun i => ⟨ok_pfN_0_3_inb i, .inr (Affine.block_words_dvd (s := S8192x768) (p := EltTy.packing .bf16) (by decide) (by decide))⟩
theorem ok_pfN_0_4_inb : ∀ i : grid0.Coords, ∀ a, (cc0_transform_4 k0_off1_inb numel1_S1 pfN i a + 1) * S1024x128.size a ≤ S8192x768.size a := by decide +kernel
theorem ok_pfN_0_4 : (∀ i : grid0.Coords, ∃ h : (∀ a, (cc0_transform_4 k0_off1_inb numel1_S1 pfN i a + 1) * S1024x128.size a ≤ S8192x768.size a), EltTy.bits .f32 = 32 ∨ (Rect.block (s := S8192x768) S1024x128.size (cc0_transform_4 k0_off1_inb numel1_S1 pfN i) h).WholeWords (EltTy.packing .f32)) := fun i => ⟨ok_pfN_0_4_inb i, .inl rfl⟩
theorem ok_pfN_0_5_inb : ∀ i : grid0.Coords, ∀ a, (cc0_transform_5 k0_off1_inb numel1_S1 pfN i a + 1) * S1024x128.size a ≤ S8192x1024.size a := by decide +kernel
theorem ok_pfN_0_5 : (∀ i : grid0.Coords, ∃ h : (∀ a, (cc0_transform_5 k0_off1_inb numel1_S1 pfN i a + 1) * S1024x128.size a ≤ S8192x1024.size a), EltTy.bits .bf16 = 32 ∨ (Rect.block (s := S8192x1024) S1024x128.size (cc0_transform_5 k0_off1_inb numel1_S1 pfN i) h).WholeWords (EltTy.packing .bf16)) := fun i => ⟨ok_pfN_0_5_inb i, .inr (Affine.block_words_dvd (s := S8192x1024) (p := EltTy.packing .bf16) (by decide) (by decide))⟩
theorem ok_pfN_0_6_inb : ∀ i : grid0.Coords, ∀ a, (cc0_transform_6 k0_off1_inb numel1_S1 pfN i a + 1) * S1024x128.size a ≤ S8192x768.size a := by decide +kernel
theorem ok_pfN_0_6 : (∀ i : grid0.Coords, ∃ h : (∀ a, (cc0_transform_6 k0_off1_inb numel1_S1 pfN i a + 1) * S1024x128.size a ≤ S8192x768.size a), EltTy.bits .f32 = 32 ∨ (Rect.block (s := S8192x768) S1024x128.size (cc0_transform_6 k0_off1_inb numel1_S1 pfN i) h).WholeWords (EltTy.packing .f32)) := fun i => ⟨ok_pfN_0_6_inb i, .inl rfl⟩
theorem ok_pfN_0_7_inb : ∀ i : grid0.Coords, ∀ a, (cc0_transform_7 k0_off1_inb numel1_S1 pfN i a + 1) * S1024x128.size a ≤ S8192x768.size a := by decide +kernel
theorem ok_pfN_0_7 : (∀ i : grid0.Coords, ∃ h : (∀ a, (cc0_transform_7 k0_off1_inb numel1_S1 pfN i a + 1) * S1024x128.size a ≤ S8192x768.size a), EltTy.bits .f32 = 32 ∨ (Rect.block (s := S8192x768) S1024x128.size (cc0_transform_7 k0_off1_inb numel1_S1 pfN i) h).WholeWords (EltTy.packing .f32)) := fun i => ⟨ok_pfN_0_7_inb i, .inl rfl⟩
theorem ok_pfN_0_8_inb : ∀ i : grid0.Coords, ∀ a, (cc0_transform_8 k0_off1_inb numel1_S1 pfN i a + 1) * S1x1x1024.size a ≤ S6x1x8192.size a := by decide +kernel
theorem ok_pfN_0_8 : (∀ i : grid0.Coords, ∃ h : (∀ a, (cc0_transform_8 k0_off1_inb numel1_S1 pfN i a + 1) * S1x1x1024.size a ≤ S6x1x8192.size a), EltTy.bits .f32 = 32 ∨ (Rect.block (s := S6x1x8192) S1x1x1024.size (cc0_transform_8 k0_off1_inb numel1_S1 pfN i) h).WholeWords (EltTy.packing .f32)) := fun i => ⟨ok_pfN_0_8_inb i, .inl rfl⟩
theorem ok_pfN_0 : ok0 (F := Ideal) pfN := ⟨ok_pfN_0_0, ok_pfN_0_1, ok_pfN_0_2, ok_pfN_0_3, ok_pfN_0_4, ok_pfN_0_5, ok_pfN_0_6, ok_pfN_0_7, ok_pfN_0_8⟩

end Cert.Kernel7Ideal.Fox

end
-- ==== Proof.FoxIdeal.Cfg.lean ====
/-
  The gradients of the forgetting attention, the run: the pipeline at the tables, the point's buffers and blocks, and the decisions of the body at a point.
-/
module

public import proofs.«01_k».proof.Proof.FoxIdeal.Ok

@[expose] public section

set_option maxRecDepth 16384
set_option Elab.async false

noncomputable section

namespace Cert.Kernel7Ideal.Fox

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

theorem ok_pfN : ok0 (F := Ideal) pfN := ok_pfN_0

def adm : (pcfg0 (F := Ideal)).Adm := ⟨pfN, ok_pfN⟩
abbrev cfgA : Pipeline.Cfg sig Λ₀ := cfg0 (F := Ideal) adm
abbrev pcs : Fin 1 → Pipeline.Cfg sig Λ₀ := Pipeline.pin (pcfgs (F := Ideal)) fun _ => adm

variable (m : (ℓ : Loc nD τ sig) → Buf (Elt Ideal) ℓ) (ρ : Dev nD → PrngReg)

abbrev crd (t : Fin cfgA.N) : cfgA.grid.Coords := cfgA.grid.coords t

abbrev ms0_0 (t : Fin cfgA.N) : Memref sig .tc .vmem S1024x256 .bf16 := spec0_0.stage (cfgA.slots t (0 : Fin 9))
abbrev hs0_0 (t : Fin cfgA.N) : (ms0_0 t).IsWhole := hstage0_0 ((cfgA.slots t (0 : Fin 9)).cast nbuf0_0)
abbrev ms0_1 (t : Fin cfgA.N) : Memref sig .tc .vmem S1024x256 .bf16 := spec0_1.stage (cfgA.slots t (1 : Fin 9))
abbrev hs0_1 (t : Fin cfgA.N) : (ms0_1 t).IsWhole := hstage0_1 ((cfgA.slots t (1 : Fin 9)).cast nbuf0_1)
abbrev ms0_2 (t : Fin cfgA.N) : Memref sig .tc .vmem S1024x128 .bf16 := spec0_2.stage (cfgA.slots t (2 : Fin 9))
abbrev hs0_2 (t : Fin cfgA.N) : (ms0_2 t).IsWhole := hstage0_2 ((cfgA.slots t (2 : Fin 9)).cast nbuf0_2)
abbrev ms0_3 (t : Fin cfgA.N) : Memref sig .tc .vmem S1024x128 .bf16 := spec0_3.stage (cfgA.slots t (3 : Fin 9))
abbrev hs0_3 (t : Fin cfgA.N) : (ms0_3 t).IsWhole := hstage0_3 ((cfgA.slots t (3 : Fin 9)).cast nbuf0_3)
abbrev ms0_4 (t : Fin cfgA.N) : Memref sig .tc .vmem S1024x128 .f32 := spec0_4.stage (cfgA.slots t (4 : Fin 9))
abbrev hs0_4 (t : Fin cfgA.N) : (ms0_4 t).IsWhole := hstage0_4 ((cfgA.slots t (4 : Fin 9)).cast nbuf0_4)
abbrev ms0_5 (t : Fin cfgA.N) : Memref sig .tc .vmem S1024x128 .bf16 := spec0_5.stage (cfgA.slots t (5 : Fin 9))
abbrev hs0_5 (t : Fin cfgA.N) : (ms0_5 t).IsWhole := hstage0_5 ((cfgA.slots t (5 : Fin 9)).cast nbuf0_5)
abbrev ms0_6 (t : Fin cfgA.N) : Memref sig .tc .vmem S1024x128 .f32 := spec0_6.stage (cfgA.slots t (6 : Fin 9))
abbrev hs0_6 (t : Fin cfgA.N) : (ms0_6 t).IsWhole := hstage0_6 ((cfgA.slots t (6 : Fin 9)).cast nbuf0_6)
abbrev ms0_7 (t : Fin cfgA.N) : Memref sig .tc .vmem S1024x128 .f32 := spec0_7.stage (cfgA.slots t (7 : Fin 9))
abbrev hs0_7 (t : Fin cfgA.N) : (ms0_7 t).IsWhole := hstage0_7 ((cfgA.slots t (7 : Fin 9)).cast nbuf0_7)
abbrev ms0_8 (t : Fin cfgA.N) : Memref sig .tc .vmem S1x1x1024 .f32 := spec0_8.stage (cfgA.slots t (8 : Fin 9))
abbrev hs0_8 (t : Fin cfgA.N) : (ms0_8 t).IsWhole := hstage0_8 ((cfgA.slots t (8 : Fin 9)).cast nbuf0_8)

def iblk (c : Dev nD) (w : Fin cfgA.W) (t : Fin cfgA.N) : ((cfgA.win w).xblock (crd t)).Idx → Elt Ideal (cfgA.win w).elt :=
  ((cfgA.win w).blk t).view.read (Elt Ideal) (V m c (cfgA.win w).arr.view.ref)

abbrev P0_0 (t : Fin cfgA.N) : Prop := (Scalar.cmpi .ne (Scalar.extui (Scalar.cmpi .sge (View.readAt (Elt Ideal) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))))) 0#32) = 1#1
abbrev P0_1 (t : Fin cfgA.N) : Prop := k0_cond4 (View.readAt (Elt Ideal) (tbM0_0).view (Rect.unit (s := S36) (k0_off1 (crd t)) S1.size (k0_off1_inb (crd t))).toLoadRect pinT_0 (Shape.Idx.first (numel1_S1.symm ▸ Nat.one_pos))) = 1#1

def sfirst0_0 : ℕ := 0
def sfrTab0_0 : ℕ → Bool := fun n => decide (n ≤ sfirst0_0)
def sfresh0_0 : ℕ → Bool := sfrTab0_0

def sfirst0_1 : ℕ := 0
def sfrTab0_1 : ℕ → Bool := fun n => decide (n ≤ sfirst0_1)
def sfresh0_1 : ℕ → Bool := sfrTab0_1

def sfirst0_2 : ℕ := 0
def sfrTab0_2 : ℕ → Bool := fun n => decide (n ≤ sfirst0_2)
def sfresh0_2 : ℕ → Bool := sfrTab0_2

set_option backward.proofsInPublic true in
def frMask0_6 : ℕ := 0xffffffffffffffffffffffffffffffffffffffffffffffffffffff
def frTab0_6 : ℕ → Bool
  | 0 => true
  | n + 1 => frMask0_6.testBit n

set_option backward.proofsInPublic true in
def frMask0_7 : ℕ := 0xffffffffffffffffffffffffffffffffffffffffffffffffffffff
def frTab0_7 : ℕ → Bool
  | 0 => true
  | n + 1 => frMask0_7.testBit n

set_option backward.proofsInPublic true in
def frMask0_8 : ℕ := 0xffffffffffffffffffffffffffffffffffffffffffffffffffffff
def frTab0_8 : ℕ → Bool
  | 0 => true
  | n + 1 => frMask0_8.testBit n

end Cert.Kernel7Ideal.Fox

end
-- ==== Proof.FoxIdeal.Facts.lean ====
/-
  The gradients of the forgetting attention, the run: what is decided at a point: the branches taken, the write-backs, and which buffers hold a determined value.
-/
module

public import proofs.«01_k».proof.Proof.FoxIdeal.Cfg

@[expose] public section

set_option maxRecDepth 16384
set_option Elab.async false

noncomputable section

namespace Cert.Kernel7Ideal.Fox

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ
variable (m : (ℓ : Loc nD τ sig) → Buf (Elt Ideal) ℓ) (ρ : Dev nD → PrngReg)

abbrev FactsAt (t : Fin cfgA.N) : Prop :=
  (sfrTab0_0 (t.val + 1) = (if P0_0 t then (if P0_1 t then false else false) else (if P0_1 t then sfrTab0_0 t.val else sfrTab0_0 t.val)))
  ∧ (sfrTab0_1 (t.val + 1) = (if P0_0 t then (if P0_1 t then false else false) else (if P0_1 t then sfrTab0_1 t.val else sfrTab0_1 t.val)))
  ∧ (sfrTab0_2 (t.val + 1) = (if P0_0 t then (if P0_1 t then false else false) else (if P0_1 t then sfrTab0_2 t.val else sfrTab0_2 t.val)))
  ∧ (frTab0_6 (t.val + 1) = ((cfgA.win (6 : Fin 9)).flush t || (cfgA.idle (6 : Fin 9) (cfgA.grid.coords t) && frTab0_6 t.val)))
  ∧ (frTab0_7 (t.val + 1) = ((cfgA.win (7 : Fin 9)).flush t || (cfgA.idle (7 : Fin 9) (cfgA.grid.coords t) && frTab0_7 t.val)))
  ∧ (frTab0_8 (t.val + 1) = ((cfgA.win (8 : Fin 9)).flush t || (cfgA.idle (8 : Fin 9) (cfgA.grid.coords t) && frTab0_8 t.val)))
  ∧ (P0_0 t → ¬P0_1 t → ((Scalar.cmpi .ne (Scalar.extui (Scalar.cmpi .sge (View.readAt (Elt Ideal) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))))) 0#32) = 1#1) ∧ ((¬((Scalar.cmpi .ne (Scalar.extui (Scalar.cmpi .slt (View.readAt (Elt Ideal) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))))) 0#32) = 1#1)) ∧ (((Scalar.cmpi .ne (Scalar.extui (Scalar.cmpi .eq (View.readAt (Elt Ideal) (tbM0_1).view (Rect.unit (s := S36) (k0_off1 (crd t)) S1.size (k0_off1_inb (crd t))).toLoadRect pinT_1 (Shape.Idx.first (numel1_S1.symm ▸ Nat.one_pos))) (Scalar.addi (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))) 0#32))) 0#32) = 1#1) ∧ ((¬(k0_cond4 (View.readAt (Elt Ideal) (tbM0_0).view (Rect.unit (s := S36) (k0_off1 (crd t)) S1.size (k0_off1_inb (crd t))).toLoadRect pinT_0 (Shape.Idx.first (numel1_S1.symm ▸ Nat.one_pos))) = 1#1)) ∧ (True)))))
  ∧ (P0_0 t → ¬P0_1 t → cfgA.idle (6 : Fin 9) (cfgA.grid.coords t) = true ∧ (cfgA.win (6 : Fin 9)).flush t = false ∧ frTab0_6 t.val = true ∧ cfgA.idle (7 : Fin 9) (cfgA.grid.coords t) = true ∧ (cfgA.win (7 : Fin 9)).flush t = false ∧ frTab0_7 t.val = true ∧ cfgA.idle (8 : Fin 9) (cfgA.grid.coords t) = true ∧ (cfgA.win (8 : Fin 9)).flush t = false ∧ frTab0_8 t.val = true ∧ sfrTab0_0 (t.val + 1) = false ∧ sfrTab0_1 (t.val + 1) = false ∧ sfrTab0_2 (t.val + 1) = false)
  ∧ (¬P0_0 t → ¬P0_1 t → (¬((Scalar.cmpi .ne (Scalar.extui (Scalar.cmpi .sge (View.readAt (Elt Ideal) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))))) 0#32) = 1#1)) ∧ (((Scalar.cmpi .ne (Scalar.extui (Scalar.cmpi .slt (View.readAt (Elt Ideal) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))))) 0#32) = 1#1) ∧ ((¬((Scalar.cmpi .ne (Scalar.extui (Scalar.cmpi .eq (View.readAt (Elt Ideal) (tbM0_1).view (Rect.unit (s := S36) (k0_off1 (crd t)) S1.size (k0_off1_inb (crd t))).toLoadRect pinT_1 (Shape.Idx.first (numel1_S1.symm ▸ Nat.one_pos))) (Scalar.addi (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))) 0#32))) 0#32) = 1#1)) ∧ ((¬(k0_cond4 (View.readAt (Elt Ideal) (tbM0_0).view (Rect.unit (s := S36) (k0_off1 (crd t)) S1.size (k0_off1_inb (crd t))).toLoadRect pinT_0 (Shape.Idx.first (numel1_S1.symm ▸ Nat.one_pos))) = 1#1)) ∧ (True)))))
  ∧ (¬P0_0 t → ¬P0_1 t → cfgA.idle (6 : Fin 9) (cfgA.grid.coords t) = true ∧ (cfgA.win (6 : Fin 9)).flush t = false ∧ frTab0_6 t.val = true ∧ cfgA.idle (7 : Fin 9) (cfgA.grid.coords t) = true ∧ (cfgA.win (7 : Fin 9)).flush t = false ∧ frTab0_7 t.val = true ∧ cfgA.idle (8 : Fin 9) (cfgA.grid.coords t) = true ∧ (cfgA.win (8 : Fin 9)).flush t = false ∧ frTab0_8 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false)
  ∧ (¬P0_0 t → P0_1 t → (¬((Scalar.cmpi .ne (Scalar.extui (Scalar.cmpi .sge (View.readAt (Elt Ideal) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))))) 0#32) = 1#1)) ∧ (((Scalar.cmpi .ne (Scalar.extui (Scalar.cmpi .slt (View.readAt (Elt Ideal) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))))) 0#32) = 1#1) ∧ ((¬((Scalar.cmpi .ne (Scalar.extui (Scalar.cmpi .eq (View.readAt (Elt Ideal) (tbM0_1).view (Rect.unit (s := S36) (k0_off1 (crd t)) S1.size (k0_off1_inb (crd t))).toLoadRect pinT_1 (Shape.Idx.first (numel1_S1.symm ▸ Nat.one_pos))) (Scalar.addi (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))) 0#32))) 0#32) = 1#1)) ∧ ((k0_cond4 (View.readAt (Elt Ideal) (tbM0_0).view (Rect.unit (s := S36) (k0_off1 (crd t)) S1.size (k0_off1_inb (crd t))).toLoadRect pinT_0 (Shape.Idx.first (numel1_S1.symm ▸ Nat.one_pos))) = 1#1) ∧ (True)))))
  ∧ (¬P0_0 t → P0_1 t → cfgA.idle (6 : Fin 9) (cfgA.grid.coords t) = false ∧ (cfgA.win (6 : Fin 9)).flush t = true ∧ frTab0_6 t.val = true ∧ cfgA.idle (7 : Fin 9) (cfgA.grid.coords t) = false ∧ (cfgA.win (7 : Fin 9)).flush t = true ∧ frTab0_7 t.val = true ∧ cfgA.idle (8 : Fin 9) (cfgA.grid.coords t) = false ∧ (cfgA.win (8 : Fin 9)).flush t = true ∧ frTab0_8 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false)
  ∧ (P0_0 t → P0_1 t → ((Scalar.cmpi .ne (Scalar.extui (Scalar.cmpi .sge (View.readAt (Elt Ideal) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))))) 0#32) = 1#1) ∧ ((¬((Scalar.cmpi .ne (Scalar.extui (Scalar.cmpi .slt (View.readAt (Elt Ideal) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))))) 0#32) = 1#1)) ∧ (((Scalar.cmpi .ne (Scalar.extui (Scalar.cmpi .eq (View.readAt (Elt Ideal) (tbM0_1).view (Rect.unit (s := S36) (k0_off1 (crd t)) S1.size (k0_off1_inb (crd t))).toLoadRect pinT_1 (Shape.Idx.first (numel1_S1.symm ▸ Nat.one_pos))) (Scalar.addi (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))) 0#32))) 0#32) = 1#1) ∧ ((k0_cond4 (View.readAt (Elt Ideal) (tbM0_0).view (Rect.unit (s := S36) (k0_off1 (crd t)) S1.size (k0_off1_inb (crd t))).toLoadRect pinT_0 (Shape.Idx.first (numel1_S1.symm ▸ Nat.one_pos))) = 1#1) ∧ (True)))))
  ∧ (P0_0 t → P0_1 t → cfgA.idle (6 : Fin 9) (cfgA.grid.coords t) = false ∧ (cfgA.win (6 : Fin 9)).flush t = true ∧ frTab0_6 t.val = true ∧ cfgA.idle (7 : Fin 9) (cfgA.grid.coords t) = false ∧ (cfgA.win (7 : Fin 9)).flush t = true ∧ frTab0_7 t.val = true ∧ cfgA.idle (8 : Fin 9) (cfgA.grid.coords t) = false ∧ (cfgA.win (8 : Fin 9)).flush t = true ∧ frTab0_8 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false)

set_option synthInstance.maxSize 65536 in
instance FactsAt.dec (t : Fin cfgA.N) : Decidable (FactsAt t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance)))))))))))))

end Cert.Kernel7Ideal.Fox

end
-- ==== Proof.FoxIdeal.Decided.lean ====
/-
  The gradients of the forgetting attention, the run: those facts at every point of the grid.
-/
module

public import proofs.«01_k».proof.Proof.FoxIdeal.Facts

@[expose] public section

set_option maxRecDepth 16384
set_option Elab.async false

noncomputable section

namespace Cert.Kernel7Ideal.Fox

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

theorem allFacts_0_0 : ∀ t : Fin cfgA.N, 0 ≤ t.val → t.val < 27 → FactsAt t := by decide +kernel
theorem allFacts_0_1 : ∀ t : Fin cfgA.N, 27 ≤ t.val → t.val < 54 → FactsAt t := by decide +kernel
theorem allFacts_0_2 : ∀ t : Fin cfgA.N, 54 ≤ t.val → t.val < 81 → FactsAt t := by decide +kernel
theorem allFacts_0_3 : ∀ t : Fin cfgA.N, 81 ≤ t.val → t.val < 108 → FactsAt t := by decide +kernel
theorem allFacts_0_4 : ∀ t : Fin cfgA.N, 108 ≤ t.val → t.val < 135 → FactsAt t := by decide +kernel
theorem allFacts_0_5 : ∀ t : Fin cfgA.N, 135 ≤ t.val → t.val < 162 → FactsAt t := by decide +kernel
theorem allFacts_0_6 : ∀ t : Fin cfgA.N, 162 ≤ t.val → t.val < 189 → FactsAt t := by decide +kernel
theorem allFacts_0_7 : ∀ t : Fin cfgA.N, 189 ≤ t.val → t.val < 216 → FactsAt t := by decide +kernel
theorem allFacts_0 : ∀ t : Fin cfgA.N, FactsAt t := fun t => by
  have h0 : 0 ≤ t.val := Nat.zero_le _
  rcases Nat.lt_or_ge t.val 27 with h1 | h1; · exact allFacts_0_0 t h0 h1
  rcases Nat.lt_or_ge t.val 54 with h2 | h2; · exact allFacts_0_1 t h1 h2
  rcases Nat.lt_or_ge t.val 81 with h3 | h3; · exact allFacts_0_2 t h2 h3
  rcases Nat.lt_or_ge t.val 108 with h4 | h4; · exact allFacts_0_3 t h3 h4
  rcases Nat.lt_or_ge t.val 135 with h5 | h5; · exact allFacts_0_4 t h4 h5
  rcases Nat.lt_or_ge t.val 162 with h6 | h6; · exact allFacts_0_5 t h5 h6
  rcases Nat.lt_or_ge t.val 189 with h7 | h7; · exact allFacts_0_6 t h6 h7
  exact allFacts_0_7 t h7 t.isLt

end Cert.Kernel7Ideal.Fox

end
-- ==== Proof.FoxIdeal.Run.lean ====
/-
  The gradients of the forgetting attention, the run: what the scratch and the output buffers hold after each point, the body at each point, and the run of the program.
-/
module

public import proofs.«01_k».proof.Proof.FoxIdeal.Runs
public import proofs.«01_k».proof.Proof.FoxIdeal.Decided
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel7Ideal.Fox

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev EP : Emb (UR sig nD τ) 𝕄 := emb₁

variable (m : (ℓ : Loc nD τ sig) → Buf (Elt Ideal) ℓ) (ρ : Dev nD → PrngReg)

theorem allFacts : ∀ t : Fin cfgA.N, FactsAt t := allFacts_0

theorem sfrTab0_0_step : ∀ (t : Fin cfgA.N), sfrTab0_0 (t.val + 1) = (if P0_0 t then (if P0_1 t then false else false) else (if P0_1 t then sfrTab0_0 t.val else sfrTab0_0 t.val)) := fun t => (allFacts t).1
theorem sfreshF0_0 (t : Fin cfgA.N) : sfresh0_0 t.val = sfrTab0_0 t.val := rfl
theorem sfreshS0_0 (t : Fin cfgA.N) : sfresh0_0 (t.val + 1) = sfrTab0_0 (t.val + 1) := rfl

theorem sfrTab0_1_step : ∀ (t : Fin cfgA.N), sfrTab0_1 (t.val + 1) = (if P0_0 t then (if P0_1 t then false else false) else (if P0_1 t then sfrTab0_1 t.val else sfrTab0_1 t.val)) := fun t => (allFacts t).2.1
theorem sfreshF0_1 (t : Fin cfgA.N) : sfresh0_1 t.val = sfrTab0_1 t.val := rfl
theorem sfreshS0_1 (t : Fin cfgA.N) : sfresh0_1 (t.val + 1) = sfrTab0_1 (t.val + 1) := rfl

theorem sfrTab0_2_step : ∀ (t : Fin cfgA.N), sfrTab0_2 (t.val + 1) = (if P0_0 t then (if P0_1 t then false else false) else (if P0_1 t then sfrTab0_2 t.val else sfrTab0_2 t.val)) := fun t => (allFacts t).2.2.1
theorem sfreshF0_2 (t : Fin cfgA.N) : sfresh0_2 t.val = sfrTab0_2 t.val := rfl
theorem sfreshS0_2 (t : Fin cfgA.N) : sfresh0_2 (t.val + 1) = sfrTab0_2 (t.val + 1) := rfl

theorem frTab0_6_step : ∀ (t : Fin cfgA.N),
    frTab0_6 (t.val + 1) = ((cfgA.win (6 : Fin 9)).flush t || (cfgA.idle (6 : Fin 9) (cfgA.grid.coords t) && frTab0_6 t.val)) := fun t => (allFacts t).2.2.2.1
theorem freshF0_6 (t : Fin cfgA.N) : cfgA.fresh (6 : Fin 9) t.val = frTab0_6 t.val :=
  Pipeline.Cfg.fresh_tab cfgA (6 : Fin 9) (frTab0_6) rfl (frTab0_6_step) t.val (Nat.le_of_lt t.isLt)

theorem frTab0_7_step : ∀ (t : Fin cfgA.N),
    frTab0_7 (t.val + 1) = ((cfgA.win (7 : Fin 9)).flush t || (cfgA.idle (7 : Fin 9) (cfgA.grid.coords t) && frTab0_7 t.val)) := fun t => (allFacts t).2.2.2.2.1
theorem freshF0_7 (t : Fin cfgA.N) : cfgA.fresh (7 : Fin 9) t.val = frTab0_7 t.val :=
  Pipeline.Cfg.fresh_tab cfgA (7 : Fin 9) (frTab0_7) rfl (frTab0_7_step) t.val (Nat.le_of_lt t.isLt)

theorem frTab0_8_step : ∀ (t : Fin cfgA.N),
    frTab0_8 (t.val + 1) = ((cfgA.win (8 : Fin 9)).flush t || (cfgA.idle (8 : Fin 9) (cfgA.grid.coords t) && frTab0_8 t.val)) := fun t => (allFacts t).2.2.2.2.2.1
theorem freshF0_8 (t : Fin cfgA.N) : cfgA.fresh (8 : Fin 9) t.val = frTab0_8 t.val :=
  Pipeline.Cfg.fresh_tab cfgA (8 : Fin 9) (frTab0_8) rfl (frTab0_8_step) t.val (Nat.le_of_lt t.isLt)

theorem hyps0_A : ∀ (t : Fin cfgA.N), P0_0 t → ¬P0_1 t →
    ((Scalar.cmpi .ne (Scalar.extui (Scalar.cmpi .sge (View.readAt (Elt Ideal) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))))) 0#32) = 1#1) ∧ ((¬((Scalar.cmpi .ne (Scalar.extui (Scalar.cmpi .slt (View.readAt (Elt Ideal) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))))) 0#32) = 1#1)) ∧ (((Scalar.cmpi .ne (Scalar.extui (Scalar.cmpi .eq (View.readAt (Elt Ideal) (tbM0_1).view (Rect.unit (s := S36) (k0_off1 (crd t)) S1.size (k0_off1_inb (crd t))).toLoadRect pinT_1 (Shape.Idx.first (numel1_S1.symm ▸ Nat.one_pos))) (Scalar.addi (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))) 0#32))) 0#32) = 1#1) ∧ ((¬(k0_cond4 (View.readAt (Elt Ideal) (tbM0_0).view (Rect.unit (s := S36) (k0_off1 (crd t)) S1.size (k0_off1_inb (crd t))).toLoadRect pinT_0 (Shape.Idx.first (numel1_S1.symm ▸ Nat.one_pos))) = 1#1)) ∧ (True)))) := fun t => (allFacts t).2.2.2.2.2.2.1

theorem hypsR0_A : ∀ (t : Fin cfgA.N), P0_0 t → ¬P0_1 t →
    ((Scalar.cmpi .ne (Scalar.extui (Scalar.cmpi .sge (View.readAt (Elt Ideal) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))))) 0#32) = 1#1) ∧ ((¬((Scalar.cmpi .ne (Scalar.extui (Scalar.cmpi .slt (View.readAt (Elt Ideal) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))))) 0#32) = 1#1)) ∧ (((Scalar.cmpi .ne (Scalar.extui (Scalar.cmpi .eq (View.readAt (Elt Ideal) (tbM0_1).view (Rect.unit (s := S36) (k0_off1 (crd t)) S1.size (k0_off1_inb (crd t))).toLoadRect pinT_1 (Shape.Idx.first (numel1_S1.symm ▸ Nat.one_pos))) (Scalar.addi (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))) 0#32))) 0#32) = 1#1) ∧ ((¬(k0_cond4 (View.readAt (Elt Ideal) (tbM0_0).view (Rect.unit (s := S36) (k0_off1 (crd t)) S1.size (k0_off1_inb (crd t))).toLoadRect pinT_0 (Shape.Idx.first (numel1_S1.symm ▸ Nat.one_pos))) = 1#1)) ∧ (True)))) := hyps0_A

theorem sched0_A : ∀ (t : Fin cfgA.N), P0_0 t → ¬P0_1 t →
    cfgA.idle (6 : Fin 9) (cfgA.grid.coords t) = true ∧ (cfgA.win (6 : Fin 9)).flush t = false ∧ cfgA.fresh (6 : Fin 9) t.val = true ∧ cfgA.idle (7 : Fin 9) (cfgA.grid.coords t) = true ∧ (cfgA.win (7 : Fin 9)).flush t = false ∧ cfgA.fresh (7 : Fin 9) t.val = true ∧ cfgA.idle (8 : Fin 9) (cfgA.grid.coords t) = true ∧ (cfgA.win (8 : Fin 9)).flush t = false ∧ cfgA.fresh (8 : Fin 9) t.val = true ∧ sfresh0_0 (t.val + 1) = false ∧ sfresh0_1 (t.val + 1) = false ∧ sfresh0_2 (t.val + 1) = false := by
  intro t; rw [freshF0_6 t, freshF0_7 t, freshF0_8 t, sfreshS0_0 t, sfreshS0_1 t, sfreshS0_2 t]; exact (fun t => (allFacts t).2.2.2.2.2.2.2.1) t

theorem hyps0_B : ∀ (t : Fin cfgA.N), ¬P0_0 t → ¬P0_1 t →
    (¬((Scalar.cmpi .ne (Scalar.extui (Scalar.cmpi .sge (View.readAt (Elt Ideal) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))))) 0#32) = 1#1)) ∧ (((Scalar.cmpi .ne (Scalar.extui (Scalar.cmpi .slt (View.readAt (Elt Ideal) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))))) 0#32) = 1#1) ∧ ((¬((Scalar.cmpi .ne (Scalar.extui (Scalar.cmpi .eq (View.readAt (Elt Ideal) (tbM0_1).view (Rect.unit (s := S36) (k0_off1 (crd t)) S1.size (k0_off1_inb (crd t))).toLoadRect pinT_1 (Shape.Idx.first (numel1_S1.symm ▸ Nat.one_pos))) (Scalar.addi (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))) 0#32))) 0#32) = 1#1)) ∧ ((¬(k0_cond4 (View.readAt (Elt Ideal) (tbM0_0).view (Rect.unit (s := S36) (k0_off1 (crd t)) S1.size (k0_off1_inb (crd t))).toLoadRect pinT_0 (Shape.Idx.first (numel1_S1.symm ▸ Nat.one_pos))) = 1#1)) ∧ (True)))) := fun t => (allFacts t).2.2.2.2.2.2.2.2.1

theorem hypsR0_B : ∀ (t : Fin cfgA.N), ¬P0_0 t → ¬P0_1 t →
    (¬((Scalar.cmpi .ne (Scalar.extui (Scalar.cmpi .sge (View.readAt (Elt Ideal) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))))) 0#32) = 1#1)) ∧ (((Scalar.cmpi .ne (Scalar.extui (Scalar.cmpi .slt (View.readAt (Elt Ideal) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))))) 0#32) = 1#1) ∧ ((¬((Scalar.cmpi .ne (Scalar.extui (Scalar.cmpi .eq (View.readAt (Elt Ideal) (tbM0_1).view (Rect.unit (s := S36) (k0_off1 (crd t)) S1.size (k0_off1_inb (crd t))).toLoadRect pinT_1 (Shape.Idx.first (numel1_S1.symm ▸ Nat.one_pos))) (Scalar.addi (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))) 0#32))) 0#32) = 1#1)) ∧ ((¬(k0_cond4 (View.readAt (Elt Ideal) (tbM0_0).view (Rect.unit (s := S36) (k0_off1 (crd t)) S1.size (k0_off1_inb (crd t))).toLoadRect pinT_0 (Shape.Idx.first (numel1_S1.symm ▸ Nat.one_pos))) = 1#1)) ∧ (True)))) := hyps0_B

theorem sched0_B : ∀ (t : Fin cfgA.N), ¬P0_0 t → ¬P0_1 t →
    cfgA.idle (6 : Fin 9) (cfgA.grid.coords t) = true ∧ (cfgA.win (6 : Fin 9)).flush t = false ∧ cfgA.fresh (6 : Fin 9) t.val = true ∧ cfgA.idle (7 : Fin 9) (cfgA.grid.coords t) = true ∧ (cfgA.win (7 : Fin 9)).flush t = false ∧ cfgA.fresh (7 : Fin 9) t.val = true ∧ cfgA.idle (8 : Fin 9) (cfgA.grid.coords t) = true ∧ (cfgA.win (8 : Fin 9)).flush t = false ∧ cfgA.fresh (8 : Fin 9) t.val = true ∧ sfresh0_0 t.val = false ∧ sfresh0_0 (t.val + 1) = false ∧ sfresh0_1 t.val = false ∧ sfresh0_1 (t.val + 1) = false ∧ sfresh0_2 t.val = false ∧ sfresh0_2 (t.val + 1) = false := by
  intro t; rw [freshF0_6 t, freshF0_7 t, freshF0_8 t, sfreshF0_0 t, sfreshS0_0 t, sfreshF0_1 t, sfreshS0_1 t, sfreshF0_2 t, sfreshS0_2 t]; exact (fun t => (allFacts t).2.2.2.2.2.2.2.2.2.1) t

theorem hyps0_C : ∀ (t : Fin cfgA.N), ¬P0_0 t → P0_1 t →
    (¬((Scalar.cmpi .ne (Scalar.extui (Scalar.cmpi .sge (View.readAt (Elt Ideal) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))))) 0#32) = 1#1)) ∧ (((Scalar.cmpi .ne (Scalar.extui (Scalar.cmpi .slt (View.readAt (Elt Ideal) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))))) 0#32) = 1#1) ∧ ((¬((Scalar.cmpi .ne (Scalar.extui (Scalar.cmpi .eq (View.readAt (Elt Ideal) (tbM0_1).view (Rect.unit (s := S36) (k0_off1 (crd t)) S1.size (k0_off1_inb (crd t))).toLoadRect pinT_1 (Shape.Idx.first (numel1_S1.symm ▸ Nat.one_pos))) (Scalar.addi (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))) 0#32))) 0#32) = 1#1)) ∧ ((k0_cond4 (View.readAt (Elt Ideal) (tbM0_0).view (Rect.unit (s := S36) (k0_off1 (crd t)) S1.size (k0_off1_inb (crd t))).toLoadRect pinT_0 (Shape.Idx.first (numel1_S1.symm ▸ Nat.one_pos))) = 1#1) ∧ (True)))) := fun t => (allFacts t).2.2.2.2.2.2.2.2.2.2.1

theorem hypsR0_C : ∀ (t : Fin cfgA.N), ¬P0_0 t → P0_1 t →
    (¬((Scalar.cmpi .ne (Scalar.extui (Scalar.cmpi .sge (View.readAt (Elt Ideal) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))))) 0#32) = 1#1)) ∧ (((Scalar.cmpi .ne (Scalar.extui (Scalar.cmpi .slt (View.readAt (Elt Ideal) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))))) 0#32) = 1#1) ∧ ((¬((Scalar.cmpi .ne (Scalar.extui (Scalar.cmpi .eq (View.readAt (Elt Ideal) (tbM0_1).view (Rect.unit (s := S36) (k0_off1 (crd t)) S1.size (k0_off1_inb (crd t))).toLoadRect pinT_1 (Shape.Idx.first (numel1_S1.symm ▸ Nat.one_pos))) (Scalar.addi (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))) 0#32))) 0#32) = 1#1)) ∧ ((k0_cond4 (View.readAt (Elt Ideal) (tbM0_0).view (Rect.unit (s := S36) (k0_off1 (crd t)) S1.size (k0_off1_inb (crd t))).toLoadRect pinT_0 (Shape.Idx.first (numel1_S1.symm ▸ Nat.one_pos))) = 1#1) ∧ (True)))) := hyps0_C

theorem sched0_C : ∀ (t : Fin cfgA.N), ¬P0_0 t → P0_1 t →
    cfgA.idle (6 : Fin 9) (cfgA.grid.coords t) = false ∧ (cfgA.win (6 : Fin 9)).flush t = true ∧ cfgA.fresh (6 : Fin 9) t.val = true ∧ cfgA.idle (7 : Fin 9) (cfgA.grid.coords t) = false ∧ (cfgA.win (7 : Fin 9)).flush t = true ∧ cfgA.fresh (7 : Fin 9) t.val = true ∧ cfgA.idle (8 : Fin 9) (cfgA.grid.coords t) = false ∧ (cfgA.win (8 : Fin 9)).flush t = true ∧ cfgA.fresh (8 : Fin 9) t.val = true ∧ sfresh0_0 t.val = false ∧ sfresh0_0 (t.val + 1) = false ∧ sfresh0_1 t.val = false ∧ sfresh0_1 (t.val + 1) = false ∧ sfresh0_2 t.val = false ∧ sfresh0_2 (t.val + 1) = false := by
  intro t; rw [freshF0_6 t, freshF0_7 t, freshF0_8 t, sfreshF0_0 t, sfreshS0_0 t, sfreshF0_1 t, sfreshS0_1 t, sfreshF0_2 t, sfreshS0_2 t]; exact (fun t => (allFacts t).2.2.2.2.2.2.2.2.2.2.2.1) t

theorem hyps0_D : ∀ (t : Fin cfgA.N), P0_0 t → P0_1 t →
    ((Scalar.cmpi .ne (Scalar.extui (Scalar.cmpi .sge (View.readAt (Elt Ideal) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))))) 0#32) = 1#1) ∧ ((¬((Scalar.cmpi .ne (Scalar.extui (Scalar.cmpi .slt (View.readAt (Elt Ideal) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))))) 0#32) = 1#1)) ∧ (((Scalar.cmpi .ne (Scalar.extui (Scalar.cmpi .eq (View.readAt (Elt Ideal) (tbM0_1).view (Rect.unit (s := S36) (k0_off1 (crd t)) S1.size (k0_off1_inb (crd t))).toLoadRect pinT_1 (Shape.Idx.first (numel1_S1.symm ▸ Nat.one_pos))) (Scalar.addi (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))) 0#32))) 0#32) = 1#1) ∧ ((k0_cond4 (View.readAt (Elt Ideal) (tbM0_0).view (Rect.unit (s := S36) (k0_off1 (crd t)) S1.size (k0_off1_inb (crd t))).toLoadRect pinT_0 (Shape.Idx.first (numel1_S1.symm ▸ Nat.one_pos))) = 1#1) ∧ (True)))) := fun t => (allFacts t).2.2.2.2.2.2.2.2.2.2.2.2.1

theorem hypsR0_D : ∀ (t : Fin cfgA.N), P0_0 t → P0_1 t →
    ((Scalar.cmpi .ne (Scalar.extui (Scalar.cmpi .sge (View.readAt (Elt Ideal) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))))) 0#32) = 1#1) ∧ ((¬((Scalar.cmpi .ne (Scalar.extui (Scalar.cmpi .slt (View.readAt (Elt Ideal) (tbM0_1).view (Rect.unit (s := S36) (k0_off1 (crd t)) S1.size (k0_off1_inb (crd t))).toLoadRect pinT_1 (Shape.Idx.first (numel1_S1.symm ▸ Nat.one_pos))) (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))))) 0#32) = 1#1)) ∧ (((Scalar.cmpi .ne (Scalar.extui (Scalar.cmpi .eq (View.readAt (Elt Ideal) (tbM0_1).view (Rect.unit (s := S36) (k0_off1 (crd t)) S1.size (k0_off1_inb (crd t))).toLoadRect pinT_1 (Shape.Idx.first (numel1_S1.symm ▸ Nat.one_pos))) (Scalar.addi (Scalar.muli 1#32 (View.readAt (Elt Ideal) (tbM0_0).view (Rect.unit (s := S36) (k0_off1 (crd t)) S1.size (k0_off1_inb (crd t))).toLoadRect pinT_0 (Shape.Idx.first (numel1_S1.symm ▸ Nat.one_pos)))) 0#32))) 0#32) = 1#1) ∧ ((k0_cond4 (View.readAt (Elt Ideal) (tbM0_0).view (Rect.unit (s := S36) (k0_off1 (crd t)) S1.size (k0_off1_inb (crd t))).toLoadRect pinT_0 (Shape.Idx.first (numel1_S1.symm ▸ Nat.one_pos))) = 1#1) ∧ (True)))) := hyps0_D

theorem sched0_D : ∀ (t : Fin cfgA.N), P0_0 t → P0_1 t →
    cfgA.idle (6 : Fin 9) (cfgA.grid.coords t) = false ∧ (cfgA.win (6 : Fin 9)).flush t = true ∧ cfgA.fresh (6 : Fin 9) t.val = true ∧ cfgA.idle (7 : Fin 9) (cfgA.grid.coords t) = false ∧ (cfgA.win (7 : Fin 9)).flush t = true ∧ cfgA.fresh (7 : Fin 9) t.val = true ∧ cfgA.idle (8 : Fin 9) (cfgA.grid.coords t) = false ∧ (cfgA.win (8 : Fin 9)).flush t = true ∧ cfgA.fresh (8 : Fin 9) t.val = true ∧ sfresh0_0 t.val = false ∧ sfresh0_0 (t.val + 1) = false ∧ sfresh0_1 t.val = false ∧ sfresh0_1 (t.val + 1) = false ∧ sfresh0_2 t.val = false ∧ sfresh0_2 (t.val + 1) = false := by
  intro t; rw [freshF0_6 t, freshF0_7 t, freshF0_8 t, sfreshF0_0 t, sfreshS0_0 t, sfreshF0_1 t, sfreshS0_1 t, sfreshF0_2 t, sfreshS0_2 t]; exact (fun t => (allFacts t).2.2.2.2.2.2.2.2.2.2.2.2.2) t

def step0 (c : Dev nD) (t : Fin cfgA.N) (prev : (S1024x128.Idx → Elt Ideal .f32) × (S1024x128.Idx → Elt Ideal .f32) × (S1x1x1024.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) : (S1024x128.Idx → Elt Ideal .f32) × (S1024x128.Idx → Elt Ideal .f32) × (S1x1x1024.Idx → Elt Ideal .f32) × Buf (Elt Ideal) ((c : Thread nD τ).loc cc0_scratch0) × Buf (Elt Ideal) ((c : Thread nD τ).loc cc0_scratch1) × Buf (Elt Ideal) ((c : Thread nD τ).loc cc0_scratch2) :=
  if q0 : P0_0 t then
    if q1 : P0_1 t then
      (out0_D_6 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) (hypsR0_D t q0 q1).1 (hypsR0_D t q0 q1).2.1 (hypsR0_D t q0 q1).2.2.1 (hypsR0_D t q0 q1).2.2.2.1, out0_D_7 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) (hypsR0_D t q0 q1).1 (hypsR0_D t q0 q1).2.1 (hypsR0_D t q0 q1).2.2.1 (hypsR0_D t q0 q1).2.2.2.1, out0_D_8 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) (hypsR0_D t q0 q1).1 (hypsR0_D t q0 q1).2.1 (hypsR0_D t q0 q1).2.2.1 (hypsR0_D t q0 q1).2.2.2.1, (kernelRun0_D c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) (hypsR0_D t q0 q1).1 (hypsR0_D t q0 q1).2.1 (hypsR0_D t q0 q1).2.2.1 (hypsR0_D t q0 q1).2.2.2.1).2.2.2.1, (kernelRun0_D c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) (hypsR0_D t q0 q1).1 (hypsR0_D t q0 q1).2.1 (hypsR0_D t q0 q1).2.2.1 (hypsR0_D t q0 q1).2.2.2.1).2.2.2.2.1, (kernelRun0_D c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) (hypsR0_D t q0 q1).1 (hypsR0_D t q0 q1).2.1 (hypsR0_D t q0 q1).2.2.1 (hypsR0_D t q0 q1).2.2.2.1).2.2.2.2.2.1)
    else
      ((if cfgA.fresh (6 : Fin 9) t.val then default else prev.1), (if cfgA.fresh (7 : Fin 9) t.val then default else prev.2.1), (if cfgA.fresh (8 : Fin 9) t.val then default else prev.2.2.1), (kernelRun0_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) (hypsR0_A t q0 q1).1 (hypsR0_A t q0 q1).2.1 (hypsR0_A t q0 q1).2.2.1 (hypsR0_A t q0 q1).2.2.2.1).1, (kernelRun0_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) (hypsR0_A t q0 q1).1 (hypsR0_A t q0 q1).2.1 (hypsR0_A t q0 q1).2.2.1 (hypsR0_A t q0 q1).2.2.2.1).2.1, (kernelRun0_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) (hypsR0_A t q0 q1).1 (hypsR0_A t q0 q1).2.1 (hypsR0_A t q0 q1).2.2.1 (hypsR0_A t q0 q1).2.2.2.1).2.2.1)
  else
    if q1 : P0_1 t then
      (out0_C_6 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) prev.2.2.2.1 prev.2.2.2.2.1 prev.2.2.2.2.2 (hypsR0_C t q0 q1).1 (hypsR0_C t q0 q1).2.1 (hypsR0_C t q0 q1).2.2.1 (hypsR0_C t q0 q1).2.2.2.1, out0_C_7 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) prev.2.2.2.1 prev.2.2.2.2.1 prev.2.2.2.2.2 (hypsR0_C t q0 q1).1 (hypsR0_C t q0 q1).2.1 (hypsR0_C t q0 q1).2.2.1 (hypsR0_C t q0 q1).2.2.2.1, out0_C_8 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) prev.2.2.2.1 prev.2.2.2.2.1 prev.2.2.2.2.2 (hypsR0_C t q0 q1).1 (hypsR0_C t q0 q1).2.1 (hypsR0_C t q0 q1).2.2.1 (hypsR0_C t q0 q1).2.2.2.1, (kernelRun0_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) prev.2.2.2.1 prev.2.2.2.2.1 prev.2.2.2.2.2 (hypsR0_C t q0 q1).1 (hypsR0_C t q0 q1).2.1 (hypsR0_C t q0 q1).2.2.1 (hypsR0_C t q0 q1).2.2.2.1).2.2.2.1, (kernelRun0_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) prev.2.2.2.1 prev.2.2.2.2.1 prev.2.2.2.2.2 (hypsR0_C t q0 q1).1 (hypsR0_C t q0 q1).2.1 (hypsR0_C t q0 q1).2.2.1 (hypsR0_C t q0 q1).2.2.2.1).2.2.2.2.1, (kernelRun0_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) prev.2.2.2.1 prev.2.2.2.2.1 prev.2.2.2.2.2 (hypsR0_C t q0 q1).1 (hypsR0_C t q0 q1).2.1 (hypsR0_C t q0 q1).2.2.1 (hypsR0_C t q0 q1).2.2.2.1).2.2.2.2.2.1)
    else
      ((if cfgA.fresh (6 : Fin 9) t.val then default else prev.1), (if cfgA.fresh (7 : Fin 9) t.val then default else prev.2.1), (if cfgA.fresh (8 : Fin 9) t.val then default else prev.2.2.1), (kernelRun0_B c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) prev.2.2.2.1 prev.2.2.2.2.1 prev.2.2.2.2.2 (hypsR0_B t q0 q1).1 (hypsR0_B t q0 q1).2.1 (hypsR0_B t q0 q1).2.2.1 (hypsR0_B t q0 q1).2.2.2.1).1, (kernelRun0_B c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) prev.2.2.2.1 prev.2.2.2.2.1 prev.2.2.2.2.2 (hypsR0_B t q0 q1).1 (hypsR0_B t q0 q1).2.1 (hypsR0_B t q0 q1).2.2.1 (hypsR0_B t q0 q1).2.2.2.1).2.1, (kernelRun0_B c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) prev.2.2.2.1 prev.2.2.2.2.1 prev.2.2.2.2.2 (hypsR0_B t q0 q1).1 (hypsR0_B t q0 q1).2.1 (hypsR0_B t q0 q1).2.2.1 (hypsR0_B t q0 q1).2.2.2.1).2.2.1)

def traj0 (c : Dev nD) : (n : ℕ) → n < cfgA.N → (S1024x128.Idx → Elt Ideal .f32) × (S1024x128.Idx → Elt Ideal .f32) × (S1x1x1024.Idx → Elt Ideal .f32) × Buf (Elt Ideal) ((c : Thread nD τ).loc cc0_scratch0) × Buf (Elt Ideal) ((c : Thread nD τ).loc cc0_scratch1) × Buf (Elt Ideal) ((c : Thread nD τ).loc cc0_scratch2)
  | 0, h => step0 m c ⟨0, h⟩ (default, default, default, default, default, default)
  | n + 1, h => step0 m c ⟨n + 1, h⟩ (traj0 c n (Nat.lt_of_succ_lt h))

def prev0 (c : Dev nD) (t : Fin cfgA.N) : (S1024x128.Idx → Elt Ideal .f32) × (S1024x128.Idx → Elt Ideal .f32) × (S1x1x1024.Idx → Elt Ideal .f32) × Buf (Elt Ideal) ((c : Thread nD τ).loc cc0_scratch0) × Buf (Elt Ideal) ((c : Thread nD τ).loc cc0_scratch1) × Buf (Elt Ideal) ((c : Thread nD τ).loc cc0_scratch2) :=
  if h : t.val = 0 then (default, default, default, default, default, default) else traj0 m c (t.val - 1) (by omega)

theorem traj0_eq (c : Dev nD) (t : Fin cfgA.N) : traj0 m c t.val t.isLt = step0 m c t (prev0 m c t) := by
  obtain ⟨n, hn⟩ := t
  cases n with
  | zero => rfl
  | succ n => unfold prev0; simp only [Nat.add_one_ne_zero, dif_neg, not_false_eq_true]; rfl

theorem step0_A (c : Dev nD) (t : Fin cfgA.N) (prev : (S1024x128.Idx → Elt Ideal .f32) × (S1024x128.Idx → Elt Ideal .f32) × (S1x1x1024.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) (q0 : P0_0 t) (q1 : ¬P0_1 t) :
    step0 m c t prev = ((if cfgA.fresh (6 : Fin 9) t.val then default else prev.1), (if cfgA.fresh (7 : Fin 9) t.val then default else prev.2.1), (if cfgA.fresh (8 : Fin 9) t.val then default else prev.2.2.1), (kernelRun0_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) (hypsR0_A t q0 q1).1 (hypsR0_A t q0 q1).2.1 (hypsR0_A t q0 q1).2.2.1 (hypsR0_A t q0 q1).2.2.2.1).1, (kernelRun0_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) (hypsR0_A t q0 q1).1 (hypsR0_A t q0 q1).2.1 (hypsR0_A t q0 q1).2.2.1 (hypsR0_A t q0 q1).2.2.2.1).2.1, (kernelRun0_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) (hypsR0_A t q0 q1).1 (hypsR0_A t q0 q1).2.1 (hypsR0_A t q0 q1).2.2.1 (hypsR0_A t q0 q1).2.2.2.1).2.2.1) := by
  unfold step0; simp only [dif_pos q0, dif_neg q1]

theorem step0_B (c : Dev nD) (t : Fin cfgA.N) (prev : (S1024x128.Idx → Elt Ideal .f32) × (S1024x128.Idx → Elt Ideal .f32) × (S1x1x1024.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) (q0 : ¬P0_0 t) (q1 : ¬P0_1 t) :
    step0 m c t prev = ((if cfgA.fresh (6 : Fin 9) t.val then default else prev.1), (if cfgA.fresh (7 : Fin 9) t.val then default else prev.2.1), (if cfgA.fresh (8 : Fin 9) t.val then default else prev.2.2.1), (kernelRun0_B c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) prev.2.2.2.1 prev.2.2.2.2.1 prev.2.2.2.2.2 (hypsR0_B t q0 q1).1 (hypsR0_B t q0 q1).2.1 (hypsR0_B t q0 q1).2.2.1 (hypsR0_B t q0 q1).2.2.2.1).1, (kernelRun0_B c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) prev.2.2.2.1 prev.2.2.2.2.1 prev.2.2.2.2.2 (hypsR0_B t q0 q1).1 (hypsR0_B t q0 q1).2.1 (hypsR0_B t q0 q1).2.2.1 (hypsR0_B t q0 q1).2.2.2.1).2.1, (kernelRun0_B c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) prev.2.2.2.1 prev.2.2.2.2.1 prev.2.2.2.2.2 (hypsR0_B t q0 q1).1 (hypsR0_B t q0 q1).2.1 (hypsR0_B t q0 q1).2.2.1 (hypsR0_B t q0 q1).2.2.2.1).2.2.1) := by
  unfold step0; simp only [dif_neg q0, dif_neg q1]

theorem step0_C (c : Dev nD) (t : Fin cfgA.N) (prev : (S1024x128.Idx → Elt Ideal .f32) × (S1024x128.Idx → Elt Ideal .f32) × (S1x1x1024.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) (q0 : ¬P0_0 t) (q1 : P0_1 t) :
    step0 m c t prev = (out0_C_6 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) prev.2.2.2.1 prev.2.2.2.2.1 prev.2.2.2.2.2 (hypsR0_C t q0 q1).1 (hypsR0_C t q0 q1).2.1 (hypsR0_C t q0 q1).2.2.1 (hypsR0_C t q0 q1).2.2.2.1, out0_C_7 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) prev.2.2.2.1 prev.2.2.2.2.1 prev.2.2.2.2.2 (hypsR0_C t q0 q1).1 (hypsR0_C t q0 q1).2.1 (hypsR0_C t q0 q1).2.2.1 (hypsR0_C t q0 q1).2.2.2.1, out0_C_8 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) prev.2.2.2.1 prev.2.2.2.2.1 prev.2.2.2.2.2 (hypsR0_C t q0 q1).1 (hypsR0_C t q0 q1).2.1 (hypsR0_C t q0 q1).2.2.1 (hypsR0_C t q0 q1).2.2.2.1, (kernelRun0_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) prev.2.2.2.1 prev.2.2.2.2.1 prev.2.2.2.2.2 (hypsR0_C t q0 q1).1 (hypsR0_C t q0 q1).2.1 (hypsR0_C t q0 q1).2.2.1 (hypsR0_C t q0 q1).2.2.2.1).2.2.2.1, (kernelRun0_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) prev.2.2.2.1 prev.2.2.2.2.1 prev.2.2.2.2.2 (hypsR0_C t q0 q1).1 (hypsR0_C t q0 q1).2.1 (hypsR0_C t q0 q1).2.2.1 (hypsR0_C t q0 q1).2.2.2.1).2.2.2.2.1, (kernelRun0_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) prev.2.2.2.1 prev.2.2.2.2.1 prev.2.2.2.2.2 (hypsR0_C t q0 q1).1 (hypsR0_C t q0 q1).2.1 (hypsR0_C t q0 q1).2.2.1 (hypsR0_C t q0 q1).2.2.2.1).2.2.2.2.2.1) := by
  unfold step0; simp only [dif_neg q0, dif_pos q1]

theorem step0_D (c : Dev nD) (t : Fin cfgA.N) (prev : (S1024x128.Idx → Elt Ideal .f32) × (S1024x128.Idx → Elt Ideal .f32) × (S1x1x1024.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) (q0 : P0_0 t) (q1 : P0_1 t) :
    step0 m c t prev = (out0_D_6 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) (hypsR0_D t q0 q1).1 (hypsR0_D t q0 q1).2.1 (hypsR0_D t q0 q1).2.2.1 (hypsR0_D t q0 q1).2.2.2.1, out0_D_7 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) (hypsR0_D t q0 q1).1 (hypsR0_D t q0 q1).2.1 (hypsR0_D t q0 q1).2.2.1 (hypsR0_D t q0 q1).2.2.2.1, out0_D_8 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) (hypsR0_D t q0 q1).1 (hypsR0_D t q0 q1).2.1 (hypsR0_D t q0 q1).2.2.1 (hypsR0_D t q0 q1).2.2.2.1, (kernelRun0_D c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) (hypsR0_D t q0 q1).1 (hypsR0_D t q0 q1).2.1 (hypsR0_D t q0 q1).2.2.1 (hypsR0_D t q0 q1).2.2.2.1).2.2.2.1, (kernelRun0_D c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) (hypsR0_D t q0 q1).1 (hypsR0_D t q0 q1).2.1 (hypsR0_D t q0 q1).2.2.1 (hypsR0_D t q0 q1).2.2.2.1).2.2.2.2.1, (kernelRun0_D c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) (hypsR0_D t q0 q1).1 (hypsR0_D t q0 q1).2.1 (hypsR0_D t q0 q1).2.2.1 (hypsR0_D t q0 q1).2.2.2.1).2.2.2.2.2.1) := by
  unfold step0; simp only [dif_pos q0, dif_pos q1]

def prev0T (c : Dev nD) (t : Fin (cfgA.N + 1)) : (S1024x128.Idx → Elt Ideal .f32) × (S1024x128.Idx → Elt Ideal .f32) × (S1x1x1024.Idx → Elt Ideal .f32) × Buf (Elt Ideal) ((c : Thread nD τ).loc cc0_scratch0) × Buf (Elt Ideal) ((c : Thread nD τ).loc cc0_scratch1) × Buf (Elt Ideal) ((c : Thread nD τ).loc cc0_scratch2) :=
  if h : t.val = 0 then (default, default, default, default, default, default) else traj0 m c (t.val - 1) (by omega)

theorem prev0T_castSucc (c : Dev nD) (t : Fin cfgA.N) : prev0T m c t.castSucc = prev0 m c t := by
  unfold prev0T prev0; simp only [Fin.val_castSucc]
theorem prev0T_succ (c : Dev nD) (t : Fin cfgA.N) : prev0T m c t.succ = traj0 m c t.val t.isLt := by
  unfold prev0T; simp only [Fin.val_succ, Nat.add_one_ne_zero, ↓reduceDIte, Nat.add_one_sub_one]

def Phi (m : (ℓ : Loc nD τ sig) → Buf (Elt Ideal) ℓ) (c : Dev nD) (t : Fin (cfgA.N + 1)) : sProp 𝕄 :=
  iprop((∃ a, ⌜sfresh0_0 t.val = false → a = (prev0T m c t).2.2.2.1⌝ ∗ (scM0_0.view.loc (c : Thread nD τ) ↦{fullShare} a)) ∗ (∃ a, ⌜sfresh0_1 t.val = false → a = (prev0T m c t).2.2.2.2.1⌝ ∗ (scM0_1.view.loc (c : Thread nD τ) ↦{fullShare} a)) ∗ (∃ a, ⌜sfresh0_2 t.val = false → a = (prev0T m c t).2.2.2.2.2⌝ ∗ (scM0_2.view.loc (c : Thread nD τ) ↦{fullShare} a)) ∗ (tbM0_0.view.loc (c : Thread nD τ) ↦{fullShare.right} pinT_0) ∗ (tbM0_1.view.loc (c : Thread nD τ) ↦{fullShare.right} pinT_1))

def dats (_ : Fin 1) (c : Dev nD) : Dat τ (Elt Ideal) Unit ℕ (UR sig nD τ) ℕ cfgA c where
  A w := V m c (cfgA.win w).arr.view.ref
  after w t := match w with
    | ⟨0, _⟩ => iblk m c (0 : Fin 9) t
    | ⟨1, _⟩ => iblk m c (1 : Fin 9) t
    | ⟨2, _⟩ => iblk m c (2 : Fin 9) t
    | ⟨3, _⟩ => iblk m c (3 : Fin 9) t
    | ⟨4, _⟩ => iblk m c (4 : Fin 9) t
    | ⟨5, _⟩ => iblk m c (5 : Fin 9) t
    | ⟨6, _⟩ => (traj0 m c t.val t.isLt).1
    | ⟨7, _⟩ => (traj0 m c t.val t.isLt).2.1
    | ⟨8, _⟩ => (traj0 m c t.val t.isLt).2.2.1
  Φ t := Phi m c t
  q _ := fullShare
  owed _ := 0

section
attribute [local irreducible] V iblk traj0
theorem after0_0 (c : Dev nD) (t : Fin cfgA.N) : (dats m 0 c).after (0 : Fin 9) t = iblk m c (0 : Fin 9) t := rfl
theorem after0_1 (c : Dev nD) (t : Fin cfgA.N) : (dats m 0 c).after (1 : Fin 9) t = iblk m c (1 : Fin 9) t := rfl
theorem after0_2 (c : Dev nD) (t : Fin cfgA.N) : (dats m 0 c).after (2 : Fin 9) t = iblk m c (2 : Fin 9) t := rfl
theorem after0_3 (c : Dev nD) (t : Fin cfgA.N) : (dats m 0 c).after (3 : Fin 9) t = iblk m c (3 : Fin 9) t := rfl
theorem after0_4 (c : Dev nD) (t : Fin cfgA.N) : (dats m 0 c).after (4 : Fin 9) t = iblk m c (4 : Fin 9) t := rfl
theorem after0_5 (c : Dev nD) (t : Fin cfgA.N) : (dats m 0 c).after (5 : Fin 9) t = iblk m c (5 : Fin 9) t := rfl
theorem after0_6 (c : Dev nD) (t : Fin cfgA.N) : (dats m 0 c).after (6 : Fin 9) t = (traj0 m c t.val t.isLt).1 := rfl
theorem after0_7 (c : Dev nD) (t : Fin cfgA.N) : (dats m 0 c).after (7 : Fin 9) t = (traj0 m c t.val t.isLt).2.1 := rfl
theorem after0_8 (c : Dev nD) (t : Fin cfgA.N) : (dats m 0 c).after (8 : Fin 9) t = (traj0 m c t.val t.isLt).2.2.1 := rfl
end

theorem before0_0 (c : Dev nD) (t : Fin cfgA.N) (d) : (dats m 0 c).before (0 : Fin 9) t d = iblk m c (0 : Fin 9) t :=
  ((dats m 0 c).before_in_eq_fetched (0 : Fin 9) rfl (fun _ => rfl) (fun _ _ _ => rfl) (fun t => by rw [after0_0]; unfold Dat.blockOf iblk; rfl) t d).trans
    (by unfold Dat.fetched Dat.blockOf iblk; rfl)

theorem before0_1 (c : Dev nD) (t : Fin cfgA.N) (d) : (dats m 0 c).before (1 : Fin 9) t d = iblk m c (1 : Fin 9) t :=
  ((dats m 0 c).before_in_eq_fetched (1 : Fin 9) rfl (fun _ => rfl) (fun _ _ _ => rfl) (fun t => by rw [after0_1]; unfold Dat.blockOf iblk; rfl) t d).trans
    (by unfold Dat.fetched Dat.blockOf iblk; rfl)

theorem before0_2 (c : Dev nD) (t : Fin cfgA.N) (d) : (dats m 0 c).before (2 : Fin 9) t d = iblk m c (2 : Fin 9) t :=
  ((dats m 0 c).before_in_eq_fetched (2 : Fin 9) rfl (fun _ => rfl) (fun _ _ _ => rfl) (fun t => by rw [after0_2]; unfold Dat.blockOf iblk; rfl) t d).trans
    (by unfold Dat.fetched Dat.blockOf iblk; rfl)

theorem before0_3 (c : Dev nD) (t : Fin cfgA.N) (d) : (dats m 0 c).before (3 : Fin 9) t d = iblk m c (3 : Fin 9) t :=
  ((dats m 0 c).before_in_eq_fetched (3 : Fin 9) rfl (fun _ => rfl) (fun _ _ _ => rfl) (fun t => by rw [after0_3]; unfold Dat.blockOf iblk; rfl) t d).trans
    (by unfold Dat.fetched Dat.blockOf iblk; rfl)

theorem before0_4 (c : Dev nD) (t : Fin cfgA.N) (d) : (dats m 0 c).before (4 : Fin 9) t d = iblk m c (4 : Fin 9) t :=
  ((dats m 0 c).before_in_eq_fetched (4 : Fin 9) rfl (fun _ => rfl) (fun _ _ _ => rfl) (fun t => by rw [after0_4]; unfold Dat.blockOf iblk; rfl) t d).trans
    (by unfold Dat.fetched Dat.blockOf iblk; rfl)

theorem before0_5 (c : Dev nD) (t : Fin cfgA.N) (d) : (dats m 0 c).before (5 : Fin 9) t d = iblk m c (5 : Fin 9) t :=
  ((dats m 0 c).before_in_eq_fetched (5 : Fin 9) rfl (fun _ => rfl) (fun _ _ _ => rfl) (fun t => by rw [after0_5]; unfold Dat.blockOf iblk; rfl) t d).trans
    (by unfold Dat.fetched Dat.blockOf iblk; rfl)

theorem hcarry0_6 (c : Dev nD) : ∀ (t : Fin cfgA.N) (ht : t.val ≠ 0), cfgA.idle (6 : Fin 9) (cfgA.grid.coords t) = true → cfgA.fresh (6 : Fin 9) t.val = false →
    (dats m 0 c).after (6 : Fin 9) t = (dats m 0 c).after (6 : Fin 9) ⟨t.val - 1, by omega⟩ := by
  intro t ht hi hf
  rw [after0_6, after0_6, traj0_eq]
  by_cases q0 : P0_0 t
  · by_cases q1 : P0_1 t
    · obtain ⟨i6, -, -, -, -, -, -, -, -, -, -, -, -, -, -⟩ := sched0_D t q0 q1
      rw [i6] at hi; exact absurd hi (by decide)
    · rw [step0_A m c t _ q0 q1]
      simp only [hf, Bool.false_eq_true, ↓reduceIte]
      unfold prev0; rw [dif_neg ht]
  · by_cases q1 : P0_1 t
    · obtain ⟨i6, -, -, -, -, -, -, -, -, -, -, -, -, -, -⟩ := sched0_C t q0 q1
      rw [i6] at hi; exact absurd hi (by decide)
    · rw [step0_B m c t _ q0 q1]
      simp only [hf, Bool.false_eq_true, ↓reduceIte]
      unfold prev0; rw [dif_neg ht]

theorem before0_6 (c : Dev nD) (t : Fin cfgA.N) (d) :
    (dats m 0 c).before (6 : Fin 9) t d = if cfgA.fresh (6 : Fin 9) t.val then d else (prev0 m c t).1 := by
  rw [(dats m 0 c).before_out_traj (6 : Fin 9) rfl (fun _ _ => rfl) (hcarry0_6 m c) t.val t rfl d]
  by_cases hf : cfgA.fresh (6 : Fin 9) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_6]; unfold prev0; rw [dif_neg h0]

theorem hcarry0_7 (c : Dev nD) : ∀ (t : Fin cfgA.N) (ht : t.val ≠ 0), cfgA.idle (7 : Fin 9) (cfgA.grid.coords t) = true → cfgA.fresh (7 : Fin 9) t.val = false →
    (dats m 0 c).after (7 : Fin 9) t = (dats m 0 c).after (7 : Fin 9) ⟨t.val - 1, by omega⟩ := by
  intro t ht hi hf
  rw [after0_7, after0_7, traj0_eq]
  by_cases q0 : P0_0 t
  · by_cases q1 : P0_1 t
    · obtain ⟨-, -, -, i7, -, -, -, -, -, -, -, -, -, -, -⟩ := sched0_D t q0 q1
      rw [i7] at hi; exact absurd hi (by decide)
    · rw [step0_A m c t _ q0 q1]
      simp only [hf, Bool.false_eq_true, ↓reduceIte]
      unfold prev0; rw [dif_neg ht]
  · by_cases q1 : P0_1 t
    · obtain ⟨-, -, -, i7, -, -, -, -, -, -, -, -, -, -, -⟩ := sched0_C t q0 q1
      rw [i7] at hi; exact absurd hi (by decide)
    · rw [step0_B m c t _ q0 q1]
      simp only [hf, Bool.false_eq_true, ↓reduceIte]
      unfold prev0; rw [dif_neg ht]

theorem before0_7 (c : Dev nD) (t : Fin cfgA.N) (d) :
    (dats m 0 c).before (7 : Fin 9) t d = if cfgA.fresh (7 : Fin 9) t.val then d else (prev0 m c t).2.1 := by
  rw [(dats m 0 c).before_out_traj (7 : Fin 9) rfl (fun _ _ => rfl) (hcarry0_7 m c) t.val t rfl d]
  by_cases hf : cfgA.fresh (7 : Fin 9) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_7]; unfold prev0; rw [dif_neg h0]

theorem hcarry0_8 (c : Dev nD) : ∀ (t : Fin cfgA.N) (ht : t.val ≠ 0), cfgA.idle (8 : Fin 9) (cfgA.grid.coords t) = true → cfgA.fresh (8 : Fin 9) t.val = false →
    (dats m 0 c).after (8 : Fin 9) t = (dats m 0 c).after (8 : Fin 9) ⟨t.val - 1, by omega⟩ := by
  intro t ht hi hf
  rw [after0_8, after0_8, traj0_eq]
  by_cases q0 : P0_0 t
  · by_cases q1 : P0_1 t
    · obtain ⟨-, -, -, -, -, -, i8, -, -, -, -, -, -, -, -⟩ := sched0_D t q0 q1
      rw [i8] at hi; exact absurd hi (by decide)
    · rw [step0_A m c t _ q0 q1]
      simp only [hf, Bool.false_eq_true, ↓reduceIte]
      unfold prev0; rw [dif_neg ht]
  · by_cases q1 : P0_1 t
    · obtain ⟨-, -, -, -, -, -, i8, -, -, -, -, -, -, -, -⟩ := sched0_C t q0 q1
      rw [i8] at hi; exact absurd hi (by decide)
    · rw [step0_B m c t _ q0 q1]
      simp only [hf, Bool.false_eq_true, ↓reduceIte]
      unfold prev0; rw [dif_neg ht]

theorem before0_8 (c : Dev nD) (t : Fin cfgA.N) (d) :
    (dats m 0 c).before (8 : Fin 9) t d = if cfgA.fresh (8 : Fin 9) t.val then d else (prev0 m c t).2.2.1 := by
  rw [(dats m 0 c).before_out_traj (8 : Fin 9) rfl (fun _ _ => rfl) (hcarry0_8 m c) t.val t rfl d]
  by_cases hf : cfgA.fresh (8 : Fin 9) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_8]; unfold prev0; rw [dif_neg h0]

abbrev bodyAt0 (t : Fin cfgA.N) : Prog (TpuEff nD τ sig (Elt Ideal) Λ₀ .tc) PUnit :=
  cc0_fox_bwd_dkv (crd t) (Memref.whole main_c) (Memref.isWhole_whole _) (Memref.whole main_c_0) (Memref.isWhole_whole _) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (Memref.whole cc0_scratch0) (Memref.isWhole_whole _) (Memref.whole cc0_scratch1) (Memref.isWhole_whole _) (Memref.whole cc0_scratch2) (Memref.isWhole_whole _)

set_option maxHeartbeats 6400000 in
theorem sound_body (c : Dev nD) (t : Fin cfgA.N) :
    iprop((dats m 0 c).Φ t.castSucc ∗ (dats m 0 c).owesAt () t.castSucc
        ∗ (∃ d, owns (c : Thread nD τ) (ms0_0 t) fullShare ((dats m 0 c).before (0 : Fin 9) t d))
        ∗ (∃ d, owns (c : Thread nD τ) (ms0_1 t) fullShare ((dats m 0 c).before (1 : Fin 9) t d))
        ∗ (∃ d, owns (c : Thread nD τ) (ms0_2 t) fullShare ((dats m 0 c).before (2 : Fin 9) t d))
        ∗ (∃ d, owns (c : Thread nD τ) (ms0_3 t) fullShare ((dats m 0 c).before (3 : Fin 9) t d))
        ∗ (∃ d, owns (c : Thread nD τ) (ms0_4 t) fullShare ((dats m 0 c).before (4 : Fin 9) t d))
        ∗ (∃ d, owns (c : Thread nD τ) (ms0_5 t) fullShare ((dats m 0 c).before (5 : Fin 9) t d))
        ∗ (∃ d, owns (c : Thread nD τ) (ms0_6 t) fullShare ((dats m 0 c).before (6 : Fin 9) t d))
        ∗ (∃ d, owns (c : Thread nD τ) (ms0_7 t) fullShare ((dats m 0 c).before (7 : Fin 9) t d))
        ∗ (∃ d, owns (c : Thread nD τ) (ms0_8 t) fullShare ((dats m 0 c).before (8 : Fin 9) t d)))
      ⊢ wp frame (wpE (defs₀ (F := Ideal)) Variants.none c none) Set.univ (bodyAt0 t) fun _ =>
          iprop((dats m 0 c).Φ t.succ ∗ (dats m 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats m 0 c).before w t d))
                  | true => owns (c : Thread nD τ) ((cfgA.win w).stage (cfgA.slots t w)) fullShare ((dats m 0 c).after w t)
                | false => owns (c : Thread nD τ) ((cfgA.win w).stage (cfgA.slots t w)) fullShare ((dats m 0 c).after w t)) := by
  rw [bigSep_W0]
  by_cases q0 : P0_0 t
  · by_cases q1 : P0_1 t
    · obtain ⟨i6, f6, fr6, i7, f7, fr7, i8, f8, fr8, sf0, sfn0, sf1, sfn1, sf2, sfn2⟩ := sched0_D t q0 q1
      have F0 := hypsR0_D t q0 q1
      have hc0 := F0.1; have F1 := F0.2
      have hc1 := F1.1; have F2 := F1.2
      have hc2 := F2.1; have F3 := F2.2
      have k0_h4 := F3.1; have F4 := F3.2
      clear F0 F1 F2 F3 F4
      rewrite [i6]
      simp only [before0_0, before0_1, before0_2, before0_3, before0_4, before0_5, before0_6, before0_7, before0_8, after0_0, after0_1, after0_2, after0_3, after0_4, after0_5, after0_6, after0_7, after0_8, f6, f7, f8]
      simp only [fr6, fr7, fr8, Bool.false_eq_true, ↓reduceIte]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      try rewrite [traj0_eq, step0_D m c t _ q0 q1]
      unfold Phi; simp only [prev0T_castSucc, prev0T_succ, traj0_eq, step0_D m c t _ q0 q1, Fin.val_castSucc, Fin.val_succ]
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_D c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) hc0 hc1 hc2 k0_h4).2.2.2.2.2.2 a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      iintro ⟨H0, H1, H2, H3, H4, H5, HT0, HT1, ⟨%e6, H6⟩, ⟨%e7, H7⟩, ⟨%e8, H8⟩, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      isplitl [H6]
      · unfold owns; iexists _; isplitr; swap
        · iexact H6
        · ipureintro; exact View.read_writes_of_cover _ _ _ _ _ (cover0_D_6 c _ _ _ _ _ _ _ _ _ _ _ _ _ _ _ _ _ _ _ _ _ _ _ _ _ _ _ _ _ _ _)
      isplitl [H7]
      · unfold owns; iexists _; isplitr; swap
        · iexact H7
        · ipureintro; exact View.read_writes_of_cover _ _ _ _ _ (cover0_D_7 c _ _ _ _ _ _ _ _ _ _ _ _ _ _ _ _ _ _ _ _ _ _ _ _ _ _ _ _ _ _ _)
      unfold owns; iexists _; isplitr; swap
      · iexact H8
      · ipureintro; exact View.read_writes_of_cover _ _ _ _ _ (cover0_D_8 c _ _ _ _ _ _ _ _ _ _ _ _ _ _ _ _ _ _ _ _ _ _ _ _ _ _ _ _ _ _ _)
    · obtain ⟨i6, f6, fr6, i7, f7, fr7, i8, f8, fr8, sfn0, sfn1, sfn2⟩ := sched0_A t q0 q1
      have F0 := hypsR0_A t q0 q1
      have hc0 := F0.1; have F1 := F0.2
      have hc1 := F1.1; have F2 := F1.2
      have hc2 := F2.1; have F3 := F2.2
      have k0_h4 := F3.1; have F4 := F3.2
      clear F0 F1 F2 F3 F4
      rewrite [i6]
      simp only [before0_0, before0_1, before0_2, before0_3, before0_4, before0_5, before0_6, before0_7, before0_8, after0_0, after0_1, after0_2, after0_3, after0_4, after0_5, after0_6, after0_7, after0_8, f6, f7, f8]
      simp only [fr6, fr7, fr8, Bool.false_eq_true, ↓reduceIte]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      try rewrite [traj0_eq, step0_A m c t _ q0 q1]
      unfold Phi; simp only [prev0T_castSucc, prev0T_succ, traj0_eq, step0_A m c t _ q0 q1, Fin.val_castSucc, Fin.val_succ]
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) hc0 hc1 hc2 k0_h4).2.2.2 _ _ _ a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, H5, HT0, HT1, H6, H7, H8, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      isplitl [H6]
      · first | (iexists d6; iexact H6) | iexact H6
      isplitl [H7]
      · first | (iexists d7; iexact H7) | iexact H7
      first | (iexists d8; iexact H8) | iexact H8
  · by_cases q1 : P0_1 t
    · obtain ⟨i6, f6, fr6, i7, f7, fr7, i8, f8, fr8, sf0, sfn0, sf1, sfn1, sf2, sfn2⟩ := sched0_C t q0 q1
      have F0 := hypsR0_C t q0 q1
      have hc0 := F0.1; have F1 := F0.2
      have hc1 := F1.1; have F2 := F1.2
      have hc2 := F2.1; have F3 := F2.2
      have k0_h4 := F3.1; have F4 := F3.2
      clear F0 F1 F2 F3 F4
      rewrite [i6]
      simp only [before0_0, before0_1, before0_2, before0_3, before0_4, before0_5, before0_6, before0_7, before0_8, after0_0, after0_1, after0_2, after0_3, after0_4, after0_5, after0_6, after0_7, after0_8, f6, f7, f8]
      simp only [fr6, fr7, fr8, Bool.false_eq_true, ↓reduceIte]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      try rewrite [traj0_eq, step0_C m c t _ q0 q1]
      unfold Phi; simp only [prev0T_castSucc, prev0T_succ, traj0_eq, step0_C m c t _ q0 q1, Fin.val_castSucc, Fin.val_succ]
      simp only [exists_held sf0, exists_held sf1, exists_held sf2]
      iintro ⟨⟨HS0, HS1, HS2, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) _ _ _ hc0 hc1 hc2 k0_h4).2.2.2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      iintro ⟨H0, H1, H2, H3, H4, H5, HT0, HT1, ⟨%e6, H6⟩, ⟨%e7, H7⟩, ⟨%e8, H8⟩, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      isplitl [H6]
      · unfold owns; iexists _; isplitr; swap
        · iexact H6
        · ipureintro; exact View.read_writes_of_cover _ _ _ _ _ (cover0_C_6 c _ _ _ _ _ _ _ _ _ _ _ _ _ _ _ _ _ _ _ _ _ _ _ _ _ _ _ _ _ _ _ _ _ _)
      isplitl [H7]
      · unfold owns; iexists _; isplitr; swap
        · iexact H7
        · ipureintro; exact View.read_writes_of_cover _ _ _ _ _ (cover0_C_7 c _ _ _ _ _ _ _ _ _ _ _ _ _ _ _ _ _ _ _ _ _ _ _ _ _ _ _ _ _ _ _ _ _ _)
      unfold owns; iexists _; isplitr; swap
      · iexact H8
      · ipureintro; exact View.read_writes_of_cover _ _ _ _ _ (cover0_C_8 c _ _ _ _ _ _ _ _ _ _ _ _ _ _ _ _ _ _ _ _ _ _ _ _ _ _ _ _ _ _ _ _ _ _)
    · obtain ⟨i6, f6, fr6, i7, f7, fr7, i8, f8, fr8, sf0, sfn0, sf1, sfn1, sf2, sfn2⟩ := sched0_B t q0 q1
      have F0 := hypsR0_B t q0 q1
      have hc0 := F0.1; have F1 := F0.2
      have hc1 := F1.1; have F2 := F1.2
      have hc2 := F2.1; have F3 := F2.2
      have k0_h4 := F3.1; have F4 := F3.2
      clear F0 F1 F2 F3 F4
      rewrite [i6]
      simp only [before0_0, before0_1, before0_2, before0_3, before0_4, before0_5, before0_6, before0_7, before0_8, after0_0, after0_1, after0_2, after0_3, after0_4, after0_5, after0_6, after0_7, after0_8, f6, f7, f8]
      simp only [fr6, fr7, fr8, Bool.false_eq_true, ↓reduceIte]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      try rewrite [traj0_eq, step0_B m c t _ q0 q1]
      unfold Phi; simp only [prev0T_castSucc, prev0T_succ, traj0_eq, step0_B m c t _ q0 q1, Fin.val_castSucc, Fin.val_succ]
      simp only [exists_held sf0, exists_held sf1, exists_held sf2]
      iintro ⟨⟨HS0, HS1, HS2, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 (iblk m c (0 : Fin 9) t) (iblk m c (1 : Fin 9) t) (iblk m c (2 : Fin 9) t) (iblk m c (3 : Fin 9) t) (iblk m c (4 : Fin 9) t) (iblk m c (5 : Fin 9) t) _ _ _ hc0 hc1 hc2 k0_h4).2.2.2 _ _ _ _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, H5, HT0, HT1, H6, H7, H8, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      isplitl [H6]
      · first | (iexists d6; iexact H6) | iexact H6
      isplitl [H7]
      · first | (iexists d7; iexact H7) | iexact H7
      first | (iexists d8; iexact H8) | iexact H8

theorem body_obligation (c : Dev nD) : BodyObligation (dats m 0 c) (defs₀ (F := Ideal)) Variants.none () Set.univ := fun t => by
  rw [bigSep_W0]
  exact sound_body m c t

def u₀ : UR sig nD τ :=
  initOf (Pipeline.cells pcs ((launch0 (F := Ideal)).cellOf_inj fun _ => adm))
    (Pipeline.launchToks pcs ((launch0 (F := Ideal)).cellOf_inj fun _ => adm))

theorem share_eq (c : Dev nD) (w : Fin cfgA.W) : (dats m 0 c).share w = fullShare := by unfold Dat.share; split <;> rfl

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) adm.1 ∗ Pipeline.scopedRest spec0 c) ⊢ (dats m 0 c).Φ 0 := by
  rw [prefHeld_eq, scopedRest0_eq, show (dats m 0 c).Φ 0 = Phi m c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd (h.symm.trans (show sfresh0_0 0 = true from rfl)) Bool.false_ne_true
  isplitl [HS1]
  · iexists a1; isplitr; swap
    · iexact HS1
    · ipureintro; intro h; exact absurd (h.symm.trans (show sfresh0_1 0 = true from rfl)) Bool.false_ne_true
  isplitl [HS2]
  · iexists a2; isplitr; swap
    · iexact HS2
    · ipureintro; intro h; exact absurd (h.symm.trans (show sfresh0_2 0 = true from rfl)) Bool.false_ne_true
  isplitl [HT0]
  · iexact HT0
  iexact HT1

theorem phiN_exit (c : Dev nD) : (dats m 0 c).Φ (Fin.last cfgA.N) ⊢ iprop(BI.emp ∗ Pipeline.scopedRest spec0 c) := by
  rw [scopedRest0_eq, show (dats m 0 c).Φ (Fin.last cfgA.N) = Phi m c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

end Cert.Kernel7Ideal.Fox

end
-- ==== Proof.FoxIdeal.Launch.lean ====
/-
  The gradients of the forgetting attention: the run of the program, the operations before the call included.
-/
module

public import proofs.«01_k».proof.Proof.FoxIdeal.Run
public import Idealize.ShloMosaic.Lib.Pipeline.Frame
public import Idealize.ShloMosaic.Lib.StableHlo.ReadAt

@[expose] public section

set_option maxRecDepth 16384
set_option Elab.async false

noncomputable section

namespace Cert.Kernel7Ideal.Fox

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

set_option maxHeartbeats 40000000 in
theorem V_table0 (c : Dev nD) : V m c main_c = pinT_0 := by
  unfold V
  after_results_simp
  funext x
  have h : ∀ k : Fin 36, lit0 k = pinT_0 (ix1 k) := by decide +kernel
  refine (h (S36.rowMajor x)).trans (congrArg pinT_0 (funext fun a => ?_))
  fin_cases a
  exact Fin.ext (Shape.rowMajor_val_one x)

set_option maxHeartbeats 40000000 in
theorem V_table1 (c : Dev nD) : V m c main_c_0 = pinT_1 := by
  unfold V
  after_results_simp
  funext x
  have h : ∀ k : Fin 36, lit1 k = pinT_1 (ix1 k) := by decide +kernel
  refine (h (S36.rowMajor x)).trans (congrArg pinT_1 (funext fun a => ?_))
  fin_cases a
  exact Fin.ext (Shape.rowMajor_val_one x)

theorem V_pre (c : Dev nD) (j : Fin 2) : V m c (pre0.ref j) = adm.1 j := by
  fin_cases j
  · exact V_table0 m c
  · exact V_table1 m c

/-- What holds at the end: each array what the blocks written back make of it, every other buffer what it held at the call. -/
def Post : PUnit × MemSt nD τ sig (Elt Ideal) → Prop := fun r =>
  ∀ c : Dev nD, (∀ w : Fin (cfgA).W, r.2.mem (((cfgA).win w).arr.view.loc (c : Thread nD τ)) = (dats m 0 c).arrAt w (cfgA).N)
    ∧ ∀ b ∈ Pipeline.restRefsP sig pre0 spec0, r.2.mem ((c.tc : Thread nD τ).loc b) = V m c b

set_option backward.isDefEq.respectTransparency.types false in
set_option maxHeartbeats 4000000 in
theorem run : θ_run (defs (F := Ideal)) (onTc (τ := τ) (main (F := Ideal))) (s₀ m ρ) (fun r => Post m r ∧ r.2.sem = fun _ => 0) :=
  Pipeline.θ_run_region_noSem_pf_quiescent pcfgs (fun _ => adm) (dats m) () ((launch0 (F := Ideal)).cellOf_inj fun _ => adm) (0 : Fin 1)
    (launch0 (F := Ideal)).win.to₀ (launch0 (F := Ideal)).pre EP defs₀ Variants.none m ρ main
    (hbody := fun c => (body_obligation m c).loose) (hne := (launch0 (F := Ideal)).block_pos)
    (harr := (launch0 (F := Ideal)).arr_whole) (hstage := (launch0 (F := Ideal)).stage_whole) (howed := fun _ _ => rfl)
    (u₀ := u₀) (hu₀ := .rfl)
    (V := V m)
    (hmain := Pipeline.hmainP_prefix pcfgs (0 : Fin 1) defs₀ Variants.none m main hostOps0 hostOps0_sub ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ main_chain)
    (hsplit := fun c => Pipeline.arrays_split pcs (dats m) 0 (launch0 (F := Ideal)).win.arr_inj c (launch0 (F := Ideal)).arr_whole
      (share_eq m c) _ _ fun _ => rfl)
    (hpf := V_pre m)
    (X := fun _ => iprop(emp)) (Y := fun _ => iprop(emp))
    (Z := fun c => Pipeline.unscopedRestP pre0 spec0 c (V m c))
    (hX := fun c => by iintro H; isplitr; · iempintro
                       iexact H)
    (hin := phi0_intro m)
    (hout := phiN_exit m)
    (QY := fun c s => ∀ b ∈ Pipeline.restRefsP sig pre0 spec0, s.mem ((c.tc : Thread nD τ).loc b) = V m c b)
    (hY := fun c s' => by
      iintro ⟨-, HU, HSI⟩
      unfold Pipeline.unscopedRestP
      imodintro
      iapply (pointsTo_read_all (Pipeline.restRefsP sig pre0 spec0) (fun b => (c.tc : Thread nD τ).loc b) (V m c) s')
      isplitl [HU] <;> iassumption)
    (hQ := fun _ h hz => ⟨fun c => ⟨(h c).1, (h c).2.2⟩, hz⟩)

set_option maxHeartbeats 40000000 in
theorem V_arg0 (c : Dev nD) : V m c main_arg0 = m ((c.tc : Thread nD τ).loc main_arg0) := by
  unfold V
  after_results_simp

set_option maxHeartbeats 40000000 in
theorem V_arg1 (c : Dev nD) : V m c main_arg1 = m ((c.tc : Thread nD τ).loc main_arg1) := by
  unfold V
  after_results_simp

set_option maxHeartbeats 40000000 in
theorem V_arg2 (c : Dev nD) : V m c main_arg2 = m ((c.tc : Thread nD τ).loc main_arg2) := by
  unfold V
  after_results_simp

set_option maxHeartbeats 40000000 in
theorem V_arg3 (c : Dev nD) : V m c main_arg3 = m ((c.tc : Thread nD τ).loc main_arg3) := by
  unfold V
  after_results_simp

attribute [local irreducible] V

set_option maxHeartbeats 4000000 in
theorem Post_args (r) (h : Post m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).2 main_arg0 (by decide +kernel)).trans (V_arg0 m c),
   ((h c).1 (2 : Fin 9)).trans (((dats m 0 c).arrAt_in (2 : Fin 9) rfl _).trans (V_arg1 m c)),
   ((h c).2 main_arg2 (by decide +kernel)).trans (V_arg2 m c),
   ((h c).1 (5 : Fin 9)).trans (((dats m 0 c).arrAt_in (5 : Fin 9) rfl _).trans (V_arg3 m c))⟩

theorem frame (ρ : Dev nD → PrngReg) : θ_run (defs (F := Ideal)) (onTc (τ := τ) (main (F := Ideal))) (s₀ m ρ) (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) ∧ r.2.sem = fun _ => 0) :=
  (θ_run (defs (F := Ideal)) _ _).mono (fun r h => ⟨Post_args m r h.1, h.2⟩) (run m ρ)

end Cert.Kernel7Ideal.Fox

end
-- ==== Proof.FoxIdeal.Tiles.lean ====
module

public import proofs.«01_k».proof.Proof.FoxIdeal.Cfg
public import Idealize.ShloMosaic.Lib.Pipeline.ValueKit
public import Idealize.ShloMosaic.Lib.Pipeline.ReadBack

@[expose] public section

/-! # The tiles of a point of the grid, and the blocks of the arrays it sees -/

set_option maxRecDepth 16384

noncomputable section

open Idealize.ShloMosaic Idealize.ShloMosaic.TcCoe Idealize.SL.Sem
open Idealize.ShloMosaic.Pipeline (Dat)

namespace Cert.Kernel7Ideal.Fox

open Cert.Kernel7Ideal Cert.Kernel7Ideal.Gen

variable (m : (ℓ : Loc nD τ sig) → Buf (Elt Ideal) ℓ)

/-- The query tile of a point of the grid. -/
def ti (t : Fin cfgA.N) : ℕ := ([0, 1, 2, 3, 4, 5, 6, 7, 1, 2, 3, 4, 5, 6, 7, 2, 3, 4, 5, 6, 7, 3, 4, 5, 6, 7, 4, 5, 6, 7, 5, 6, 7, 6, 7, 7] : List ℕ).getD (t.val % 36) 0
/-- The key tile of a point of the grid. -/
def tj (t : Fin cfgA.N) : ℕ := ([0, 0, 0, 0, 0, 0, 0, 0, 1, 1, 1, 1, 1, 1, 1, 2, 2, 2, 2, 2, 2, 3, 3, 3, 3, 3, 4, 4, 4, 4, 5, 5, 5, 6, 6, 7] : List ℕ).getD (t.val % 36) 0
/-- The head of a point of the grid. -/
def th (t : Fin cfgA.N) : ℕ := t.val / 36

/-! A point with equal tiles starts a run, the last query tile ends it, and any other point follows a point of the same run. -/

theorem bounds : ∀ t : Fin cfgA.N, ti t < 8 ∧ tj t ≤ ti t ∧ th t < 6 := by decide +kernel
theorem diag : ∀ t : Fin cfgA.N, P0_0 t ↔ ti t = tj t := by decide +kernel
theorem last : ∀ t : Fin cfgA.N, P0_1 t ↔ ti t = 7 := by decide +kernel
theorem pred : ∀ t : Fin cfgA.N, ti t ≠ tj t → ∃ h : 0 < t.val, ti t = ti ⟨t.val - 1, by omega⟩ + 1 ∧ tj t = tj ⟨t.val - 1, by omega⟩ ∧ th t = th ⟨t.val - 1, by omega⟩ := by decide +kernel
theorem idx0 : ∀ t : Fin cfgA.N, (cfgA.win (0 : Fin 9)).index t = ![ti t, th t] := by decide +kernel
theorem idx1 : ∀ t : Fin cfgA.N, (cfgA.win (1 : Fin 9)).index t = ![tj t, th t] := by decide +kernel
theorem idx2 : ∀ t : Fin cfgA.N, (cfgA.win (2 : Fin 9)).index t = ![tj t, 6 + th t] := by decide +kernel
theorem idx3 : ∀ t : Fin cfgA.N, (cfgA.win (3 : Fin 9)).index t = ![ti t, th t] := by decide +kernel
theorem idx4 : ∀ t : Fin cfgA.N, (cfgA.win (4 : Fin 9)).index t = ![ti t, th t] := by decide +kernel
theorem idx5 : ∀ t : Fin cfgA.N, (cfgA.win (5 : Fin 9)).index t = ![ti t, th t] := by decide +kernel
theorem idx6 : ∀ t : Fin cfgA.N, (cfgA.win (6 : Fin 9)).index t = ![tj t, th t] := by decide +kernel
theorem idx7 : ∀ t : Fin cfgA.N, (cfgA.win (7 : Fin 9)).index t = ![tj t, th t] := by decide +kernel
theorem idx8 : ∀ t : Fin cfgA.N, (cfgA.win (8 : Fin 9)).index t = ![th t, 0, tj t] := by decide +kernel

attribute [local irreducible] V ti tj th

/-! Where the elements of a block lie in the array, and what a block reads. -/

theorem emb0 (t : Fin cfgA.N) (a : Fin 1024) (e : Fin 256) :
    ((cfgA.win (0 : Fin 9)).blk t).view.emb (ix2 a e) = (ix2 ⟨ti t * 1024 + a.val, by have := bounds t; omega⟩ ⟨th t * 256 + e.val, by have := bounds t; omega⟩ : (⟨2, ![8192, 1536]⟩ : Shape).Idx) := by
  have h0 := Pipeline.Window.rect_emb_val (cfgA.win (0 : Fin 9)) t (ix2 a e) (0 : Fin 2)
  have h1 := Pipeline.Window.rect_emb_val (cfgA.win (0 : Fin 9)) t (ix2 a e) (1 : Fin 2)
  rw [idx0] at h0 h1
  refine funext fun x => Fin.ext ?_
  fin_cases x
  · exact h0
  · exact h1
theorem rd0 (c : Dev nD) (X : (b : Ref sig .tc) → Buf (Elt Ideal) ((c.tc : Thread nD τ).loc b)) (t : Fin cfgA.N) (a : Fin 1024) (e : Fin 256) :
    ((cfgA.win (0 : Fin 9)).blk t).view.read (Elt Ideal) (X (cfgA.win (0 : Fin 9)).arr.view.ref) (ix2 a e) = X main_v38 (ix2 ⟨ti t * 1024 + a.val, by have := bounds t; omega⟩ ⟨th t * 256 + e.val, by have := bounds t; omega⟩) :=
  congrArg (X main_v38) (emb0 t a e)
theorem blk0 (c : Dev nD) (t : Fin cfgA.N) (a : Fin 1024) (e : Fin 256) :
    iblk m c 0 t (ix2 a e) = V m c main_v38 (ix2 ⟨ti t * 1024 + a.val, by have := bounds t; omega⟩ ⟨th t * 256 + e.val, by have := bounds t; omega⟩) := rd0 c (V m c) t a e
theorem emb1 (t : Fin cfgA.N) (a : Fin 1024) (e : Fin 256) :
    ((cfgA.win (1 : Fin 9)).blk t).view.emb (ix2 a e) = (ix2 ⟨tj t * 1024 + a.val, by have := bounds t; omega⟩ ⟨th t * 256 + e.val, by have := bounds t; omega⟩ : (⟨2, ![8192, 1536]⟩ : Shape).Idx) := by
  have h0 := Pipeline.Window.rect_emb_val (cfgA.win (1 : Fin 9)) t (ix2 a e) (0 : Fin 2)
  have h1 := Pipeline.Window.rect_emb_val (cfgA.win (1 : Fin 9)) t (ix2 a e) (1 : Fin 2)
  rw [idx1] at h0 h1
  refine funext fun x => Fin.ext ?_
  fin_cases x
  · exact h0
  · exact h1
theorem rd1 (c : Dev nD) (X : (b : Ref sig .tc) → Buf (Elt Ideal) ((c.tc : Thread nD τ).loc b)) (t : Fin cfgA.N) (a : Fin 1024) (e : Fin 256) :
    ((cfgA.win (1 : Fin 9)).blk t).view.read (Elt Ideal) (X (cfgA.win (1 : Fin 9)).arr.view.ref) (ix2 a e) = X main_v53 (ix2 ⟨tj t * 1024 + a.val, by have := bounds t; omega⟩ ⟨th t * 256 + e.val, by have := bounds t; omega⟩) :=
  congrArg (X main_v53) (emb1 t a e)
theorem blk1 (c : Dev nD) (t : Fin cfgA.N) (a : Fin 1024) (e : Fin 256) :
    iblk m c 1 t (ix2 a e) = V m c main_v53 (ix2 ⟨tj t * 1024 + a.val, by have := bounds t; omega⟩ ⟨th t * 256 + e.val, by have := bounds t; omega⟩) := rd1 c (V m c) t a e
theorem emb2 (t : Fin cfgA.N) (a : Fin 1024) (e : Fin 128) :
    ((cfgA.win (2 : Fin 9)).blk t).view.emb (ix2 a e) = (ix2 ⟨tj t * 1024 + a.val, by have := bounds t; omega⟩ ⟨(6 + th t) * 128 + e.val, by have := bounds t; omega⟩ : (⟨2, ![8192, 1536]⟩ : Shape).Idx) := by
  have h0 := Pipeline.Window.rect_emb_val (cfgA.win (2 : Fin 9)) t (ix2 a e) (0 : Fin 2)
  have h1 := Pipeline.Window.rect_emb_val (cfgA.win (2 : Fin 9)) t (ix2 a e) (1 : Fin 2)
  rw [idx2] at h0 h1
  refine funext fun x => Fin.ext ?_
  fin_cases x
  · exact h0
  · exact h1
theorem rd2 (c : Dev nD) (X : (b : Ref sig .tc) → Buf (Elt Ideal) ((c.tc : Thread nD τ).loc b)) (t : Fin cfgA.N) (a : Fin 1024) (e : Fin 128) :
    ((cfgA.win (2 : Fin 9)).blk t).view.read (Elt Ideal) (X (cfgA.win (2 : Fin 9)).arr.view.ref) (ix2 a e) = X main_arg1 (ix2 ⟨tj t * 1024 + a.val, by have := bounds t; omega⟩ ⟨(6 + th t) * 128 + e.val, by have := bounds t; omega⟩) :=
  congrArg (X main_arg1) (emb2 t a e)
theorem blk2 (c : Dev nD) (t : Fin cfgA.N) (a : Fin 1024) (e : Fin 128) :
    iblk m c 2 t (ix2 a e) = V m c main_arg1 (ix2 ⟨tj t * 1024 + a.val, by have := bounds t; omega⟩ ⟨(6 + th t) * 128 + e.val, by have := bounds t; omega⟩) := rd2 c (V m c) t a e
theorem emb3 (t : Fin cfgA.N) (a : Fin 1024) (e : Fin 128) :
    ((cfgA.win (3 : Fin 9)).blk t).view.emb (ix2 a e) = (ix2 ⟨ti t * 1024 + a.val, by have := bounds t; omega⟩ ⟨th t * 128 + e.val, by have := bounds t; omega⟩ : (⟨2, ![8192, 768]⟩ : Shape).Idx) := by
  have h0 := Pipeline.Window.rect_emb_val (cfgA.win (3 : Fin 9)) t (ix2 a e) (0 : Fin 2)
  have h1 := Pipeline.Window.rect_emb_val (cfgA.win (3 : Fin 9)) t (ix2 a e) (1 : Fin 2)
  rw [idx3] at h0 h1
  refine funext fun x => Fin.ext ?_
  fin_cases x
  · exact h0
  · exact h1
theorem rd3 (c : Dev nD) (X : (b : Ref sig .tc) → Buf (Elt Ideal) ((c.tc : Thread nD τ).loc b)) (t : Fin cfgA.N) (a : Fin 1024) (e : Fin 128) :
    ((cfgA.win (3 : Fin 9)).blk t).view.read (Elt Ideal) (X (cfgA.win (3 : Fin 9)).arr.view.ref) (ix2 a e) = X main_v95 (ix2 ⟨ti t * 1024 + a.val, by have := bounds t; omega⟩ ⟨th t * 128 + e.val, by have := bounds t; omega⟩) :=
  congrArg (X main_v95) (emb3 t a e)
theorem blk3 (c : Dev nD) (t : Fin cfgA.N) (a : Fin 1024) (e : Fin 128) :
    iblk m c 3 t (ix2 a e) = V m c main_v95 (ix2 ⟨ti t * 1024 + a.val, by have := bounds t; omega⟩ ⟨th t * 128 + e.val, by have := bounds t; omega⟩) := rd3 c (V m c) t a e
theorem emb4 (t : Fin cfgA.N) (a : Fin 1024) (e : Fin 128) :
    ((cfgA.win (4 : Fin 9)).blk t).view.emb (ix2 a e) = (ix2 ⟨ti t * 1024 + a.val, by have := bounds t; omega⟩ ⟨th t * 128 + e.val, by have := bounds t; omega⟩ : (⟨2, ![8192, 768]⟩ : Shape).Idx) := by
  have h0 := Pipeline.Window.rect_emb_val (cfgA.win (4 : Fin 9)) t (ix2 a e) (0 : Fin 2)
  have h1 := Pipeline.Window.rect_emb_val (cfgA.win (4 : Fin 9)) t (ix2 a e) (1 : Fin 2)
  rw [idx4] at h0 h1
  refine funext fun x => Fin.ext ?_
  fin_cases x
  · exact h0
  · exact h1
theorem rd4 (c : Dev nD) (X : (b : Ref sig .tc) → Buf (Elt Ideal) ((c.tc : Thread nD τ).loc b)) (t : Fin cfgA.N) (a : Fin 1024) (e : Fin 128) :
    ((cfgA.win (4 : Fin 9)).blk t).view.read (Elt Ideal) (X (cfgA.win (4 : Fin 9)).arr.view.ref) (ix2 a e) = X main_v93 (ix2 ⟨ti t * 1024 + a.val, by have := bounds t; omega⟩ ⟨th t * 128 + e.val, by have := bounds t; omega⟩) :=
  congrArg (X main_v93) (emb4 t a e)
theorem blk4 (c : Dev nD) (t : Fin cfgA.N) (a : Fin 1024) (e : Fin 128) :
    iblk m c 4 t (ix2 a e) = V m c main_v93 (ix2 ⟨ti t * 1024 + a.val, by have := bounds t; omega⟩ ⟨th t * 128 + e.val, by have := bounds t; omega⟩) := rd4 c (V m c) t a e
theorem emb5 (t : Fin cfgA.N) (a : Fin 1024) (e : Fin 128) :
    ((cfgA.win (5 : Fin 9)).blk t).view.emb (ix2 a e) = (ix2 ⟨ti t * 1024 + a.val, by have := bounds t; omega⟩ ⟨th t * 128 + e.val, by have := bounds t; omega⟩ : (⟨2, ![8192, 1024]⟩ : Shape).Idx) := by
  have h0 := Pipeline.Window.rect_emb_val (cfgA.win (5 : Fin 9)) t (ix2 a e) (0 : Fin 2)
  have h1 := Pipeline.Window.rect_emb_val (cfgA.win (5 : Fin 9)) t (ix2 a e) (1 : Fin 2)
  rw [idx5] at h0 h1
  refine funext fun x => Fin.ext ?_
  fin_cases x
  · exact h0
  · exact h1
theorem rd5 (c : Dev nD) (X : (b : Ref sig .tc) → Buf (Elt Ideal) ((c.tc : Thread nD τ).loc b)) (t : Fin cfgA.N) (a : Fin 1024) (e : Fin 128) :
    ((cfgA.win (5 : Fin 9)).blk t).view.read (Elt Ideal) (X (cfgA.win (5 : Fin 9)).arr.view.ref) (ix2 a e) = X main_arg3 (ix2 ⟨ti t * 1024 + a.val, by have := bounds t; omega⟩ ⟨th t * 128 + e.val, by have := bounds t; omega⟩) :=
  congrArg (X main_arg3) (emb5 t a e)
theorem blk5 (c : Dev nD) (t : Fin cfgA.N) (a : Fin 1024) (e : Fin 128) :
    iblk m c 5 t (ix2 a e) = V m c main_arg3 (ix2 ⟨ti t * 1024 + a.val, by have := bounds t; omega⟩ ⟨th t * 128 + e.val, by have := bounds t; omega⟩) := rd5 c (V m c) t a e
theorem emb6 (t : Fin cfgA.N) (a : Fin 1024) (e : Fin 128) :
    ((cfgA.win (6 : Fin 9)).blk t).view.emb (ix2 a e) = (ix2 ⟨tj t * 1024 + a.val, by have := bounds t; omega⟩ ⟨th t * 128 + e.val, by have := bounds t; omega⟩ : (⟨2, ![8192, 768]⟩ : Shape).Idx) := by
  have h0 := Pipeline.Window.rect_emb_val (cfgA.win (6 : Fin 9)) t (ix2 a e) (0 : Fin 2)
  have h1 := Pipeline.Window.rect_emb_val (cfgA.win (6 : Fin 9)) t (ix2 a e) (1 : Fin 2)
  rw [idx6] at h0 h1
  refine funext fun x => Fin.ext ?_
  fin_cases x
  · exact h0
  · exact h1
theorem emb7 (t : Fin cfgA.N) (a : Fin 1024) (e : Fin 128) :
    ((cfgA.win (7 : Fin 9)).blk t).view.emb (ix2 a e) = (ix2 ⟨tj t * 1024 + a.val, by have := bounds t; omega⟩ ⟨th t * 128 + e.val, by have := bounds t; omega⟩ : (⟨2, ![8192, 768]⟩ : Shape).Idx) := by
  have h0 := Pipeline.Window.rect_emb_val (cfgA.win (7 : Fin 9)) t (ix2 a e) (0 : Fin 2)
  have h1 := Pipeline.Window.rect_emb_val (cfgA.win (7 : Fin 9)) t (ix2 a e) (1 : Fin 2)
  rw [idx7] at h0 h1
  refine funext fun x => Fin.ext ?_
  fin_cases x
  · exact h0
  · exact h1
theorem emb8 (t : Fin cfgA.N) (b : Fin 1024) :
    ((cfgA.win (8 : Fin 9)).blk t).view.emb (ix3 (0 : Fin 1) (0 : Fin 1) b) = (ix3 ⟨th t, (bounds t).2.2⟩ (0 : Fin 1) ⟨tj t * 1024 + b.val, by have := bounds t; omega⟩ : (⟨3, ![6, 1, 8192]⟩ : Shape).Idx) := by
  have h0 := Pipeline.Window.rect_emb_val (cfgA.win (8 : Fin 9)) t (ix3 (0 : Fin 1) (0 : Fin 1) b) (0 : Fin 3)
  have h1 := Pipeline.Window.rect_emb_val (cfgA.win (8 : Fin 9)) t (ix3 (0 : Fin 1) (0 : Fin 1) b) (1 : Fin 3)
  have h2 := Pipeline.Window.rect_emb_val (cfgA.win (8 : Fin 9)) t (ix3 (0 : Fin 1) (0 : Fin 1) b) (2 : Fin 3)
  rw [idx8] at h0 h1 h2
  refine funext fun x => Fin.ext ?_
  fin_cases x
  · exact h0.trans (Nat.mul_one _)
  · exact h1
  · exact h2
/-! The blocks written back cover each output array. -/

theorem cov6 : (cfgA.win (6 : Fin 9)).Covers := by decide +kernel
theorem cov8 : (cfgA.win (8 : Fin 9)).Covers := by decide +kernel
theorem cov7 : (cfgA.win (7 : Fin 9)).Covers := by decide +kernel
theorem flush6 : ∀ t : Fin cfgA.N, (cfgA.win (6 : Fin 9)).flush t = true → P0_1 t := by decide +kernel
theorem flush7 : ∀ t : Fin cfgA.N, (cfgA.win (7 : Fin 9)).flush t = true → P0_1 t := by decide +kernel
theorem flush8 : ∀ t : Fin cfgA.N, (cfgA.win (8 : Fin 9)).flush t = true → P0_1 t := by decide +kernel
end Cert.Kernel7Ideal.Fox
end
-- ==== Proof.FoxIdeal.Step.lean ====
module

public import proofs.«01_k».proof.Proof.FoxIdeal.Run
public import Idealize.ShloMosaic.Lib.Pipeline.ValueKit
public import Idealize.ShloMosaic.Lib.Pipeline.ReadBack

@[expose] public section

/-! # What a point's body leaves in the scratches and in the outputs, case by case, over the blocks it reads -/

set_option maxRecDepth 16384

noncomputable section

open Idealize.ShloMosaic Idealize.ShloMosaic.TcCoe Idealize.SL.Sem
open Idealize.ShloMosaic.Pipeline (Dat)

namespace Cert.Kernel7Ideal.Fox

open Cert.Kernel7Ideal Cert.Kernel7Ideal.Gen

variable (m : (ℓ : Loc nD τ sig) → Buf (Elt Ideal) ℓ)

/-- A buffer's contents read through the view of the whole buffer. -/
theorem read_whole {κ : Kind} (b : Ref sig κ) (X : b.ty.shape.Idx → Elt Ideal b.ty.elt) : View.read (Elt Ideal) (View.whole b) X = X := rfl

theorem scratch0_piece (w : S1024x128.Idx → Elt Ideal .f32) (L) :
    (View.whole cc0_scratch0).writes (Elt Ideal) (View.whole cc0_scratch0).junk ((⟨Rect.unit ![0, 0] S1024x128.size inb_S1024x128_S1024x128_0_0, w⟩ : View.Piece (Elt Ideal) S1024x128 .f32) :: L) = w :=
  (read_whole cc0_scratch0 _).symm.trans ((View.read_writes_junk_eq_canon (Val := Elt Ideal) (View.whole cc0_scratch0) _).trans (View.canon_cons_unit_lit inb_S1024x128_S1024x128_0_0 w L (by decide)))

theorem scratch1_piece (w : S1024x128.Idx → Elt Ideal .f32) (L) :
    (View.whole cc0_scratch1).writes (Elt Ideal) (View.whole cc0_scratch1).junk ((⟨Rect.unit ![0, 0] S1024x128.size inb_S1024x128_S1024x128_0_0, w⟩ : View.Piece (Elt Ideal) S1024x128 .f32) :: L) = w :=
  (read_whole cc0_scratch1 _).symm.trans ((View.read_writes_junk_eq_canon (Val := Elt Ideal) (View.whole cc0_scratch1) _).trans (View.canon_cons_unit_lit inb_S1024x128_S1024x128_0_0 w L (by decide)))

theorem scratch2_piece (w : S1x1024.Idx → Elt Ideal .f32) (L) :
    (View.whole cc0_scratch2).writes (Elt Ideal) (View.whole cc0_scratch2).junk ((⟨Rect.unit ![0, 0] S1x1024.size inb_S1x1024_S1x1024_0_0, w⟩ : View.Piece (Elt Ideal) S1x1024 .f32) :: L) = w :=
  (read_whole cc0_scratch2 _).symm.trans ((View.read_writes_junk_eq_canon (Val := Elt Ideal) (View.whole cc0_scratch2) _).trans (View.canon_cons_unit_lit inb_S1x1024_S1x1024_0_0 w L (by decide)))

theorem runA_0 (c : Dev nD) (t : Fin cfgA.N) (q0 : P0_0 t) (q1 : ¬P0_1 t) (x0 x1 : S1024x256.Idx → Elt Ideal .bf16) (x2 x3 : S1024x128.Idx → Elt Ideal .bf16) (x4 : S1024x128.Idx → Elt Ideal .f32) (x5 : S1024x128.Idx → Elt Ideal .bf16) :
    (kernelRun0_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 x0 x1 x2 x3 x4 x5 (hypsR0_A t q0 q1).1 (hypsR0_A t q0 q1).2.1 (hypsR0_A t q0 q1).2.2.1 (hypsR0_A t q0 q1).2.2.2.1).1 = (k0_pay7 (k0_pay17 x0 x1 x4 x5 x3 x2) (k0_pay1 (F := Ideal)) (View.ld x0 (Rect.unit (s := S1024x256) ![0, 0] S1024x128.size inb_S1024x256_S1024x128_0_0)) : S1024x128.Idx → Elt Ideal .f32) := by
  frame_open
  refine (scratch0_piece _ _).trans ?_
  frame_out
  simp only [View.read_rep]

theorem runA_1 (c : Dev nD) (t : Fin cfgA.N) (q0 : P0_0 t) (q1 : ¬P0_1 t) (x0 x1 : S1024x256.Idx → Elt Ideal .bf16) (x2 x3 : S1024x128.Idx → Elt Ideal .bf16) (x4 : S1024x128.Idx → Elt Ideal .f32) (x5 : S1024x128.Idx → Elt Ideal .bf16) :
    (kernelRun0_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 x0 x1 x2 x3 x4 x5 (hypsR0_A t q0 q1).1 (hypsR0_A t q0 q1).2.1 (hypsR0_A t q0 q1).2.2.1 (hypsR0_A t q0 q1).2.2.2.1).2.1 = (k0_pay6 (k0_pay18 x0 x1 x4 x5 (k0_pay2 (F := Ideal))) : S1024x128.Idx → Elt Ideal .f32) := by
  frame_open
  refine (scratch1_piece _ _).trans ?_
  frame_out
  simp only [View.read_rep]

theorem runA_2 (c : Dev nD) (t : Fin cfgA.N) (q0 : P0_0 t) (q1 : ¬P0_1 t) (x0 x1 : S1024x256.Idx → Elt Ideal .bf16) (x2 x3 : S1024x128.Idx → Elt Ideal .bf16) (x4 : S1024x128.Idx → Elt Ideal .f32) (x5 : S1024x128.Idx → Elt Ideal .bf16) :
    (kernelRun0_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 x0 x1 x2 x3 x4 x5 (hypsR0_A t q0 q1).1 (hypsR0_A t q0 q1).2.1 (hypsR0_A t q0 q1).2.2.1 (hypsR0_A t q0 q1).2.2.2.1).2.2.1 = (k0_pay8 (k0_pay17 x0 x1 x4 x5 x3 x2) (k0_pay3 (F := Ideal)) : S1x1024.Idx → Elt Ideal .f32) := by
  frame_open
  refine (scratch2_piece _ _).trans ?_
  frame_out
  simp only [View.read_rep]

theorem runB_0 (c : Dev nD) (t : Fin cfgA.N) (q0 : ¬P0_0 t) (q1 : ¬P0_1 t) (x0 x1 : S1024x256.Idx → Elt Ideal .bf16) (x2 x3 : S1024x128.Idx → Elt Ideal .bf16) (x4 : S1024x128.Idx → Elt Ideal .f32) (x5 : S1024x128.Idx → Elt Ideal .bf16) (s0 s1 : S1024x128.Idx → Elt Ideal .f32) (s2 : S1x1024.Idx → Elt Ideal .f32) :
    (kernelRun0_B c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 x0 x1 x2 x3 x4 x5 s0 s1 s2 (hypsR0_B t q0 q1).1 (hypsR0_B t q0 q1).2.1 (hypsR0_B t q0 q1).2.2.1 (hypsR0_B t q0 q1).2.2.2.1).1 = (k0_pay4 (k0_pay12 x0 x1 x4 x5 x3 x2) s0 (k0_pay14 (View.ld x0 (Rect.unit (s := S1024x256) ![0, 0] S1024x128.size inb_S1024x256_S1024x128_0_0))) : S1024x128.Idx → Elt Ideal .f32) := by
  frame_open
  refine (scratch0_piece _ _).trans ?_
  frame_out
  simp only [View.read_rep]
  refine Eq.trans (b := k0_pay4 (k0_pay12 x0 x1 (View.ld (View.read (Elt Ideal) (ms0_4 t).view ((ms0_4 t).view.rep x4)) (Rect.unit (s := S1024x128) ![0, 0] S1024x128.size inb_S1024x128_S1024x128_0_0)) x5 x3 x2) (View.read (Elt Ideal) (View.whole cc0_scratch0) s0) (k0_pay14 (View.ld x0 (Rect.unit (s := S1024x256) ![0, 0] S1024x128.size inb_S1024x256_S1024x128_0_0)))) rfl ?_
  rw [View.read_rep, View.ld_unit_lit inb_S1024x128_S1024x128_0_0 _ (by decide), read_whole]

theorem runB_1 (c : Dev nD) (t : Fin cfgA.N) (q0 : ¬P0_0 t) (q1 : ¬P0_1 t) (x0 x1 : S1024x256.Idx → Elt Ideal .bf16) (x2 x3 : S1024x128.Idx → Elt Ideal .bf16) (x4 : S1024x128.Idx → Elt Ideal .f32) (x5 : S1024x128.Idx → Elt Ideal .bf16) (s0 s1 : S1024x128.Idx → Elt Ideal .f32) (s2 : S1x1024.Idx → Elt Ideal .f32) :
    (kernelRun0_B c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 x0 x1 x2 x3 x4 x5 s0 s1 s2 (hypsR0_B t q0 q1).1 (hypsR0_B t q0 q1).2.1 (hypsR0_B t q0 q1).2.2.1 (hypsR0_B t q0 q1).2.2.2.1).2.1 = (k0_pay13 x0 x1 x4 x5 s1 : S1024x128.Idx → Elt Ideal .f32) := by
  frame_open
  refine (scratch1_piece _ _).trans ?_
  frame_out
  simp only [View.read_rep]
  refine Eq.trans (b := k0_pay13 x0 x1 (View.ld (View.read (Elt Ideal) (ms0_4 t).view ((ms0_4 t).view.rep x4)) (Rect.unit (s := S1024x128) ![0, 0] S1024x128.size inb_S1024x128_S1024x128_0_0)) x5 (View.read (Elt Ideal) (View.whole cc0_scratch1) s1)) rfl ?_
  rw [View.read_rep, View.ld_unit_lit inb_S1024x128_S1024x128_0_0 _ (by decide), read_whole]

theorem runB_2 (c : Dev nD) (t : Fin cfgA.N) (q0 : ¬P0_0 t) (q1 : ¬P0_1 t) (x0 x1 : S1024x256.Idx → Elt Ideal .bf16) (x2 x3 : S1024x128.Idx → Elt Ideal .bf16) (x4 : S1024x128.Idx → Elt Ideal .f32) (x5 : S1024x128.Idx → Elt Ideal .bf16) (s0 s1 : S1024x128.Idx → Elt Ideal .f32) (s2 : S1x1024.Idx → Elt Ideal .f32) :
    (kernelRun0_B c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 x0 x1 x2 x3 x4 x5 s0 s1 s2 (hypsR0_B t q0 q1).1 (hypsR0_B t q0 q1).2.1 (hypsR0_B t q0 q1).2.2.1 (hypsR0_B t q0 q1).2.2.2.1).2.2.1 = (k0_pay5 (k0_pay12 x0 x1 x4 x5 x3 x2) s2 : S1x1024.Idx → Elt Ideal .f32) := by
  frame_open
  refine (scratch2_piece _ _).trans ?_
  frame_out
  simp only [View.read_rep]
  refine Eq.trans (b := k0_pay5 (k0_pay12 x0 x1 (View.ld (View.read (Elt Ideal) (ms0_4 t).view ((ms0_4 t).view.rep x4)) (Rect.unit (s := S1024x128) ![0, 0] S1024x128.size inb_S1024x128_S1024x128_0_0)) x5 x3 x2) (View.read (Elt Ideal) (View.whole cc0_scratch2) s2)) rfl ?_
  rw [View.read_rep, View.ld_unit_lit inb_S1024x128_S1024x128_0_0 _ (by decide), read_whole]

theorem runC_0 (c : Dev nD) (t : Fin cfgA.N) (q0 : ¬P0_0 t) (q1 : P0_1 t) (x0 x1 : S1024x256.Idx → Elt Ideal .bf16) (x2 x3 : S1024x128.Idx → Elt Ideal .bf16) (x4 : S1024x128.Idx → Elt Ideal .f32) (x5 : S1024x128.Idx → Elt Ideal .bf16) (s0 s1 : S1024x128.Idx → Elt Ideal .f32) (s2 : S1x1024.Idx → Elt Ideal .f32) :
    (kernelRun0_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 x0 x1 x2 x3 x4 x5 s0 s1 s2 (hypsR0_C t q0 q1).1 (hypsR0_C t q0 q1).2.1 (hypsR0_C t q0 q1).2.2.1 (hypsR0_C t q0 q1).2.2.2.1).2.2.2.1 = (k0_pay4 (k0_pay12 x0 x1 x4 x5 x3 x2) s0 (k0_pay14 (View.ld x0 (Rect.unit (s := S1024x256) ![0, 0] S1024x128.size inb_S1024x256_S1024x128_0_0))) : S1024x128.Idx → Elt Ideal .f32) := by
  frame_open
  refine (scratch0_piece _ _).trans ?_
  frame_out
  simp only [View.read_rep]
  refine Eq.trans (b := k0_pay4 (k0_pay12 x0 x1 (View.ld (View.read (Elt Ideal) (ms0_4 t).view ((ms0_4 t).view.rep x4)) (Rect.unit (s := S1024x128) ![0, 0] S1024x128.size inb_S1024x128_S1024x128_0_0)) x5 x3 x2) (View.read (Elt Ideal) (View.whole cc0_scratch0) s0) (k0_pay14 (View.ld x0 (Rect.unit (s := S1024x256) ![0, 0] S1024x128.size inb_S1024x256_S1024x128_0_0)))) rfl ?_
  rw [View.read_rep, View.ld_unit_lit inb_S1024x128_S1024x128_0_0 _ (by decide), read_whole]

theorem runC_1 (c : Dev nD) (t : Fin cfgA.N) (q0 : ¬P0_0 t) (q1 : P0_1 t) (x0 x1 : S1024x256.Idx → Elt Ideal .bf16) (x2 x3 : S1024x128.Idx → Elt Ideal .bf16) (x4 : S1024x128.Idx → Elt Ideal .f32) (x5 : S1024x128.Idx → Elt Ideal .bf16) (s0 s1 : S1024x128.Idx → Elt Ideal .f32) (s2 : S1x1024.Idx → Elt Ideal .f32) :
    (kernelRun0_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 x0 x1 x2 x3 x4 x5 s0 s1 s2 (hypsR0_C t q0 q1).1 (hypsR0_C t q0 q1).2.1 (hypsR0_C t q0 q1).2.2.1 (hypsR0_C t q0 q1).2.2.2.1).2.2.2.2.1 = (k0_pay13 x0 x1 x4 x5 s1 : S1024x128.Idx → Elt Ideal .f32) := by
  frame_open
  refine (scratch1_piece _ _).trans ?_
  frame_out
  simp only [View.read_rep]
  refine Eq.trans (b := k0_pay13 x0 x1 (View.ld (View.read (Elt Ideal) (ms0_4 t).view ((ms0_4 t).view.rep x4)) (Rect.unit (s := S1024x128) ![0, 0] S1024x128.size inb_S1024x128_S1024x128_0_0)) x5 (View.read (Elt Ideal) (View.whole cc0_scratch1) s1)) rfl ?_
  rw [View.read_rep, View.ld_unit_lit inb_S1024x128_S1024x128_0_0 _ (by decide), read_whole]

theorem runC_2 (c : Dev nD) (t : Fin cfgA.N) (q0 : ¬P0_0 t) (q1 : P0_1 t) (x0 x1 : S1024x256.Idx → Elt Ideal .bf16) (x2 x3 : S1024x128.Idx → Elt Ideal .bf16) (x4 : S1024x128.Idx → Elt Ideal .f32) (x5 : S1024x128.Idx → Elt Ideal .bf16) (s0 s1 : S1024x128.Idx → Elt Ideal .f32) (s2 : S1x1024.Idx → Elt Ideal .f32) :
    (kernelRun0_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 x0 x1 x2 x3 x4 x5 s0 s1 s2 (hypsR0_C t q0 q1).1 (hypsR0_C t q0 q1).2.1 (hypsR0_C t q0 q1).2.2.1 (hypsR0_C t q0 q1).2.2.2.1).2.2.2.2.2.1 = (k0_pay5 (k0_pay12 x0 x1 x4 x5 x3 x2) s2 : S1x1024.Idx → Elt Ideal .f32) := by
  frame_open
  refine (scratch2_piece _ _).trans ?_
  frame_out
  simp only [View.read_rep]
  refine Eq.trans (b := k0_pay5 (k0_pay12 x0 x1 (View.ld (View.read (Elt Ideal) (ms0_4 t).view ((ms0_4 t).view.rep x4)) (Rect.unit (s := S1024x128) ![0, 0] S1024x128.size inb_S1024x128_S1024x128_0_0)) x5 x3 x2) (View.read (Elt Ideal) (View.whole cc0_scratch2) s2)) rfl ?_
  rw [View.read_rep, View.ld_unit_lit inb_S1024x128_S1024x128_0_0 _ (by decide), read_whole]

theorem outC_0 (c : Dev nD) (t : Fin cfgA.N) (q0 : ¬P0_0 t) (q1 : P0_1 t) (x0 x1 : S1024x256.Idx → Elt Ideal .bf16) (x2 x3 : S1024x128.Idx → Elt Ideal .bf16) (x4 : S1024x128.Idx → Elt Ideal .f32) (x5 : S1024x128.Idx → Elt Ideal .bf16) (s0 s1 : S1024x128.Idx → Elt Ideal .f32) (s2 : S1x1024.Idx → Elt Ideal .f32) :
    out0_C_6 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 x0 x1 x2 x3 x4 x5 s0 s1 s2 (hypsR0_C t q0 q1).1 (hypsR0_C t q0 q1).2.1 (hypsR0_C t q0 q1).2.2.1 (hypsR0_C t q0 q1).2.2.2.1 = k0_pay4 (k0_pay12 x0 x1 x4 x5 x3 x2) s0 (k0_pay14 (View.ld x0 (Rect.unit (s := S1024x256) ![0, 0] S1024x128.size inb_S1024x256_S1024x128_0_0))) := by
  frame_out
  simp only [View.read_rep]
  refine Eq.trans (b := k0_pay4 (k0_pay12 x0 x1 (View.ld (View.read (Elt Ideal) (ms0_4 t).view ((ms0_4 t).view.rep x4)) (Rect.unit (s := S1024x128) ![0, 0] S1024x128.size inb_S1024x128_S1024x128_0_0)) x5 x3 x2) (View.read (Elt Ideal) (View.whole cc0_scratch0) s0) (k0_pay14 (View.ld x0 (Rect.unit (s := S1024x256) ![0, 0] S1024x128.size inb_S1024x256_S1024x128_0_0)))) rfl ?_
  rw [View.read_rep, View.ld_unit_lit inb_S1024x128_S1024x128_0_0 _ (by decide), read_whole]

theorem outC_1 (c : Dev nD) (t : Fin cfgA.N) (q0 : ¬P0_0 t) (q1 : P0_1 t) (x0 x1 : S1024x256.Idx → Elt Ideal .bf16) (x2 x3 : S1024x128.Idx → Elt Ideal .bf16) (x4 : S1024x128.Idx → Elt Ideal .f32) (x5 : S1024x128.Idx → Elt Ideal .bf16) (s0 s1 : S1024x128.Idx → Elt Ideal .f32) (s2 : S1x1024.Idx → Elt Ideal .f32) :
    out0_C_7 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 x0 x1 x2 x3 x4 x5 s0 s1 s2 (hypsR0_C t q0 q1).1 (hypsR0_C t q0 q1).2.1 (hypsR0_C t q0 q1).2.2.1 (hypsR0_C t q0 q1).2.2.2.1 = k0_pay13 x0 x1 x4 x5 s1 := by
  frame_out
  simp only [View.read_rep]
  refine Eq.trans (b := k0_pay13 x0 x1 (View.ld (View.read (Elt Ideal) (ms0_4 t).view ((ms0_4 t).view.rep x4)) (Rect.unit (s := S1024x128) ![0, 0] S1024x128.size inb_S1024x128_S1024x128_0_0)) x5 (View.read (Elt Ideal) (View.whole cc0_scratch1) s1)) rfl ?_
  rw [View.read_rep, View.ld_unit_lit inb_S1024x128_S1024x128_0_0 _ (by decide), read_whole]

theorem outC_2 (c : Dev nD) (t : Fin cfgA.N) (q0 : ¬P0_0 t) (q1 : P0_1 t) (x0 x1 : S1024x256.Idx → Elt Ideal .bf16) (x2 x3 : S1024x128.Idx → Elt Ideal .bf16) (x4 : S1024x128.Idx → Elt Ideal .f32) (x5 : S1024x128.Idx → Elt Ideal .bf16) (s0 s1 : S1024x128.Idx → Elt Ideal .f32) (s2 : S1x1024.Idx → Elt Ideal .f32) :
    out0_C_8 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 x0 x1 x2 x3 x4 x5 s0 s1 s2 (hypsR0_C t q0 q1).1 (hypsR0_C t q0 q1).2.1 (hypsR0_C t q0 q1).2.2.1 (hypsR0_C t q0 q1).2.2.2.1 = k0_pay9 (k0_pay5 (k0_pay12 x0 x1 x4 x5 x3 x2) s2) := by
  frame_out
  simp only [View.read_rep]
  refine Eq.trans (b := k0_pay9 (k0_pay5 (k0_pay12 x0 x1 (View.ld (View.read (Elt Ideal) (ms0_4 t).view ((ms0_4 t).view.rep x4)) (Rect.unit (s := S1024x128) ![0, 0] S1024x128.size inb_S1024x128_S1024x128_0_0)) x5 x3 x2) (View.read (Elt Ideal) (View.whole cc0_scratch2) s2))) rfl ?_
  rw [View.read_rep, View.ld_unit_lit inb_S1024x128_S1024x128_0_0 _ (by decide), read_whole]

theorem runD_0 (c : Dev nD) (t : Fin cfgA.N) (q0 : P0_0 t) (q1 : P0_1 t) (x0 x1 : S1024x256.Idx → Elt Ideal .bf16) (x2 x3 : S1024x128.Idx → Elt Ideal .bf16) (x4 : S1024x128.Idx → Elt Ideal .f32) (x5 : S1024x128.Idx → Elt Ideal .bf16) :
    (kernelRun0_D c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 x0 x1 x2 x3 x4 x5 (hypsR0_D t q0 q1).1 (hypsR0_D t q0 q1).2.1 (hypsR0_D t q0 q1).2.2.1 (hypsR0_D t q0 q1).2.2.2.1).2.2.2.1 = (k0_pay7 (k0_pay17 x0 x1 x4 x5 x3 x2) (k0_pay1 (F := Ideal)) (View.ld x0 (Rect.unit (s := S1024x256) ![0, 0] S1024x128.size inb_S1024x256_S1024x128_0_0)) : S1024x128.Idx → Elt Ideal .f32) := by
  frame_open
  refine (scratch0_piece _ _).trans ?_
  frame_out
  simp only [View.read_rep]

theorem runD_1 (c : Dev nD) (t : Fin cfgA.N) (q0 : P0_0 t) (q1 : P0_1 t) (x0 x1 : S1024x256.Idx → Elt Ideal .bf16) (x2 x3 : S1024x128.Idx → Elt Ideal .bf16) (x4 : S1024x128.Idx → Elt Ideal .f32) (x5 : S1024x128.Idx → Elt Ideal .bf16) :
    (kernelRun0_D c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 x0 x1 x2 x3 x4 x5 (hypsR0_D t q0 q1).1 (hypsR0_D t q0 q1).2.1 (hypsR0_D t q0 q1).2.2.1 (hypsR0_D t q0 q1).2.2.2.1).2.2.2.2.1 = (k0_pay6 (k0_pay18 x0 x1 x4 x5 (k0_pay2 (F := Ideal))) : S1024x128.Idx → Elt Ideal .f32) := by
  frame_open
  refine (scratch1_piece _ _).trans ?_
  frame_out
  simp only [View.read_rep]

theorem runD_2 (c : Dev nD) (t : Fin cfgA.N) (q0 : P0_0 t) (q1 : P0_1 t) (x0 x1 : S1024x256.Idx → Elt Ideal .bf16) (x2 x3 : S1024x128.Idx → Elt Ideal .bf16) (x4 : S1024x128.Idx → Elt Ideal .f32) (x5 : S1024x128.Idx → Elt Ideal .bf16) :
    (kernelRun0_D c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 x0 x1 x2 x3 x4 x5 (hypsR0_D t q0 q1).1 (hypsR0_D t q0 q1).2.1 (hypsR0_D t q0 q1).2.2.1 (hypsR0_D t q0 q1).2.2.2.1).2.2.2.2.2.1 = (k0_pay8 (k0_pay17 x0 x1 x4 x5 x3 x2) (k0_pay3 (F := Ideal)) : S1x1024.Idx → Elt Ideal .f32) := by
  frame_open
  refine (scratch2_piece _ _).trans ?_
  frame_out
  simp only [View.read_rep]

theorem outD_0 (c : Dev nD) (t : Fin cfgA.N) (q0 : P0_0 t) (q1 : P0_1 t) (x0 x1 : S1024x256.Idx → Elt Ideal .bf16) (x2 x3 : S1024x128.Idx → Elt Ideal .bf16) (x4 : S1024x128.Idx → Elt Ideal .f32) (x5 : S1024x128.Idx → Elt Ideal .bf16) :
    out0_D_6 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 x0 x1 x2 x3 x4 x5 (hypsR0_D t q0 q1).1 (hypsR0_D t q0 q1).2.1 (hypsR0_D t q0 q1).2.2.1 (hypsR0_D t q0 q1).2.2.2.1 = k0_pay7 (k0_pay17 x0 x1 x4 x5 x3 x2) (k0_pay1 (F := Ideal)) (View.ld x0 (Rect.unit (s := S1024x256) ![0, 0] S1024x128.size inb_S1024x256_S1024x128_0_0)) := by
  frame_out
  simp only [View.read_rep]

theorem outD_1 (c : Dev nD) (t : Fin cfgA.N) (q0 : P0_0 t) (q1 : P0_1 t) (x0 x1 : S1024x256.Idx → Elt Ideal .bf16) (x2 x3 : S1024x128.Idx → Elt Ideal .bf16) (x4 : S1024x128.Idx → Elt Ideal .f32) (x5 : S1024x128.Idx → Elt Ideal .bf16) :
    out0_D_7 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 x0 x1 x2 x3 x4 x5 (hypsR0_D t q0 q1).1 (hypsR0_D t q0 q1).2.1 (hypsR0_D t q0 q1).2.2.1 (hypsR0_D t q0 q1).2.2.2.1 = k0_pay6 (k0_pay18 x0 x1 x4 x5 (k0_pay2 (F := Ideal))) := by
  frame_out
  simp only [View.read_rep]

theorem outD_2 (c : Dev nD) (t : Fin cfgA.N) (q0 : P0_0 t) (q1 : P0_1 t) (x0 x1 : S1024x256.Idx → Elt Ideal .bf16) (x2 x3 : S1024x128.Idx → Elt Ideal .bf16) (x4 : S1024x128.Idx → Elt Ideal .f32) (x5 : S1024x128.Idx → Elt Ideal .bf16) :
    out0_D_8 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) pinT_0 pinT_1 x0 x1 x2 x3 x4 x5 (hypsR0_D t q0 q1).1 (hypsR0_D t q0 q1).2.1 (hypsR0_D t q0 q1).2.2.1 (hypsR0_D t q0 q1).2.2.2.1 = k0_pay9 (k0_pay8 (k0_pay17 x0 x1 x4 x5 x3 x2) (k0_pay3 (F := Ideal))) := by
  frame_out
  simp only [View.read_rep]

end Cert.Kernel7Ideal.Fox
end
-- ==== Proof.FoxIdeal.Traj.lean ====
module

public import proofs.«01_k».proof.Proof.FoxIdeal.Run
public import proofs.«01_k».proof.Proof.FoxIdeal.Step
public import Idealize.ShloMosaic.Lib.Pipeline.ValueKit
public import Idealize.ShloMosaic.Lib.Pipeline.ReadBack

@[expose] public section

/-! # What the scratches hold after a point of the grid, and what the last point of a run writes back -/

set_option maxRecDepth 16384

noncomputable section

open Idealize.ShloMosaic Idealize.ShloMosaic.TcCoe Idealize.SL.Sem
open Idealize.ShloMosaic.Pipeline (Dat)

namespace Cert.Kernel7Ideal.Fox

open Cert.Kernel7Ideal Cert.Kernel7Ideal.Gen

variable (m : (ℓ : Loc nD τ sig) → Buf (Elt Ideal) ℓ)

attribute [local irreducible] V iblk traj0 step0 prev0 kernelRun0_A kernelRun0_B kernelRun0_C kernelRun0_D out0_C_6 out0_C_7 out0_C_8 out0_D_6 out0_D_7 out0_D_8

/-- The key gradient's scratch after the first point of a run. -/
theorem first0 (c : Dev nD) (t : Fin cfgA.N) (q0 : P0_0 t) :
    ((traj0 m c t.val t.isLt).2.2.2.1 : S1024x128.Idx → Elt Ideal .f32) = k0_pay7 (F := Ideal) (k0_pay17 (iblk m c 0 t) (iblk m c 1 t) (iblk m c 4 t) (iblk m c 5 t) (iblk m c 3 t) (iblk m c 2 t)) (k0_pay1 (F := Ideal)) (View.ld (Val := Elt Ideal) (e' := .bf16) (iblk m c 0 t) (Rect.unit (s := S1024x256) ![0, 0] S1024x128.size inb_S1024x256_S1024x128_0_0)) := by
  rw [traj0_eq]
  by_cases q1 : P0_1 t
  · rw [step0_D m c t _ q0 q1]; dsimp only; exact runD_0 c t q0 q1 (iblk m c 0 t) (iblk m c 1 t) (iblk m c 2 t) (iblk m c 3 t) (iblk m c 4 t) (iblk m c 5 t)
  · rw [step0_A m c t _ q0 q1]; dsimp only; exact runA_0 c t q0 q1 (iblk m c 0 t) (iblk m c 1 t) (iblk m c 2 t) (iblk m c 3 t) (iblk m c 4 t) (iblk m c 5 t)

/-- The key gradient's scratch after the any later point of a run. -/
theorem next0 (c : Dev nD) (t : Fin cfgA.N) (q0 : ¬P0_0 t) :
    ((traj0 m c t.val t.isLt).2.2.2.1 : S1024x128.Idx → Elt Ideal .f32) = k0_pay4 (F := Ideal) (k0_pay12 (iblk m c 0 t) (iblk m c 1 t) (iblk m c 4 t) (iblk m c 5 t) (iblk m c 3 t) (iblk m c 2 t)) (prev0 m c t).2.2.2.1 (k0_pay14 (View.ld (Val := Elt Ideal) (e' := .bf16) (iblk m c 0 t) (Rect.unit (s := S1024x256) ![0, 0] S1024x128.size inb_S1024x256_S1024x128_0_0))) := by
  rw [traj0_eq]
  by_cases q1 : P0_1 t
  · rw [step0_C m c t _ q0 q1]; dsimp only; exact runC_0 c t q0 q1 (iblk m c 0 t) (iblk m c 1 t) (iblk m c 2 t) (iblk m c 3 t) (iblk m c 4 t) (iblk m c 5 t) (prev0 m c t).2.2.2.1 (prev0 m c t).2.2.2.2.1 (prev0 m c t).2.2.2.2.2
  · rw [step0_B m c t _ q0 q1]; dsimp only; exact runB_0 c t q0 q1 (iblk m c 0 t) (iblk m c 1 t) (iblk m c 2 t) (iblk m c 3 t) (iblk m c 4 t) (iblk m c 5 t) (prev0 m c t).2.2.2.1 (prev0 m c t).2.2.2.2.1 (prev0 m c t).2.2.2.2.2

/-- The value gradient's scratch after the first point of a run. -/
theorem first1 (c : Dev nD) (t : Fin cfgA.N) (q0 : P0_0 t) :
    ((traj0 m c t.val t.isLt).2.2.2.2.1 : S1024x128.Idx → Elt Ideal .f32) = k0_pay6 (F := Ideal) (k0_pay18 (iblk m c 0 t) (iblk m c 1 t) (iblk m c 4 t) (iblk m c 5 t) (k0_pay2 (F := Ideal))) := by
  rw [traj0_eq]
  by_cases q1 : P0_1 t
  · rw [step0_D m c t _ q0 q1]; dsimp only; exact runD_1 c t q0 q1 (iblk m c 0 t) (iblk m c 1 t) (iblk m c 2 t) (iblk m c 3 t) (iblk m c 4 t) (iblk m c 5 t)
  · rw [step0_A m c t _ q0 q1]; dsimp only; exact runA_1 c t q0 q1 (iblk m c 0 t) (iblk m c 1 t) (iblk m c 2 t) (iblk m c 3 t) (iblk m c 4 t) (iblk m c 5 t)

/-- The value gradient's scratch after the any later point of a run. -/
theorem next1 (c : Dev nD) (t : Fin cfgA.N) (q0 : ¬P0_0 t) :
    ((traj0 m c t.val t.isLt).2.2.2.2.1 : S1024x128.Idx → Elt Ideal .f32) = k0_pay13 (F := Ideal) (iblk m c 0 t) (iblk m c 1 t) (iblk m c 4 t) (iblk m c 5 t) (prev0 m c t).2.2.2.2.1 := by
  rw [traj0_eq]
  by_cases q1 : P0_1 t
  · rw [step0_C m c t _ q0 q1]; dsimp only; exact runC_1 c t q0 q1 (iblk m c 0 t) (iblk m c 1 t) (iblk m c 2 t) (iblk m c 3 t) (iblk m c 4 t) (iblk m c 5 t) (prev0 m c t).2.2.2.1 (prev0 m c t).2.2.2.2.1 (prev0 m c t).2.2.2.2.2
  · rw [step0_B m c t _ q0 q1]; dsimp only; exact runB_1 c t q0 q1 (iblk m c 0 t) (iblk m c 1 t) (iblk m c 2 t) (iblk m c 3 t) (iblk m c 4 t) (iblk m c 5 t) (prev0 m c t).2.2.2.1 (prev0 m c t).2.2.2.2.1 (prev0 m c t).2.2.2.2.2

/-- The gate gradient's scratch after the first point of a run. -/
theorem first2 (c : Dev nD) (t : Fin cfgA.N) (q0 : P0_0 t) :
    ((traj0 m c t.val t.isLt).2.2.2.2.2 : S1x1024.Idx → Elt Ideal .f32) = k0_pay8 (F := Ideal) (k0_pay17 (iblk m c 0 t) (iblk m c 1 t) (iblk m c 4 t) (iblk m c 5 t) (iblk m c 3 t) (iblk m c 2 t)) (k0_pay3 (F := Ideal)) := by
  rw [traj0_eq]
  by_cases q1 : P0_1 t
  · rw [step0_D m c t _ q0 q1]; dsimp only; exact runD_2 c t q0 q1 (iblk m c 0 t) (iblk m c 1 t) (iblk m c 2 t) (iblk m c 3 t) (iblk m c 4 t) (iblk m c 5 t)
  · rw [step0_A m c t _ q0 q1]; dsimp only; exact runA_2 c t q0 q1 (iblk m c 0 t) (iblk m c 1 t) (iblk m c 2 t) (iblk m c 3 t) (iblk m c 4 t) (iblk m c 5 t)

/-- The gate gradient's scratch after the any later point of a run. -/
theorem next2 (c : Dev nD) (t : Fin cfgA.N) (q0 : ¬P0_0 t) :
    ((traj0 m c t.val t.isLt).2.2.2.2.2 : S1x1024.Idx → Elt Ideal .f32) = k0_pay5 (F := Ideal) (k0_pay12 (iblk m c 0 t) (iblk m c 1 t) (iblk m c 4 t) (iblk m c 5 t) (iblk m c 3 t) (iblk m c 2 t)) (prev0 m c t).2.2.2.2.2 := by
  rw [traj0_eq]
  by_cases q1 : P0_1 t
  · rw [step0_C m c t _ q0 q1]; dsimp only; exact runC_2 c t q0 q1 (iblk m c 0 t) (iblk m c 1 t) (iblk m c 2 t) (iblk m c 3 t) (iblk m c 4 t) (iblk m c 5 t) (prev0 m c t).2.2.2.1 (prev0 m c t).2.2.2.2.1 (prev0 m c t).2.2.2.2.2
  · rw [step0_B m c t _ q0 q1]; dsimp only; exact runB_2 c t q0 q1 (iblk m c 0 t) (iblk m c 1 t) (iblk m c 2 t) (iblk m c 3 t) (iblk m c 4 t) (iblk m c 5 t) (prev0 m c t).2.2.2.1 (prev0 m c t).2.2.2.2.1 (prev0 m c t).2.2.2.2.2

/-- The key gradient's block, as the last point of a run leaves it. -/
theorem last0 (c : Dev nD) (t : Fin cfgA.N) (q1 : P0_1 t) :
    ((traj0 m c t.val t.isLt).1 : S1024x128.Idx → Elt Ideal .f32) = (traj0 m c t.val t.isLt).2.2.2.1 := by
  by_cases q0 : P0_0 t
  · rw [first0 m c t q0, traj0_eq, step0_D m c t _ q0 q1]; dsimp only; exact outD_0 c t q0 q1 (iblk m c 0 t) (iblk m c 1 t) (iblk m c 2 t) (iblk m c 3 t) (iblk m c 4 t) (iblk m c 5 t)
  · rw [next0 m c t q0, traj0_eq, step0_C m c t _ q0 q1]; dsimp only; exact outC_0 c t q0 q1 (iblk m c 0 t) (iblk m c 1 t) (iblk m c 2 t) (iblk m c 3 t) (iblk m c 4 t) (iblk m c 5 t) (prev0 m c t).2.2.2.1 (prev0 m c t).2.2.2.2.1 (prev0 m c t).2.2.2.2.2

/-- The value gradient's block, as the last point of a run leaves it. -/
theorem last1 (c : Dev nD) (t : Fin cfgA.N) (q1 : P0_1 t) :
    ((traj0 m c t.val t.isLt).2.1 : S1024x128.Idx → Elt Ideal .f32) = (traj0 m c t.val t.isLt).2.2.2.2.1 := by
  by_cases q0 : P0_0 t
  · rw [first1 m c t q0, traj0_eq, step0_D m c t _ q0 q1]; dsimp only; exact outD_1 c t q0 q1 (iblk m c 0 t) (iblk m c 1 t) (iblk m c 2 t) (iblk m c 3 t) (iblk m c 4 t) (iblk m c 5 t)
  · rw [next1 m c t q0, traj0_eq, step0_C m c t _ q0 q1]; dsimp only; exact outC_1 c t q0 q1 (iblk m c 0 t) (iblk m c 1 t) (iblk m c 2 t) (iblk m c 3 t) (iblk m c 4 t) (iblk m c 5 t) (prev0 m c t).2.2.2.1 (prev0 m c t).2.2.2.2.1 (prev0 m c t).2.2.2.2.2

/-- The gate gradient's block, as the last point of a run leaves it. -/
theorem last2 (c : Dev nD) (t : Fin cfgA.N) (q1 : P0_1 t) :
    ((traj0 m c t.val t.isLt).2.2.1 : S1x1x1024.Idx → Elt Ideal .f32) = k0_pay9 (F := Ideal) (traj0 m c t.val t.isLt).2.2.2.2.2 := by
  by_cases q0 : P0_0 t
  · rw [first2 m c t q0, traj0_eq, step0_D m c t _ q0 q1]; dsimp only; exact outD_2 c t q0 q1 (iblk m c 0 t) (iblk m c 1 t) (iblk m c 2 t) (iblk m c 3 t) (iblk m c 4 t) (iblk m c 5 t)
  · rw [next2 m c t q0, traj0_eq, step0_C m c t _ q0 q1]; dsimp only; exact outC_2 c t q0 q1 (iblk m c 0 t) (iblk m c 1 t) (iblk m c 2 t) (iblk m c 3 t) (iblk m c 4 t) (iblk m c 5 t) (prev0 m c t).2.2.2.1 (prev0 m c t).2.2.2.2.1 (prev0 m c t).2.2.2.2.2

end Cert.Kernel7Ideal.Fox

end
-- ==== Proof.FoxReal.lean ====
/-
  The row of a masked softmax and its gradient on reals: what the kernel computes from the saved logarithm of the sum
  of exponentials and what the reference computes from the largest logit are the same numbers.
-/
module

public import Idealize.ShloMosaic.Lib.Pipeline.ValueKit
public import proofs.«01_k».proof.Proof.Extended

@[expose] public section

noncomputable section

open Idealize.ShloMosaic

namespace Cert.Fox

open Cert.Extended

theorem select_ofBool {α : Type} (p : Prop) [Decidable p] (a b : α) : Scalar.select (BitVec.ofBool (decide p)) a b = if p then a else b := by
  by_cases h : p <;> simp [h, Scalar.select]

/-- The f32 pattern of minus infinity. -/
theorem neg_inf : Ideal.ofBits .f32 0xFF800000#32 = ⊥ := by
  simp [Ideal.ofBits, Ideal.ieee]

/-- The constant that scales the logits. -/
def scale : ℝ := 11863283 / 2 ^ 27

theorem scale_eq : Ideal.ofBits .f32 0x3DB504F3#32 = (scale : EReal) := by
  rw [scale]
  simp [Ideal.ofBits, Ideal.ieee, -EReal.coe_mul]; norm_num

variable {n : ℕ} (p : Fin n → Prop) [DecidablePred p] (s dp : Fin n → ℝ)

/-- A masked exponential. -/
def wt (j : Fin n) : ℝ := if p j then Real.exp (s j) else 0
/-- The sum of a row. -/
def norm : ℝ := ∑ j, wt p s j
/-- The probability. -/
def pr (j : Fin n) : ℝ := wt p s j / norm p s
/-- The gradient of the logit. -/
def dlog (j : Fin n) : ℝ := pr p s j * (dp j - ∑ k, dp k * pr p s k)

theorem norm_pos (i : Fin n) (hi : p i) : 0 < norm p s :=
  Finset.sum_pos' (fun j _ => by unfold wt; split <;> positivity) ⟨i, Finset.mem_univ i, by rw [wt, if_pos hi]; positivity⟩

theorem max_real (i : Fin n) (hi : p i) : ∃ μ : ℝ, Finset.fold max ⊥ (fun j => if p j then (s j : EReal) else ⊥) Finset.univ = (μ : EReal) := by
  have h1 : Finset.fold max ⊥ (fun j => if p j then (s j : EReal) else ⊥) Finset.univ ≠ ⊥ := by
    refine ne_of_gt ((Finset.lt_fold_max ⊥).2 (Or.inr ⟨i, Finset.mem_univ i, ?_⟩))
    rw [if_pos hi]; exact EReal.bot_lt_coe _
  have h2 : Finset.fold max ⊥ (fun j => if p j then (s j : EReal) else ⊥) Finset.univ ≠ ⊤ := by
    refine ne_of_lt ((Finset.fold_max_lt ⊤).2 ⟨bot_lt_top, fun j _ => ?_⟩)
    split
    · exact EReal.coe_lt_top _
    · exact bot_lt_top
  exact ⟨_, (EReal.coe_toReal h2 h1).symm⟩

theorem exp_masked (μ : ℝ) (j : Fin n) : Ideal.exp ((if p j then (s j : EReal) else ⊥) - (μ : EReal)) = ((wt p s j * Real.exp (-μ) : ℝ) : EReal) := by
  unfold wt; split
  · rw [← EReal.coe_sub, Ideal.exp_coe, sub_eq_add_neg, Real.exp_add]
  · rw [EReal.bot_sub, Ideal.exp_bot, zero_mul, EReal.coe_zero]

theorem sum_masked (μ : ℝ) : ∑ j, ((wt p s j * Real.exp (-μ) : ℝ) : EReal) = ((norm p s * Real.exp (-μ) : ℝ) : EReal) := by
  rw [norm, Finset.sum_mul, coe_sum]

theorem log_sum (μ : ℝ) (h : 0 < norm p s) : (μ : EReal) + Ideal.log ((norm p s * Real.exp (-μ) : ℝ) : EReal) = ((Real.log (norm p s) : ℝ) : EReal) := by
  have h2 : 0 < norm p s * Real.exp (-μ) := by positivity
  rw [Ideal.log_coe, if_neg (not_le.2 h2), ← EReal.coe_add, Real.log_mul h.ne' (Real.exp_pos _).ne', Real.log_exp]
  congr 1; ring

theorem exp_log (h : 0 < norm p s) (j : Fin n) : Ideal.exp ((if p j then (s j : EReal) else ⊥) - ((Real.log (norm p s) : ℝ) : EReal)) = ((pr p s j : ℝ) : EReal) := by
  rw [exp_masked, Real.exp_neg, Real.exp_log h]; rfl

theorem prob_real (μ : ℝ) (h : 0 < norm p s) (j : Fin n) :
    Ideal.div ((wt p s j * Real.exp (-μ) : ℝ) : EReal) ((norm p s * Real.exp (-μ) : ℝ) : EReal) = ((pr p s j : ℝ) : EReal) := by
  have h2 : 0 < norm p s * Real.exp (-μ) := by positivity
  rw [div_real _ _ h2.ne', pr, mul_div_mul_right _ _ (Real.exp_pos _).ne']

theorem dlog_real (μ : ℝ) (h : 0 < norm p s) (j : Fin n) :
    (Ideal.div (dp j : EReal) ((norm p s * Real.exp (-μ) : ℝ) : EReal)
      + -∑ k, (dp k : EReal) * Ideal.div ((1 : ℝ) : EReal) (((norm p s * Real.exp (-μ) : ℝ) : EReal) * ((norm p s * Real.exp (-μ) : ℝ) : EReal)) * ((wt p s k * Real.exp (-μ) : ℝ) : EReal))
      * ((wt p s j * Real.exp (-μ) : ℝ) : EReal) = ((dlog p s dp j : ℝ) : EReal) := by
  have h2 : 0 < norm p s * Real.exp (-μ) := by positivity
  have he := Real.exp_pos (-μ)
  rw [div_real _ _ h2.ne', ← EReal.coe_mul, div_real _ _ (by positivity)]
  simp only [← EReal.coe_mul]
  rw [← coe_sum, ← EReal.coe_neg, ← EReal.coe_add, ← EReal.coe_mul]
  congr 1
  have hs : ∑ k, dp k * (1 / (norm p s * Real.exp (-μ) * (norm p s * Real.exp (-μ)))) * (wt p s k * Real.exp (-μ))
      = (∑ k, dp k * pr p s k) / (norm p s * Real.exp (-μ)) := by
    rw [Finset.sum_div]; refine Finset.sum_congr rfl fun k _ => ?_
    rw [pr]; field_simp
  rw [hs, dlog, pr]; field_simp; ring

/-- The gradient's product with the saved output is the row's weighted gradient. -/
theorem delta {D : ℕ} (g : Fin D → ℝ) (v : Fin n → Fin D → ℝ) :
    ∑ d, g d * ∑ j, v j d * pr p s j = ∑ j, (∑ d, g d * v j d) * pr p s j := by
  simp only [Finset.mul_sum, Finset.sum_mul]
  rw [Finset.sum_comm]
  exact Finset.sum_congr rfl fun j _ => Finset.sum_congr rfl fun d _ => by ring

/-! ## The attention's numbers -/

variable (A0 : (⟨2, ![8192, 1024]⟩ : Shape).Idx → ℝ) (A1 : (⟨2, ![8192, 1536]⟩ : Shape).Idx → ℝ) (A2 : (⟨2, ![6, 8192]⟩ : Shape).Idx → ℝ)
  (A3 : (⟨2, ![8192, 1024]⟩ : Shape).Idx → ℝ)

/-- The lane `d` of head `h` in an array of 1024 columns. -/
abbrev at1024 (A : (⟨2, ![8192, 1024]⟩ : Shape).Idx → ℝ) (h : Fin 6) (r : Fin 8192) (d : Fin 128) : ℝ := A (ix2 r ⟨h.val * 128 + d.val, by omega⟩)
/-- The lane `d` of head `h` among the keys. -/
abbrev key (h : Fin 6) (r : Fin 8192) (d : Fin 128) : ℝ := A1 (ix2 r ⟨h.val * 128 + d.val, by omega⟩)
/-- The lane `d` of head `h` among the values. -/
abbrev val (h : Fin 6) (r : Fin 8192) (d : Fin 128) : ℝ := A1 (ix2 r ⟨768 + (h.val * 128 + d.val), by omega⟩)

/-- A logit. -/
def sc (h : Fin 6) (i j : Fin 8192) : ℝ := (∑ d, at1024 A0 h i d * key A1 h j d) * scale + A2 (ix2 h i) - A2 (ix2 h j)
/-- The rows a query sees. -/
abbrev sees (i : Fin 8192) (j : Fin 8192) : Prop := j.val ≤ i.val
/-- A masked logit. -/
def lg (h : Fin 6) (i j : Fin 8192) : EReal := if sees i j then (sc A0 A1 A2 h i j : EReal) else ⊥
/-- The gradient of a probability. -/
def dpr (h : Fin 6) (i j : Fin 8192) : ℝ := ∑ d, at1024 A3 h i d * val A1 h j d
/-- A probability. -/
def prob (h : Fin 6) (i j : Fin 8192) : ℝ := pr (sees i) (sc A0 A1 A2 h i) j
/-- The gradient of a logit. -/
def dls (h : Fin 6) (i j : Fin 8192) : ℝ := dlog (sees i) (sc A0 A1 A2 h i) (dpr A1 A3 h i) j
/-- The logarithm of a row's sum of exponentials. -/
def lsum (h : Fin 6) (i : Fin 8192) : ℝ := Real.log (norm (sees i) (sc A0 A1 A2 h i))
/-- The attention's output. -/
def out (h : Fin 6) (i : Fin 8192) (d : Fin 128) : ℝ := ∑ j, val A1 h j d * prob A0 A1 A2 h i j

theorem norm_pos' (h : Fin 6) (i : Fin 8192) : 0 < norm (sees i) (sc A0 A1 A2 h i) := norm_pos _ _ i (le_refl _)

theorem prob_unseen (h : Fin 6) (i j : Fin 8192) (hij : ¬ sees i j) : prob A0 A1 A2 h i j = 0 := by
  rw [prob, pr, wt, if_neg hij, zero_div]

theorem dls_unseen (h : Fin 6) (i j : Fin 8192) (hij : ¬ sees i j) : dls A0 A1 A2 A3 h i j = 0 := by
  rw [dls, dlog, pr, wt, if_neg hij, zero_div, zero_mul]

/-- The gradient of a logit from the saved output. -/
theorem dls_eq (h : Fin 6) (i j : Fin 8192) :
    dls A0 A1 A2 A3 h i j = prob A0 A1 A2 h i j * (dpr A1 A3 h i j - ∑ d, at1024 A3 h i d * out A0 A1 A2 h i d) := by
  rw [show ∑ d, at1024 A3 h i d * out A0 A1 A2 h i d = _ from
    delta (sees i) (sc A0 A1 A2 h i) (fun d => at1024 A3 h i d) fun j d => val A1 h j d]
  rfl

/-- The lanes of a query: its scaled values, then the gate's three terms, then three ones. -/
def qlane (h : Fin 6) (r : Fin 8192) (e : Fin 256) : ℝ :=
  if he : e.val < 128 then at1024 A0 h r ⟨e.val, he⟩ * scale
  else if e.val - 128 < 3 then (if (e.val - 128) % 3 = 0 then A2 (ix2 h r) else 0) else if e.val - 128 < 6 then 1 else 0

/-- The lanes of a key: its values, then three ones, then the gate's three terms, subtracted. -/
def klane (h : Fin 6) (r : Fin 8192) (e : Fin 256) : ℝ :=
  if he : e.val < 128 then key A1 h r ⟨e.val, he⟩
  else if e.val - 128 < 3 then 1 else if e.val - 128 < 6 then -(if (e.val - 128) % 3 = 0 then A2 (ix2 h r) else 0) else 0

theorem lanes (h : Fin 6) (i j : Fin 8192) : ∑ e, qlane A0 A2 h i e * klane A1 A2 h j e = sc A0 A1 A2 h i j := by
  rw [show (∑ e, qlane A0 A2 h i e * klane A1 A2 h j e) = ∑ e : Fin (128 + 128), qlane A0 A2 h i e * klane A1 A2 h j e from rfl, Fin.sum_univ_add]
  have h1 : ∑ d : Fin 128, qlane A0 A2 h i (Fin.castAdd 128 d) * klane A1 A2 h j (Fin.castAdd 128 d)
      = (∑ d, at1024 A0 h i d * key A1 h j d) * scale := by
    rw [Finset.sum_mul]; refine Finset.sum_congr rfl fun d _ => ?_
    rw [qlane, klane, dif_pos (show (Fin.castAdd 128 d).val < 128 from d.isLt), dif_pos (show (Fin.castAdd 128 d).val < 128 from d.isLt)]
    show at1024 A0 h i d * scale * key A1 h j d = _
    ring
  have h2 : ∑ d : Fin 128, qlane A0 A2 h i (Fin.natAdd 128 d) * klane A1 A2 h j (Fin.natAdd 128 d) = A2 (ix2 h i) + -A2 (ix2 h j) := by
    rw [Fintype.sum_eq_add (0 : Fin 128) (3 : Fin 128) (by decide)]
    · simp [qlane, klane]
    · rintro d ⟨ha, hb⟩
      have ha' : d.val ≠ 0 := fun h => ha (Fin.ext h)
      have hb' : d.val ≠ 3 := fun h => hb (Fin.ext h)
      have hv : (Fin.natAdd 128 d).val - 128 = d.val := by simp
      rw [qlane, klane, dif_neg (by simp), dif_neg (by simp), hv]
      by_cases h3 : d.val < 3
      · rw [if_pos h3, if_neg (by omega), zero_mul]
      · by_cases h6 : d.val < 6
        · rw [if_neg h3, if_neg h3, if_pos h6, if_pos h6, if_neg (by omega)]; simp
        · rw [if_neg h3, if_neg h6, zero_mul]
  rw [h1, h2, sc]; ring

end Cert.Fox

end
-- ==== Proof.FoxHost.lean ====
/-
  What the host computes before the call of `Kernel7Ideal`: the queries and keys with the lanes that carry the
  cumulative gate, the saved output of the attention and the saved logarithm of each row's sum of exponentials,
  each as a real number when the arguments are real.
-/
module

public import proofs.«01_k».proof.Proof.Gen.Kernel7Ideal
public import Idealize.ShloMosaic.Lib.Pipeline.ValueKit
public import Idealize.ShloMosaic.Lib.WordCmp
public import proofs.«01_k».proof.Proof.FoxReal

@[expose] public section

set_option maxRecDepth 16384

noncomputable section

open Idealize.ShloMosaic Idealize.ShloMosaic.TcCoe Idealize.SL.Sem

namespace Cert.Kernel7Ideal.FoxHost

open Cert.Kernel7Ideal Cert.Kernel7Ideal.Gen

/-- The three terms of the cumulative gate, by lane. -/
def terms (a2 : FVec Ideal S6x8192 .f32) : FVec Ideal S8192x6x128 .f32 :=
  (select (cmpi .eq (Host.remsi (iotaInDim S8192x6x128 32 2) (broadcastInDim S8192x6x128 ![] bcast_S_S8192x6x128 (constantI S_ 32 3#32))) (broadcastInDim S8192x6x128 ![] bcast_S_S8192x6x128 (constantI S_ 32 0#32))) (extf .f32 (truncf .bf16 (broadcastInDim S8192x6x128 ![0, 1, 2] bcast_S8192x6x1_S8192x6x128_0_1_2 (broadcastInDim S8192x6x1 ![0, 1] bcast_S8192x6_S8192x6x1_0_1 (transpose S8192x6 [1, 0] a2 transposes_S6x8192_S8192x6_1_0))) bitsLt_bf16_f32) bitsLt_bf16_f32) (select (cmpi .eq (Host.remsi (iotaInDim S8192x6x128 32 2) (broadcastInDim S8192x6x128 ![] bcast_S_S8192x6x128 (constantI S_ 32 3#32))) (broadcastInDim S8192x6x128 ![] bcast_S_S8192x6x128 (constantI S_ 32 1#32))) (extf .f32 (truncf .bf16 (subf (broadcastInDim S8192x6x128 ![0, 1, 2] bcast_S8192x6x1_S8192x6x128_0_1_2 (broadcastInDim S8192x6x1 ![0, 1] bcast_S8192x6_S8192x6x1_0_1 (transpose S8192x6 [1, 0] a2 transposes_S6x8192_S8192x6_1_0))) (extf .f32 (truncf .bf16 (broadcastInDim S8192x6x128 ![0, 1, 2] bcast_S8192x6x1_S8192x6x128_0_1_2 (broadcastInDim S8192x6x1 ![0, 1] bcast_S8192x6_S8192x6x1_0_1 (transpose S8192x6 [1, 0] a2 transposes_S6x8192_S8192x6_1_0))) bitsLt_bf16_f32) bitsLt_bf16_f32)) bitsLt_bf16_f32) bitsLt_bf16_f32) (extf .f32 (truncf .bf16 (subf (subf (broadcastInDim S8192x6x128 ![0, 1, 2] bcast_S8192x6x1_S8192x6x128_0_1_2 (broadcastInDim S8192x6x1 ![0, 1] bcast_S8192x6_S8192x6x1_0_1 (transpose S8192x6 [1, 0] a2 transposes_S6x8192_S8192x6_1_0))) (extf .f32 (truncf .bf16 (broadcastInDim S8192x6x128 ![0, 1, 2] bcast_S8192x6x1_S8192x6x128_0_1_2 (broadcastInDim S8192x6x1 ![0, 1] bcast_S8192x6_S8192x6x1_0_1 (transpose S8192x6 [1, 0] a2 transposes_S6x8192_S8192x6_1_0))) bitsLt_bf16_f32) bitsLt_bf16_f32)) (extf .f32 (truncf .bf16 (subf (broadcastInDim S8192x6x128 ![0, 1, 2] bcast_S8192x6x1_S8192x6x128_0_1_2 (broadcastInDim S8192x6x1 ![0, 1] bcast_S8192x6_S8192x6x1_0_1 (transpose S8192x6 [1, 0] a2 transposes_S6x8192_S8192x6_1_0))) (extf .f32 (truncf .bf16 (broadcastInDim S8192x6x128 ![0, 1, 2] bcast_S8192x6x1_S8192x6x128_0_1_2 (broadcastInDim S8192x6x1 ![0, 1] bcast_S8192x6_S8192x6x1_0_1 (transpose S8192x6 [1, 0] a2 transposes_S6x8192_S8192x6_1_0))) bitsLt_bf16_f32) bitsLt_bf16_f32)) bitsLt_bf16_f32) bitsLt_bf16_f32)) bitsLt_bf16_f32) bitsLt_bf16_f32)))

/-- The queries, scaled, with the lanes of the gate. -/
def qa (a0 : FVec Ideal S8192x1024 .bf16) (a2 : FVec Ideal S6x8192 .f32) : FVec Ideal S8192x1536 .bf16 :=
  (truncf .bf16 (shapeCast S8192x1536 (concatenate S8192x6x256 2 [⟨S8192x6x128, (mulf (shapeCast S8192x6x128 (extf .f32 (extractStridedSlice S8192x768 ![0, 0] a0 slices_S8192x1024_S8192x768_0_0) bitsLt_bf16_f32) shapeCasts_S8192x768_S8192x6x128) (broadcastInDim S8192x6x128 ![] bcast_S_S8192x6x128 (constant S_ .f32 0x3DB504F3#32)))⟩, ⟨S8192x6x128, (select (cmpi .slt (iotaInDim S8192x6x128 32 2) (broadcastInDim S8192x6x128 ![] bcast_S_S8192x6x128 (constantI S_ 32 3#32))) (terms a2) (select (cmpi .slt (iotaInDim S8192x6x128 32 2) (broadcastInDim S8192x6x128 ![] bcast_S_S8192x6x128 (constantI S_ 32 6#32))) (broadcastInDim S8192x6x128 ![] bcast_S_S8192x6x128 (constant S_ .f32 0x3F800000#32)) (broadcastInDim S8192x6x128 ![] bcast_S_S8192x6x128 (constant S_ .f32 0x00000000#32))))⟩] concatenates_S8192x6x128_S8192x6x128_S8192x6x256_d2) shapeCasts_S8192x6x256_S8192x1536) bitsLt_bf16_f32)

/-- The keys with the lanes of the gate. -/
def ka (a1 : FVec Ideal S8192x1536 .bf16) (a2 : FVec Ideal S6x8192 .f32) : FVec Ideal S8192x1536 .bf16 :=
  (truncf .bf16 (shapeCast S8192x1536 (concatenate S8192x6x256 2 [⟨S8192x6x128, (shapeCast S8192x6x128 (extf .f32 (extractStridedSlice S8192x768 ![0, 0] a1 slices_S8192x1536_S8192x768_0_0) bitsLt_bf16_f32) shapeCasts_S8192x768_S8192x6x128)⟩, ⟨S8192x6x128, (select (cmpi .slt (iotaInDim S8192x6x128 32 2) (broadcastInDim S8192x6x128 ![] bcast_S_S8192x6x128 (constantI S_ 32 3#32))) (broadcastInDim S8192x6x128 ![] bcast_S_S8192x6x128 (constant S_ .f32 0x3F800000#32)) (select (cmpi .slt (iotaInDim S8192x6x128 32 2) (broadcastInDim S8192x6x128 ![] bcast_S_S8192x6x128 (constantI S_ 32 6#32))) (Host.negf (terms a2)) (broadcastInDim S8192x6x128 ![] bcast_S_S8192x6x128 (constant S_ .f32 0x00000000#32))))⟩] concatenates_S8192x6x128_S8192x6x128_S8192x6x256_d2) shapeCasts_S8192x6x256_S8192x1536) bitsLt_bf16_f32)

/-- The masked logits. -/
def logits (a0 : FVec Ideal S8192x1024 .bf16) (a1 : FVec Ideal S8192x1536 .bf16) (a2 : FVec Ideal S6x8192 .f32) : FVec Ideal S6x8192x8192 .f32 :=
  (select (broadcastInDim S6x8192x8192 ![1, 2] bcast_S8192x8192_S6x8192x8192_1_2 (cmpi .sle (iotaInDim S8192x8192 32 1) (iotaInDim S8192x8192 32 0))) (subf (addf (mulf (Host.dotGeneral dot_S8192x6x128_S8192x6x128_S6x8192x8192_2_2_0_0_1_1 none (shapeCast S8192x6x128 (extf .f32 (extractStridedSlice S8192x768 ![0, 0] a0 slices_S8192x1024_S8192x768_0_0) bitsLt_bf16_f32) shapeCasts_S8192x768_S8192x6x128) (shapeCast S8192x6x128 (extf .f32 (extractStridedSlice S8192x768 ![0, 0] a1 slices_S8192x1536_S8192x768_0_0) bitsLt_bf16_f32) shapeCasts_S8192x768_S8192x6x128)) (broadcastInDim S6x8192x8192 ![] bcast_S_S6x8192x8192 (constant S_ .f32 0x3DB504F3#32))) (broadcastInDim S6x8192x8192 ![0, 1, 2] bcast_S6x8192x1_S6x8192x8192_0_1_2 (broadcastInDim S6x8192x1 ![0, 1] bcast_S6x8192_S6x8192x1_0_1 a2))) (broadcastInDim S6x8192x8192 ![0, 1, 2] bcast_S6x1x8192_S6x8192x8192_0_1_2 (broadcastInDim S6x1x8192 ![0, 2] bcast_S6x8192_S6x1x8192_0_2 a2))) (broadcastInDim S6x8192x8192 ![] bcast_S_S6x8192x8192 (constant S_ .f32 0xFF800000#32)))

/-- The largest logit of a row. -/
def rowMax (a0 : FVec Ideal S8192x1024 .bf16) (a1 : FVec Ideal S8192x1536 .bf16) (a2 : FVec Ideal S6x8192 .f32) : FVec Ideal S6x8192 .f32 :=
  (Host.reduce FloatOps.maximumf (logits a0 a1 a2) (constant S_ .f32 0xFF800000#32) reducesTo_S6x8192x8192_S6x8192_d2 h_S_)

/-- The exponentials of a row, less its largest logit. -/
def z (a0 : FVec Ideal S8192x1024 .bf16) (a1 : FVec Ideal S8192x1536 .bf16) (a2 : FVec Ideal S6x8192 .f32) : FVec Ideal S6x8192x8192 .f32 :=
  (Host.exp (subf (logits a0 a1 a2) (broadcastInDim S6x8192x8192 ![0, 1, 2] bcast_S6x8192x1_S6x8192x8192_0_1_2 (broadcastInDim S6x8192x1 ![0, 1] bcast_S6x8192_S6x8192x1_0_1 (rowMax a0 a1 a2)))))

/-- Their sum. -/
def total (a0 : FVec Ideal S8192x1024 .bf16) (a1 : FVec Ideal S8192x1536 .bf16) (a2 : FVec Ideal S6x8192 .f32) : FVec Ideal S6x8192 .f32 :=
  (Host.reduceAdd (z a0 a1 a2) (constant S_ .f32 0x00000000#32) reducesTo_S6x8192x8192_S6x8192_d2 h_S_)

/-- The logarithm of a row's sum of exponentials, by head. -/
def lseH (a0 : FVec Ideal S8192x1024 .bf16) (a1 : FVec Ideal S8192x1536 .bf16) (a2 : FVec Ideal S6x8192 .f32) : FVec Ideal S8192x6 .f32 :=
  (transpose S8192x6 [1, 0] (addf (rowMax a0 a1 a2) (Host.log (total a0 a1 a2))) transposes_S6x8192_S8192x6_1_0)

/-- The same in every lane of its head. -/
def lse (a0 : FVec Ideal S8192x1024 .bf16) (a1 : FVec Ideal S8192x1536 .bf16) (a2 : FVec Ideal S6x8192 .f32) : FVec Ideal S8192x768 .f32 :=
  (shapeCast S8192x768 (broadcastInDim S8192x6x128 ![0, 1] bcast_S8192x6_S8192x6x128_0_1 (lseH a0 a1 a2)) shapeCasts_S8192x6x128_S8192x768)

/-- The output of the attention. -/
def o (a0 : FVec Ideal S8192x1024 .bf16) (a1 : FVec Ideal S8192x1536 .bf16) (a2 : FVec Ideal S6x8192 .f32) : FVec Ideal S8192x768 .bf16 :=
  (truncf .bf16 (shapeCast S8192x768 (transpose S8192x6x128 [2, 0, 1] (Host.dotGeneral dot_S8192x6x128_S6x8192x8192_S6x128x8192_0_2_2_1_1_0 none (shapeCast S8192x6x128 (extf .f32 (extractStridedSlice S8192x768 ![0, 768] a1 slices_S8192x1536_S8192x768_0_768) bitsLt_bf16_f32) shapeCasts_S8192x768_S8192x6x128) (Host.divf (z a0 a1 a2) (broadcastInDim S6x8192x8192 ![0, 1, 2] bcast_S6x8192x1_S6x8192x8192_0_1_2 (broadcastInDim S6x8192x1 ![0, 1] bcast_S6x8192_S6x8192x1_0_1 (total a0 a1 a2))))) transposes_S6x128x8192_S8192x6x128_2_0_1) shapeCasts_S8192x6x128_S8192x768) bitsLt_bf16_f32)

open Cert.Fox

theorem reduce_max (L : FVec Ideal S6x8192x8192 .f32) (h : Fin 6) (i : Fin 8192) :
    (Host.reduce FloatOps.maximumf L (constant S_ .f32 0xFF800000#32) reducesTo_S6x8192x8192_S6x8192_d2 h_S_ : FVec Ideal S6x8192 .f32) (ix2 h i)
    = Finset.fold max (Ideal.ofBits .f32 0xFF800000#32) (fun x => L (ix3 h i x)) Finset.univ := by
  pointwise

theorem transpose_at (L : FVec Ideal S6x8192 .f32) (h : Fin 6) (i : Fin 8192) : transpose S8192x6 [1, 0] L transposes_S6x8192_S8192x6_1_0 (ix2 i h) = L (ix2 h i) := by
  pointwise

theorem add_log (M T : FVec Ideal S6x8192 .f32) (h : Fin 6) (i : Fin 8192) : addf M (Host.log T) (ix2 h i) = M (ix2 h i) + Ideal.log (T (ix2 h i)) := by
  pointwise

variable (a0 : FVec Ideal S8192x1024 .bf16) (a1 : FVec Ideal S8192x1536 .bf16) (a2 : FVec Ideal S6x8192 .f32)
  (A0 : S8192x1024.Idx → ℝ) (A1 : S8192x1536.Idx → ℝ) (A2 : S6x8192.Idx → ℝ)
  (h0 : ∀ y, a0 y = (A0 y : EReal)) (h1 : ∀ y, a1 y = (A1 y : EReal)) (h2 : ∀ y, a2 y = (A2 y : EReal))

include h0 h1 h2

theorem logits_at (h : Fin 6) (i j : Fin 8192) : logits a0 a1 a2 (ix3 h i j) = lg A0 A1 A2 h i j := by
  pointwise [logits]
  rw [WordCmp.cmpi_sle_ofNat (w := 32) (a := j.val) (b := i.val) (by omega) (by omega), select_ofBool, neg_inf, lg, sc, scale_eq]
  simp only [h0, h1, h2, ← EReal.coe_mul, ← Cert.Extended.coe_sum, ← EReal.coe_add, ← EReal.coe_sub]

theorem max_at (h : Fin 6) (i : Fin 8192) : ∃ μ : ℝ, rowMax a0 a1 a2 (ix2 h i) = (μ : EReal) := by
  have e : rowMax a0 a1 a2 (ix2 h i) = Finset.fold max (Ideal.ofBits .f32 0xFF800000#32) (fun x => logits a0 a1 a2 (ix3 h i x)) Finset.univ := by
    rw [rowMax, reduce_max]
  rw [e, neg_inf]; simp only [logits_at a0 a1 a2 A0 A1 A2 h0 h1 h2]
  exact max_real _ _ i (le_refl _)

theorem z_at (h : Fin 6) (i j : Fin 8192) (μ : ℝ) (hμ : rowMax a0 a1 a2 (ix2 h i) = (μ : EReal)) :
    z a0 a1 a2 (ix3 h i j) = ((wt (sees i) (sc A0 A1 A2 h i) j * Real.exp (-μ) : ℝ) : EReal) := by
  have e : z a0 a1 a2 (ix3 h i j) = Ideal.exp (logits a0 a1 a2 (ix3 h i j) - rowMax a0 a1 a2 (ix2 h i)) := by
    unfold z; generalize logits a0 a1 a2 = L; generalize rowMax a0 a1 a2 = M; pointwise
  rw [e, hμ, logits_at a0 a1 a2 A0 A1 A2 h0 h1 h2, lg]; exact exp_masked _ _ μ j

theorem total_at (h : Fin 6) (i : Fin 8192) (μ : ℝ) (hμ : rowMax a0 a1 a2 (ix2 h i) = (μ : EReal)) :
    total a0 a1 a2 (ix2 h i) = ((norm (sees i) (sc A0 A1 A2 h i) * Real.exp (-μ) : ℝ) : EReal) := by
  have e : total a0 a1 a2 (ix2 h i) = ∑ x, z a0 a1 a2 (ix3 h i x) := by
    unfold total; generalize z a0 a1 a2 = Z; pointwise
  rw [e]; simp only [z_at a0 a1 a2 A0 A1 A2 h0 h1 h2 h i _ μ hμ]
  exact sum_masked _ _ μ

theorem lseH_at (i : Fin 8192) (h : Fin 6) : lseH a0 a1 a2 (ix2 i h) = ((lsum A0 A1 A2 h i : ℝ) : EReal) := by
  have e : lseH a0 a1 a2 (ix2 i h) = rowMax a0 a1 a2 (ix2 h i) + Ideal.log (total a0 a1 a2 (ix2 h i)) := by
    rw [lseH, transpose_at, add_log]
  obtain ⟨μ, hμ⟩ := max_at a0 a1 a2 A0 A1 A2 h0 h1 h2 h i
  rw [e, total_at a0 a1 a2 A0 A1 A2 h0 h1 h2 h i μ hμ, hμ]
  exact log_sum _ _ μ (norm_pos' A0 A1 A2 h i)

theorem lse_at (i : Fin 8192) (h : Fin 6) (d : Fin 128) : lse a0 a1 a2 (ix2 i ⟨h.val * 128 + d.val, by omega⟩) = ((lsum A0 A1 A2 h i : ℝ) : EReal) := by
  have e : ∀ n : Fin 768, lse a0 a1 a2 (ix2 i n) = lseH a0 a1 a2 (ix2 i ⟨n.val / 128, by omega⟩) := by
    intro n; unfold lse; generalize lseH a0 a1 a2 = H; pointwise
  rw [e, show (⟨(h.val * 128 + d.val) / 128, by omega⟩ : Fin 6) = h from Fin.ext (by show (h.val * 128 + d.val) / 128 = h.val; omega)]
  exact lseH_at a0 a1 a2 A0 A1 A2 h0 h1 h2 i h

theorem o_at (i : Fin 8192) (h : Fin 6) (d : Fin 128) : o a0 a1 a2 (ix2 i ⟨h.val * 128 + d.val, by omega⟩) = ((out A0 A1 A2 h i d : ℝ) : EReal) := by
  have e : ∀ n : Fin 768, o a0 a1 a2 (ix2 i n) = ∑ x, a1 (ix2 x ⟨768 + n.val, by omega⟩)
      * Ideal.div (z a0 a1 a2 (ix3 ⟨n.val / 128, by omega⟩ i x)) (total a0 a1 a2 (ix2 ⟨n.val / 128, by omega⟩ i)) := by
    intro n; unfold o; generalize total a0 a1 a2 = T; generalize z a0 a1 a2 = Z; pointwise
  rw [e, show (⟨(h.val * 128 + d.val) / 128, by omega⟩ : Fin 6) = h from Fin.ext (by show (h.val * 128 + d.val) / 128 = h.val; omega)]
  obtain ⟨μ, hμ⟩ := max_at a0 a1 a2 A0 A1 A2 h0 h1 h2 h i
  rw [out, Cert.Extended.coe_sum]
  refine Finset.sum_congr rfl fun j _ => ?_
  rw [z_at a0 a1 a2 A0 A1 A2 h0 h1 h2 h i j μ hμ, total_at a0 a1 a2 A0 A1 A2 h0 h1 h2 h i μ hμ, prob_real _ _ μ (norm_pos' A0 A1 A2 h i), h1, ← EReal.coe_mul]
  rfl

omit h0 h1

theorem terms_at (r : Fin 8192) (h : Fin 6) (d : Fin 128) : terms a2 (ix3 r h d) = ((if d.val % 3 = 0 then A2 (ix2 h r) else 0 : ℝ) : EReal) := by
  have hr : ∀ d : Fin 128, IntOp.remsi ArithUnit.host (BitVec.ofNat 32 d.val) 3#32 = BitVec.ofNat 32 (d.val % 3) := by decide +kernel
  pointwise [terms]
  rw [hr, show (0#32) = BitVec.ofNat 32 0 from rfl, show (1#32) = BitVec.ofNat 32 1 from rfl, WordCmp.cmpi_eq_ofNat (w := 32) (a := d.val % 3) (b := 0) (by omega) (by omega),
    WordCmp.cmpi_eq_ofNat (w := 32) (a := d.val % 3) (b := 1) (by omega) (by omega), select_ofBool, select_ofBool, h2]
  by_cases hd : d.val % 3 = 0
  · rw [if_pos hd, if_pos hd]
  · rw [if_neg hd, if_neg hd]; split <;> simp [← EReal.coe_sub]

include h0

theorem qa_at (r : Fin 8192) (h : Fin 6) (e : Fin 256) : qa a0 a2 (ix2 r ⟨h.val * 256 + e.val, by omega⟩) = ((qlane A0 A2 h r e : ℝ) : EReal) := by
  have hd : (h.val * 256 + e.val) / 256 = h.val := by omega
  have hm : (h.val * 256 + e.val) % 256 = e.val := by omega
  have E : ∀ n : Fin 1536, qa a0 a2 (ix2 r n) = (if hn : n.val % 256 < 128 then a0 (ix2 r ⟨n.val / 256 * 128 + n.val % 256, by omega⟩) * Ideal.ofBits FTy.f32 0x3DB504F3#32
      else Scalar.select (IntOp.cmpi CmpIPredicate.slt (BitVec.ofNat 32 (n.val % 256 - 128)) 3#32)
        (terms a2 (ix3 r ⟨n.val / 256, by omega⟩ ⟨n.val % 256 - 128, by omega⟩))
        (Scalar.select (IntOp.cmpi CmpIPredicate.slt (BitVec.ofNat 32 (n.val % 256 - 128)) 6#32) 1 0)) := by
    intro n; unfold qa; generalize terms a2 = T; pointwise
  rw [E]; simp only [hd, hm]
  rw [qlane]
  split
  · rw [h0, scale_eq, ← EReal.coe_mul]
  · rw [show (3#32) = BitVec.ofNat 32 3 from rfl, show (6#32) = BitVec.ofNat 32 6 from rfl, WordCmp.cmpi_slt_ofNat (w := 32) (a := e.val - 128) (b := 3) (by omega) (by omega),
      WordCmp.cmpi_slt_ofNat (w := 32) (a := e.val - 128) (b := 6) (by omega) (by omega), select_ofBool, select_ofBool, terms_at a2 A2 h2]
    split
    · rfl
    · split <;> simp

omit h0
include h1

theorem ka_at (r : Fin 8192) (h : Fin 6) (e : Fin 256) : ka a1 a2 (ix2 r ⟨h.val * 256 + e.val, by omega⟩) = ((klane A1 A2 h r e : ℝ) : EReal) := by
  have hd : (h.val * 256 + e.val) / 256 = h.val := by omega
  have hm : (h.val * 256 + e.val) % 256 = e.val := by omega
  have E : ∀ n : Fin 1536, ka a1 a2 (ix2 r n) = (if hn : n.val % 256 < 128 then a1 (ix2 r ⟨n.val / 256 * 128 + n.val % 256, by omega⟩)
      else Scalar.select (IntOp.cmpi CmpIPredicate.slt (BitVec.ofNat 32 (n.val % 256 - 128)) 3#32) 1
        (Scalar.select (IntOp.cmpi CmpIPredicate.slt (BitVec.ofNat 32 (n.val % 256 - 128)) 6#32)
          (-terms a2 (ix3 r ⟨n.val / 256, by omega⟩ ⟨n.val % 256 - 128, by omega⟩)) 0)) := by
    intro n; unfold ka; generalize terms a2 = T; pointwise
  rw [E]; simp only [hd, hm]
  rw [klane]
  split
  · rw [h1]
  · rw [show (3#32) = BitVec.ofNat 32 3 from rfl, show (6#32) = BitVec.ofNat 32 6 from rfl, WordCmp.cmpi_slt_ofNat (w := 32) (a := e.val - 128) (b := 3) (by omega) (by omega),
      WordCmp.cmpi_slt_ofNat (w := 32) (a := e.val - 128) (b := 6) (by omega) (by omega), select_ofBool, select_ofBool, terms_at a2 A2 h2]
    split
    · simp
    · split
      · rw [← EReal.coe_neg]
      · simp

end Cert.Kernel7Ideal.FoxHost

end
-- ==== Proof.FoxPay.lean ====
module

public import proofs.«01_k».proof.Proof.Gen.Kernel7Ideal.Skeleton
public import proofs.«01_k».proof.Proof.FoxReal
public import Idealize.ShloMosaic.Lib.Pipeline.ValueKit
public import Idealize.ShloMosaic.Lib.WordCmp

@[expose] public section

/-! # What one step of the forgetting attention's backward call computes, over real tiles -/

set_option maxRecDepth 16384

noncomputable section

open Idealize.ShloMosaic

namespace Cert.Kernel7Ideal.FoxPay

open Cert.Kernel7Ideal Cert.Kernel7Ideal.Gen Cert.Extended Cert.Fox

theorem sum_mul_real {n : ℕ} (f g : Fin n → ℝ) : ∑ x, (f x : EReal) * (g x : EReal) = ((∑ x, f x * g x : ℝ) : EReal) := by
  rw [coe_sum]; simp only [EReal.coe_mul]

/-- Eight copies side by side of a block whose rows are constant. -/
theorem copies (f : Fin 1024 → Fin 128 → EReal) (r : EReal) (b : Fin 1024) (a : Fin 1024) (hf : ∀ d, f a d = r) :
    (if h : b.val < 128 then f a ⟨b.val, h⟩
     else if h : b.val - 128 < 128 then f a ⟨b.val - 128, h⟩
     else if h : b.val - 128 - 128 < 128 then f a ⟨b.val - 128 - 128, h⟩
     else if h : b.val - 128 - 128 - 128 < 128 then f a ⟨b.val - 128 - 128 - 128, h⟩
     else if h : b.val - 128 - 128 - 128 - 128 < 128 then f a ⟨b.val - 128 - 128 - 128 - 128, h⟩
     else if h : b.val - 128 - 128 - 128 - 128 - 128 < 128 then f a ⟨b.val - 128 - 128 - 128 - 128 - 128, h⟩
     else if h : b.val - 128 - 128 - 128 - 128 - 128 - 128 < 128 then f a ⟨b.val - 128 - 128 - 128 - 128 - 128 - 128, h⟩
     else f a ⟨b.val - 128 - 128 - 128 - 128 - 128 - 128 - 128, by omega⟩) = r := by
  simp only [hf]; simp

section

variable (x0 x1 : Vec Ideal S1024x256 .bf16) (x2 x3 : Vec Ideal S1024x128 .bf16) (x4 : Vec Ideal S1024x128 .f32) (x5 : Vec Ideal S1024x128 .bf16)
  (q k : Fin 1024 → Fin 256 → ℝ) (l : Fin 1024 → ℝ) (v o g : Fin 1024 → Fin 128 → ℝ)
  (h0 : ∀ a e, x0 (ix2 a e) = (q a e : EReal)) (h1 : ∀ a e, x1 (ix2 a e) = (k a e : EReal))
  (h2 : ∀ a d, x2 (ix2 a d) = (v a d : EReal)) (h3 : ∀ a d, x3 (ix2 a d) = (o a d : EReal))
  (h4 : ∀ a d, x4 (ix2 a d) = (l a : EReal)) (h5 : ∀ a d, x5 (ix2 a d) = (g a d : EReal))

include h0 h1 h4

/-- The tile's probabilities below the diagonal. -/
theorem pay10_at (a b : Fin 1024) : k0_pay10 (F := Ideal) x0 x1 x4 (ix2 a b) = Ideal.exp (((∑ e, q a e * k b e : ℝ) : EReal) - (l a : EReal)) := by
  have hc := copies (fun a d => x4 (ix2 a d)) (l a) b a (h4 a)
  pointwise [k0_pay10]
  rw [hc]
  simp only [h0, h1, sum_mul_real]

/-- The tile's probabilities on the diagonal. -/
theorem pay15_at (a b : Fin 1024) : k0_pay15 (F := Ideal) x0 x1 x4 (ix2 a b)
    = Ideal.exp ((if b.val ≤ a.val then ((∑ e, q a e * k b e : ℝ) : EReal) else ⊥) - (l a : EReal)) := by
  have hc := copies (fun a d => x4 (ix2 a d)) (l a) b a (h4 a)
  pointwise [k0_pay15]
  rw [hc, show IntOp.addi (BitVec.ofNat 32 a.val) 0#32 = BitVec.ofNat 32 a.val from BitVec.add_zero _,
    WordCmp.cmpi_sge_ofNat (w := 32) (a := a.val) (b := b.val) (by omega) (by omega), select_ofBool]
  simp only [h0, h1, sum_mul_real]
  rfl

end

section

variable (P : FVec Ideal S1024x1024 .f32) (p : Fin 1024 → Fin 1024 → ℝ) (hp : ∀ a b, P (ix2 a b) = (p a b : EReal))
  (x0 x1 : Vec Ideal S1024x256 .bf16) (x2 x3 : Vec Ideal S1024x128 .bf16) (x4 : Vec Ideal S1024x128 .f32) (x5 : Vec Ideal S1024x128 .bf16)
  (v o g : Fin 1024 → Fin 128 → ℝ)
  (h2 : ∀ a d, x2 (ix2 a d) = (v a d : EReal)) (h3 : ∀ a d, x3 (ix2 a d) = (o a d : EReal)) (h5 : ∀ a d, x5 (ix2 a d) = (g a d : EReal))

include h2 h3 h5

/-- The tile's logit gradients below the diagonal. -/
theorem pay12_at (hp : ∀ a b, k0_pay10 (F := Ideal) x0 x1 x4 (ix2 a b) = (p a b : EReal)) (a b : Fin 1024) :
    k0_pay12 (F := Ideal) x0 x1 x4 x5 x3 x2 (ix2 a b) = ((p a b * (∑ d, g a d * v b d - ∑ d, g a d * o a d) : ℝ) : EReal) := by
  unfold k0_pay12
  generalize k0_pay10 (F := Ideal) x0 x1 x4 = P at hp
  pointwise [k0_pay11]
  simp only [h2, h3, h5, hp, sum_mul_real]
  rw [← EReal.coe_sub, ← EReal.coe_mul]

/-- The tile's logit gradients on the diagonal. -/
theorem pay17_at (hp : ∀ a b, k0_pay15 (F := Ideal) x0 x1 x4 (ix2 a b) = (p a b : EReal)) (a b : Fin 1024) :
    k0_pay17 (F := Ideal) x0 x1 x4 x5 x3 x2 (ix2 a b) = ((p a b * (∑ d, g a d * v b d - ∑ d, g a d * o a d) : ℝ) : EReal) := by
  unfold k0_pay17
  generalize k0_pay15 (F := Ideal) x0 x1 x4 = P at hp
  pointwise [k0_pay16]
  simp only [h2, h3, h5, hp, sum_mul_real]
  rw [← EReal.coe_sub, ← EReal.coe_mul]

omit h2 h3

/-- The value gradient, with a tile added. -/
theorem pay13_at (hp : ∀ a b, k0_pay10 (F := Ideal) x0 x1 x4 (ix2 a b) = (p a b : EReal)) (s : Vec Ideal S1024x128 .f32) (b : Fin 1024) (d : Fin 128) (r : ℝ)
    (hs : s (ix2 b d) = (r : EReal)) : k0_pay13 (F := Ideal) x0 x1 x4 x5 s (ix2 b d) = ((r + ∑ a, p a b * g a d : ℝ) : EReal) := by
  unfold k0_pay13
  generalize k0_pay10 (F := Ideal) x0 x1 x4 = P at hp
  pointwise [k0_pay11]
  simp only [h5, hp, hs, sum_mul_real]
  rw [← EReal.coe_add]

/-- The value gradient's first tile. -/
theorem pay18_at (hp : ∀ a b, k0_pay15 (F := Ideal) x0 x1 x4 (ix2 a b) = (p a b : EReal)) (b : Fin 1024) (d : Fin 128) :
    k0_pay6 (F := Ideal) (k0_pay18 (F := Ideal) x0 x1 x4 x5 (k0_pay2 (F := Ideal))) (ix2 b d) = ((∑ a, p a b * g a d : ℝ) : EReal) := by
  unfold k0_pay18
  generalize k0_pay15 (F := Ideal) x0 x1 x4 = P at hp
  pointwise [k0_pay16, k0_pay6, k0_pay2]
  simp only [h5, hp, sum_mul_real, zero_add]

omit h5
include hp

/-- The key gradient, with a tile added. -/
theorem pay4_at (q : Fin 1024 → Fin 128 → ℝ) (h0 : ∀ a (d : Fin 128), x0 (ix2 a ⟨d.val, by omega⟩) = (q a d : EReal)) (s : Vec Ideal S1024x128 .f32) (b : Fin 1024) (d : Fin 128) (r : ℝ)
    (hs : s (ix2 b d) = (r : EReal)) :
    k0_pay4 (F := Ideal) P s (k0_pay14 (View.ld x0 (Rect.unit (s := S1024x256) ![0, 0] S1024x128.size inb_S1024x256_S1024x128_0_0))) (ix2 b d)
      = ((r + ∑ a, p a b * q a d : ℝ) : EReal) := by
  pointwise [k0_pay4, k0_pay14]
  simp only [h0, hp, hs, sum_mul_real]
  rw [← EReal.coe_add]

/-- The key gradient's first tile. -/
theorem pay7_at (q : Fin 1024 → Fin 128 → ℝ) (h0 : ∀ a (d : Fin 128), x0 (ix2 a ⟨d.val, by omega⟩) = (q a d : EReal)) (b : Fin 1024) (d : Fin 128) :
    k0_pay7 (F := Ideal) P (k0_pay1 (F := Ideal)) (View.ld x0 (Rect.unit (s := S1024x256) ![0, 0] S1024x128.size inb_S1024x256_S1024x128_0_0)) (ix2 b d)
      = ((∑ a, p a b * q a d : ℝ) : EReal) := by
  pointwise [k0_pay7, k0_pay1]
  simp only [h0, hp, sum_mul_real, zero_add]

/-- The gate gradient, with a tile subtracted. -/
theorem pay5_at (s : Vec Ideal S1x1024 .f32) (b : Fin 1024) (r : ℝ) (hs : s (ix2 (0 : Fin 1) b) = (r : EReal)) :
    k0_pay5 (F := Ideal) P s (ix2 (0 : Fin 1) b) = ((r + ∑ a, -p a b : ℝ) : EReal) := by
  pointwise [k0_pay5]
  simp only [hp, hs]
  rw [← coe_sum, ← EReal.coe_sub, Finset.sum_neg_distrib, sub_eq_add_neg]

/-- The gate gradient's first tile. -/
theorem pay8_at (b : Fin 1024) : k0_pay8 (F := Ideal) P (k0_pay3 (F := Ideal)) (ix2 (0 : Fin 1) b) = ((∑ a, -p a b : ℝ) : EReal) := by
  pointwise [k0_pay8, k0_pay3]
  simp only [hp]
  rw [← coe_sum, zero_sub, ← EReal.coe_neg, Finset.sum_neg_distrib]

end

/-- The gate gradient as written back. -/
theorem pay9_at (s : Vec Ideal S1x1024 .f32) (b : Fin 1024) : k0_pay9 (F := Ideal) s (ix3 (0 : Fin 1) (0 : Fin 1) b) = s (ix2 (0 : Fin 1) b) := by
  pointwise [k0_pay9]

end Cert.Kernel7Ideal.FoxPay

end
-- ==== Proof.FoxValue.lean ====
module

public import proofs.«01_k».proof.Proof.FoxIdeal.Launch
public import proofs.«01_k».proof.Proof.FoxIdeal.Tiles
public import proofs.«01_k».proof.Proof.FoxIdeal.Traj
public import proofs.«01_k».proof.Proof.FoxHost
public import proofs.«01_k».proof.Proof.FoxPay
public import Idealize.ShloMosaic.Lib.Pipeline.ValueKit

@[expose] public section

/-! # The gradients the forgetting attention's backward call leaves, over the reals -/

set_option maxRecDepth 16384

noncomputable section

open Idealize.ShloMosaic Idealize.ShloMosaic.TcCoe Idealize.SL.Sem
open Idealize.ShloMosaic.Pipeline (Dat)

namespace Cert.Kernel7Ideal.Fox

open Cert.Kernel7Ideal Cert.Kernel7Ideal.Gen Cert.Fox

/-! ## Sums over the rows, tile by tile -/

/-- Row `a` of tile `I`. -/
def row (I : ℕ) (a : Fin 1024) : Fin 8192 := ⟨(I * 1024 + a.val) % 8192, Nat.mod_lt _ (by decide)⟩

theorem row_eq (I : ℕ) (hI : I < 8) (a : Fin 1024) : row I a = ⟨I * 1024 + a.val, by omega⟩ :=
  Fin.ext (Nat.mod_eq_of_lt (by omega))

theorem row_val (I : ℕ) (hI : I < 8) (a : Fin 1024) : (row I a).val = I * 1024 + a.val := by rw [row_eq I hI]

/-- The tiles from `j` on carry the whole sum of a function that vanishes on the rows before tile `j`. -/
theorem tiles_total (f : Fin 8192 → ℝ) (j : ℕ) (hz : ∀ i : Fin 8192, i.val < j * 1024 → f i = 0) :
    ∑ I ∈ Finset.Icc j 7, ∑ a, f (row I a) = ∑ i, f i := by
  have h1 : ∑ I ∈ Finset.Icc j 7, ∑ a, f (row I a) = ∑ I ∈ Finset.range 8, ∑ a, f (row I a) := by
    refine Finset.sum_subset (fun I hI => ?_) (fun I hI hn => ?_)
    · rw [Finset.mem_Icc] at hI; rw [Finset.mem_range]; omega
    · rw [Finset.mem_range] at hI
      rw [Finset.mem_Icc] at hn
      refine Finset.sum_eq_zero fun a _ => hz _ ?_
      rw [row_val I hI]
      have : (I + 1) * 1024 ≤ j * 1024 := Nat.mul_le_mul_right _ (by omega)
      omega
  rw [h1, Finset.sum_range, Fin.sum_univ_tiles 8 1024 rfl f]
  exact Finset.sum_congr rfl fun I _ => Finset.sum_congr rfl fun a _ => by rw [row_eq I.val I.isLt]

variable (m : (ℓ : Loc nD τ sig) → Buf (Elt Ideal) ℓ) (c : Dev nD)

section

set_option maxHeartbeats 4000000

theorem V_qa : V m c main_v38 = FoxHost.qa (m ((c.tc : Thread nD τ).loc main_arg0)) (m ((c.tc : Thread nD τ).loc main_arg2)) := by
  unfold V
  after_results_simp
  rfl
theorem V_ka : V m c main_v53 = FoxHost.ka (m ((c.tc : Thread nD τ).loc main_arg1)) (m ((c.tc : Thread nD τ).loc main_arg2)) := by
  unfold V
  after_results_simp
  rfl
theorem V_lse : V m c main_v93 = FoxHost.lse (m ((c.tc : Thread nD τ).loc main_arg0)) (m ((c.tc : Thread nD τ).loc main_arg1)) (m ((c.tc : Thread nD τ).loc main_arg2)) := by
  unfold V
  after_results_simp
  rfl
theorem V_o : V m c main_v95 = FoxHost.o (m ((c.tc : Thread nD τ).loc main_arg0)) (m ((c.tc : Thread nD τ).loc main_arg1)) (m ((c.tc : Thread nD τ).loc main_arg2)) := by
  unfold V
  after_results_simp
  rfl

end

/-- The head of a point. -/
def hd (t : Fin cfgA.N) : Fin 6 := ⟨th t, (bounds t).2.2⟩

attribute [local irreducible] V ti tj th iblk traj0 prev0

variable (A0 : S8192x1024.Idx → ℝ) (A1 : S8192x1536.Idx → ℝ) (A2 : S6x8192.Idx → ℝ) (A3 : S8192x1024.Idx → ℝ)
  (h0 : ∀ y : S8192x1024.Idx, (m ((c.tc : Thread nD τ).loc main_arg0) : FVec Ideal S8192x1024 .bf16) y = (A0 y : EReal))
  (h1 : ∀ y : S8192x1536.Idx, (m ((c.tc : Thread nD τ).loc main_arg1) : FVec Ideal S8192x1536 .bf16) y = (A1 y : EReal))
  (h2 : ∀ y : S6x8192.Idx, (m ((c.tc : Thread nD τ).loc main_arg2) : FVec Ideal S6x8192 .f32) y = (A2 y : EReal))
  (h3 : ∀ y : S8192x1024.Idx, (m ((c.tc : Thread nD τ).loc main_arg3) : FVec Ideal S8192x1024 .bf16) y = (A3 y : EReal))

/-! ## The blocks of a point -/

include h0 h2 in
theorem real0 (t : Fin cfgA.N) (a : Fin 1024) (e : Fin 256) : iblk m c 0 t (ix2 a e) = ((qlane A0 A2 (hd t) (row (ti t) a) e : ℝ) : EReal) := by
  rw [blk0, V_qa, row_eq _ (bounds t).1]
  exact FoxHost.qa_at _ _ A0 A2 h0 h2 _ (hd t) e

include h1 h2 in
theorem real1 (t : Fin cfgA.N) (a : Fin 1024) (e : Fin 256) : iblk m c 1 t (ix2 a e) = ((klane A1 A2 (hd t) (row (tj t) a) e : ℝ) : EReal) := by
  have hb := bounds t
  rw [blk1, V_ka, row_eq _ (by omega)]
  exact FoxHost.ka_at _ _ A1 A2 h1 h2 _ (hd t) e

include h1 in
theorem real2 (t : Fin cfgA.N) (a : Fin 1024) (d : Fin 128) : iblk m c 2 t (ix2 a d) = ((val A1 (hd t) (row (tj t) a) d : ℝ) : EReal) := by
  have hb := bounds t
  rw [blk2, V_arg1, row_eq _ (by omega)]
  refine (h1 _).trans (congrArg (fun n => ((A1 (ix2 _ n) : ℝ) : EReal)) (Fin.ext ?_))
  show (6 + th t) * 128 + d.val = 768 + (th t * 128 + d.val)
  omega

include h0 h1 h2 in
theorem real3 (t : Fin cfgA.N) (a : Fin 1024) (d : Fin 128) : iblk m c 3 t (ix2 a d) = ((out A0 A1 A2 (hd t) (row (ti t) a) d : ℝ) : EReal) := by
  rw [blk3, V_o, row_eq _ (bounds t).1]
  exact FoxHost.o_at _ _ _ A0 A1 A2 h0 h1 h2 _ (hd t) d

include h0 h1 h2 in
theorem real4 (t : Fin cfgA.N) (a : Fin 1024) (d : Fin 128) : iblk m c 4 t (ix2 a d) = ((lsum A0 A1 A2 (hd t) (row (ti t) a) : ℝ) : EReal) := by
  rw [blk4, V_lse, row_eq _ (bounds t).1]
  exact FoxHost.lse_at _ _ _ A0 A1 A2 h0 h1 h2 _ (hd t) d

include h3 in
theorem real5 (t : Fin cfgA.N) (a : Fin 1024) (d : Fin 128) : iblk m c 5 t (ix2 a d) = ((at1024 A3 (hd t) (row (ti t) a) d : ℝ) : EReal) := by
  rw [blk5, V_arg3, row_eq _ (bounds t).1]
  exact h3 _

include h0 h1 h2

/-- The tile of probabilities of a point after the first. -/
theorem tile_next (t : Fin cfgA.N) (q0 : ¬P0_0 t) (a b : Fin 1024) :
    k0_pay10 (F := Ideal) (iblk m c 0 t) (iblk m c 1 t) (iblk m c 4 t) (ix2 a b) = ((prob A0 A1 A2 (hd t) (row (ti t) a) (row (tj t) b) : ℝ) : EReal) := by
  have hb := bounds t
  have hne : ti t ≠ tj t := fun h => q0 ((diag t).2 h)
  rw [FoxPay.pay10_at _ _ _ _ _ _ (real0 m c A0 A2 h0 h2 t) (real1 m c A1 A2 h1 h2 t) (real4 m c A0 A1 A2 h0 h1 h2 t), lanes]
  have e := exp_log (sees (row (ti t) a)) (sc A0 A1 A2 (hd t) (row (ti t) a)) (norm_pos' A0 A1 A2 (hd t) (row (ti t) a)) (row (tj t) b)
  rw [if_pos (by
    show (row (tj t) b).val ≤ (row (ti t) a).val
    rw [row_val _ hb.1, row_val _ (by omega)]
    have : (tj t + 1) * 1024 ≤ ti t * 1024 := Nat.mul_le_mul_right _ (by omega)
    omega)] at e
  exact e

/-- The tile of probabilities of a run's first point. -/
theorem tile_first (t : Fin cfgA.N) (q0 : P0_0 t) (a b : Fin 1024) :
    k0_pay15 (F := Ideal) (iblk m c 0 t) (iblk m c 1 t) (iblk m c 4 t) (ix2 a b) = ((prob A0 A1 A2 (hd t) (row (ti t) a) (row (tj t) b) : ℝ) : EReal) := by
  have hb := bounds t
  have heq : ti t = tj t := (diag t).1 q0
  rw [FoxPay.pay15_at _ _ _ _ _ _ (real0 m c A0 A2 h0 h2 t) (real1 m c A1 A2 h1 h2 t) (real4 m c A0 A1 A2 h0 h1 h2 t), lanes]
  have e := exp_log (sees (row (ti t) a)) (sc A0 A1 A2 (hd t) (row (ti t) a)) (norm_pos' A0 A1 A2 (hd t) (row (ti t) a)) (row (tj t) b)
  refine Eq.trans ?_ e
  have hs : b.val ≤ a.val ↔ sees (row (ti t) a) (row (tj t) b) := by
    show b.val ≤ a.val ↔ (row (tj t) b).val ≤ (row (ti t) a).val
    rw [row_val _ hb.1, row_val _ (by omega), heq]
    omega
  simp only [hs]
  rfl

include h3

theorem grad_next (t : Fin cfgA.N) (q0 : ¬P0_0 t) (a b : Fin 1024) :
    k0_pay12 (F := Ideal) (iblk m c 0 t) (iblk m c 1 t) (iblk m c 4 t) (iblk m c 5 t) (iblk m c 3 t) (iblk m c 2 t) (ix2 a b)
      = ((dls A0 A1 A2 A3 (hd t) (row (ti t) a) (row (tj t) b) : ℝ) : EReal) := by
  rw [dls_eq]
  exact FoxPay.pay12_at (fun a b => prob A0 A1 A2 (hd t) (row (ti t) a) (row (tj t) b)) _ _ _ _ _ _ _ _ _
    (real2 m c A1 h1 t) (real3 m c A0 A1 A2 h0 h1 h2 t) (real5 m c A3 h3 t) (tile_next m c A0 A1 A2 h0 h1 h2 t q0) a b

theorem grad_first (t : Fin cfgA.N) (q0 : P0_0 t) (a b : Fin 1024) :
    k0_pay17 (F := Ideal) (iblk m c 0 t) (iblk m c 1 t) (iblk m c 4 t) (iblk m c 5 t) (iblk m c 3 t) (iblk m c 2 t) (ix2 a b)
      = ((dls A0 A1 A2 A3 (hd t) (row (ti t) a) (row (tj t) b) : ℝ) : EReal) := by
  rw [dls_eq]
  exact FoxPay.pay17_at (fun a b => prob A0 A1 A2 (hd t) (row (ti t) a) (row (tj t) b)) _ _ _ _ _ _ _ _ _
    (real2 m c A1 h1 t) (real3 m c A0 A1 A2 h0 h1 h2 t) (real5 m c A3 h3 t) (tile_first m c A0 A1 A2 h0 h1 h2 t q0) a b

end Cert.Kernel7Ideal.Fox

end
-- ==== Proof.FoxRef.lean ====
/-
  What `Reference7Ideal` computes, as real numbers when the arguments are real: the masked softmax with its largest
  logit, and its derivative, are the attention's numbers of `FoxReal`.
-/
module

public import proofs.«01_k».proof.Proof.Gen.Reference7Ideal.Run
public import Idealize.ShloMosaic.Lib.Pipeline.ValueKit
public import Idealize.ShloMosaic.Lib.WordCmp
public import proofs.«01_k».proof.Proof.FoxReal

@[expose] public section

set_option maxRecDepth 16384

noncomputable section

open Idealize.ShloMosaic Idealize.ShloMosaic.TcCoe Idealize.SL.Sem

namespace Cert.Reference7Ideal.Fox

open Cert.Reference7Ideal Cert.Reference7Ideal.Gen

/-- The masked logits. -/
def logits (a0 : FVec Ideal S8192x1024 .bf16) (a1 : FVec Ideal S8192x1536 .bf16) (a2 : FVec Ideal S6x8192 .f32) : FVec Ideal S6x8192x8192 .f32 :=
  (select (broadcastInDim S6x8192x8192 ![1, 2] bcast_S8192x8192_S6x8192x8192_1_2 (cmpi .sle (iotaInDim S8192x8192 32 1) (iotaInDim S8192x8192 32 0))) (subf (addf (mulf (Host.dotGeneral dot_S8192x6x128_S8192x6x128_S6x8192x8192_2_2_0_0_1_1 none (shapeCast S8192x6x128 (extf .f32 (extractStridedSlice S8192x768 ![0, 0] a0 slices_S8192x1024_S8192x768_0_0) bitsLt_bf16_f32) shapeCasts_S8192x768_S8192x6x128) (shapeCast S8192x6x128 (extf .f32 (extractStridedSlice S8192x768 ![0, 0] a1 slices_S8192x1536_S8192x768_0_0) bitsLt_bf16_f32) shapeCasts_S8192x768_S8192x6x128)) (broadcastInDim S6x8192x8192 ![] bcast_S_S6x8192x8192 (constant S_ .f32 0x3DB504F3#32))) (broadcastInDim S6x8192x8192 ![0, 1, 2] bcast_S6x8192x1_S6x8192x8192_0_1_2 (broadcastInDim S6x8192x1 ![0, 1] bcast_S6x8192_S6x8192x1_0_1 a2))) (broadcastInDim S6x8192x8192 ![0, 1, 2] bcast_S6x1x8192_S6x8192x8192_0_1_2 (broadcastInDim S6x1x8192 ![0, 2] bcast_S6x8192_S6x1x8192_0_2 a2))) (broadcastInDim S6x8192x8192 ![] bcast_S_S6x8192x8192 (constant S_ .f32 0xFF800000#32)))

/-- The largest logit of a row. -/
def rowMax (a0 : FVec Ideal S8192x1024 .bf16) (a1 : FVec Ideal S8192x1536 .bf16) (a2 : FVec Ideal S6x8192 .f32) : FVec Ideal S6x8192 .f32 :=
  (maximumf (broadcastInDim S6x8192 ![] bcast_S_S6x8192 (constant S_ .f32 0xFF800000#32)) (Host.reduce FloatOps.maximumf (logits a0 a1 a2) (constant S_ .f32 0xFF800000#32) reducesTo_S6x8192x8192_S6x8192_d2 h_S_))

/-- The exponentials of a row, less its largest logit. -/
def z (a0 : FVec Ideal S8192x1024 .bf16) (a1 : FVec Ideal S8192x1536 .bf16) (a2 : FVec Ideal S6x8192 .f32) : FVec Ideal S6x8192x8192 .f32 :=
  (Host.exp (subf (logits a0 a1 a2) (broadcastInDim S6x8192x8192 ![0, 1, 2] bcast_S6x8192x1_S6x8192x8192_0_1_2 (broadcastInDim S6x8192x1 ![0, 1] bcast_S6x8192_S6x8192x1_0_1 (rowMax a0 a1 a2)))))

/-- Their sum. -/
def total (a0 : FVec Ideal S8192x1024 .bf16) (a1 : FVec Ideal S8192x1536 .bf16) (a2 : FVec Ideal S6x8192 .f32) : FVec Ideal S6x8192x1 .f32 :=
  (broadcastInDim S6x8192x1 ![0, 1] bcast_S6x8192_S6x8192x1_0_1 (Host.reduceAdd (z a0 a1 a2) (constant S_ .f32 0x00000000#32) reducesTo_S6x8192x8192_S6x8192_d2 h_S_))

/-- The probabilities. -/
def prob (a0 : FVec Ideal S8192x1024 .bf16) (a1 : FVec Ideal S8192x1536 .bf16) (a2 : FVec Ideal S6x8192 .f32) : FVec Ideal S6x8192x8192 .f32 :=
  (Host.divf (z a0 a1 a2) (broadcastInDim S6x8192x8192 ![0, 1, 2] bcast_S6x8192x1_S6x8192x8192_0_1_2 (total a0 a1 a2)))

/-- The gradient of the probabilities. -/
def dp (a1 : FVec Ideal S8192x1536 .bf16) (a3 : FVec Ideal S8192x1024 .bf16) : FVec Ideal S6x8192x8192 .f32 :=
  (Host.dotGeneral dot_S6x128x8192_S8192x6x128_S6x8192x8192_1_2_2_0_0_1 none (transpose S6x128x8192 [1, 2, 0] (shapeCast S8192x6x128 (extf .f32 (extractStridedSlice S8192x768 ![0, 0] a3 slices_S8192x1024_S8192x768_0_0) bitsLt_bf16_f32) shapeCasts_S8192x768_S8192x6x128) transposes_S8192x6x128_S6x128x8192_1_2_0) (shapeCast S8192x6x128 (extf .f32 (extractStridedSlice S8192x768 ![0, 768] a1 slices_S8192x1536_S8192x768_0_768) bitsLt_bf16_f32) shapeCasts_S8192x768_S8192x6x128))

/-- The gradient of the logits. -/
def ds (a0 : FVec Ideal S8192x1024 .bf16) (a1 : FVec Ideal S8192x1536 .bf16) (a2 : FVec Ideal S6x8192 .f32) (a3 : FVec Ideal S8192x1024 .bf16) : FVec Ideal S6x8192x8192 .f32 :=
  (select (broadcastInDim S6x8192x8192 ![1, 2] bcast_S8192x8192_S6x8192x8192_1_2 (cmpi .sle (iotaInDim S8192x8192 32 1) (iotaInDim S8192x8192 32 0))) (mulf (addf (Host.divf (dp a1 a3) (broadcastInDim S6x8192x8192 ![0, 1, 2] bcast_S6x8192x1_S6x8192x8192_0_1_2 (total a0 a1 a2))) (broadcastInDim S6x8192x8192 ![0, 1] bcast_S6x8192_S6x8192x8192_0_1 (Host.reduceAdd (Host.negf (shapeCast S6x8192x1 (Host.reduceAdd (mulf (mulf (dp a1 a3) (broadcastInDim S6x8192x8192 ![0, 1, 2] bcast_S6x8192x1_S6x8192x8192_0_1_2 (Host.divf (broadcastInDim S6x8192x1 ![] bcast_S_S6x8192x1 (constant S_ .f32 0x3F800000#32)) (mulf (total a0 a1 a2) (total a0 a1 a2))))) (z a0 a1 a2)) (constant S_ .f32 0x00000000#32) reducesTo_S6x8192x8192_S6x8192_d2 h_S_) shapeCasts_S6x8192_S6x8192x1)) (constant S_ .f32 0x00000000#32) reducesTo_S6x8192x1_S6x8192_d2 h_S_))) (z a0 a1 a2)) (broadcastInDim S6x8192x8192 ![] bcast_S_S6x8192x8192 (constant S_ .f32 0x00000000#32)))

/-- The gradient of the keys. -/
def dk (a0 : FVec Ideal S8192x1024 .bf16) (a1 : FVec Ideal S8192x1536 .bf16) (a2 : FVec Ideal S6x8192 .f32) (a3 : FVec Ideal S8192x1024 .bf16) : FVec Ideal S8192x768 .f32 :=
  (shapeCast S8192x768 (transpose S8192x6x128 [1, 0, 2] (Host.dotGeneral dot_S6x8192x8192_S8192x6x128_S6x8192x128_1_0_2_2_0_1 none (mulf (ds a0 a1 a2 a3) (broadcastInDim S6x8192x8192 ![] bcast_S_S6x8192x8192 (constant S_ .f32 0x3DB504F3#32))) (shapeCast S8192x6x128 (extf .f32 (extractStridedSlice S8192x768 ![0, 0] a0 slices_S8192x1024_S8192x768_0_0) bitsLt_bf16_f32) shapeCasts_S8192x768_S8192x6x128)) transposes_S6x8192x128_S8192x6x128_1_0_2) shapeCasts_S8192x6x128_S8192x768)

/-- The gradient of the values. -/
def dv (a0 : FVec Ideal S8192x1024 .bf16) (a1 : FVec Ideal S8192x1536 .bf16) (a2 : FVec Ideal S6x8192 .f32) (a3 : FVec Ideal S8192x1024 .bf16) : FVec Ideal S8192x768 .f32 :=
  (shapeCast S8192x768 (transpose S8192x6x128 [2, 0, 1] (Host.dotGeneral dot_S6x128x8192_S6x8192x8192_S6x128x8192_2_1_1_2_0_0 none (transpose S6x128x8192 [1, 2, 0] (shapeCast S8192x6x128 (extf .f32 (extractStridedSlice S8192x768 ![0, 0] a3 slices_S8192x1024_S8192x768_0_0) bitsLt_bf16_f32) shapeCasts_S8192x768_S8192x6x128) transposes_S8192x6x128_S6x128x8192_1_2_0) (prob a0 a1 a2)) transposes_S6x128x8192_S8192x6x128_2_0_1) shapeCasts_S8192x6x128_S8192x768)

/-- The gradient of the gate at the keys. -/
def dc (a0 : FVec Ideal S8192x1024 .bf16) (a1 : FVec Ideal S8192x1536 .bf16) (a2 : FVec Ideal S6x8192 .f32) (a3 : FVec Ideal S8192x1024 .bf16) : FVec Ideal S6x1x8192 .f32 :=
  (shapeCast S6x1x8192 (Host.reduceAdd (shapeCast S6x1x8192 (Host.reduceAdd (Host.negf (ds a0 a1 a2 a3)) (constant S_ .f32 0x00000000#32) reducesTo_S6x8192x8192_S6x8192_d1 h_S_) shapeCasts_S6x8192_S6x1x8192) (constant S_ .f32 0x00000000#32) reducesTo_S6x1x8192_S6x8192_d1 h_S_) shapeCasts_S6x8192_S6x1x8192)

open Cert.Fox

theorem reduce_max (L : FVec Ideal S6x8192x8192 .f32) (h : Fin 6) (i : Fin 8192) :
    (Host.reduce FloatOps.maximumf L (constant S_ .f32 0xFF800000#32) reducesTo_S6x8192x8192_S6x8192_d2 h_S_ : FVec Ideal S6x8192 .f32) (ix2 h i)
    = Finset.fold max (Ideal.ofBits .f32 0xFF800000#32) (fun x => L (ix3 h i x)) Finset.univ := by
  pointwise

theorem max_const (L : FVec Ideal S6x8192 .f32) (h : Fin 6) (i : Fin 8192) :
    maximumf (broadcastInDim S6x8192 ![] bcast_S_S6x8192 (constant S_ .f32 0xFF800000#32)) L (ix2 h i) = max (Ideal.ofBits .f32 0xFF800000#32) (L (ix2 h i)) := by
  pointwise

variable (a0 : FVec Ideal S8192x1024 .bf16) (a1 : FVec Ideal S8192x1536 .bf16) (a2 : FVec Ideal S6x8192 .f32) (a3 : FVec Ideal S8192x1024 .bf16)
  (A0 : S8192x1024.Idx → ℝ) (A1 : S8192x1536.Idx → ℝ) (A2 : S6x8192.Idx → ℝ) (A3 : S8192x1024.Idx → ℝ)
  (h0 : ∀ y, a0 y = (A0 y : EReal)) (h1 : ∀ y, a1 y = (A1 y : EReal)) (h2 : ∀ y, a2 y = (A2 y : EReal)) (h3 : ∀ y, a3 y = (A3 y : EReal))

include h0 h1 h2

theorem logits_at (h : Fin 6) (i j : Fin 8192) : logits a0 a1 a2 (ix3 h i j) = lg A0 A1 A2 h i j := by
  pointwise [logits]
  rw [WordCmp.cmpi_sle_ofNat (w := 32) (a := j.val) (b := i.val) (by omega) (by omega), select_ofBool, neg_inf, lg, sc, scale_eq]
  simp only [h0, h1, h2, ← EReal.coe_mul, ← Cert.Extended.coe_sum, ← EReal.coe_add, ← EReal.coe_sub]

theorem max_at (h : Fin 6) (i : Fin 8192) : ∃ μ : ℝ, rowMax a0 a1 a2 (ix2 h i) = (μ : EReal) := by
  have e : rowMax a0 a1 a2 (ix2 h i) = max (Ideal.ofBits .f32 0xFF800000#32) (Finset.fold max (Ideal.ofBits .f32 0xFF800000#32) (fun x => logits a0 a1 a2 (ix3 h i x)) Finset.univ) := by
    rw [rowMax, max_const, reduce_max]
  rw [e, neg_inf, max_eq_right bot_le]; simp only [logits_at a0 a1 a2 A0 A1 A2 h0 h1 h2]
  exact max_real _ _ i (le_refl _)

theorem z_at (h : Fin 6) (i j : Fin 8192) (μ : ℝ) (hμ : rowMax a0 a1 a2 (ix2 h i) = (μ : EReal)) :
    z a0 a1 a2 (ix3 h i j) = ((wt (sees i) (sc A0 A1 A2 h i) j * Real.exp (-μ) : ℝ) : EReal) := by
  have e : z a0 a1 a2 (ix3 h i j) = Ideal.exp (logits a0 a1 a2 (ix3 h i j) - rowMax a0 a1 a2 (ix2 h i)) := by
    unfold z; generalize logits a0 a1 a2 = L; generalize rowMax a0 a1 a2 = M; pointwise
  rw [e, hμ, logits_at a0 a1 a2 A0 A1 A2 h0 h1 h2, lg]; exact exp_masked _ _ μ j

theorem total_at (h : Fin 6) (i : Fin 8192) (μ : ℝ) (hμ : rowMax a0 a1 a2 (ix2 h i) = (μ : EReal)) :
    total a0 a1 a2 (ix3 h i (0 : Fin 1)) = ((norm (sees i) (sc A0 A1 A2 h i) * Real.exp (-μ) : ℝ) : EReal) := by
  have e : total a0 a1 a2 (ix3 h i (0 : Fin 1)) = ∑ x, z a0 a1 a2 (ix3 h i x) := by
    unfold total; generalize z a0 a1 a2 = Z; pointwise
  rw [e]; simp only [z_at a0 a1 a2 A0 A1 A2 h0 h1 h2 h i _ μ hμ]
  exact sum_masked _ _ μ

theorem prob_at (h : Fin 6) (i j : Fin 8192) : prob a0 a1 a2 (ix3 h i j) = ((Cert.Fox.prob A0 A1 A2 h i j : ℝ) : EReal) := by
  have e : prob a0 a1 a2 (ix3 h i j) = Ideal.div (z a0 a1 a2 (ix3 h i j)) (total a0 a1 a2 (ix3 h i (0 : Fin 1))) := by
    unfold prob; generalize z a0 a1 a2 = Z; generalize total a0 a1 a2 = T; pointwise
  obtain ⟨μ, hμ⟩ := max_at a0 a1 a2 A0 A1 A2 h0 h1 h2 h i
  rw [e, z_at a0 a1 a2 A0 A1 A2 h0 h1 h2 h i j μ hμ, total_at a0 a1 a2 A0 A1 A2 h0 h1 h2 h i μ hμ, prob_real _ _ μ (norm_pos' A0 A1 A2 h i)]
  rfl

omit h0 h2
include h3

theorem dp_at (h : Fin 6) (i j : Fin 8192) : dp a1 a3 (ix3 h i j) = ((dpr A1 A3 h i j : ℝ) : EReal) := by
  pointwise [dp]
  simp only [h1, h3, ← EReal.coe_mul, ← Cert.Extended.coe_sum]
  rfl

include h0 h2

theorem ds_at (h : Fin 6) (i j : Fin 8192) : ds a0 a1 a2 a3 (ix3 h i j) = ((dls A0 A1 A2 A3 h i j : ℝ) : EReal) := by
  have e : ds a0 a1 a2 a3 (ix3 h i j) = Scalar.select (IntOp.cmpi .sle (BitVec.ofNat 32 j.val) (BitVec.ofNat 32 i.val))
      ((Ideal.div (dp a1 a3 (ix3 h i j)) (total a0 a1 a2 (ix3 h i (0 : Fin 1)))
        + -∑ k, dp a1 a3 (ix3 h i k) * Ideal.div 1 (total a0 a1 a2 (ix3 h i (0 : Fin 1)) * total a0 a1 a2 (ix3 h i (0 : Fin 1))) * z a0 a1 a2 (ix3 h i k))
        * z a0 a1 a2 (ix3 h i j)) 0 := by
    unfold ds; generalize z a0 a1 a2 = Z; generalize total a0 a1 a2 = T; generalize dp a1 a3 = P; pointwise
    simp only [Finset.univ_unique, Finset.sum_singleton]
  obtain ⟨μ, hμ⟩ := max_at a0 a1 a2 A0 A1 A2 h0 h1 h2 h i
  rw [e, WordCmp.cmpi_sle_ofNat (w := 32) (a := j.val) (b := i.val) (by omega) (by omega), select_ofBool]
  by_cases hij : j.val ≤ i.val
  · rw [if_pos hij, total_at a0 a1 a2 A0 A1 A2 h0 h1 h2 h i μ hμ]
    simp only [z_at a0 a1 a2 A0 A1 A2 h0 h1 h2 h i _ μ hμ, dp_at a1 a3 A1 A3 h1 h3]
    exact dlog_real (sees i) (sc A0 A1 A2 h i) (dpr A1 A3 h i) μ (norm_pos' A0 A1 A2 h i) j
  · rw [if_neg hij, dls_unseen _ _ _ _ h i j hij, EReal.coe_zero]

/-- The gradient of the keys. -/
theorem dk_at (j : Fin 8192) (h : Fin 6) (d : Fin 128) : dk a0 a1 a2 a3 (ix2 j ⟨h.val * 128 + d.val, by omega⟩)
    = ((∑ i, dls A0 A1 A2 A3 h i j * (at1024 A0 h i d * scale) : ℝ) : EReal) := by
  have e : ∀ n : Fin 768, dk a0 a1 a2 a3 (ix2 j n) = ∑ x, ds a0 a1 a2 a3 (ix3 ⟨n.val / 128, by omega⟩ x j) * Ideal.ofBits .f32 0x3DB504F3#32
      * a0 (ix2 x ⟨n.val, by omega⟩) := by
    intro n; unfold dk; generalize ds a0 a1 a2 a3 = G; pointwise
  rw [e, show (⟨(h.val * 128 + d.val) / 128, by omega⟩ : Fin 6) = h from Fin.ext (by show (h.val * 128 + d.val) / 128 = h.val; omega), Cert.Extended.coe_sum]
  refine Finset.sum_congr rfl fun i _ => ?_
  rw [ds_at a0 a1 a2 a3 A0 A1 A2 A3 h0 h1 h2 h3, scale_eq, h0, ← EReal.coe_mul, ← EReal.coe_mul]
  congr 1; rw [mul_assoc, mul_comm scale]

/-- The gradient of the values. -/
theorem dv_at (j : Fin 8192) (h : Fin 6) (d : Fin 128) : dv a0 a1 a2 a3 (ix2 j ⟨h.val * 128 + d.val, by omega⟩)
    = ((∑ i, Cert.Fox.prob A0 A1 A2 h i j * at1024 A3 h i d : ℝ) : EReal) := by
  have e : ∀ n : Fin 768, dv a0 a1 a2 a3 (ix2 j n) = ∑ x, a3 (ix2 x ⟨n.val, by omega⟩) * prob a0 a1 a2 (ix3 ⟨n.val / 128, by omega⟩ x j) := by
    intro n; unfold dv; generalize prob a0 a1 a2 = G; pointwise
  rw [e, show (⟨(h.val * 128 + d.val) / 128, by omega⟩ : Fin 6) = h from Fin.ext (by show (h.val * 128 + d.val) / 128 = h.val; omega), Cert.Extended.coe_sum]
  refine Finset.sum_congr rfl fun i _ => ?_
  rw [prob_at a0 a1 a2 A0 A1 A2 h0 h1 h2, h3, ← EReal.coe_mul, mul_comm]

/-- The gradient of the gate at the keys. -/
theorem dc_at (h : Fin 6) (j : Fin 8192) : dc a0 a1 a2 a3 (ix3 h (0 : Fin 1) j) = ((∑ i, -dls A0 A1 A2 A3 h i j : ℝ) : EReal) := by
  have e : dc a0 a1 a2 a3 (ix3 h (0 : Fin 1) j) = ∑ x, -ds a0 a1 a2 a3 (ix3 h x j) := by
    unfold dc; generalize ds a0 a1 a2 a3 = G; pointwise
    simp only [Finset.univ_unique, Finset.sum_singleton]
  rw [e, Cert.Extended.coe_sum]
  refine Finset.sum_congr rfl fun i _ => ?_
  rw [ds_at a0 a1 a2 a3 A0 A1 A2 A3 h0 h1 h2 h3, ← EReal.coe_neg]

end Cert.Reference7Ideal.Fox

end
-- ==== Proof.FoxGrad.lean ====
module

public import proofs.«01_k».proof.Proof.FoxValue
public import proofs.«01_k».proof.Proof.FoxRef

@[expose] public section

/-! # The forgetting attention's backward call leaves the reference's gradients -/

set_option maxRecDepth 16384

noncomputable section

open Idealize.ShloMosaic Idealize.ShloMosaic.TcCoe Idealize.SL.Sem
open Idealize.ShloMosaic.Pipeline (Dat)

namespace Cert.Kernel7Ideal.Fox

open Cert.Kernel7Ideal Cert.Kernel7Ideal.Gen Cert.Fox

variable (m : (ℓ : Loc nD τ sig) → Buf (Elt Ideal) ℓ) (c : Dev nD)

attribute [local irreducible] V ti tj th iblk traj0 prev0

theorem prev_eq (t : Fin cfgA.N) (h : 0 < t.val) : prev0 m c t = traj0 m c (t.val - 1) (by omega) := by
  unfold prev0; rw [dif_neg (by omega)]

/-- A quantity that starts with the first tile of a run and adds one tile at every later point is the sum over the run's tiles so far. -/
theorem run_sum (S : (n : ℕ) → n < cfgA.N → EReal) (F : Fin 6 → ℕ → ℕ → ℝ)
    (hf : ∀ t : Fin cfgA.N, P0_0 t → S t.val t.isLt = (F (hd t) (tj t) (ti t) : EReal))
    (hn : ∀ t : Fin cfgA.N, ¬P0_0 t → ∀ h : 0 < t.val, ∀ r : ℝ, S (t.val - 1) (by omega) = (r : EReal) → S t.val t.isLt = ((r + F (hd t) (tj t) (ti t) : ℝ) : EReal)) :
    ∀ (n : ℕ) (h : n < cfgA.N), S n h = ((∑ I ∈ Finset.Icc (tj ⟨n, h⟩) (ti ⟨n, h⟩), F (hd ⟨n, h⟩) (tj ⟨n, h⟩) I : ℝ) : EReal) := by
  have first : ∀ t : Fin cfgA.N, P0_0 t → S t.val t.isLt = ((∑ I ∈ Finset.Icc (tj t) (ti t), F (hd t) (tj t) I : ℝ) : EReal) := by
    intro t q0
    rw [hf t q0, (diag t).1 q0, Finset.Icc_self, Finset.sum_singleton]
  intro n
  induction n with
  | zero => exact fun h => first ⟨0, h⟩ ((diag _).2 (by
      by_contra hne
      obtain ⟨h, _⟩ := pred ⟨0, h⟩ hne
      exact absurd h (lt_irrefl 0)))
  | succ n ih =>
    intro h
    by_cases q0 : P0_0 ⟨n + 1, h⟩
    · exact first _ q0
    · obtain ⟨hp, hi, hj, hh⟩ := pred ⟨n + 1, h⟩ (fun e => q0 ((diag _).2 e))
      have e := hn ⟨n + 1, h⟩ q0 hp _ (ih (Nat.lt_of_succ_lt h))
      refine e.trans ?_
      have hb := bounds (⟨n, Nat.lt_of_succ_lt h⟩ : Fin cfgA.N)
      have hi' : ti ⟨n + 1, h⟩ = ti ⟨n, Nat.lt_of_succ_lt h⟩ + 1 := hi
      have hj' : tj ⟨n + 1, h⟩ = tj ⟨n, Nat.lt_of_succ_lt h⟩ := hj
      have hh' : hd ⟨n + 1, h⟩ = hd ⟨n, Nat.lt_of_succ_lt h⟩ := Fin.ext hh
      rw [hi', hj', hh', Finset.sum_Icc_succ_top (by omega)]

variable (A0 : S8192x1024.Idx → ℝ) (A1 : S8192x1536.Idx → ℝ) (A2 : S6x8192.Idx → ℝ) (A3 : S8192x1024.Idx → ℝ)
  (h0 : ∀ y : S8192x1024.Idx, (m ((c.tc : Thread nD τ).loc main_arg0) : FVec Ideal S8192x1024 .bf16) y = (A0 y : EReal))
  (h1 : ∀ y : S8192x1536.Idx, (m ((c.tc : Thread nD τ).loc main_arg1) : FVec Ideal S8192x1536 .bf16) y = (A1 y : EReal))
  (h2 : ∀ y : S6x8192.Idx, (m ((c.tc : Thread nD τ).loc main_arg2) : FVec Ideal S6x8192 .f32) y = (A2 y : EReal))
  (h3 : ∀ y : S8192x1024.Idx, (m ((c.tc : Thread nD τ).loc main_arg3) : FVec Ideal S8192x1024 .bf16) y = (A3 y : EReal))

include h0 h2 in
/-- The query lanes of a point, scaled. -/
theorem query (t : Fin cfgA.N) (a : Fin 1024) (d : Fin 128) :
    iblk m c 0 t (ix2 a (⟨d.val, by omega⟩ : Fin 256)) = ((at1024 A0 (hd t) (row (ti t) a) d * scale : ℝ) : EReal) := by
  rw [real0 m c A0 A2 h0 h2]
  congr 1
  unfold qlane
  rw [dif_pos d.isLt]

include h0 h1 h2 h3

/-- The key gradient's scratch after a point. -/
theorem keys (b : Fin 1024) (d : Fin 128) : ∀ (n : ℕ) (h : n < cfgA.N), ((traj0 m c n h).2.2.2.1 : S1024x128.Idx → Elt Ideal .f32) (ix2 b d)
    = ((∑ I ∈ Finset.Icc (tj ⟨n, h⟩) (ti ⟨n, h⟩), ∑ a, dls A0 A1 A2 A3 (hd ⟨n, h⟩) (row I a) (row (tj ⟨n, h⟩) b) * (at1024 A0 (hd ⟨n, h⟩) (row I a) d * scale) : ℝ) : EReal) :=
  run_sum (fun n h => ((traj0 m c n h).2.2.2.1 : S1024x128.Idx → Elt Ideal .f32) (ix2 b d))
    (fun h j I => ∑ a, dls A0 A1 A2 A3 h (row I a) (row j b) * (at1024 A0 h (row I a) d * scale))
    (fun t q0 => (congrFun (first0 m c t q0) _).trans
      (FoxPay.pay7_at _ _ (grad_first m c A0 A1 A2 A3 h0 h1 h2 h3 t q0) _ _ (query m c A0 A2 h0 h2 t) b d))
    (fun t q0 hp r hr => (congrFun (next0 m c t q0) _).trans
      (FoxPay.pay4_at _ _ (grad_next m c A0 A1 A2 A3 h0 h1 h2 h3 t q0) _ _ (query m c A0 A2 h0 h2 t) _ b d r (by rw [prev_eq m c t hp]; exact hr)))

/-- The value gradient's scratch after a point. -/
theorem values (b : Fin 1024) (d : Fin 128) : ∀ (n : ℕ) (h : n < cfgA.N), ((traj0 m c n h).2.2.2.2.1 : S1024x128.Idx → Elt Ideal .f32) (ix2 b d)
    = ((∑ I ∈ Finset.Icc (tj ⟨n, h⟩) (ti ⟨n, h⟩), ∑ a, prob A0 A1 A2 (hd ⟨n, h⟩) (row I a) (row (tj ⟨n, h⟩) b) * at1024 A3 (hd ⟨n, h⟩) (row I a) d : ℝ) : EReal) :=
  run_sum (fun n h => ((traj0 m c n h).2.2.2.2.1 : S1024x128.Idx → Elt Ideal .f32) (ix2 b d))
    (fun h j I => ∑ a, prob A0 A1 A2 h (row I a) (row j b) * at1024 A3 h (row I a) d)
    (fun t q0 => (congrFun (first1 m c t q0) _).trans
      (FoxPay.pay18_at _ _ _ _ _ _ (real5 m c A3 h3 t) (tile_first m c A0 A1 A2 h0 h1 h2 t q0) b d))
    (fun t q0 hp r hr => (congrFun (next1 m c t q0) _).trans
      (FoxPay.pay13_at _ _ _ _ _ _ (real5 m c A3 h3 t) (tile_next m c A0 A1 A2 h0 h1 h2 t q0) _ b d r (by rw [prev_eq m c t hp]; exact hr)))

/-- The gate gradient's scratch after a point. -/
theorem gates (b : Fin 1024) : ∀ (n : ℕ) (h : n < cfgA.N), ((traj0 m c n h).2.2.2.2.2 : S1x1024.Idx → Elt Ideal .f32) (ix2 (0 : Fin 1) b)
    = ((∑ I ∈ Finset.Icc (tj ⟨n, h⟩) (ti ⟨n, h⟩), ∑ a, -dls A0 A1 A2 A3 (hd ⟨n, h⟩) (row I a) (row (tj ⟨n, h⟩) b) : ℝ) : EReal) :=
  run_sum (fun n h => ((traj0 m c n h).2.2.2.2.2 : S1x1024.Idx → Elt Ideal .f32) (ix2 (0 : Fin 1) b))
    (fun h j I => ∑ a, -dls A0 A1 A2 A3 h (row I a) (row j b))
    (fun t q0 => (congrFun (first2 m c t q0) _).trans
      (FoxPay.pay8_at _ _ (grad_first m c A0 A1 A2 A3 h0 h1 h2 h3 t q0) b))
    (fun t q0 hp r hr => (congrFun (next2 m c t q0) _).trans
      (FoxPay.pay5_at _ _ (grad_next m c A0 A1 A2 A3 h0 h1 h2 h3 t q0) _ b r (by rw [prev_eq m c t hp]; exact hr)))

omit h0 h1 h2 h3 in
/-- No row before a key tile sees a key of it. -/
theorem unseen (t : Fin cfgA.N) (b : Fin 1024) (i : Fin 8192) (hi : i.val < tj t * 1024) : ¬sees i (row (tj t) b) := by
  have hb := bounds t
  intro hs
  have hv := row_val (tj t) (by omega) b
  have : (row (tj t) b).val ≤ i.val := hs
  omega

/-- The key gradient, a row of a block the call writes. -/
theorem keys_block (t : Fin cfgA.N) (q1 : P0_1 t) (b : Fin 1024) (d : Fin 128) :
    ((dats m 0 c).after (6 : Fin 9) t : S1024x128.Idx → Elt Ideal .f32) (ix2 b d)
      = Cert.Reference7Ideal.Fox.dk (m ((c.tc : Thread nD τ).loc main_arg0)) (m ((c.tc : Thread nD τ).loc main_arg1)) (m ((c.tc : Thread nD τ).loc main_arg2)) (m ((c.tc : Thread nD τ).loc main_arg3)) (ix2 ⟨tj t * 1024 + b.val, by have := bounds t; omega⟩ ⟨th t * 128 + d.val, by have := bounds t; omega⟩) := by
  have hb := bounds t
  refine (congrFun ((after0_6 m c t).trans (last0 m c t q1)) (ix2 b d)).trans ?_
  refine (keys m c A0 A1 A2 A3 h0 h1 h2 h3 b d t.val t.isLt).trans ?_
  show ((∑ I ∈ Finset.Icc (tj t) (ti t), ∑ a, (fun i => dls A0 A1 A2 A3 (hd t) i (row (tj t) b) * (at1024 A0 (hd t) i d * scale)) (row I a) : ℝ) : EReal) = _
  rw [(last t).1 q1, tiles_total (fun i => dls A0 A1 A2 A3 (hd t) i (row (tj t) b) * (at1024 A0 (hd t) i d * scale)) (tj t) (fun i hi => by rw [dls_unseen A0 A1 A2 A3 _ _ _ (unseen t b i hi), zero_mul])]
  rw [row_eq (tj t) (by omega) b]
  exact (Cert.Reference7Ideal.Fox.dk_at _ _ _ _ A0 A1 A2 A3 h0 h1 h2 h3 ⟨tj t * 1024 + b.val, by omega⟩ (hd t) d).symm

/-- The key gradient: the array the call leaves is the reference's. -/
theorem keys_final : (dats m 0 c).arrAt (6 : Fin 9) cfgA.N = Cert.Reference7Ideal.Fox.dk (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers (6 : Fin 9) _ cov6 fun t hf y => ?_
  blk_simp
  obtain ⟨b, d, rfl⟩ : ∃ (b : Fin 1024) (d : Fin 128), y = ix2 b d := ⟨y 0, y 1, eq_ix2 y⟩
  rw [emb6]
  exact keys_block m c A0 A1 A2 A3 h0 h1 h2 h3 t (flush6 t hf) b d

/-- The value gradient, a row of a block the call writes. -/
theorem values_block (t : Fin cfgA.N) (q1 : P0_1 t) (b : Fin 1024) (d : Fin 128) :
    ((dats m 0 c).after (7 : Fin 9) t : S1024x128.Idx → Elt Ideal .f32) (ix2 b d)
      = Cert.Reference7Ideal.Fox.dv (m ((c.tc : Thread nD τ).loc main_arg0)) (m ((c.tc : Thread nD τ).loc main_arg1)) (m ((c.tc : Thread nD τ).loc main_arg2)) (m ((c.tc : Thread nD τ).loc main_arg3)) (ix2 ⟨tj t * 1024 + b.val, by have := bounds t; omega⟩ ⟨th t * 128 + d.val, by have := bounds t; omega⟩) := by
  have hb := bounds t
  refine (congrFun ((after0_7 m c t).trans (last1 m c t q1)) (ix2 b d)).trans ?_
  refine (values m c A0 A1 A2 A3 h0 h1 h2 h3 b d t.val t.isLt).trans ?_
  show ((∑ I ∈ Finset.Icc (tj t) (ti t), ∑ a, (fun i => prob A0 A1 A2 (hd t) i (row (tj t) b) * at1024 A3 (hd t) i d) (row I a) : ℝ) : EReal) = _
  rw [(last t).1 q1, tiles_total (fun i => prob A0 A1 A2 (hd t) i (row (tj t) b) * at1024 A3 (hd t) i d) (tj t) (fun i hi => by rw [prob_unseen A0 A1 A2 _ _ _ (unseen t b i hi), zero_mul])]
  rw [row_eq (tj t) (by omega) b]
  exact (Cert.Reference7Ideal.Fox.dv_at _ _ _ _ A0 A1 A2 A3 h0 h1 h2 h3 ⟨tj t * 1024 + b.val, by omega⟩ (hd t) d).symm

/-- The value gradient: the array the call leaves is the reference's. -/
theorem values_final : (dats m 0 c).arrAt (7 : Fin 9) cfgA.N = Cert.Reference7Ideal.Fox.dv (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers (7 : Fin 9) _ cov7 fun t hf y => ?_
  blk_simp
  obtain ⟨b, d, rfl⟩ : ∃ (b : Fin 1024) (d : Fin 128), y = ix2 b d := ⟨y 0, y 1, eq_ix2 y⟩
  rw [emb7]
  exact values_block m c A0 A1 A2 A3 h0 h1 h2 h3 t (flush7 t hf) b d

/-- The gate gradient, an entry of a block the call writes. -/
theorem gates_block (t : Fin cfgA.N) (q1 : P0_1 t) (b : Fin 1024) :
    ((dats m 0 c).after (8 : Fin 9) t : S1x1x1024.Idx → Elt Ideal .f32) (ix3 (0 : Fin 1) (0 : Fin 1) b)
      = Cert.Reference7Ideal.Fox.dc (m ((c.tc : Thread nD τ).loc main_arg0)) (m ((c.tc : Thread nD τ).loc main_arg1)) (m ((c.tc : Thread nD τ).loc main_arg2)) (m ((c.tc : Thread nD τ).loc main_arg3)) (ix3 ⟨th t, (bounds t).2.2⟩ (0 : Fin 1) ⟨tj t * 1024 + b.val, by have := bounds t; omega⟩) := by
  have hb := bounds t
  refine (congrFun ((after0_8 m c t).trans (last2 m c t q1)) (ix3 (0 : Fin 1) (0 : Fin 1) b)).trans ?_
  refine (FoxPay.pay9_at _ b).trans ?_
  refine (gates m c A0 A1 A2 A3 h0 h1 h2 h3 b t.val t.isLt).trans ?_
  have e : ∑ I ∈ Finset.Icc (tj t) (ti t), ∑ a, -dls A0 A1 A2 A3 (hd t) (row I a) (row (tj t) b) = ∑ i, -dls A0 A1 A2 A3 (hd t) i (row (tj t) b) := by
    rw [(last t).1 q1]
    exact tiles_total (fun i => -dls A0 A1 A2 A3 (hd t) i (row (tj t) b)) (tj t) (fun i hi => by rw [dls_unseen A0 A1 A2 A3 _ _ _ (unseen t b i hi), neg_zero])
  refine (congrArg (fun x : ℝ => (x : EReal)) e).trans ?_
  rw [row_eq (tj t) (by omega) b]
  exact (Cert.Reference7Ideal.Fox.dc_at _ _ _ _ A0 A1 A2 A3 h0 h1 h2 h3 (hd t) ⟨tj t * 1024 + b.val, by omega⟩).symm

/-- The gate gradient: the array the call leaves is the reference's. -/
theorem gates_final : (dats m 0 c).arrAt (8 : Fin 9) cfgA.N = Cert.Reference7Ideal.Fox.dc (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers (8 : Fin 9) _ cov8 fun t hf y => ?_
  blk_simp
  obtain ⟨b, rfl⟩ : ∃ b : Fin 1024, y = ix3 (0 : Fin 1) (0 : Fin 1) b := ⟨y 2, (eq_ix3 y).trans (by rw [show y 0 = (0 : Fin 1) from Subsingleton.elim (α := Fin 1) _ _, show y 1 = (0 : Fin 1) from Subsingleton.elim (α := Fin 1) _ _])⟩
  rw [emb8]
  exact gates_block m c A0 A1 A2 A3 h0 h1 h2 h3 t (flush8 t hf) b

omit h0 h1 h2 h3

open Cert.Extended in
/-- On real inputs the call ends with the reference's three gradients in its outputs and its arguments as they were. -/
theorem grads (ρ : Dev nD → PrngReg)
    (real : ∀ c : Dev nD, (∀ y, IsReal ((m ((c.tc : Thread nD τ).loc main_arg0) : FVec Ideal S8192x1024 .bf16) y)) ∧ (∀ y, IsReal ((m ((c.tc : Thread nD τ).loc main_arg1) : FVec Ideal S8192x1536 .bf16) y))
      ∧ (∀ y, IsReal ((m ((c.tc : Thread nD τ).loc main_arg2) : FVec Ideal S6x8192 .f32) y)) ∧ (∀ y, IsReal ((m ((c.tc : Thread nD τ).loc main_arg3) : FVec Ideal S8192x1024 .bf16) y))) :
    θ_run (defs (F := Ideal)) (onTc (τ := τ) (main (F := Ideal))) ⟨m, fun _ => 0, ρ⟩ (fun r => ∀ c : Dev nD,
      r.2.mem ((c.tc : Thread nD τ).loc main_v96_0) = Cert.Reference7Ideal.Fox.dk (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v96_1) = Cert.Reference7Ideal.Fox.dv (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v96_2) = Cert.Reference7Ideal.Fox.dc (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3)) :=
  (θ_run (defs (F := Ideal)) _ _).mono (fun r h c => by
    obtain ⟨r0, r1, r2, r3⟩ := real c
    choose A0 e0 using r0
    choose A1 e1 using r1
    choose A2 e2 using r2
    choose A3 e3 using r3
    exact ⟨((h.1 c).1 (6 : Fin 9)).trans (keys_final m c A0 A1 A2 A3 e0 e1 e2 e3), ((h.1 c).1 (7 : Fin 9)).trans (values_final m c A0 A1 A2 A3 e0 e1 e2 e3),
      ((h.1 c).1 (8 : Fin 9)).trans (gates_final m c A0 A1 A2 A3 e0 e1 e2 e3), Post_args m r h.1 c⟩) (run m ρ)

end Cert.Kernel7Ideal.Fox

end
-- ==== Proof.MixOut.lean ====
/-
  The mixers' output: `Kernel8Ideal` multiplies the joined heads by `w_out` and adds the residual, as `Reference8Ideal` does.
-/
module

public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel8Ideal.Product

open Cert.Kernel8Ideal Cert.Kernel8Ideal.Gen

variable (m : (ℓ : Loc nD τ sig) → Buf (Elt Ideal) ℓ)

/-- The reference's term. -/
abbrev REF (X : FVec Ideal S8192x1024 .bf16) (W : FVec Ideal S1024x1024 .bf16) (H : FVec Ideal S8192x1024 .f32) : FVec Ideal S8192x1024 .f32 :=
  addf H (Host.dotGeneral Cert.Reference8Ideal.dot_S8192x1024_S1024x1024_S8192x1024_1_0_0_1_n_n none (extf .f32 X Cert.Reference8Ideal.Gen.bitsLt_bf16_f32) (extf .f32 W Cert.Reference8Ideal.Gen.bitsLt_bf16_f32))

theorem hzero (j) : k0_pay1 (F := Ideal) j = 0 := by pointwise [k0_pay1]

theorem hpay (acc x1 x0 j) : k0_pay2 (F := Ideal) acc x1 x0 j = acc j + ∑ k : Fin 1024, x1 (ix2 (j 0) k) * x0 (ix2 k (j 1)) := by
  pointwise [k0_pay2]

theorem hout (acc h j) : k0_pay3 (F := Ideal) acc h j = acc j + h j := by
  pointwise [k0_pay3]

theorem href (X W H j) : REF X W H j = H j + ∑ k : Fin 1024, X (ix2 (j 0) k) * W (ix2 k (j 1)) := by
  pointwise [REF]

theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

theorem point (c : Dev nD) (t : Fin cfg0.N) (y : S1024x1024.Idx) :
    outsAt0 m c t y = REF (m ((c : Thread nD τ).loc main_arg0)) (m ((c : Thread nD τ).loc main_arg1)) (m ((c : Thread nD τ).loc main_arg2)) (((cfg0.win 3).blk t).view.emb y) := by
  rw [outsAt0]; frame_out
  rw [hout, hpay, hzero, zero_add, href, add_comm]
  blk_point [iblk, V, idx t]

/-- The output array after the run. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.Kernel8Ideal.Product

end
-- ==== Proof.MixOutDx.lean ====
/-
  The gradient in the joined heads: `Kernel9Ideal` multiplies the output's gradient by the transposed `w_out`, as `Reference9Ideal` does.
-/
module

public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel9Ideal.Product

open Cert.Kernel9Ideal Cert.Kernel9Ideal.Gen

variable (m : (ℓ : Loc nD τ sig) → Buf (Elt Ideal) ℓ)

/-- The reference's term. -/
abbrev REF (X : FVec Ideal S8192x1024 .f32) (W : FVec Ideal S1024x1024 .bf16) : FVec Ideal S8192x1024 .bf16 :=
  truncf .bf16 (Host.dotGeneral Cert.Reference9Ideal.dot_S8192x1024_S1024x1024_S8192x1024_1_1_0_0_n_n none X (extf .f32 W Cert.Reference9Ideal.Gen.bitsLt_bf16_f32)) Cert.Reference9Ideal.Gen.bitsLt_bf16_f32

theorem hzero (j) : k0_pay1 (F := Ideal) j = 0 := by pointwise [k0_pay1]

theorem hpay (acc x1 x0 j) : k0_pay2 (F := Ideal) acc x1 x0 j = acc j + ∑ k : Fin 1024, x1 (ix2 (j 0) k) * x0 (ix2 (j 1) k) := by
  pointwise [k0_pay2]

theorem hout (acc j) : k0_pay3 (F := Ideal) acc j = acc j := by
  pointwise [k0_pay3]

theorem href (X W j) : REF X W j = ∑ k : Fin 1024, X (ix2 (j 0) k) * W (ix2 (j 1) k) := by
  pointwise [REF]

theorem idx : ∀ t : Fin cfg0.N, win0_0.index t = ![t.val, 0] ∧ win0_1.index t = ![0, 0]
    ∧ win0_2.index t = ![t.val, 0] :=
  (by decide +kernel : ∀ t : Fin grid0.N, _)

theorem point (c : Dev nD) (t : Fin cfg0.N) (y : S1024x1024.Idx) :
    outsAt0 m c t y = REF (m ((c : Thread nD τ).loc main_arg0)) (m ((c : Thread nD τ).loc main_arg1)) (((cfg0.win 2).blk t).view.emb y) := by
  rw [outsAt0]; frame_out
  rw [hout, hpay, hzero, zero_add, href]
  blk_point [iblk, V, idx t]

/-- The output array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Cert.Kernel9Ideal.Product

end
-- ==== Proof.MixOutDw.lean ====
/-
  The gradient in `w_out`: `Kernel10Ideal`'s accumulated product is the one that `Reference10Ideal` computes.
-/
module

public import proofs.«01_k».proof.Proof.Gen.Kernel10Ideal.Value
public import proofs.«01_k».proof.Proof.Gen.Reference10Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel10Ideal.Product

open Cert.Kernel10Ideal Cert.Kernel10Ideal.Gen

variable (m : (ℓ : Loc nD τ sig) → Buf (Elt Ideal) ℓ)

/-- The reference's term. -/
abbrev REF (X : FVec Ideal S8192x1024 .bf16) (D : FVec Ideal S8192x1024 .f32) : FVec Ideal S1024x1024 .f32 :=
  transpose Cert.Reference10Ideal.S1024x1024 [1, 0] (Host.dotGeneral Cert.Reference10Ideal.dot_S8192x1024_S8192x1024_S1024x1024_0_0_1_1_n_n none
    D (extf .f32 X Cert.Reference10Ideal.Gen.bitsLt_bf16_f32)) Cert.Reference10Ideal.Gen.transposes_S1024x1024_S1024x1024_1_0

theorem hzero (j) : k0_pay1 (F := Ideal) j = 0 := by pointwise [k0_pay1]

theorem hpay (acc x1 x0 j) : k0_pay2 (F := Ideal) acc x1 x0 j = acc j + ∑ k : Fin 1024, x1 (ix2 k (j 0)) * x0 (ix2 k (j 1)) := by
  pointwise [k0_pay2]

theorem hout (acc j) : k0_pay3 (F := Ideal) acc j = acc j := by
  pointwise [k0_pay3]

/-- One product of the contraction: row `k`, the output index `j`. -/
abbrev T (X : FVec Ideal S8192x1024 .bf16) (D : FVec Ideal S8192x1024 .f32) (j : S1024x1024.Idx) (k : Fin 8192) : EReal :=
  X (ix2 k (j 0)) * D (ix2 k (j 1))

theorem href (X D j) : REF X D j = ∑ k : Fin 8192, T X D j k := by
  have e : REF X D j = ∑ k : Fin 8192, D (ix2 k (j 1)) * X (ix2 k (j 0)) := by pointwise [REF]
  exact e.trans (Finset.sum_congr rfl fun k _ => mul_comm _ _)

theorem idx : ∀ t : Fin cfg0.N, win0_0.index t = ![t.val % 8, 0] ∧ win0_1.index t = ![t.val % 8, 0]
    ∧ win0_2.index t = ![0, 0] :=
  (by decide +kernel : ∀ t : Fin grid0.N, _)

/-- The scratch at a point that writes back: the sum over the run's points. -/
theorem scratch (c : Dev nD) (t : Fin cfg0.N) (hf : t.val % 8 = 8 - 1) (j : S1024x1024.Idx) :
    (outsAt0 m c t.val t.isLt).2 j = ∑ k : Fin 8192, T (m ((c : Thread nD τ).loc main_arg0)) (m ((c : Thread nD τ).loc main_arg1)) (((cfg0.win 2).blk t).view.emb j) k := by
  rw [Pipeline.eq_sum_fin_of_reset_step_apply_of_flush (fun n h => (outsAt0 m c n h).2) 8 (fun _ => 0) _
    (fun t h j => by rw [outsAt0_A m c t h (by omega)]; frame_out; rw [hpay, hzero])
    (fun t h j => by
      by_cases h1 : t.val % 8 = 7
      · rw [outsAt0_C m c t h h1]; frame_out; rw [hpay, read_unread_whole]
      · rw [outsAt0_B m c t h h1]; frame_out; rw [hpay, read_unread_whole])
    t hf j, zero_add]
  refine Fin.sum_mul_add_congr fun s k hl => ?_
  dsimp only [T]
  blk_point [iblk, V, idx t, idx ⟨_, Pipeline.run_point_lt_of_flush t hf s⟩]

/-- At a point that writes back, the output block is the scratch. -/
theorem block (c : Dev nD) (t : Fin cfg0.N) (h1 : t.val % 8 = 7) (j : S1024x1024.Idx) :
    (outsAt0 m c t.val t.isLt).1 j = (outsAt0 m c t.val t.isLt).2 j := by
  rw [outsAt0_C m c t (by omega) h1]; frame_out; rw [hout]

/-- The output array after the run is the reference's gradient. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h1 : t.val % 8 = 7 := (flush0_2 t).mp hf
  have e := (block m c t h1 y).trans (scratch m c t h1 y)
  blk_simp
  rw [after0_2]
  exact e.trans (href _ _ _).symm

end Cert.Kernel10Ideal.Product

end
-- ==== Proof.DeltaIn.lean ====
/-
  The delta rule's input projection: `Kernel11Ideal`'s product by tiles of columns is `Reference11Ideal`'s.
-/
module

public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel11Ideal.Product

open Cert.Kernel11Ideal Cert.Kernel11Ideal.Gen

variable (m : (ℓ : Loc nD τ sig) → Buf (Elt Ideal) ℓ)

/-- The reference's term. -/
abbrev REF (X : FVec Ideal S8192x1024 .bf16) (W : FVec Ideal S1024x3456 .bf16) : FVec Ideal S8192x3456 .f32 :=
  Host.dotGeneral Cert.Reference11Ideal.dot_S8192x1024_S1024x3456_S8192x3456_1_0_0_1_n_n none (extf .f32 X Cert.Reference11Ideal.Gen.bitsLt_bf16_f32) (extf .f32 W Cert.Reference11Ideal.Gen.bitsLt_bf16_f32)

theorem hzero (j) : k0_pay1 (F := Ideal) j = 0 := by pointwise [k0_pay1]

theorem hpay (acc x1 x0 j) : k0_pay2 (F := Ideal) acc x1 x0 j = acc j + ∑ k : Fin 1024, x1 (ix2 (j 0) k) * x0 (ix2 k (j 1)) := by
  pointwise [k0_pay2]

theorem hout (acc j) : k0_pay3 (F := Ideal) acc j = acc j := by
  pointwise [k0_pay3]

theorem href (X W j) : REF X W j = ∑ k : Fin 1024, X (ix2 (j 0) k) * W (ix2 k (j 1)) := by
  pointwise [REF]

theorem idx : ∀ t : Fin cfg0.N, win0_0.index t = ![t.val / 3, 0] ∧ win0_1.index t = ![0, t.val % 3]
    ∧ win0_2.index t = ![t.val / 3, t.val % 3] :=
  (by decide +kernel : ∀ t : Fin grid0.N, _)

theorem point (c : Dev nD) (t : Fin cfg0.N) (y : S1024x1152.Idx) :
    outsAt0 m c t y = REF (m ((c : Thread nD τ).loc main_arg0)) (m ((c : Thread nD τ).loc main_arg1)) (((cfg0.win 2).blk t).view.emb y) := by
  rw [outsAt0]; frame_out
  rw [hout, hpay, hzero, zero_add, href]
  blk_point [iblk, V, idx t]

/-- The output array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Cert.Kernel11Ideal.Product

end
-- ==== Proof.DeltaInDw.lean ====
/-
  The gradient in the delta rule's input projection: `Kernel12Ideal`'s accumulated product is the one that `Reference12Ideal` computes.
-/
module

public import proofs.«01_k».proof.Proof.Gen.Kernel12Ideal.Value
public import proofs.«01_k».proof.Proof.Gen.Reference12Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel12Ideal.Product

open Cert.Kernel12Ideal Cert.Kernel12Ideal.Gen

variable (m : (ℓ : Loc nD τ sig) → Buf (Elt Ideal) ℓ)

/-- The reference's term. -/
abbrev REF (X : FVec Ideal S8192x1024 .bf16) (D : FVec Ideal S8192x3456 .bf16) : FVec Ideal S1024x3456 .f32 :=
  transpose Cert.Reference12Ideal.S1024x3456 [1, 0] (Host.dotGeneral Cert.Reference12Ideal.dot_S8192x3456_S8192x1024_S3456x1024_0_0_1_1_n_n none
    (extf .f32 D Cert.Reference12Ideal.Gen.bitsLt_bf16_f32) (extf .f32 X Cert.Reference12Ideal.Gen.bitsLt_bf16_f32)) Cert.Reference12Ideal.Gen.transposes_S3456x1024_S1024x3456_1_0

theorem hzero (j) : k0_pay1 (F := Ideal) j = 0 := by pointwise [k0_pay1]

theorem hpay (acc x1 x0 j) : k0_pay2 (F := Ideal) acc x1 x0 j = acc j + ∑ k : Fin 2048, x1 (ix2 k (j 0)) * x0 (ix2 k (j 1)) := by
  pointwise [k0_pay2]

theorem hout (acc j) : k0_pay3 (F := Ideal) acc j = acc j := by
  pointwise [k0_pay3]

/-- One product of the contraction: row `k`, the output index `j`. -/
abbrev T (X : FVec Ideal S8192x1024 .bf16) (D : FVec Ideal S8192x3456 .bf16) (j : S1024x3456.Idx) (k : Fin 8192) : EReal :=
  X (ix2 k (j 0)) * D (ix2 k (j 1))

theorem href (X D j) : REF X D j = ∑ k : Fin 8192, T X D j k := by
  have e : REF X D j = ∑ k : Fin 8192, D (ix2 k (j 1)) * X (ix2 k (j 0)) := by pointwise [REF]
  exact e.trans (Finset.sum_congr rfl fun k _ => mul_comm _ _)

theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

/-- The scratch at a point that writes back: the sum over the run's points. -/
theorem scratch (c : Dev nD) (t : Fin cfg0.N) (hf : t.val % 4 = 4 - 1) (j : S1024x1152.Idx) :
    (outsAt0 m c t.val t.isLt).2 j = ∑ k : Fin 8192, T (m ((c : Thread nD τ).loc main_arg0)) (m ((c : Thread nD τ).loc main_arg1)) (((cfg0.win 2).blk t).view.emb j) k := by
  rw [Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h1 : t.val % 4 = 3
      · rw [outsAt0_C m c t h h1]; frame_out; rw [hpay, read_unread_whole]
      · rw [outsAt0_B m c t h h1]; frame_out; rw [hpay, read_unread_whole])
    t hf j, zero_add]
  refine Fin.sum_mul_add_congr fun s k hl => ?_
  dsimp only [T]
  blk_point [iblk, V, idx t, idx ⟨_, Pipeline.run_point_lt_of_flush t hf s⟩]

/-- At a point that writes back, the output block is the scratch. -/
theorem block (c : Dev nD) (t : Fin cfg0.N) (h1 : t.val % 4 = 3) (j : S1024x1152.Idx) :
    (outsAt0 m c t.val t.isLt).1 j = (outsAt0 m c t.val t.isLt).2 j := by
  rw [outsAt0_C m c t (by omega) h1]; frame_out; rw [hout]

/-- The output array after the run is the reference's gradient. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h1 : t.val % 4 = 3 := (flush0_2 t).mp hf
  have e := (block m c t h1 y).trans (scratch m c t h1 y)
  blk_simp
  rw [after0_2]
  exact e.trans (href _ _ _).symm

end Cert.Kernel12Ideal.Product

end
-- ==== Proof.FoxIn.lean ====
/-
  The forgetting attention's queries: `Kernel13Ideal`'s product is `Reference13Ideal`'s.
-/
module

public import proofs.«01_k».proof.Proof.Gen.Kernel13Ideal.Value
public import proofs.«01_k».proof.Proof.Gen.Reference13Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel13Ideal.Product

open Cert.Kernel13Ideal Cert.Kernel13Ideal.Gen

variable (m : (ℓ : Loc nD τ sig) → Buf (Elt Ideal) ℓ)

/-- The reference's term. -/
abbrev REF (X : FVec Ideal S8192x1024 .bf16) (W : FVec Ideal S1024x1024 .bf16) : FVec Ideal S8192x1024 .bf16 :=
  truncf .bf16 (Host.dotGeneral Cert.Reference13Ideal.dot_S8192x1024_S1024x1024_S8192x1024_1_0_0_1_n_n none (extf .f32 X Cert.Reference13Ideal.Gen.bitsLt_bf16_f32) (extf .f32 W Cert.Reference13Ideal.Gen.bitsLt_bf16_f32)) Cert.Reference13Ideal.Gen.bitsLt_bf16_f32

theorem hzero (j) : k0_pay1 (F := Ideal) j = 0 := by pointwise [k0_pay1]

theorem hpay (acc x1 x0 j) : k0_pay2 (F := Ideal) acc x1 x0 j = acc j + ∑ k : Fin 1024, x1 (ix2 (j 0) k) * x0 (ix2 k (j 1)) := by
  pointwise [k0_pay2]

theorem hout (acc j) : k0_pay3 (F := Ideal) acc j = acc j := by
  pointwise [k0_pay3]

theorem href (X W j) : REF X W j = ∑ k : Fin 1024, X (ix2 (j 0) k) * W (ix2 k (j 1)) := by
  pointwise [REF]

theorem idx : ∀ t : Fin cfg0.N, win0_0.index t = ![t.val, 0] ∧ win0_1.index t = ![0, 0]
    ∧ win0_2.index t = ![t.val, 0] :=
  (by decide +kernel : ∀ t : Fin grid0.N, _)

theorem point (c : Dev nD) (t : Fin cfg0.N) (y : S1024x1024.Idx) :
    outsAt0 m c t y = REF (m ((c : Thread nD τ).loc main_arg0)) (m ((c : Thread nD τ).loc main_arg1)) (((cfg0.win 2).blk t).view.emb y) := by
  rw [outsAt0]; frame_out
  rw [hout, hpay, hzero, zero_add, href]
  blk_point [iblk, V, idx t]

/-- The output array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Cert.Kernel13Ideal.Product

end
-- ==== Proof.FoxInDw.lean ====
/-
  The gradient in the projection to the queries: `Kernel14Ideal`'s accumulated product is the one that `Reference14Ideal` computes.
-/
module

public import proofs.«01_k».proof.Proof.Gen.Kernel14Ideal.Value
public import proofs.«01_k».proof.Proof.Gen.Reference14Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel14Ideal.Product

open Cert.Kernel14Ideal Cert.Kernel14Ideal.Gen

variable (m : (ℓ : Loc nD τ sig) → Buf (Elt Ideal) ℓ)

/-- The reference's term. -/
abbrev REF (X : FVec Ideal S8192x1024 .bf16) (D : FVec Ideal S8192x1024 .bf16) : FVec Ideal S1024x1024 .f32 :=
  transpose Cert.Reference14Ideal.S1024x1024 [1, 0] (Host.dotGeneral Cert.Reference14Ideal.dot_S8192x1024_S8192x1024_S1024x1024_0_0_1_1_n_n none
    (extf .f32 D Cert.Reference14Ideal.Gen.bitsLt_bf16_f32) (extf .f32 X Cert.Reference14Ideal.Gen.bitsLt_bf16_f32)) Cert.Reference14Ideal.Gen.transposes_S1024x1024_S1024x1024_1_0

theorem hzero (j) : k0_pay1 (F := Ideal) j = 0 := by pointwise [k0_pay1]

theorem hpay (acc x1 x0 j) : k0_pay2 (F := Ideal) acc x1 x0 j = acc j + ∑ k : Fin 2048, x1 (ix2 k (j 0)) * x0 (ix2 k (j 1)) := by
  pointwise [k0_pay2]

theorem hout (acc j) : k0_pay3 (F := Ideal) acc j = acc j := by
  pointwise [k0_pay3]

/-- One product of the contraction: row `k`, the output index `j`. -/
abbrev T (X : FVec Ideal S8192x1024 .bf16) (D : FVec Ideal S8192x1024 .bf16) (j : S1024x1024.Idx) (k : Fin 8192) : EReal :=
  X (ix2 k (j 0)) * D (ix2 k (j 1))

theorem href (X D j) : REF X D j = ∑ k : Fin 8192, T X D j k := by
  have e : REF X D j = ∑ k : Fin 8192, D (ix2 k (j 1)) * X (ix2 k (j 0)) := by pointwise [REF]
  exact e.trans (Finset.sum_congr rfl fun k _ => mul_comm _ _)

theorem idx : ∀ t : Fin cfg0.N, win0_0.index t = ![t.val % 4, 0] ∧ win0_1.index t = ![t.val % 4, 0]
    ∧ win0_2.index t = ![0, 0] :=
  (by decide +kernel : ∀ t : Fin grid0.N, _)

/-- The scratch at a point that writes back: the sum over the run's points. -/
theorem scratch (c : Dev nD) (t : Fin cfg0.N) (hf : t.val % 4 = 4 - 1) (j : S1024x1024.Idx) :
    (outsAt0 m c t.val t.isLt).2 j = ∑ k : Fin 8192, T (m ((c : Thread nD τ).loc main_arg0)) (m ((c : Thread nD τ).loc main_arg1)) (((cfg0.win 2).blk t).view.emb j) k := by
  rw [Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h1 : t.val % 4 = 3
      · rw [outsAt0_C m c t h h1]; frame_out; rw [hpay, read_unread_whole]
      · rw [outsAt0_B m c t h h1]; frame_out; rw [hpay, read_unread_whole])
    t hf j, zero_add]
  refine Fin.sum_mul_add_congr fun s k hl => ?_
  dsimp only [T]
  blk_point [iblk, V, idx t, idx ⟨_, Pipeline.run_point_lt_of_flush t hf s⟩]

/-- At a point that writes back, the output block is the scratch. -/
theorem block (c : Dev nD) (t : Fin cfg0.N) (h1 : t.val % 4 = 3) (j : S1024x1024.Idx) :
    (outsAt0 m c t.val t.isLt).1 j = (outsAt0 m c t.val t.isLt).2 j := by
  rw [outsAt0_C m c t (by omega) h1]; frame_out; rw [hout]

/-- The output array after the run is the reference's gradient. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h1 : t.val % 4 = 3 := (flush0_2 t).mp hf
  have e := (block m c t h1 y).trans (scratch m c t h1 y)
  blk_simp
  rw [after0_2]
  exact e.trans (href _ _ _).symm

end Cert.Kernel14Ideal.Product

end
-- ==== Proof.FoxKv.lean ====
/-
  The shared keys and values: `Kernel15Ideal`'s product is `Reference15Ideal`'s.
-/
module

public import proofs.«01_k».proof.Proof.Gen.Kernel15Ideal.Value
public import proofs.«01_k».proof.Proof.Gen.Reference15Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel15Ideal.Product

open Cert.Kernel15Ideal Cert.Kernel15Ideal.Gen

variable (m : (ℓ : Loc nD τ sig) → Buf (Elt Ideal) ℓ)

/-- The reference's term. -/
abbrev REF (X : FVec Ideal S8192x1024 .bf16) (W : FVec Ideal S1024x1536 .bf16) : FVec Ideal S8192x1536 .bf16 :=
  truncf .bf16 (Host.dotGeneral Cert.Reference15Ideal.dot_S8192x1024_S1024x1536_S8192x1536_1_0_0_1_n_n none (extf .f32 X Cert.Reference15Ideal.Gen.bitsLt_bf16_f32) (extf .f32 W Cert.Reference15Ideal.Gen.bitsLt_bf16_f32)) Cert.Reference15Ideal.Gen.bitsLt_bf16_f32

theorem hzero (j) : k0_pay1 (F := Ideal) j = 0 := by pointwise [k0_pay1]

theorem hpay (acc x1 x0 j) : k0_pay2 (F := Ideal) acc x1 x0 j = acc j + ∑ k : Fin 1024, x1 (ix2 (j 0) k) * x0 (ix2 k (j 1)) := by
  pointwise [k0_pay2]

theorem hout (acc j) : k0_pay3 (F := Ideal) acc j = acc j := by
  pointwise [k0_pay3]

theorem href (X W j) : REF X W j = ∑ k : Fin 1024, X (ix2 (j 0) k) * W (ix2 k (j 1)) := by
  pointwise [REF]

theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

theorem point (c : Dev nD) (t : Fin cfg0.N) (y : S1024x768.Idx) :
    outsAt0 m c t y = REF (m ((c : Thread nD τ).loc main_arg0)) (m ((c : Thread nD τ).loc main_arg1)) (((cfg0.win 2).blk t).view.emb y) := by
  rw [outsAt0]; frame_out
  rw [hout, hpay, hzero, zero_add, href]
  blk_point [iblk, V, idx t]

/-- The output array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Cert.Kernel15Ideal.Product

end
-- ==== Proof.Norm.lean ====
/-
  The gradient in the layer's input and in the norm's gain: `Kernel4Ideal` accumulates `dgu w_gate_up^T` in its scratch
  and, at the last step of a row block, applies the norm's backward and adds the block's share of the gain's gradient.
  `Reference4Ideal` computes both gradients. The norm's backward is an equation between reals.
-/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import proofs.«01_k».proof.Proof.Extended

@[expose] public section

set_option maxRecDepth 16384

noncomputable section

open Idealize.ShloMosaic Idealize.ShloMosaic.TcCoe Idealize.SL.Sem
open Idealize.ShloMosaic.Pipeline (Dat)

namespace Cert.Kernel4Ideal.Norm

open Cert.Kernel4Ideal Cert.Kernel4Ideal.Gen

variable (m : (ℓ : Loc nD τ sig) → Buf (Elt Ideal) ℓ)

/-! ## The reference's terms, in their parts -/

/-- The gradient in the normalised input. -/
abbrev dn (G : FVec Ideal S2x8192x2816 .bf16) (W : FVec Ideal S1024x5632 .bf16) : FVec Ideal S8192x1024 .f32 := (Host.dotGeneral Cert.Reference4Ideal.dot_S8192x5632_S1024x5632_S8192x1024_1_1_0_0_n_n none (concatenate Cert.Reference4Ideal.S8192x5632 1 [⟨Cert.Reference4Ideal.S8192x2816, (extf .f32 (shapeCast _ (extractStridedSlice Cert.Reference4Ideal.S1x8192x2816 ![0, 0, 0] G Cert.Reference4Ideal.Gen.slices_S2x8192x2816_S1x8192x2816_0_0_0) Cert.Reference4Ideal.Gen.shapeCasts_S1x8192x2816_S8192x2816) Cert.Reference4Ideal.Gen.bitsLt_bf16_f32)⟩, ⟨Cert.Reference4Ideal.S8192x2816, (extf .f32 (shapeCast _ (extractStridedSlice Cert.Reference4Ideal.S1x8192x2816 ![1, 0, 0] G Cert.Reference4Ideal.Gen.slices_S2x8192x2816_S1x8192x2816_1_0_0) Cert.Reference4Ideal.Gen.shapeCasts_S1x8192x2816_S8192x2816) Cert.Reference4Ideal.Gen.bitsLt_bf16_f32)⟩] Cert.Reference4Ideal.Gen.concatenates_S8192x2816_S8192x2816_S8192x5632_d1) (extf .f32 W Cert.Reference4Ideal.Gen.bitsLt_bf16_f32))
/-- The mean square of a row, plus the norm's constant. -/
abbrev ms (H : FVec Ideal S8192x1024 .f32) : FVec Ideal Cert.Reference4Ideal.S8192x1 .f32 := (addf (Host.divf (broadcastInDim Cert.Reference4Ideal.S8192x1 ![0] Cert.Reference4Ideal.Gen.bcast_S8192_S8192x1_0 (Host.reduceAdd (mulf H H) (constant Cert.Reference4Ideal.S_ .f32 0x00000000#32) Cert.Reference4Ideal.Gen.reducesTo_S8192x1024_S8192_d1 Cert.Reference4Ideal.Gen.h_S_)) (broadcastInDim Cert.Reference4Ideal.S8192x1 ![] Cert.Reference4Ideal.Gen.bcast_S_S8192x1 (constant Cert.Reference4Ideal.S_ .f32 0x44800000#32))) (broadcastInDim Cert.Reference4Ideal.S8192x1 ![] Cert.Reference4Ideal.Gen.bcast_S_S8192x1 (constant Cert.Reference4Ideal.S_ .f32 0x358637BD#32)))
/-- Its reciprocal root. -/
abbrev rstd (H : FVec Ideal S8192x1024 .f32) : FVec Ideal Cert.Reference4Ideal.S8192x1 .f32 := (Host.rsqrt (ms H))
/-- The norm's backward of a gradient `N` in the normalised input. -/
abbrev dxR (N H : FVec Ideal S8192x1024 .f32) (g : FVec Ideal S1x1024 .f32) (D : FVec Ideal S8192x1024 .f32) : FVec Ideal S8192x1024 .f32 :=
  addf (addf (addf D (mulf (mulf N (broadcastInDim Cert.Reference4Ideal.S8192x1024 ![0, 1] Cert.Reference4Ideal.Gen.bcast_S1x1024_S8192x1024_0_1 g)) (broadcastInDim Cert.Reference4Ideal.S8192x1024 ![0, 1] Cert.Reference4Ideal.Gen.bcast_S8192x1_S8192x1024_0_1 (rstd H)))) (mulf H (broadcastInDim Cert.Reference4Ideal.S8192x1024 ![0] Cert.Reference4Ideal.Gen.bcast_S8192_S8192x1024_0 (Host.reduceAdd (Host.divf (mulf (shapeCast _ (Host.reduceAdd (mulf H (mulf N (broadcastInDim Cert.Reference4Ideal.S8192x1024 ![0, 1] Cert.Reference4Ideal.Gen.bcast_S1x1024_S8192x1024_0_1 g))) (constant Cert.Reference4Ideal.S_ .f32 0x00000000#32) Cert.Reference4Ideal.Gen.reducesTo_S8192x1024_S8192_d1 Cert.Reference4Ideal.Gen.h_S_) Cert.Reference4Ideal.Gen.shapeCasts_S8192_S8192x1) (mulf (broadcastInDim Cert.Reference4Ideal.S8192x1 ![] Cert.Reference4Ideal.Gen.bcast_S_S8192x1 (constant Cert.Reference4Ideal.S_ .f32 0xBF000000#32)) (Host.divf (rstd H) (ms H)))) (broadcastInDim Cert.Reference4Ideal.S8192x1 ![] Cert.Reference4Ideal.Gen.bcast_S_S8192x1 (constant Cert.Reference4Ideal.S_ .f32 0x44800000#32))) (constant Cert.Reference4Ideal.S_ .f32 0x00000000#32) Cert.Reference4Ideal.Gen.reducesTo_S8192x1_S8192_d1 Cert.Reference4Ideal.Gen.h_S_)))) (mulf (broadcastInDim Cert.Reference4Ideal.S8192x1024 ![0] Cert.Reference4Ideal.Gen.bcast_S8192_S8192x1024_0 (Host.reduceAdd (Host.divf (mulf (shapeCast _ (Host.reduceAdd (mulf H (mulf N (broadcastInDim Cert.Reference4Ideal.S8192x1024 ![0, 1] Cert.Reference4Ideal.Gen.bcast_S1x1024_S8192x1024_0_1 g))) (constant Cert.Reference4Ideal.S_ .f32 0x00000000#32) Cert.Reference4Ideal.Gen.reducesTo_S8192x1024_S8192_d1 Cert.Reference4Ideal.Gen.h_S_) Cert.Reference4Ideal.Gen.shapeCasts_S8192_S8192x1) (mulf (broadcastInDim Cert.Reference4Ideal.S8192x1 ![] Cert.Reference4Ideal.Gen.bcast_S_S8192x1 (constant Cert.Reference4Ideal.S_ .f32 0xBF000000#32)) (Host.divf (rstd H) (ms H)))) (broadcastInDim Cert.Reference4Ideal.S8192x1 ![] Cert.Reference4Ideal.Gen.bcast_S_S8192x1 (constant Cert.Reference4Ideal.S_ .f32 0x44800000#32))) (constant Cert.Reference4Ideal.S_ .f32 0x00000000#32) Cert.Reference4Ideal.Gen.reducesTo_S8192x1_S8192_d1 Cert.Reference4Ideal.Gen.h_S_)) H)
/-- The gradient in the input. -/
abbrev REFX (G : FVec Ideal S2x8192x2816 .bf16) (W : FVec Ideal S1024x5632 .bf16) (H : FVec Ideal S8192x1024 .f32) (g : FVec Ideal S1x1024 .f32)
    (D : FVec Ideal S8192x1024 .f32) : FVec Ideal S8192x1024 .f32 :=
  dxR (dn G W) H g D
/-- The gain's gradient of a gradient `N` in the normalised input. -/
abbrev gainR (N H : FVec Ideal S8192x1024 .f32) : FVec Ideal S1x1024 .f32 :=
  shapeCast _ (Host.reduceAdd (mulf (mulf H (broadcastInDim Cert.Reference4Ideal.S8192x1024 ![0, 1] Cert.Reference4Ideal.Gen.bcast_S8192x1_S8192x1024_0_1 (rstd H))) N) (constant Cert.Reference4Ideal.S_ .f32 0x00000000#32) Cert.Reference4Ideal.Gen.reducesTo_S8192x1024_S1024_d0 Cert.Reference4Ideal.Gen.h_S_) Cert.Reference4Ideal.Gen.shapeCasts_S1024_S1x1024
/-- The gradient in the gain. -/
abbrev REFG (G : FVec Ideal S2x8192x2816 .bf16) (W : FVec Ideal S1024x5632 .bf16) (H : FVec Ideal S8192x1024 .f32) : FVec Ideal S1x1024 .f32 :=
  gainR (dn G W) H

theorem idx : ∀ t : Fin cfg0.N, win0_0.index t = ![t.val / 2 % 2, t.val / 4, t.val % 2] ∧ win0_1.index t = ![0, t.val % 4]
    ∧ win0_2.index t = ![t.val / 4, 0] ∧ win0_3.index t = ![0, 0] ∧ win0_4.index t = ![t.val / 4, 0] ∧ win0_5.index t = ![t.val / 4, 0]
    ∧ win0_6.index t = ![0, 0] :=
  (by decide +kernel : ∀ t : Fin grid0.N, _)

theorem hzero (j) : k0_pay1 (F := Ideal) j = 0 := by pointwise [k0_pay1]

theorem hpay (acc x1 x0 j) : k0_pay2 (F := Ideal) acc x1 x0 j
    = acc j + ∑ k : Fin 1408, x1 (ix3 (0 : Fin 1) (j 0) k) * x0 (ix2 (j 1) k) := by
  pointwise [k0_pay2]

/-- One product of the contraction: column `k` is column `k % 2816` of half `k / 2816`. -/
abbrev T (G : FVec Ideal S2x8192x2816 .bf16) (W : FVec Ideal S1024x5632 .bf16) (j : S8192x1024.Idx) (k : Fin 5632) : EReal :=
  G (ix3 ⟨(k : ℕ) / 2816, by omega⟩ (j 0) ⟨(k : ℕ) % 2816, Nat.mod_lt _ (by decide)⟩) * W (ix2 (j 1) k)

theorem hdn (G W j) : dn G W j = ∑ k : Fin 5632, T G W j k := by
  pointwise [dn]
  refine Eq.trans ?_ (Fin.sum_univ_two_halves 2816 2816 rfl (T G W j)).symm
  refine congrArg₂ (· + ·) (Finset.sum_congr rfl fun k _ => ?_) (Finset.sum_congr rfl fun k _ => ?_)
  · dsimp only [T]
    blk_point []
  · dsimp only [T]
    blk_point []

/-- The scratch at a point that writes back: the whole contraction. -/
theorem scratch (c : Dev nD) (t : Fin cfg0.N) (hf : t.val % 4 = 4 - 1) (j : S1024x1024.Idx) :
    (outsAt0 m c t.val t.isLt).2.2 j = ∑ k : Fin 5632,
      T (m ((c : Thread nD τ).loc main_arg0)) (m ((c : Thread nD τ).loc main_arg1)) (((cfg0.win 5).blk t).view.emb j) k := by
  rw [Pipeline.eq_sum_fin_of_reset_step_apply_of_flush (fun n h => (outsAt0 m c n h).2.2) 4 (fun _ => 0) _
    (fun t h j => by rw [outsAt0_A m c t h (by omega)]; frame_out; rw [hpay, hzero])
    (fun t h j => by
      by_cases h1 : t.val % 4 = 3
      · by_cases h2 : t.val < 4
        · rw [outsAt0_C m c t h h1 h2 (by omega)]; frame_out; rw [hpay, read_unread_whole]
        · rw [outsAt0_D m c t h h1 h2 (by omega)]; frame_out; rw [hpay, read_unread_whole]
      · rw [outsAt0_B m c t h h1]; frame_out; rw [hpay, read_unread_whole])
    t hf j, zero_add]
  refine Fin.sum_mul_add_congr fun s k hl => ?_
  dsimp only [T]
  blk_point [iblk, V, idx t, idx ⟨_, Pipeline.run_point_lt_of_flush t hf s⟩]

/-- The reciprocal root of row `a` of a block. -/
abbrev rs (X : FVec Ideal S1024x1024 .f32) (a : Fin 1024) : EReal :=
  Ideal.rsqrt (Ideal.div (∑ d : Fin 1024, X (ix2 a d) * X (ix2 a d)) (Ideal.ofBits .f32 0x44800000#32) + Ideal.ofBits .f32 0x358637BD#32)

/-- The kernel's input gradient at row `a` and column `b` of a block, from the accumulated product, the input, the gain and the residual's gradient. -/
abbrev dxF (S X : FVec Ideal S1024x1024 .f32) (g : FVec Ideal S1x1024 .f32) (R : FVec Ideal S1024x1024 .f32) (a b : Fin 1024) : EReal :=
  (S (ix2 a b) * g (ix2 (0 : Fin 1) b) - X (ix2 a b) * rs X a
    * Ideal.div (∑ d : Fin 1024, S (ix2 a d) * g (ix2 (0 : Fin 1) d) * (X (ix2 a d) * rs X a)) (Ideal.ofBits .f32 0x44800000#32)) * rs X a + R (ix2 a b)

/-- A block's share of the gain's gradient. -/
abbrev dgF (S X : FVec Ideal S1024x1024 .f32) (b : Fin 1024) : EReal := ∑ a : Fin 1024, S (ix2 a b) * (X (ix2 a b) * rs X a)

/-- At a point that writes back, the output block is the norm's backward of the scratch. -/
theorem outX (c : Dev nD) (t : Fin cfg0.N) (h : t.val % 4 = 3) (a b : Fin 1024) :
    (outsAt0 m c t.val t.isLt).1 (ix2 a b) = dxF (outsAt0 m c t.val t.isLt).2.2 (iblk m c 2 t) (iblk m c 3 t) (iblk m c 4 t) a b := by
  by_cases h2 : t.val < 4
  · rw [outsAt0_C m c t (by omega) h h2 (by omega)]; frame_out
    simp only [View.readCov_fill (s := S1024x1024) (off := ![0, 0]) _ _ _ _ _ (by decide)]
    generalize k0_pay2 (F := Ideal) _ _ _ = S
    generalize iblk m c 2 t = X
    generalize iblk m c 3 t = g
    generalize iblk m c 4 t = R
    canon_tiles x h
    all_goals (open_payloads; pointwise; exact congrArg₂ (dxF S X g R) (Fin.ext h0.symm) (Fin.ext h1.symm))
  · rw [outsAt0_D m c t (by omega) h h2 (by omega)]; frame_out
    simp only [View.readCov_fill (s := S1024x1024) (off := ![0, 0]) _ _ _ _ _ (by decide)]
    generalize k0_pay2 (F := Ideal) _ _ _ = S
    generalize iblk m c 2 t = X
    generalize iblk m c 3 t = g
    generalize iblk m c 4 t = R
    canon_tiles x h
    all_goals (open_payloads; pointwise; exact congrArg₂ (dxF S X g R) (Fin.ext h0.symm) (Fin.ext h1.symm))

theorem dgF_tiles (S X : FVec Ideal S1024x1024 .f32) (b : Fin 1024) : dgF S X b
    = ∑ j : Fin 4, ∑ k : Fin 256, S (ix2 (⟨j.val * 256 + k.val, by omega⟩ : Fin 1024) b)
      * (X (ix2 (⟨j.val * 256 + k.val, by omega⟩ : Fin 1024) b) * rs X (⟨j.val * 256 + k.val, by omega⟩ : Fin 1024)) :=
  Fin.sum_univ_tiles 4 256 rfl (fun a : Fin 1024 => S (ix2 a b) * (X (ix2 a b) * rs X a))

/-- The first row block's share of the gain's gradient is stored. -/
theorem outG_first (c : Dev nD) (t : Fin cfg0.N) (h : t.val % 4 = 3) (h2 : t.val < 4) (b : Fin 1024) :
    (outsAt0 m c t.val t.isLt).2.1 (ix2 (0 : Fin 1) b) = dgF (outsAt0 m c t.val t.isLt).2.2 (iblk m c 2 t) b := by
  rw [outsAt0_C m c t (by omega) h h2 (by omega)]; frame_out
  simp only [View.readCov_fill (s := S1024x1024) (off := ![0, 0]) _ _ _ _ _ (by decide)]
  generalize k0_pay2 (F := Ideal) _ _ _ = S
  generalize iblk m c 2 t = X
  rw [dgF_tiles, Fin.sum_univ_four]
  open_payloads
  pointwise

/-- A later row block's share is added. -/
theorem outG_step (c : Dev nD) (t : Fin cfg0.N) (h : t.val % 4 = 3) (h2 : ¬t.val < 4) (b : Fin 1024) :
    (outsAt0 m c t.val t.isLt).2.1 (ix2 (0 : Fin 1) b) = (outsAt0 m c (t.val - 1) (by omega)).2.1 (ix2 (0 : Fin 1) b) + dgF (outsAt0 m c t.val t.isLt).2.2 (iblk m c 2 t) b := by
  rw [outsAt0_D m c t (by omega) h h2 (by omega)]; frame_out
  simp only [View.readCov_fill (s := S1024x1024) (off := ![0, 0]) _ _ _ _ _ (by decide)]
  generalize k0_pay2 (F := Ideal) _ _ _ = S
  generalize iblk m c 2 t = X
  rw [dgF_tiles, Fin.sum_univ_four]
  open_payloads
  pointwise

/-! ## The gain's gradient -/

/-- The reciprocal root of a row of the input. -/
abbrev rsA (H : FVec Ideal S8192x1024 .f32) (a : Fin 8192) : EReal :=
  Ideal.rsqrt (Ideal.div (∑ d : Fin 1024, H (ix2 a d) * H (ix2 a d)) (Ideal.ofBits .f32 0x44800000#32) + Ideal.ofBits .f32 0x358637BD#32)

/-- One row's share of the gain's gradient. -/
abbrev U (N H : FVec Ideal S8192x1024 .f32) (b : Fin 1024) (a : Fin 8192) : EReal := N (ix2 a b) * (H (ix2 a b) * rsA H a)

theorem hgain (N H j) : gainR N H j = ∑ a : Fin 8192, U N H (j 1) a := by
  have e : gainR N H j = ∑ a : Fin 8192, H (ix2 a (j 1)) * rsA H a * N (ix2 a (j 1)) := by
    pointwise [gainR]
  rw [e]
  exact Finset.sum_congr rfl fun a _ => mul_comm _ _

/-- The rows of one block. -/
def share (N H : FVec Ideal S8192x1024 .f32) (b : Fin 1024) (i : ℕ) : EReal :=
  if h : i < 8 then ∑ k : Fin 1024, U N H b ⟨i * 1024 + k, by omega⟩ else 0

/-- A block's share, where the block's rows are the arrays'. -/
theorem share_eq (S X : FVec Ideal S1024x1024 .f32) (N H : FVec Ideal S8192x1024 .f32) (b : Fin 1024) (i : ℕ) (hi : i < 8)
    (hS : ∀ k : Fin 1024, S (ix2 k b) = N (ix2 (⟨i * 1024 + k, by omega⟩ : Fin 8192) b))
    (hX : ∀ k d : Fin 1024, X (ix2 k d) = H (ix2 (⟨i * 1024 + k, by omega⟩ : Fin 8192) d)) : dgF S X b = share N H b i := by
  unfold share
  rw [dif_pos hi]
  dsimp only [dgF, U, rs, rsA]
  simp only [hS, hX]

/-- The eight blocks' shares are the gain's gradient. -/
theorem gain_sum (N H : FVec Ideal S8192x1024 .f32) (b : Fin 1024) (j : S1x1024.Idx) (hb : j 1 = b) :
    ∑ i ∈ Finset.range 8, share N H b i = gainR N H j := by
  rw [hgain, hb, Finset.sum_range]
  refine Eq.trans (Finset.sum_congr rfl fun i _ => dif_pos i.isLt) ?_
  exact Fin.sum_mul_add_congr fun s k hl => rfl

theorem share_at (c : Dev nD) (t : Fin cfg0.N) (h : t.val % 4 = 3) (b : Fin 1024) :
    dgF (outsAt0 m c t.val t.isLt).2.2 (iblk m c 2 t) b
      = share (dn (m ((c : Thread nD τ).loc main_arg0)) (m ((c : Thread nD τ).loc main_arg1))) (m ((c : Thread nD τ).loc main_arg2)) b (t.val / 4) := by
  have hN := lt_of_lt_of_eq t.isLt (show cfg0.N = 32 from N_0)
  refine share_eq _ _ _ _ _ _ (by omega) (fun k => ?_) (fun k d => ?_)
  · rw [scratch m c t h, hdn]
    exact congrArg (fun y => ∑ k, T _ _ y k) (by blk_ext [idx t])
  · blk_point [iblk, V, idx t]

theorem gain_run (c : Dev nD) (b : Fin 1024) : ∀ (n : ℕ) (hn : n < cfg0.N), 3 ≤ n → (outsAt0 m c n hn).2.1 (ix2 (0 : Fin 1) b)
    = ∑ i ∈ Finset.range ((n + 1) / 4),
      share (dn (m ((c : Thread nD τ).loc main_arg0)) (m ((c : Thread nD τ).loc main_arg1))) (m ((c : Thread nD τ).loc main_arg2)) b i := by
  intro n
  induction n with
  | zero => intro _ h; omega
  | succ n ih =>
    intro hn h3
    by_cases h : (n + 1) % 4 = 3
    · by_cases h2 : n + 1 < 4
      · rw [outG_first m c ⟨n + 1, hn⟩ h h2, share_at m c ⟨n + 1, hn⟩ h]
        have e : n = 2 := by omega
        subst e
        simp
      · have e := outG_step m c ⟨n + 1, hn⟩ h h2 b
        rw [share_at m c ⟨n + 1, hn⟩ h] at e
        have ih' := ih (Nat.lt_of_succ_lt hn) (by omega)
        simp only [Nat.add_sub_cancel] at e
        rw [e, ih', show (n + 1 + 1) / 4 = (n + 1) / 4 + 1 by omega, Finset.sum_range_succ]
    · have ih' := ih (Nat.lt_of_succ_lt hn) (by omega)
      rw [show (n + 1 + 1) / 4 = (n + 1) / 4 by omega, ← ih']
      by_cases h0 : (n + 1) % 4 = 0
      · rw [outsAt0_A m c ⟨n + 1, hn⟩ h0 h]; frame_out
        rfl
      · rw [outsAt0_B m c ⟨n + 1, hn⟩ h0 h]; frame_out
        rfl

/-- The gain's gradient after the run is the reference's. -/
theorem finalG (c : Dev nD) : (dats m 0 c).arrAt 6 (cfgs 0).N
    = REFG (m ((c : Thread nD τ).loc main_arg0)) (m ((c : Thread nD τ).loc main_arg1)) (m ((c : Thread nD τ).loc main_arg2)) := by
  refine (dats m 0 c).arrAt_eq_of_covers 6 _ (by decide +kernel) fun t hf y => ?_
  have h31 : t.val % 32 = 31 := (flush0_6 t).mp hf
  have hN := lt_of_lt_of_eq t.isLt (show cfg0.N = 32 from N_0)
  blk_simp
  rw [after0_6]
  obtain ⟨b, rfl⟩ : ∃ b : Fin 1024, y = ix2 (0 : Fin 1) b := ⟨y 1, by idx_ext⟩
  have hb : ((cfg0.win 6).blk t).view.emb (ix2 (0 : Fin 1) b) 1 = b := Fin.ext (by blk_simp [idx t])
  have e := gain_run m c b t.val t.isLt (by omega)
  rw [show (t.val + 1) / 4 = 8 by omega] at e
  exact e.trans (gain_sum _ _ b _ hb)

/-! ## The input's gradient -/

theorem hrefX (N H g D) (a : Fin 8192) (b : Fin 1024) : dxR N H g D (ix2 a b)
    = D (ix2 a b) + N (ix2 a b) * g (ix2 (0 : Fin 1) b) * rsA H a
      + H (ix2 a b) * Ideal.div ((∑ d : Fin 1024, H (ix2 a d) * (N (ix2 a d) * g (ix2 (0 : Fin 1) d))) * (Ideal.ofBits .f32 0xBF000000#32
        * Ideal.div (rsA H a) (Ideal.div (∑ d : Fin 1024, H (ix2 a d) * H (ix2 a d)) (Ideal.ofBits .f32 0x44800000#32) + Ideal.ofBits .f32 0x358637BD#32))) (Ideal.ofBits .f32 0x44800000#32)
      + Ideal.div ((∑ d : Fin 1024, H (ix2 a d) * (N (ix2 a d) * g (ix2 (0 : Fin 1) d))) * (Ideal.ofBits .f32 0xBF000000#32
        * Ideal.div (rsA H a) (Ideal.div (∑ d : Fin 1024, H (ix2 a d) * H (ix2 a d)) (Ideal.ofBits .f32 0x44800000#32) + Ideal.ofBits .f32 0x358637BD#32))) (Ideal.ofBits .f32 0x44800000#32)
        * H (ix2 a b) := by
  pointwise [dxR]
  simp only [Finset.univ_unique, Finset.sum_singleton]

/-- A row of a block's input gradient is the reference's, where the block's rows are the arrays'. -/
theorem row_eq (S X : FVec Ideal S1024x1024 .f32) (g : FVec Ideal S1x1024 .f32) (R : FVec Ideal S1024x1024 .f32)
    (N H : FVec Ideal S8192x1024 .f32) (g' : FVec Ideal S1x1024 .f32) (D : FVec Ideal S8192x1024 .f32) (a b : Fin 1024) (A : Fin 8192)
    (hS : ∀ d : Fin 1024, S (ix2 a d) = N (ix2 A d)) (hX : ∀ d : Fin 1024, X (ix2 a d) = H (ix2 A d))
    (hg : ∀ d : Fin 1024, g (ix2 (0 : Fin 1) d) = g' (ix2 (0 : Fin 1) d)) (hR : R (ix2 a b) = D (ix2 A b))
    (rN : ∀ i, Extended.IsReal (N i)) (rH : ∀ i, Extended.IsReal (H i)) (rg : ∀ i, Extended.IsReal (g' i)) (rD : ∀ i, Extended.IsReal (D i)) :
    dxF S X g R a b = dxR N H g' D (ix2 A b) := by
  rw [hrefX]
  dsimp only [dxF, rs, rsA]
  simp only [hS, hX, hg, hR]
  choose n hn using fun d : Fin 1024 => rN (ix2 A d)
  choose h hh using fun d : Fin 1024 => rH (ix2 A d)
  choose q hq using fun d : Fin 1024 => rg (ix2 (0 : Fin 1) d)
  obtain ⟨r, hr⟩ := rD (ix2 A b)
  simp only [hn, hh, hq, hr]
  exact Extended.norm_bwd n h q r b

/-- The input's gradient after the run is the reference's. -/
theorem finalX (c : Dev nD)
    (rG : ∀ i : S2x8192x2816.Idx, Extended.IsReal (m ((c : Thread nD τ).loc main_arg0) i))
    (rW : ∀ i : S1024x5632.Idx, Extended.IsReal (m ((c : Thread nD τ).loc main_arg1) i))
    (rH : ∀ i : S8192x1024.Idx, Extended.IsReal (m ((c : Thread nD τ).loc main_arg2) i))
    (rg : ∀ i : S1x1024.Idx, Extended.IsReal (m ((c : Thread nD τ).loc main_arg3) i))
    (rD : ∀ i : S8192x1024.Idx, Extended.IsReal (m ((c : Thread nD τ).loc main_arg4) i)) :
    (dats m 0 c).arrAt 5 (cfgs 0).N = REFX (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  have h3 : t.val % 4 = 3 := (flush0_5 t).mp hf
  have hN := lt_of_lt_of_eq t.isLt (show cfg0.N = 32 from N_0)
  blk_simp
  rw [after0_5]
  obtain ⟨a, b, rfl⟩ : ∃ a b : Fin 1024, y = ix2 a b := ⟨y 0, y 1, by idx_ext⟩
  have he : ∀ d : Fin 1024, ((cfg0.win 5).blk t).view.emb (ix2 a d) = ix2 (⟨t.val / 4 * 1024 + a, by omega⟩ : Fin 8192) d := fun d => by
    blk_ext [idx t]
  refine (outX m c t h3 a b).trans ((row_eq _ _ _ _ (dn (m ((c : Thread nD τ).loc main_arg0)) (m ((c : Thread nD τ).loc main_arg1)))
    (m ((c : Thread nD τ).loc main_arg2)) (m ((c : Thread nD τ).loc main_arg3)) (m ((c : Thread nD τ).loc main_arg4)) a b
    (⟨t.val / 4 * 1024 + a, by omega⟩ : Fin 8192) (fun d => ?_) (fun d => ?_) (fun d => ?_) ?_ (fun i => ?_) rH rg rD).trans (congrArg _ (he b).symm))
  · rw [scratch m c t h3, hdn, ← he d]
  · blk_point [iblk, V, idx t]
  · blk_point [iblk, V, idx t]
  · blk_point [iblk, V, idx t]
  · rw [hdn]
    exact Extended.IsReal.sum _ _ fun k => (rG _).mul (rW _)

end Cert.Kernel4Ideal.Norm

end
-- ==== Proof.DeltaNorm.lean ====
/-
  The gradient through the norm before the delta rule's projection: `Kernel17Ideal` computes `Reference17Ideal`'s gradients in the layer's input and the norm's gain.
-/
module

public import proofs.«01_k».proof.Proof.Gen.Kernel17Ideal.Value
public import proofs.«01_k».proof.Proof.Gen.Reference17Ideal.Run
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.Kernel17Ideal.Norm

open Cert.Kernel17Ideal Cert.Kernel17Ideal.Gen
open Cert.Kernel4Ideal.Norm (dxR gainR rs dxF dgF dgF_tiles share share_eq gain_sum row_eq)

variable (m : (ℓ : Loc nD τ sig) → Buf (Elt Ideal) ℓ)

/-- The gradient in the normalised input. -/
abbrev dn (G : FVec Ideal S8192x3456 .bf16) (W : FVec Ideal S1024x3456 .bf16) : FVec Ideal S8192x1024 .f32 :=
  Host.dotGeneral Cert.Reference17Ideal.dot_S8192x3456_S1024x3456_S8192x1024_1_1_0_0_n_n none (extf .f32 G Cert.Reference17Ideal.Gen.bitsLt_bf16_f32) (extf .f32 W Cert.Reference17Ideal.Gen.bitsLt_bf16_f32)

theorem hdn (G W j) : dn G W j = ∑ k : Fin 3456, G (ix2 (j 0) k) * W (ix2 (j 1) k) := by
  pointwise [dn]

theorem hzero (j) : k0_pay1 (F := Ideal) j = 0 := by pointwise [k0_pay1]

theorem hpay (acc x1 x0 j) : k0_pay2 (F := Ideal) acc x1 x0 j
    = acc j + ∑ k : Fin 1152, x1 (ix2 (j 0) k) * x0 (ix2 (j 1) k) := by
  pointwise [k0_pay2]

theorem idx : ∀ t : Fin cfg0.N, win0_0.index t = ![t.val / 3, t.val % 3] ∧ win0_1.index t = ![0, t.val % 3]
    ∧ win0_2.index t = ![t.val / 3, 0] ∧ win0_3.index t = ![0, 0] ∧ win0_4.index t = ![t.val / 3, 0] ∧ win0_5.index t = ![t.val / 3, 0]
    ∧ win0_6.index t = ![0, 0] :=
  (by decide +kernel : ∀ t : Fin grid0.N, _)

/-- The scratch at a point that writes back: the whole contraction. -/
theorem scratch (c : Dev nD) (t : Fin cfg0.N) (hf : t.val % 3 = 3 - 1) (j : S1024x1024.Idx) :
    (outsAt0 m c t.val t.isLt).2.2 j = dn (m ((c : Thread nD τ).loc main_arg0)) (m ((c : Thread nD τ).loc main_arg1)) (((cfg0.win 5).blk t).view.emb j) := by
  rw [hdn, Pipeline.eq_sum_fin_of_reset_step_apply_of_flush (fun n h => (outsAt0 m c n h).2.2) 3 (fun _ => 0) _
    (fun t h j => by rw [outsAt0_A m c t h (by omega)]; frame_out; rw [hpay, hzero])
    (fun t h j => by
      by_cases h1 : t.val % 3 = 2
      · by_cases h2 : t.val < 3
        · rw [outsAt0_C m c t h h1 h2 (by omega)]; frame_out; rw [hpay, read_unread_whole]
        · rw [outsAt0_D m c t h h1 h2 (by omega)]; frame_out; rw [hpay, read_unread_whole]
      · rw [outsAt0_B m c t h h1]; frame_out; rw [hpay, read_unread_whole])
    t hf j, zero_add]
  refine Fin.sum_mul_add_congr fun s k hl => ?_
  blk_point [iblk, V, idx t, idx ⟨_, Pipeline.run_point_lt_of_flush t hf s⟩]

/-- The output block where it is written back is the norm's backward of the product. -/
theorem outX (c : Dev nD) (t : Fin cfg0.N) (h : t.val % 3 = 2) (a b : Fin 1024) :
    (outsAt0 m c t.val t.isLt).1 (ix2 a b) = dxF (outsAt0 m c t.val t.isLt).2.2 (iblk m c 2 t) (iblk m c 3 t) (iblk m c 4 t) a b := by
  have hN := lt_of_lt_of_eq t.isLt (show cfg0.N = 24 from N_0)
  by_cases h2 : t.val < 3
  · rw [outsAt0_C m c t (by omega) h h2 (by omega)]; frame_out
    simp only [View.readCov_fill (s := S1024x1024) (off := ![0, 0]) _ _ _ _ _ (by decide)]
    generalize k0_pay2 (F := Ideal) _ _ _ = S
    generalize iblk m c 2 t = X
    generalize iblk m c 3 t = g
    generalize iblk m c 4 t = R
    canon_tiles x h
    all_goals (open_payloads; pointwise; exact congrArg₂ (dxF S X g R) (Fin.ext h0.symm) (Fin.ext h1.symm))
  · rw [outsAt0_D m c t (by omega) h h2 (by omega)]; frame_out
    simp only [View.readCov_fill (s := S1024x1024) (off := ![0, 0]) _ _ _ _ _ (by decide)]
    generalize k0_pay2 (F := Ideal) _ _ _ = S
    generalize iblk m c 2 t = X
    generalize iblk m c 3 t = g
    generalize iblk m c 4 t = R
    canon_tiles x h
    all_goals (open_payloads; pointwise; exact congrArg₂ (dxF S X g R) (Fin.ext h0.symm) (Fin.ext h1.symm))

/-- The first row block's share of the gain's gradient is stored. -/
theorem outG_first (c : Dev nD) (t : Fin cfg0.N) (h : t.val % 3 = 2) (h2 : t.val < 3) (b : Fin 1024) :
    (outsAt0 m c t.val t.isLt).2.1 (ix2 (0 : Fin 1) b) = dgF (outsAt0 m c t.val t.isLt).2.2 (iblk m c 2 t) b := by
  have hN := lt_of_lt_of_eq t.isLt (show cfg0.N = 24 from N_0)
  rw [outsAt0_C m c t (by omega) h h2 (by omega)]; frame_out
  simp only [View.readCov_fill (s := S1024x1024) (off := ![0, 0]) _ _ _ _ _ (by decide)]
  generalize k0_pay2 (F := Ideal) _ _ _ = S
  generalize iblk m c 2 t = X
  rw [dgF_tiles, Fin.sum_univ_four]
  open_payloads
  pointwise

/-- A later row block's share is added. -/
theorem outG_step (c : Dev nD) (t : Fin cfg0.N) (h : t.val % 3 = 2) (h2 : ¬t.val < 3) (b : Fin 1024) :
    (outsAt0 m c t.val t.isLt).2.1 (ix2 (0 : Fin 1) b) = (outsAt0 m c (t.val - 1) (by omega)).2.1 (ix2 (0 : Fin 1) b) + dgF (outsAt0 m c t.val t.isLt).2.2 (iblk m c 2 t) b := by
  have hN := lt_of_lt_of_eq t.isLt (show cfg0.N = 24 from N_0)
  rw [outsAt0_D m c t (by omega) h h2 (by omega)]; frame_out
  simp only [View.readCov_fill (s := S1024x1024) (off := ![0, 0]) _ _ _ _ _ (by decide)]
  generalize k0_pay2 (F := Ideal) _ _ _ = S
  generalize iblk m c 2 t = X
  rw [dgF_tiles, Fin.sum_univ_four]
  open_payloads
  pointwise

theorem emb (t : Fin cfg0.N) (a d : Fin 1024) : ((cfg0.win 5).blk t).view.emb (ix2 a d)
    = ix2 (⟨t.val / 3 * 1024 + a, by have hN := lt_of_lt_of_eq t.isLt (show cfg0.N = 24 from N_0); omega⟩ : Fin 8192) d := by
  blk_ext [idx t]

theorem share_at (c : Dev nD) (t : Fin cfg0.N) (h : t.val % 3 = 2) (b : Fin 1024) : dgF (outsAt0 m c t.val t.isLt).2.2 (iblk m c 2 t) b
    = share (dn (m ((c : Thread nD τ).loc main_arg0)) (m ((c : Thread nD τ).loc main_arg1))) (m ((c : Thread nD τ).loc main_arg2)) b (t.val / 3) := by
  have hN := lt_of_lt_of_eq t.isLt (show cfg0.N = 24 from N_0)
  refine share_eq _ _ _ _ _ _ (by omega) (fun k => ?_) (fun k d => ?_)
  · rw [scratch m c t h, emb]
  · blk_point [iblk, V, idx t]

theorem gain_run (c : Dev nD) (b : Fin 1024) : ∀ (n : ℕ) (hn : n < cfg0.N), 2 ≤ n → (outsAt0 m c n hn).2.1 (ix2 (0 : Fin 1) b)
    = ∑ i ∈ Finset.range ((n + 1) / 3), share (dn (m ((c : Thread nD τ).loc main_arg0)) (m ((c : Thread nD τ).loc main_arg1))) (m ((c : Thread nD τ).loc main_arg2)) b i := by
  intro n
  induction n with
  | zero => intro _ h; omega
  | succ n ih =>
    intro hn h3
    by_cases h : (n + 1) % 3 = 2
    · by_cases h2 : n + 1 < 3
      · rw [outG_first m c ⟨n + 1, hn⟩ h h2, share_at m c ⟨n + 1, hn⟩ h]
        have e : n = 1 := by omega
        subst e
        simp
      · have e := outG_step m c ⟨n + 1, hn⟩ h h2 b
        rw [share_at m c ⟨n + 1, hn⟩ h] at e
        have ih' := ih (Nat.lt_of_succ_lt hn) (by omega)
        simp only [Nat.add_sub_cancel] at e
        rw [e, ih', show (n + 1 + 1) / 3 = (n + 1) / 3 + 1 by omega, Finset.sum_range_succ]
    · have ih' := ih (Nat.lt_of_succ_lt hn) (by omega)
      rw [show (n + 1 + 1) / 3 = (n + 1) / 3 by omega, ← ih']
      by_cases h0 : (n + 1) % 3 = 0
      · rw [outsAt0_A m c ⟨n + 1, hn⟩ h0 h]; frame_out
        rfl
      · rw [outsAt0_B m c ⟨n + 1, hn⟩ h0 h]; frame_out
        rfl

/-- The gain's gradient after the run is the reference's. -/
theorem finalG (c : Dev nD) : (dats m 0 c).arrAt 6 (cfgs 0).N = gainR (dn (m ((c : Thread nD τ).loc main_arg0)) (m ((c : Thread nD τ).loc main_arg1))) (m ((c : Thread nD τ).loc main_arg2)) := by
  refine (dats m 0 c).arrAt_eq_of_covers 6 _ (by decide +kernel) fun t hf y => ?_
  have h31 : t.val % 24 = 23 := (flush0_6 t).mp hf
  have hN := lt_of_lt_of_eq t.isLt (show cfg0.N = 24 from N_0)
  blk_simp
  rw [after0_6]
  obtain ⟨b, rfl⟩ : ∃ b : Fin 1024, y = ix2 (0 : Fin 1) b := ⟨y 1, by idx_ext⟩
  have hb : ((cfg0.win 6).blk t).view.emb (ix2 (0 : Fin 1) b) 1 = b := Fin.ext (by blk_simp [idx t])
  have e := gain_run m c b t.val t.isLt (by omega)
  rw [show (t.val + 1) / 3 = 8 by omega] at e
  exact e.trans (gain_sum _ _ b _ hb)

/-- The input's gradient after the run is the reference's. -/
theorem finalX (c : Dev nD)
    (rG : ∀ i : S8192x3456.Idx, Extended.IsReal (m ((c : Thread nD τ).loc main_arg0) i))
    (rW : ∀ i : S1024x3456.Idx, Extended.IsReal (m ((c : Thread nD τ).loc main_arg1) i))
    (rH : ∀ i : S8192x1024.Idx, Extended.IsReal (m ((c : Thread nD τ).loc main_arg2) i))
    (rg : ∀ i : S1x1024.Idx, Extended.IsReal (m ((c : Thread nD τ).loc main_arg3) i))
    (rD : ∀ i : S8192x1024.Idx, Extended.IsReal (m ((c : Thread nD τ).loc main_arg4) i)) :
    (dats m 0 c).arrAt 5 (cfgs 0).N = dxR (dn (m ((c : Thread nD τ).loc main_arg0)) (m ((c : Thread nD τ).loc main_arg1)))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  have h3 : t.val % 3 = 2 := (flush0_5 t).mp hf
  have hN := lt_of_lt_of_eq t.isLt (show cfg0.N = 24 from N_0)
  blk_simp
  rw [after0_5]
  obtain ⟨a, b, rfl⟩ : ∃ a b : Fin 1024, y = ix2 a b := ⟨y 0, y 1, by idx_ext⟩
  refine (outX m c t h3 a b).trans ((row_eq _ _ _ _ (dn (m ((c : Thread nD τ).loc main_arg0)) (m ((c : Thread nD τ).loc main_arg1)))
    (m ((c : Thread nD τ).loc main_arg2)) (m ((c : Thread nD τ).loc main_arg3)) (m ((c : Thread nD τ).loc main_arg4)) a b
    (⟨t.val / 3 * 1024 + a, by omega⟩ : Fin 8192) (fun d => ?_) (fun d => ?_) (fun d => ?_) ?_ (fun i => ?_) rH rg rD).trans (congrArg _ (emb t a b).symm))
  · rw [scratch m c t h3, emb]
  · blk_point [iblk, V, idx t]
  · blk_point [iblk, V, idx t]
  · blk_point [iblk, V, idx t]
  · rw [hdn]
    exact Extended.IsReal.sum _ _ fun k => (rG _).mul (rW _)

end Cert.Kernel17Ideal.Norm

end
-- ==== Proof.FoxNorm.lean ====
/-
  The gradient through the norm before the queries' projection: `Kernel18Ideal` computes `Reference18Ideal`'s gradients in the layer's input and the norm's gain.
-/
module

public import proofs.«01_k».proof.Proof.Gen.Kernel18Ideal.Value
public import proofs.«01_k».proof.Proof.Gen.Reference18Ideal.Run
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.Kernel18Ideal.Norm

open Cert.Kernel18Ideal Cert.Kernel18Ideal.Gen
open Cert.Kernel4Ideal.Norm (dxR gainR rs dxF dgF dgF_tiles share share_eq gain_sum row_eq)

variable (m : (ℓ : Loc nD τ sig) → Buf (Elt Ideal) ℓ)

/-- The gradient in the normalised input. -/
abbrev dn (G : FVec Ideal S8192x1024 .bf16) (W : FVec Ideal S1024x1024 .bf16) : FVec Ideal S8192x1024 .f32 :=
  Host.dotGeneral Cert.Reference18Ideal.dot_S8192x1024_S1024x1024_S8192x1024_1_1_0_0_n_n none (extf .f32 G Cert.Reference18Ideal.Gen.bitsLt_bf16_f32) (extf .f32 W Cert.Reference18Ideal.Gen.bitsLt_bf16_f32)

theorem hdn (G W j) : dn G W j = ∑ k : Fin 1024, G (ix2 (j 0) k) * W (ix2 (j 1) k) := by
  pointwise [dn]

theorem hzero (j) : k0_pay1 (F := Ideal) j = 0 := by pointwise [k0_pay1]

theorem hpay (acc x1 x0 j) : k0_pay2 (F := Ideal) acc x1 x0 j
    = acc j + ∑ k : Fin 1024, x1 (ix2 (j 0) k) * x0 (ix2 (j 1) k) := by
  pointwise [k0_pay2]

theorem idx : ∀ t : Fin cfg0.N, win0_0.index t = ![t.val, 0] ∧ win0_1.index t = ![0, 0]
    ∧ win0_2.index t = ![t.val, 0] ∧ win0_3.index t = ![0, 0] ∧ win0_4.index t = ![t.val, 0] ∧ win0_5.index t = ![t.val, 0]
    ∧ win0_6.index t = ![0, 0] :=
  (by decide +kernel : ∀ t : Fin grid0.N, _)

/-- The product of one row block: the scratch holds the whole contraction. -/
abbrev prod (c : Dev nD) (t : Fin cfg0.N) : FVec Ideal S1024x1024 .f32 := k0_pay2 (F := Ideal) (k0_pay1 (F := Ideal)) (iblk m c 0 t) (iblk m c 1 t)

theorem scratch (c : Dev nD) (t : Fin cfg0.N) (j : S1024x1024.Idx) :
    prod m c t j = dn (m ((c : Thread nD τ).loc main_arg0)) (m ((c : Thread nD τ).loc main_arg1)) (((cfg0.win 5).blk t).view.emb j) := by
  refine Eq.trans ?_ (hdn _ _ _).symm
  dsimp only [prod]
  rw [hpay, hzero, zero_add]
  blk_point [iblk, V, idx t]

/-- The output block where it is written back is the norm's backward of the product. -/
theorem outX (c : Dev nD) (t : Fin cfg0.N) (a b : Fin 1024) :
    (outsAt0 m c t.val t.isLt).1 (ix2 a b) = dxF (prod m c t) (iblk m c 2 t) (iblk m c 3 t) (iblk m c 4 t) a b := by
  have hN := lt_of_lt_of_eq t.isLt (show cfg0.N = 8 from N_0)
  by_cases h2 : t.val < 1
  · rw [outsAt0_A m c t (by omega) (by omega)]; frame_out
    simp only [View.readCov_fill (s := S1024x1024) (off := ![0, 0]) _ _ _ _ _ (by decide)]
    dsimp only [prod]
    generalize k0_pay2 (F := Ideal) _ _ _ = S
    generalize iblk m c 2 t = X
    generalize iblk m c 3 t = g
    generalize iblk m c 4 t = R
    canon_tiles x h
    all_goals (open_payloads; pointwise; exact congrArg₂ (dxF S X g R) (Fin.ext h0.symm) (Fin.ext h1.symm))
  · rw [outsAt0_B m c t (by omega) (by omega)]; frame_out
    simp only [View.readCov_fill (s := S1024x1024) (off := ![0, 0]) _ _ _ _ _ (by decide)]
    dsimp only [prod]
    generalize k0_pay2 (F := Ideal) _ _ _ = S
    generalize iblk m c 2 t = X
    generalize iblk m c 3 t = g
    generalize iblk m c 4 t = R
    canon_tiles x h
    all_goals (open_payloads; pointwise; exact congrArg₂ (dxF S X g R) (Fin.ext h0.symm) (Fin.ext h1.symm))

/-- The first row block's share of the gain's gradient is stored. -/
theorem outG_first (c : Dev nD) (t : Fin cfg0.N) (h2 : t.val < 1) (b : Fin 1024) :
    (outsAt0 m c t.val t.isLt).2 (ix2 (0 : Fin 1) b) = dgF (prod m c t) (iblk m c 2 t) b := by
  have hN := lt_of_lt_of_eq t.isLt (show cfg0.N = 8 from N_0)
  rw [outsAt0_A m c t (by omega) (by omega)]; frame_out
  simp only [View.readCov_fill (s := S1024x1024) (off := ![0, 0]) _ _ _ _ _ (by decide)]
  dsimp only [prod]
  generalize k0_pay2 (F := Ideal) _ _ _ = S
  generalize iblk m c 2 t = X
  rw [dgF_tiles, Fin.sum_univ_four]
  open_payloads
  pointwise

/-- A later row block's share is added. -/
theorem outG_step (c : Dev nD) (t : Fin cfg0.N) (h2 : ¬t.val < 1) (b : Fin 1024) :
    (outsAt0 m c t.val t.isLt).2 (ix2 (0 : Fin 1) b) = (outsAt0 m c (t.val - 1) (by omega)).2 (ix2 (0 : Fin 1) b) + dgF (prod m c t) (iblk m c 2 t) b := by
  have hN := lt_of_lt_of_eq t.isLt (show cfg0.N = 8 from N_0)
  rw [outsAt0_B m c t (by omega) (by omega)]; frame_out
  simp only [View.readCov_fill (s := S1024x1024) (off := ![0, 0]) _ _ _ _ _ (by decide)]
  dsimp only [prod]
  generalize k0_pay2 (F := Ideal) _ _ _ = S
  generalize iblk m c 2 t = X
  rw [dgF_tiles, Fin.sum_univ_four]
  open_payloads
  pointwise

theorem emb (t : Fin cfg0.N) (a d : Fin 1024) : ((cfg0.win 5).blk t).view.emb (ix2 a d)
    = ix2 (⟨t.val * 1024 + a, by have hN := lt_of_lt_of_eq t.isLt (show cfg0.N = 8 from N_0); omega⟩ : Fin 8192) d := by
  blk_ext [idx t]

theorem share_at (c : Dev nD) (t : Fin cfg0.N) (b : Fin 1024) : dgF (prod m c t) (iblk m c 2 t) b
    = share (dn (m ((c : Thread nD τ).loc main_arg0)) (m ((c : Thread nD τ).loc main_arg1))) (m ((c : Thread nD τ).loc main_arg2)) b (t.val) := by
  have hN := lt_of_lt_of_eq t.isLt (show cfg0.N = 8 from N_0)
  refine share_eq _ _ _ _ _ _ (by omega) (fun k => ?_) (fun k d => ?_)
  · rw [scratch m c t, emb]
  · blk_point [iblk, V, idx t]

theorem gain_run (c : Dev nD) (b : Fin 1024) : ∀ (n : ℕ) (hn : n < cfg0.N), (outsAt0 m c n hn).2 (ix2 (0 : Fin 1) b)
    = ∑ i ∈ Finset.range (n + 1), share (dn (m ((c : Thread nD τ).loc main_arg0)) (m ((c : Thread nD τ).loc main_arg1))) (m ((c : Thread nD τ).loc main_arg2)) b i := by
  intro n
  induction n with
  | zero =>
    intro hn
    rw [outG_first m c ⟨0, hn⟩ Nat.one_pos, share_at, Finset.sum_range_one]
  | succ n ih =>
    intro hn
    have e := outG_step m c ⟨n + 1, hn⟩ (by simp) b
    rw [share_at] at e
    simp only [Nat.add_sub_cancel] at e
    rw [e, ih (Nat.lt_of_succ_lt hn)]
    exact (Finset.sum_range_succ _ (n + 1)).symm

/-- The gain's gradient after the run is the reference's. -/
theorem finalG (c : Dev nD) : (dats m 0 c).arrAt 6 (cfgs 0).N = gainR (dn (m ((c : Thread nD τ).loc main_arg0)) (m ((c : Thread nD τ).loc main_arg1))) (m ((c : Thread nD τ).loc main_arg2)) := by
  refine (dats m 0 c).arrAt_eq_of_covers 6 _ (by decide +kernel) fun t hf y => ?_
  have h31 : t.val % 8 = 7 := (flush0_6 t).mp hf
  have hN := lt_of_lt_of_eq t.isLt (show cfg0.N = 8 from N_0)
  blk_simp
  rw [after0_6]
  obtain ⟨b, rfl⟩ : ∃ b : Fin 1024, y = ix2 (0 : Fin 1) b := ⟨y 1, by idx_ext⟩
  have hb : ((cfg0.win 6).blk t).view.emb (ix2 (0 : Fin 1) b) 1 = b := Fin.ext (by blk_simp [idx t])
  have e := gain_run m c b t.val t.isLt
  rw [show t.val + 1 = 8 by omega] at e
  exact e.trans (gain_sum _ _ b _ hb)

/-- The input's gradient after the run is the reference's. -/
theorem finalX (c : Dev nD)
    (rG : ∀ i : S8192x1024.Idx, Extended.IsReal (m ((c : Thread nD τ).loc main_arg0) i))
    (rW : ∀ i : S1024x1024.Idx, Extended.IsReal (m ((c : Thread nD τ).loc main_arg1) i))
    (rH : ∀ i : S8192x1024.Idx, Extended.IsReal (m ((c : Thread nD τ).loc main_arg2) i))
    (rg : ∀ i : S1x1024.Idx, Extended.IsReal (m ((c : Thread nD τ).loc main_arg3) i))
    (rD : ∀ i : S8192x1024.Idx, Extended.IsReal (m ((c : Thread nD τ).loc main_arg4) i)) :
    (dats m 0 c).arrAt 5 (cfgs 0).N = dxR (dn (m ((c : Thread nD τ).loc main_arg0)) (m ((c : Thread nD τ).loc main_arg1)))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  have hN := lt_of_lt_of_eq t.isLt (show cfg0.N = 8 from N_0)
  blk_simp
  rw [after0_5]
  obtain ⟨a, b, rfl⟩ : ∃ a b : Fin 1024, y = ix2 a b := ⟨y 0, y 1, by idx_ext⟩
  refine (outX m c t a b).trans ((row_eq _ _ _ _ (dn (m ((c : Thread nD τ).loc main_arg0)) (m ((c : Thread nD τ).loc main_arg1)))
    (m ((c : Thread nD τ).loc main_arg2)) (m ((c : Thread nD τ).loc main_arg3)) (m ((c : Thread nD τ).loc main_arg4)) a b
    (⟨t.val * 1024 + a, by omega⟩ : Fin 8192) (fun d => ?_) (fun d => ?_) (fun d => ?_) ?_ (fun i => ?_) rH rg rD).trans (congrArg _ (emb t a b).symm))
  · rw [scratch m c t, emb]
  · blk_point [iblk, V, idx t]
  · blk_point [iblk, V, idx t]
  · blk_point [iblk, V, idx t]
  · rw [hdn]
    exact Extended.IsReal.sum _ _ fun k => (rG _).mul (rW _)

end Cert.Kernel18Ideal.Norm

end
-- ==== Proof.SharedNorm.lean ====
/-
  The gradient through the norm before the shared keys, values and gates: `Kernel19Ideal` computes `Reference19Ideal`'s gradients in the layer's input and the norm's gain.
-/
module

public import proofs.«01_k».proof.Proof.Gen.Kernel19Ideal.Value
public import proofs.«01_k».proof.Proof.Gen.Reference19Ideal.Run
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.Kernel19Ideal.Norm

open Cert.Kernel19Ideal Cert.Kernel19Ideal.Gen
open Cert.Kernel4Ideal.Norm (dxR gainR rs dxF dgF dgF_tiles share share_eq gain_sum row_eq)

variable (m : (ℓ : Loc nD τ sig) → Buf (Elt Ideal) ℓ)

/-- The gradient in the normalised input. -/
abbrev dn (G : FVec Ideal S8192x1664 .bf16) (W : FVec Ideal S1024x1664 .bf16) : FVec Ideal S8192x1024 .f32 :=
  Host.dotGeneral Cert.Reference19Ideal.dot_S8192x1664_S1024x1664_S8192x1024_1_1_0_0_n_n none (extf .f32 G Cert.Reference19Ideal.Gen.bitsLt_bf16_f32) (extf .f32 W Cert.Reference19Ideal.Gen.bitsLt_bf16_f32)

theorem hdn (G W j) : dn G W j = ∑ k : Fin 1664, G (ix2 (j 0) k) * W (ix2 (j 1) k) := by
  pointwise [dn]

theorem hzero (j) : k0_pay1 (F := Ideal) j = 0 := by pointwise [k0_pay1]

theorem hpay (acc x1 x0 j) : k0_pay2 (F := Ideal) acc x1 x0 j
    = acc j + ∑ k : Fin 1664, x1 (ix2 (j 0) k) * x0 (ix2 (j 1) k) := by
  pointwise [k0_pay2]

theorem idx : ∀ t : Fin cfg0.N, win0_0.index t = ![t.val, 0] ∧ win0_1.index t = ![0, 0]
    ∧ win0_2.index t = ![t.val, 0] ∧ win0_3.index t = ![0, 0] ∧ win0_4.index t = ![t.val, 0] ∧ win0_5.index t = ![t.val, 0]
    ∧ win0_6.index t = ![0, 0] :=
  (by decide +kernel : ∀ t : Fin grid0.N, _)

/-- The product of one row block: the scratch holds the whole contraction. -/
abbrev prod (c : Dev nD) (t : Fin cfg0.N) : FVec Ideal S1024x1024 .f32 := k0_pay2 (F := Ideal) (k0_pay1 (F := Ideal)) (iblk m c 0 t) (iblk m c 1 t)

theorem scratch (c : Dev nD) (t : Fin cfg0.N) (j : S1024x1024.Idx) :
    prod m c t j = dn (m ((c : Thread nD τ).loc main_arg0)) (m ((c : Thread nD τ).loc main_arg1)) (((cfg0.win 5).blk t).view.emb j) := by
  refine Eq.trans ?_ (hdn _ _ _).symm
  dsimp only [prod]
  rw [hpay, hzero, zero_add]
  blk_point [iblk, V, idx t]

/-- The output block where it is written back is the norm's backward of the product. -/
theorem outX (c : Dev nD) (t : Fin cfg0.N) (a b : Fin 1024) :
    (outsAt0 m c t.val t.isLt).1 (ix2 a b) = dxF (prod m c t) (iblk m c 2 t) (iblk m c 3 t) (iblk m c 4 t) a b := by
  have hN := lt_of_lt_of_eq t.isLt (show cfg0.N = 8 from N_0)
  by_cases h2 : t.val < 1
  · rw [outsAt0_A m c t (by omega) (by omega)]; frame_out
    simp only [View.readCov_fill (s := S1024x1024) (off := ![0, 0]) _ _ _ _ _ (by decide)]
    dsimp only [prod]
    generalize k0_pay2 (F := Ideal) _ _ _ = S
    generalize iblk m c 2 t = X
    generalize iblk m c 3 t = g
    generalize iblk m c 4 t = R
    canon_tiles x h
    all_goals (open_payloads; pointwise; exact congrArg₂ (dxF S X g R) (Fin.ext h0.symm) (Fin.ext h1.symm))
  · rw [outsAt0_B m c t (by omega) (by omega)]; frame_out
    simp only [View.readCov_fill (s := S1024x1024) (off := ![0, 0]) _ _ _ _ _ (by decide)]
    dsimp only [prod]
    generalize k0_pay2 (F := Ideal) _ _ _ = S
    generalize iblk m c 2 t = X
    generalize iblk m c 3 t = g
    generalize iblk m c 4 t = R
    canon_tiles x h
    all_goals (open_payloads; pointwise; exact congrArg₂ (dxF S X g R) (Fin.ext h0.symm) (Fin.ext h1.symm))

/-- The first row block's share of the gain's gradient is stored. -/
theorem outG_first (c : Dev nD) (t : Fin cfg0.N) (h2 : t.val < 1) (b : Fin 1024) :
    (outsAt0 m c t.val t.isLt).2 (ix2 (0 : Fin 1) b) = dgF (prod m c t) (iblk m c 2 t) b := by
  have hN := lt_of_lt_of_eq t.isLt (show cfg0.N = 8 from N_0)
  rw [outsAt0_A m c t (by omega) (by omega)]; frame_out
  simp only [View.readCov_fill (s := S1024x1024) (off := ![0, 0]) _ _ _ _ _ (by decide)]
  dsimp only [prod]
  generalize k0_pay2 (F := Ideal) _ _ _ = S
  generalize iblk m c 2 t = X
  rw [dgF_tiles, Fin.sum_univ_four]
  open_payloads
  pointwise

/-- A later row block's share is added. -/
theorem outG_step (c : Dev nD) (t : Fin cfg0.N) (h2 : ¬t.val < 1) (b : Fin 1024) :
    (outsAt0 m c t.val t.isLt).2 (ix2 (0 : Fin 1) b) = (outsAt0 m c (t.val - 1) (by omega)).2 (ix2 (0 : Fin 1) b) + dgF (prod m c t) (iblk m c 2 t) b := by
  have hN := lt_of_lt_of_eq t.isLt (show cfg0.N = 8 from N_0)
  rw [outsAt0_B m c t (by omega) (by omega)]; frame_out
  simp only [View.readCov_fill (s := S1024x1024) (off := ![0, 0]) _ _ _ _ _ (by decide)]
  dsimp only [prod]
  generalize k0_pay2 (F := Ideal) _ _ _ = S
  generalize iblk m c 2 t = X
  rw [dgF_tiles, Fin.sum_univ_four]
  open_payloads
  pointwise

theorem emb (t : Fin cfg0.N) (a d : Fin 1024) : ((cfg0.win 5).blk t).view.emb (ix2 a d)
    = ix2 (⟨t.val * 1024 + a, by have hN := lt_of_lt_of_eq t.isLt (show cfg0.N = 8 from N_0); omega⟩ : Fin 8192) d := by
  blk_ext [idx t]

theorem share_at (c : Dev nD) (t : Fin cfg0.N) (b : Fin 1024) : dgF (prod m c t) (iblk m c 2 t) b
    = share (dn (m ((c : Thread nD τ).loc main_arg0)) (m ((c : Thread nD τ).loc main_arg1))) (m ((c : Thread nD τ).loc main_arg2)) b (t.val) := by
  have hN := lt_of_lt_of_eq t.isLt (show cfg0.N = 8 from N_0)
  refine share_eq _ _ _ _ _ _ (by omega) (fun k => ?_) (fun k d => ?_)
  · rw [scratch m c t, emb]
  · blk_point [iblk, V, idx t]

theorem gain_run (c : Dev nD) (b : Fin 1024) : ∀ (n : ℕ) (hn : n < cfg0.N), (outsAt0 m c n hn).2 (ix2 (0 : Fin 1) b)
    = ∑ i ∈ Finset.range (n + 1), share (dn (m ((c : Thread nD τ).loc main_arg0)) (m ((c : Thread nD τ).loc main_arg1))) (m ((c : Thread nD τ).loc main_arg2)) b i := by
  intro n
  induction n with
  | zero =>
    intro hn
    rw [outG_first m c ⟨0, hn⟩ Nat.one_pos, share_at, Finset.sum_range_one]
  | succ n ih =>
    intro hn
    have e := outG_step m c ⟨n + 1, hn⟩ (by simp) b
    rw [share_at] at e
    simp only [Nat.add_sub_cancel] at e
    rw [e, ih (Nat.lt_of_succ_lt hn)]
    exact (Finset.sum_range_succ _ (n + 1)).symm

/-- The gain's gradient after the run is the reference's. -/
theorem finalG (c : Dev nD) : (dats m 0 c).arrAt 6 (cfgs 0).N = gainR (dn (m ((c : Thread nD τ).loc main_arg0)) (m ((c : Thread nD τ).loc main_arg1))) (m ((c : Thread nD τ).loc main_arg2)) := by
  refine (dats m 0 c).arrAt_eq_of_covers 6 _ (by decide +kernel) fun t hf y => ?_
  have h31 : t.val % 8 = 7 := (flush0_6 t).mp hf
  have hN := lt_of_lt_of_eq t.isLt (show cfg0.N = 8 from N_0)
  blk_simp
  rw [after0_6]
  obtain ⟨b, rfl⟩ : ∃ b : Fin 1024, y = ix2 (0 : Fin 1) b := ⟨y 1, by idx_ext⟩
  have hb : ((cfg0.win 6).blk t).view.emb (ix2 (0 : Fin 1) b) 1 = b := Fin.ext (by blk_simp [idx t])
  have e := gain_run m c b t.val t.isLt
  rw [show t.val + 1 = 8 by omega] at e
  exact e.trans (gain_sum _ _ b _ hb)

/-- The input's gradient after the run is the reference's. -/
theorem finalX (c : Dev nD)
    (rG : ∀ i : S8192x1664.Idx, Extended.IsReal (m ((c : Thread nD τ).loc main_arg0) i))
    (rW : ∀ i : S1024x1664.Idx, Extended.IsReal (m ((c : Thread nD τ).loc main_arg1) i))
    (rH : ∀ i : S8192x1024.Idx, Extended.IsReal (m ((c : Thread nD τ).loc main_arg2) i))
    (rg : ∀ i : S1x1024.Idx, Extended.IsReal (m ((c : Thread nD τ).loc main_arg3) i))
    (rD : ∀ i : S8192x1024.Idx, Extended.IsReal (m ((c : Thread nD τ).loc main_arg4) i)) :
    (dats m 0 c).arrAt 5 (cfgs 0).N = dxR (dn (m ((c : Thread nD τ).loc main_arg0)) (m ((c : Thread nD τ).loc main_arg1)))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  have hN := lt_of_lt_of_eq t.isLt (show cfg0.N = 8 from N_0)
  blk_simp
  rw [after0_5]
  obtain ⟨a, b, rfl⟩ : ∃ a b : Fin 1024, y = ix2 a b := ⟨y 0, y 1, by idx_ext⟩
  refine (outX m c t a b).trans ((row_eq _ _ _ _ (dn (m ((c : Thread nD τ).loc main_arg0)) (m ((c : Thread nD τ).loc main_arg1)))
    (m ((c : Thread nD τ).loc main_arg2)) (m ((c : Thread nD τ).loc main_arg3)) (m ((c : Thread nD τ).loc main_arg4)) a b
    (⟨t.val * 1024 + a, by omega⟩ : Fin 8192) (fun d => ?_) (fun d => ?_) (fun d => ?_) ?_ (fun i => ?_) rH rg rD).trans (congrArg _ (emb t a b).symm))
  · rw [scratch m c t, emb]
  · blk_point [iblk, V, idx t]
  · blk_point [iblk, V, idx t]
  · blk_point [iblk, V, idx t]
  · rw [hdn]
    exact Extended.IsReal.sum _ _ fun k => (rG _).mul (rW _)

end Cert.Kernel19Ideal.Norm

end
-- ==== Proof.FoxKvDw.lean ====
/-
  The gradient in the projection to the keys, values and gates: `Kernel16Ideal`'s accumulated product is the one that `Reference16Ideal` computes.
-/
module

public import proofs.«01_k».proof.Proof.Gen.Kernel16Ideal.Value
public import proofs.«01_k».proof.Proof.Gen.Reference16Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel16Ideal.Product

open Cert.Kernel16Ideal Cert.Kernel16Ideal.Gen

variable (m : (ℓ : Loc nD τ sig) → Buf (Elt Ideal) ℓ)

/-- The reference's term. -/
abbrev REF (X : FVec Ideal S8192x1024 .bf16) (D : FVec Ideal S8192x1664 .bf16) : FVec Ideal S1024x1664 .f32 :=
  transpose Cert.Reference16Ideal.S1024x1664 [1, 0] (Host.dotGeneral Cert.Reference16Ideal.dot_S8192x1664_S8192x1024_S1664x1024_0_0_1_1_n_n none
    (extf .f32 D Cert.Reference16Ideal.Gen.bitsLt_bf16_f32) (extf .f32 X Cert.Reference16Ideal.Gen.bitsLt_bf16_f32)) Cert.Reference16Ideal.Gen.transposes_S1664x1024_S1024x1664_1_0

theorem hzero (j) : k0_pay1 (F := Ideal) j = 0 := by pointwise [k0_pay1]

theorem hpay (acc x1 x0 j) : k0_pay2 (F := Ideal) acc x1 x0 j = acc j + ∑ k : Fin 2048, x1 (ix2 k (j 0)) * x0 (ix2 k (j 1)) := by
  pointwise [k0_pay2]

theorem hout (acc j) : k0_pay3 (F := Ideal) acc j = acc j := by
  pointwise [k0_pay3]

/-- One product of the contraction: row `k`, the output index `j`. -/
abbrev T (X : FVec Ideal S8192x1024 .bf16) (D : FVec Ideal S8192x1664 .bf16) (j : S1024x1664.Idx) (k : Fin 8192) : EReal :=
  X (ix2 k (j 0)) * D (ix2 k (j 1))

theorem href (X D j) : REF X D j = ∑ k : Fin 8192, T X D j k := by
  have e : REF X D j = ∑ k : Fin 8192, D (ix2 k (j 1)) * X (ix2 k (j 0)) := by pointwise [REF]
  exact e.trans (Finset.sum_congr rfl fun k _ => mul_comm _ _)

theorem idx : ∀ t : Fin cfg0.N, win0_0.index t = ![t.val % 4, 0] ∧ win0_1.index t = ![t.val % 4, 0]
    ∧ win0_2.index t = ![0, 0] :=
  (by decide +kernel : ∀ t : Fin grid0.N, _)

/-- The scratch at a point that writes back: the sum over the run's points. -/
theorem scratch (c : Dev nD) (t : Fin cfg0.N) (hf : t.val % 4 = 4 - 1) (j : S1024x1664.Idx) :
    (outsAt0 m c t.val t.isLt).2 j = ∑ k : Fin 8192, T (m ((c : Thread nD τ).loc main_arg0)) (m ((c : Thread nD τ).loc main_arg1)) (((cfg0.win 2).blk t).view.emb j) k := by
  rw [Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h1 : t.val % 4 = 3
      · rw [outsAt0_C m c t h h1]; frame_out; rw [hpay, read_unread_whole]
      · rw [outsAt0_B m c t h h1]; frame_out; rw [hpay, read_unread_whole])
    t hf j, zero_add]
  refine Fin.sum_mul_add_congr fun s k hl => ?_
  dsimp only [T]
  blk_point [iblk, V, idx t, idx ⟨_, Pipeline.run_point_lt_of_flush t hf s⟩]

/-- At a point that writes back, the output block is the scratch. -/
theorem block (c : Dev nD) (t : Fin cfg0.N) (h1 : t.val % 4 = 3) (j : S1024x1664.Idx) :
    (outsAt0 m c t.val t.isLt).1 j = (outsAt0 m c t.val t.isLt).2 j := by
  rw [outsAt0_C m c t (by omega) h1]; frame_out; rw [hout]

/-- The output array after the run is the reference's gradient. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h1 : t.val % 4 = 3 := (flush0_2 t).mp hf
  have e := (block m c t h1 y).trans (scratch m c t h1 y)
  blk_simp
  rw [after0_2]
  exact e.trans (href _ _ _).symm

end Cert.Kernel16Ideal.Product

end
-- ==== Proof.FoxRes.lean ====
module

public import proofs.«01_k».proof.Proof.Gen.Reference7Ideal.Run
public import proofs.«01_k».proof.Proof.FoxRef

@[expose] public section

/-! # The reference's three results are the gradients by their parts -/

set_option maxRecDepth 16384

noncomputable section

open Idealize.ShloMosaic Idealize.ShloMosaic.TcCoe Idealize.SL.Sem

namespace Cert.Reference7Ideal.Fox

open Cert.Reference7Ideal Cert.Reference7Ideal.Gen

variable (m : (ℓ : Loc nD τ sig) → Buf (Elt Ideal) ℓ) (c : Dev nD)

theorem res_dk : Cert.Reference7Ideal.Value.res_main_v89 m c = dk (m ((c.tc : Thread nD τ).loc main_arg0)) (m ((c.tc : Thread nD τ).loc main_arg1)) (m ((c.tc : Thread nD τ).loc main_arg2)) (m ((c.tc : Thread nD τ).loc main_arg3)) := by
  unfold Cert.Reference7Ideal.Value.res_main_v89
  rfl

theorem res_dv : Cert.Reference7Ideal.Value.res_main_v90 m c = dv (m ((c.tc : Thread nD τ).loc main_arg0)) (m ((c.tc : Thread nD τ).loc main_arg1)) (m ((c.tc : Thread nD τ).loc main_arg2)) (m ((c.tc : Thread nD τ).loc main_arg3)) := by
  unfold Cert.Reference7Ideal.Value.res_main_v90
  rfl

theorem res_dc : Cert.Reference7Ideal.Value.res_main_v91 m c = dc (m ((c.tc : Thread nD τ).loc main_arg0)) (m ((c.tc : Thread nD τ).loc main_arg1)) (m ((c.tc : Thread nD τ).loc main_arg2)) (m ((c.tc : Thread nD τ).loc main_arg3)) := by
  unfold Cert.Reference7Ideal.Value.res_main_v91
  rfl

end Cert.Reference7Ideal.Fox

end
-- ==== Proof.lean ====
/-
  The assembled claim: for each of the calls the two frames, the reference's frame, `preserves`, and the equation with
  the reference.
-/
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Pre_real_gate
public import proofs.«01_k».proof.Proof.Gen.Pre_real_norm
public import proofs.«01_k».proof.Proof.Gen.Pre_real_delta
public import proofs.«01_k».proof.Proof.Gen.Pre_real_queries
public import proofs.«01_k».proof.Proof.Gen.Pre_real_shared
public import proofs.«01_k».proof.Proof.Gen.Pre_real_fox
public import proofs.«01_k».proof.Proof.Gen.Kernel17.Frame
public import proofs.«01_k».proof.Proof.Gen.Kernel18.Frame
public import proofs.«01_k».proof.Proof.Gen.Kernel19.Frame
public import proofs.«01_k».proof.Proof.Gen.Kernel5.Frame
public import proofs.«01_k».proof.Proof.Gen.Kernel6.Frame
public import proofs.«01_k».proof.Proof.Gen.Kernel7
public import proofs.«01_k».proof.Proof.Gen.Kernel7.Skeleton
public import proofs.«01_k».proof.Proof.Gen.Kernel7.Launch
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.DownWeight
public import proofs.«01_k».proof.Proof.UpWeight
public import proofs.«01_k».proof.Proof.Gate
public import proofs.«01_k».proof.Proof.Activation
public import proofs.«01_k».proof.Proof.Output
public import Idealize.ShloMosaic.Lib.Claim
public import Idealize.ShloMosaic.Adequacy
public import Idealize.ShloMosaic.Init
public import proofs.«01_k».proof.Proof.FoxMachine.Launch
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.FoxGrad
public import proofs.«01_k».proof.Proof.MixOut
public import proofs.«01_k».proof.Proof.MixOutDx
public import proofs.«01_k».proof.Proof.MixOutDw
public import proofs.«01_k».proof.Proof.DeltaIn
public import proofs.«01_k».proof.Proof.DeltaInDw
public import proofs.«01_k».proof.Proof.FoxIn
public import proofs.«01_k».proof.Proof.FoxInDw
public import proofs.«01_k».proof.Proof.FoxKv
public import proofs.«01_k».proof.Proof.DeltaNorm
public import proofs.«01_k».proof.Proof.FoxNorm
public import proofs.«01_k».proof.Proof.SharedNorm
public import proofs.«01_k».proof.Proof.FoxKvDw
public import proofs.«01_k».proof.Proof.FoxRes

@[expose] public section

set_option maxRecDepth 16384

noncomputable section

namespace Cert.Proof

open Idealize.ShloMosaic Idealize.SL.Sem Cert.Kernel

/-- The gate's gradient, on real inputs. -/
theorem gate : Cert.algebraic_KernelIdeal_ReferenceIdeal_pre_real_gate := by
  pair_intro
  · run_from Cert.KernelIdeal.Value.run_blocks m g
  · run_from Cert.ReferenceIdeal.Value.run m' g'
    exact (Cert.KernelIdeal.Gate.final m c (Cert.Extended.isReal_of_abs_lt _ _ (hpre c).1)
      (Cert.Extended.isReal_of_abs_lt _ _ (hpre c).2.1) (Cert.Extended.isReal_of_abs_lt _ _ (hpre c).2.2)).symm

/-- The lower weight's gradient. -/
theorem down : Cert.algebraic_Kernel2Ideal_Reference2Ideal := by
  pair_intro
  · run_from Cert.Kernel2Ideal.Value.run_blocks m g
  · run_from Cert.Reference2Ideal.Value.run m' g'
    exact (Cert.Kernel2Ideal.Down.final m c).symm

/-- The upper weights' gradient. -/
theorem up : Cert.algebraic_Kernel3Ideal_Reference3Ideal := by
  pair_intro
  · run_from Cert.Kernel3Ideal.Value.run_blocks m g
  · run_from Cert.Reference3Ideal.Value.run m' g'
    exact (Cert.Kernel3Ideal.Up.final m c).symm

/-- The gradients through the norm, on real inputs. -/
theorem norm : Cert.algebraic_Kernel4Ideal_Reference4Ideal_pre_real_norm := by
  pair_intro
  · run_from Cert.Kernel4Ideal.Value.run_blocks m g
  · refine (θ_run Cert.Reference4Ideal.defs _ _).mono (fun r h c => ?_) (Cert.Reference4Ideal.Value.run m' g')
    obtain ⟨hx, hg, hk⟩ := h c
    obtain ⟨e0, e1, e2, e3, e4⟩ := hagree c
    refine ⟨hx.trans (Eq.trans ?_ (Cert.Kernel4Ideal.Norm.finalX m c (Cert.Extended.isReal_of_abs_lt _ _ (hpre c).1)
      (Cert.Extended.isReal_of_abs_lt _ _ (hpre c).2.1) (Cert.Extended.isReal_of_abs_lt _ _ (hpre c).2.2.1)
      (Cert.Extended.isReal_of_abs_lt _ _ (hpre c).2.2.2.1) (Cert.Extended.isReal_of_abs_lt _ _ (hpre c).2.2.2.2)).symm),
      hg.trans (Eq.trans ?_ (Cert.Kernel4Ideal.Norm.finalG m c).symm), hk⟩
    · rw [← e0, ← e1, ← e2, ← e3, ← e4, Cert.Reference4Ideal.Value.res_main_v46]
    · rw [← e0, ← e1, ← e2]

/-- The gradients through the norm before the delta rule's projection, on real inputs. -/
theorem deltaNorm : Cert.algebraic_Kernel17Ideal_Reference17Ideal_pre_real_delta := by
  pair_intro
  · run_from Cert.Kernel17Ideal.Value.run_blocks m g
  · refine (θ_run Cert.Reference17Ideal.defs _ _).mono (fun r h c => ?_) (Cert.Reference17Ideal.Value.run m' g')
    obtain ⟨hx, hg, hk⟩ := h c
    obtain ⟨e0, e1, e2, e3, e4⟩ := hagree c
    refine ⟨hx.trans (Eq.trans ?_ (Cert.Kernel17Ideal.Norm.finalX m c (Cert.Extended.isReal_of_abs_lt _ _ (hpre c).1)
      (Cert.Extended.isReal_of_abs_lt _ _ (hpre c).2.1) (Cert.Extended.isReal_of_abs_lt _ _ (hpre c).2.2.1)
      (Cert.Extended.isReal_of_abs_lt _ _ (hpre c).2.2.2.1) (Cert.Extended.isReal_of_abs_lt _ _ (hpre c).2.2.2.2)).symm),
      hg.trans (Eq.trans ?_ (Cert.Kernel17Ideal.Norm.finalG m c).symm), hk⟩
    · rw [← e0, ← e1, ← e2, ← e3, ← e4, Cert.Reference17Ideal.Value.res_main_v38]
    · rw [← e0, ← e1, ← e2]

/-- The gradients through the norm before the queries' projection, on real inputs. -/
theorem foxNorm : Cert.algebraic_Kernel18Ideal_Reference18Ideal_pre_real_queries := by
  pair_intro
  · run_from Cert.Kernel18Ideal.Value.run_blocks m g
  · refine (θ_run Cert.Reference18Ideal.defs _ _).mono (fun r h c => ?_) (Cert.Reference18Ideal.Value.run m' g')
    obtain ⟨hx, hg, hk⟩ := h c
    obtain ⟨e0, e1, e2, e3, e4⟩ := hagree c
    refine ⟨hx.trans (Eq.trans ?_ (Cert.Kernel18Ideal.Norm.finalX m c (Cert.Extended.isReal_of_abs_lt _ _ (hpre c).1)
      (Cert.Extended.isReal_of_abs_lt _ _ (hpre c).2.1) (Cert.Extended.isReal_of_abs_lt _ _ (hpre c).2.2.1)
      (Cert.Extended.isReal_of_abs_lt _ _ (hpre c).2.2.2.1) (Cert.Extended.isReal_of_abs_lt _ _ (hpre c).2.2.2.2)).symm),
      hg.trans (Eq.trans ?_ (Cert.Kernel18Ideal.Norm.finalG m c).symm), hk⟩
    · rw [← e0, ← e1, ← e2, ← e3, ← e4, Cert.Reference18Ideal.Value.res_main_v38]
    · rw [← e0, ← e1, ← e2]

/-- The gradients through the norm before the shared keys and values, on real inputs. -/
theorem sharedNorm : Cert.algebraic_Kernel19Ideal_Reference19Ideal_pre_real_shared := by
  pair_intro
  · run_from Cert.Kernel19Ideal.Value.run_blocks m g
  · refine (θ_run Cert.Reference19Ideal.defs _ _).mono (fun r h c => ?_) (Cert.Reference19Ideal.Value.run m' g')
    obtain ⟨hx, hg, hk⟩ := h c
    obtain ⟨e0, e1, e2, e3, e4⟩ := hagree c
    refine ⟨hx.trans (Eq.trans ?_ (Cert.Kernel19Ideal.Norm.finalX m c (Cert.Extended.isReal_of_abs_lt _ _ (hpre c).1)
      (Cert.Extended.isReal_of_abs_lt _ _ (hpre c).2.1) (Cert.Extended.isReal_of_abs_lt _ _ (hpre c).2.2.1)
      (Cert.Extended.isReal_of_abs_lt _ _ (hpre c).2.2.2.1) (Cert.Extended.isReal_of_abs_lt _ _ (hpre c).2.2.2.2)).symm),
      hg.trans (Eq.trans ?_ (Cert.Kernel19Ideal.Norm.finalG m c).symm), hk⟩
    · rw [← e0, ← e1, ← e2, ← e3, ← e4, Cert.Reference19Ideal.Value.res_main_v38]
    · rw [← e0, ← e1, ← e2]

/-- The forward product and the gated product. -/
theorem activation : Cert.algebraic_Kernel5Ideal_Reference5Ideal := by
  pair_intro
  · run_from Cert.Kernel5Ideal.Value.run_blocks m g
  · run_from Cert.Reference5Ideal.Value.run m' g'
    · exact (Cert.Kernel5Ideal.Activation.final3 m c).symm
    · exact (Cert.Kernel5Ideal.Activation.final4 m c).symm

/-- The layer's output. -/
theorem output : Cert.algebraic_Kernel6Ideal_Reference6Ideal := by
  pair_intro
  · run_from Cert.Kernel6Ideal.Value.run_blocks m g
  · run_from Cert.Reference6Ideal.Value.run m' g'
    exact (Cert.Kernel6Ideal.Output.final m c).symm

/-- The forgetting attention's gradients of keys, values and gate, on real inputs. -/
theorem fox : Cert.algebraic_Kernel7Ideal_Reference7Ideal_pre_real_fox := by
  pair_intro
  · run_from Cert.Kernel7Ideal.Fox.grads m g (fun c => ⟨Cert.Extended.isReal_of_abs_lt _ _ (hpre c).1,
      Cert.Extended.isReal_of_abs_lt _ _ (hpre c).2.1, Cert.Extended.isReal_of_abs_lt _ _ (hpre c).2.2.1,
      Cert.Extended.isReal_of_abs_lt _ _ (hpre c).2.2.2⟩)
  · refine (θ_run Cert.Reference7Ideal.defs _ _).mono (fun r h c => ?_) (Cert.Reference7Ideal.Value.run m' g')
    obtain ⟨hk, hv, hc, ha⟩ := h c
    obtain ⟨e0, e1, e2, e3⟩ := hagree c
    refine ⟨hk.trans ?_, hv.trans ?_, hc.trans ?_, ha⟩
    · rw [← e0, ← e1, ← e2, ← e3]; exact Cert.Reference7Ideal.Fox.res_dk m' c
    · rw [← e0, ← e1, ← e2, ← e3]; exact Cert.Reference7Ideal.Fox.res_dv m' c
    · rw [← e0, ← e1, ← e2, ← e3]; exact Cert.Reference7Ideal.Fox.res_dc m' c

/-- The mixers' output. -/
theorem mixOut : Cert.algebraic_Kernel8Ideal_Reference8Ideal := by
  pair_intro
  · run_from Cert.Kernel8Ideal.Value.run_blocks m g
  · run_from Cert.Reference8Ideal.Value.run m' g'
    exact (Cert.Kernel8Ideal.Product.final m c).symm

/-- The gradient in the joined heads. -/
theorem mixOutDx : Cert.algebraic_Kernel9Ideal_Reference9Ideal := by
  pair_intro
  · run_from Cert.Kernel9Ideal.Value.run_blocks m g
  · run_from Cert.Reference9Ideal.Value.run m' g'
    exact (Cert.Kernel9Ideal.Product.final m c).symm

/-- The gradient in `w_out`. -/
theorem mixOutDw : Cert.algebraic_Kernel10Ideal_Reference10Ideal := by
  pair_intro
  · run_from Cert.Kernel10Ideal.Value.run_blocks m g
  · run_from Cert.Reference10Ideal.Value.run m' g'
    exact (Cert.Kernel10Ideal.Product.final m c).symm

/-- The delta rule's input projection. -/
theorem deltaIn : Cert.algebraic_Kernel11Ideal_Reference11Ideal := by
  pair_intro
  · run_from Cert.Kernel11Ideal.Value.run_blocks m g
  · run_from Cert.Reference11Ideal.Value.run m' g'
    exact (Cert.Kernel11Ideal.Product.final m c).symm

/-- The gradient in the delta rule's input projection. -/
theorem deltaInDw : Cert.algebraic_Kernel12Ideal_Reference12Ideal := by
  pair_intro
  · run_from Cert.Kernel12Ideal.Value.run_blocks m g
  · run_from Cert.Reference12Ideal.Value.run m' g'
    exact (Cert.Kernel12Ideal.Product.final m c).symm

/-- The forgetting attention's queries. -/
theorem foxIn : Cert.algebraic_Kernel13Ideal_Reference13Ideal := by
  pair_intro
  · run_from Cert.Kernel13Ideal.Value.run_blocks m g
  · run_from Cert.Reference13Ideal.Value.run m' g'
    exact (Cert.Kernel13Ideal.Product.final m c).symm

/-- The gradient in the projection to the queries. -/
theorem foxInDw : Cert.algebraic_Kernel14Ideal_Reference14Ideal := by
  pair_intro
  · run_from Cert.Kernel14Ideal.Value.run_blocks m g
  · run_from Cert.Reference14Ideal.Value.run m' g'
    exact (Cert.Kernel14Ideal.Product.final m c).symm

/-- The shared keys and values. -/
theorem foxKv : Cert.algebraic_Kernel15Ideal_Reference15Ideal := by
  pair_intro
  · run_from Cert.Kernel15Ideal.Value.run_blocks m g
  · run_from Cert.Reference15Ideal.Value.run m' g'
    exact (Cert.Kernel15Ideal.Product.final m c).symm

/-- The gradient in the projection to the keys, values and gates. -/
theorem foxKvDw : Cert.algebraic_Kernel16Ideal_Reference16Ideal := by
  pair_intro
  · run_from Cert.Kernel16Ideal.Value.run_blocks m g
  · run_from Cert.Reference16Ideal.Value.run m' g'
    exact (Cert.Kernel16Ideal.Product.final m c).symm

/-- The first reference ends with its arguments as they were; it declares no semaphore. -/
theorem reference1 : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- So does the second. -/
theorem reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- So does the third. -/
theorem reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- So does the fourth. -/
theorem reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run m ρ)

/-- So does the fifth. -/
theorem reference5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run m ρ)

/-- So does the sixth. -/
theorem reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

/-- So does the seventh. -/
theorem reference7 : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run m ρ)

/-- So does the eighth. -/
theorem reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

/-- So does the ninth. -/
theorem reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

/-- So does the tenth. -/
theorem reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run m ρ)

/-- So does the eleventh. -/
theorem reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run m ρ)

/-- So does the twelfth. -/
theorem reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run m ρ)

/-- So does the thirteenth. -/
theorem reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run m ρ)

/-- So does the fourteenth. -/
theorem reference14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run m ρ)

/-- So does the fifteenth. -/
theorem reference15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run m ρ)

/-- So does the sixteenth. -/
theorem reference16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run m ρ)

/-- So does the seventeenth. -/
theorem reference17 : Cert.quiescent_Reference17Ideal := fun m ρ _ =>
  (θ_run Cert.Reference17Ideal.defs _ _).mono (fun r h => ⟨fun c => (h c).2.2, sem_eq_zero_of_no_sems (by decide) r.2⟩)
    (Cert.Reference17Ideal.Value.run m ρ)

/-- So does the eighteenth. -/
theorem reference18 : Cert.quiescent_Reference18Ideal := fun m ρ _ =>
  (θ_run Cert.Reference18Ideal.defs _ _).mono (fun r h => ⟨fun c => (h c).2.2, sem_eq_zero_of_no_sems (by decide) r.2⟩)
    (Cert.Reference18Ideal.Value.run m ρ)

/-- So does the nineteenth. -/
theorem reference19 : Cert.quiescent_Reference19Ideal := fun m ρ _ =>
  (θ_run Cert.Reference19Ideal.defs _ _).mono (fun r h => ⟨fun c => (h c).2.2, sem_eq_zero_of_no_sems (by decide) r.2⟩)
    (Cert.Reference19Ideal.Value.run m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Pre_real_gate.Gen.facts, Cert.Pre_real_norm.Gen.facts, Cert.Pre_real_fox.Gen.facts, Cert.Pre_real_delta.Gen.facts, Cert.Pre_real_queries.Gen.facts, Cert.Pre_real_shared.Gen.facts,
  fun m ρ _ => Cert.Kernel.Gen.frame m ρ,
  fun m ρ _ => Cert.KernelIdeal.Gen.frame m ρ,
  fun m ρ _ => Cert.KernelIdeal.Gen.frame m ρ,
  reference1,
  fun m ρ _ => reference1 m ρ trivial,
  fun m ρ _ => Cert.Kernel2.Gen.frame m ρ,
  fun m ρ _ => Cert.Kernel2Ideal.Gen.frame m ρ,
  reference2,
  fun m ρ _ => Cert.Kernel3.Gen.frame m ρ,
  fun m ρ _ => Cert.Kernel3Ideal.Gen.frame m ρ,
  reference3,
  fun m ρ _ => Cert.Kernel4.Gen.frame m ρ,
  fun m ρ _ => Cert.Kernel4Ideal.Gen.frame m ρ,
  fun m ρ _ => Cert.Kernel4Ideal.Gen.frame m ρ,
  reference4,
  fun m ρ _ => reference4 m ρ trivial,
  fun m ρ _ => Cert.Kernel5.Gen.frame m ρ,
  fun m ρ _ => Cert.Kernel5Ideal.Gen.frame m ρ,
  reference5,
  fun m ρ _ => Cert.Kernel6.Gen.frame m ρ,
  fun m ρ _ => Cert.Kernel6Ideal.Gen.frame m ρ,
  reference6,
  fun m ρ _ => Cert.Kernel7.Fox.frame m ρ,
  fun m ρ _ => Cert.Kernel7Ideal.Fox.frame m ρ,
  fun m ρ _ => Cert.Kernel7Ideal.Fox.frame m ρ,
  reference7,
  fun m ρ _ => reference7 m ρ trivial,
  fun m ρ _ => Cert.Kernel8.Gen.frame m ρ,
  fun m ρ _ => Cert.Kernel8Ideal.Gen.frame m ρ,
  reference8,
  fun m ρ _ => Cert.Kernel9.Gen.frame m ρ,
  fun m ρ _ => Cert.Kernel9Ideal.Gen.frame m ρ,
  reference9,
  fun m ρ _ => Cert.Kernel10.Gen.frame m ρ,
  fun m ρ _ => Cert.Kernel10Ideal.Gen.frame m ρ,
  reference10,
  fun m ρ _ => Cert.Kernel11.Gen.frame m ρ,
  fun m ρ _ => Cert.Kernel11Ideal.Gen.frame m ρ,
  reference11,
  fun m ρ _ => Cert.Kernel12.Gen.frame m ρ,
  fun m ρ _ => Cert.Kernel12Ideal.Gen.frame m ρ,
  reference12,
  fun m ρ _ => Cert.Kernel13.Gen.frame m ρ,
  fun m ρ _ => Cert.Kernel13Ideal.Gen.frame m ρ,
  reference13,
  fun m ρ _ => Cert.Kernel14.Gen.frame m ρ,
  fun m ρ _ => Cert.Kernel14Ideal.Gen.frame m ρ,
  reference14,
  fun m ρ _ => Cert.Kernel15.Gen.frame m ρ,
  fun m ρ _ => Cert.Kernel15Ideal.Gen.frame m ρ,
  reference15,
  fun m ρ _ => Cert.Kernel16.Gen.frame m ρ,
  fun m ρ _ => Cert.Kernel16Ideal.Gen.frame m ρ,
  reference16,
  fun m ρ _ => Cert.Kernel17.Gen.frame m ρ,
  fun m ρ _ => Cert.Kernel17Ideal.Gen.frame m ρ,
  fun m ρ _ => Cert.Kernel17Ideal.Gen.frame m ρ,
  reference17,
  fun m ρ _ => reference17 m ρ trivial,
  fun m ρ _ => Cert.Kernel18.Gen.frame m ρ,
  fun m ρ _ => Cert.Kernel18Ideal.Gen.frame m ρ,
  fun m ρ _ => Cert.Kernel18Ideal.Gen.frame m ρ,
  reference18,
  fun m ρ _ => reference18 m ρ trivial,
  fun m ρ _ => Cert.Kernel19.Gen.frame m ρ,
  fun m ρ _ => Cert.Kernel19Ideal.Gen.frame m ρ,
  fun m ρ _ => Cert.Kernel19Ideal.Gen.frame m ρ,
  reference19,
  fun m ρ _ => reference19 m ρ trivial,
  trivial,
  gate,
  trivial,
  down,
  trivial,
  up,
  trivial,
  norm,
  trivial,
  activation,
  trivial,
  output,
  IdealRules.named_const.statement Cert.Kernel7Ideal.κ "mask" .f32 0xF149F2CA#32 ⊥ rfl,
  fox,
  trivial,
  mixOut,
  trivial,
  mixOutDx,
  trivial,
  mixOutDw,
  trivial,
  deltaIn,
  trivial,
  deltaInDw,
  trivial,
  foxIn,
  trivial,
  foxInDw,
  trivial,
  foxKv,
  trivial,
  foxKvDw,
  trivial,
  deltaNorm,
  trivial,
  foxNorm,
  trivial,
  sharedNorm⟩

end Cert.Proof

end
